-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_untied [hPre_untied : Cert.Pre_untied.Facts] (m : (ℓ : Loc Cert.KernelIdeal.nD Cert.KernelIdeal.τ Cert.KernelIdeal.sig) → Buf (Elt Ideal) ℓ) : Prop :=
  ∀ c : Dev Cert.KernelIdeal.nD,
    (Cert.Pre_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_untied [hPre_untied : Cert.Pre_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_untied [hKernelIdeal : Cert.KernelIdeal.Facts] [hPre_untied : Cert.Pre_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_untied [hReferenceIdeal : Cert.ReferenceIdeal.Facts] [hPre_untied : Cert.Pre_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_untied [hKernelIdeal : Cert.KernelIdeal.Facts] [hReferenceIdeal : Cert.ReferenceIdeal.Facts] [hPre_untied : Cert.Pre_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v194)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v194) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v891) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_untied : Cert.Pre_untied.Facts),
    quiescent_Kernel (hKernel := hKernel)
    ∧ quiescent_KernelIdeal (hKernelIdeal := hKernelIdeal)
    ∧ quiescent_KernelIdeal_pre_untied (hKernelIdeal := hKernelIdeal) (hPre_untied := hPre_untied)
    ∧ quiescent_ReferenceIdeal (hReferenceIdeal := hReferenceIdeal)
    ∧ quiescent_ReferenceIdeal_pre_untied (hReferenceIdeal := hReferenceIdeal) (hPre_untied := hPre_untied)
    ∧ preserves_Kernel_KernelIdeal
    ∧ algebraic_KernelIdeal_ReferenceIdeal_pre_untied (hKernelIdeal := hKernelIdeal) (hReferenceIdeal := hReferenceIdeal) (hPre_untied := hPre_untied)
-- ==== Pre_untied.lean ====
abbrev S2x3x64x64 : Shape := ⟨4, ![2, 3, 64, 64]⟩
abbrev S1 : Shape := ⟨1, ![1]⟩
abbrev S75x80 : Shape := ⟨2, ![75, 80]⟩
abbrev S80 : Shape := ⟨1, ![80]⟩
abbrev S80x75 : Shape := ⟨2, ![80, 75]⟩
abbrev S75 : Shape := ⟨1, ![75]⟩
abbrev S80x1 : Shape := ⟨2, ![80, 1]⟩
abbrev S3 : Shape := ⟨1, ![3]⟩
abbrev S_ : Shape := ⟨0, ![]⟩
abbrev S2x3 : Shape := ⟨2, ![2, 3]⟩
abbrev S2x3x1x1 : Shape := ⟨4, ![2, 3, 1, 1]⟩
abbrev S1x3x1x1 : Shape := ⟨4, ![1, 3, 1, 1]⟩
abbrev S2x64x64 : Shape := ⟨3, ![2, 64, 64]⟩
abbrev S2x1x64 : Shape := ⟨3, ![2, 1, 64]⟩
abbrev S2x2x64 : Shape := ⟨3, ![2, 2, 64]⟩
abbrev S2x66x64 : Shape := ⟨3, ![2, 66, 64]⟩
abbrev S2x68x64 : Shape := ⟨3, ![2, 68, 64]⟩
abbrev S2x68x1 : Shape := ⟨3, ![2, 68, 1]⟩
abbrev S2x68x2 : Shape := ⟨3, ![2, 68, 2]⟩
abbrev S2x68x66 : Shape := ⟨3, ![2, 68, 66]⟩
abbrev S2x68x68 : Shape := ⟨3, ![2, 68, 68]⟩
abbrev S2x68x64x1 : Shape := ⟨4, ![2, 68, 64, 1]⟩
abbrev S2x68x64x5 : Shape := ⟨4, ![2, 68, 64, 5]⟩
abbrev S2x64x64x5 : Shape := ⟨4, ![2, 64, 64, 5]⟩
abbrev S2x64x64x25 : Shape := ⟨4, ![2, 64, 64, 25]⟩
abbrev S2x4096x25 : Shape := ⟨3, ![2, 4096, 25]⟩
abbrev S2x4096 : Shape := ⟨2, ![2, 4096]⟩
abbrev S2x4096x1 : Shape := ⟨3, ![2, 4096, 1]⟩
abbrev S2x1x4096 : Shape := ⟨3, ![2, 1, 4096]⟩
abbrev S2x4096x4096 : Shape := ⟨3, ![2, 4096, 4096]⟩
abbrev S2x4096x15 : Shape := ⟨3, ![2, 4096, 15]⟩
abbrev S2x4096x14 : Shape := ⟨3, ![2, 4096, 14]⟩

class Facts : Prop where
  bcast_S_S2x3x64x64 : S_.BroadcastsInDim S2x3x64x64 (![] : Fin 0 → Fin S2x3x64x64.rank)
  reducesTo_S2x3x64x64_S2x3_d2_3 : S2x3x64x64.ReducesTo [2, 3] S2x3
  h_S_ : 0 < S_.numel
  bcast_S2x3_S2x3x1x1_0_1 : S2x3.BroadcastsInDim S2x3x1x1 (![0, 1] : Fin 2 → Fin S2x3x1x1.rank)
  bcast_S_S2x3x1x1 : S_.BroadcastsInDim S2x3x1x1 (![] : Fin 0 → Fin S2x3x1x1.rank)
  bcast_S2x3x1x1_S2x3x64x64_0_1_2_3 : S2x3x1x1.BroadcastsInDim S2x3x64x64 (![0, 1, 2, 3] : Fin 4 → Fin S2x3x64x64.rank)
  shapeCasts_S3_S1x3x1x1 : S3.ShapeCasts S1x3x1x1
  bcast_S1x3x1x1_S2x3x64x64_0_1_2_3 : S1x3x1x1.BroadcastsInDim S2x3x64x64 (![0, 1, 2, 3] : Fin 4 → Fin S2x3x64x64.rank)
  reducesTo_S2x3x64x64_S2x64x64_d1 : S2x3x64x64.ReducesTo [1] S2x64x64
  slices_S2x64x64_S2x1x64_0_0_0 : S2x64x64.Slices ![0, 0, 0] S2x1x64
  slices_S2x64x64_S2x2x64_0_1_0 : S2x64x64.Slices ![0, 1, 0] S2x2x64
  concatenates_S2x2x64_S2x64x64_S2x66x64_d1 : Shape.Concatenates [S2x2x64, S2x64x64] S2x66x64 1
  slices_S2x66x64_S2x1x64_0_65_0 : S2x66x64.Slices ![0, 65, 0] S2x1x64
  slices_S2x66x64_S2x2x64_0_63_0 : S2x66x64.Slices ![0, 63, 0] S2x2x64
  concatenates_S2x66x64_S2x2x64_S2x68x64_d1 : Shape.Concatenates [S2x66x64, S2x2x64] S2x68x64 1
  slices_S2x68x64_S2x68x1_0_0_0 : S2x68x64.Slices ![0, 0, 0] S2x68x1
  slices_S2x68x64_S2x68x2_0_0_1 : S2x68x64.Slices ![0, 0, 1] S2x68x2
  concatenates_S2x68x2_S2x68x64_S2x68x66_d2 : Shape.Concatenates [S2x68x2, S2x68x64] S2x68x66 2
  slices_S2x68x66_S2x68x1_0_0_65 : S2x68x66.Slices ![0, 0, 65] S2x68x1
  slices_S2x68x66_S2x68x2_0_0_63 : S2x68x66.Slices ![0, 0, 63] S2x68x2
  concatenates_S2x68x66_S2x68x2_S2x68x68_d2 : Shape.Concatenates [S2x68x66, S2x68x2] S2x68x68 2
  slices_S2x68x68_S2x68x64_0_0_0 : S2x68x68.Slices ![0, 0, 0] S2x68x64
  slices_S2x68x68_S2x68x64_0_0_1 : S2x68x68.Slices ![0, 0, 1] S2x68x64
  slices_S2x68x68_S2x68x64_0_0_2 : S2x68x68.Slices ![0, 0, 2] S2x68x64
  slices_S2x68x68_S2x68x64_0_0_3 : S2x68x68.Slices ![0, 0, 3] S2x68x64
  slices_S2x68x68_S2x68x64_0_0_4 : S2x68x68.Slices ![0, 0, 4] S2x68x64
  bcast_S2x68x64_S2x68x64x1_0_1_2 : S2x68x64.BroadcastsInDim S2x68x64x1 (![0, 1, 2] : Fin 3 → Fin S2x68x64x1.rank)
  concatenates_S2x68x64x1_S2x68x64x1_S2x68x64x1_S2x68x64x1_S2x68x64x1_S2x68x64x5_d3 : Shape.Concatenates [S2x68x64x1, S2x68x64x1, S2x68x64x1, S2x68x64x1, S2x68x64x1] S2x68x64x5 3
  slices_S2x68x64x5_S2x64x64x5_0_0_0_0 : S2x68x64x5.Slices ![0, 0, 0, 0] S2x64x64x5
  slices_S2x68x64x5_S2x64x64x5_0_1_0_0 : S2x68x64x5.Slices ![0, 1, 0, 0] S2x64x64x5
  slices_S2x68x64x5_S2x64x64x5_0_2_0_0 : S2x68x64x5.Slices ![0, 2, 0, 0] S2x64x64x5
  slices_S2x68x64x5_S2x64x64x5_0_3_0_0 : S2x68x64x5.Slices ![0, 3, 0, 0] S2x64x64x5
  slices_S2x68x64x5_S2x64x64x5_0_4_0_0 : S2x68x64x5.Slices ![0, 4, 0, 0] S2x64x64x5
  concatenates_S2x64x64x5_S2x64x64x5_S2x64x64x5_S2x64x64x5_S2x64x64x5_S2x64x64x25_d3 : Shape.Concatenates [S2x64x64x5, S2x64x64x5, S2x64x64x5, S2x64x64x5, S2x64x64x5] S2x64x64x25 3
  shapeCasts_S2x64x64x25_S2x4096x25 : S2x64x64x25.ShapeCasts S2x4096x25
  reducesTo_S2x4096x25_S2x4096_d2 : S2x4096x25.ReducesTo [2] S2x4096
  bcast_S2x4096_S2x4096x1_0_1 : S2x4096.BroadcastsInDim S2x4096x1 (![0, 1] : Fin 2 → Fin S2x4096x1.rank)
  bcast_S2x4096_S2x1x4096_0_2 : S2x4096.BroadcastsInDim S2x1x4096 (![0, 2] : Fin 2 → Fin S2x1x4096.rank)
  bcast_S2x4096x1_S2x4096x4096_0_1_2 : S2x4096x1.BroadcastsInDim S2x4096x4096 (![0, 1, 2] : Fin 3 → Fin S2x4096x4096.rank)
  bcast_S2x1x4096_S2x4096x4096_0_1_2 : S2x1x4096.BroadcastsInDim S2x4096x4096 (![0, 1, 2] : Fin 3 → Fin S2x4096x4096.rank)
  bcast_S_S2x4096x4096 : S_.BroadcastsInDim S2x4096x4096 (![] : Fin 0 → Fin S2x4096x4096.rank)
  sliceFits_S2x4096x4096_S2x4096x15 : S2x4096x4096.Slices (fun _ => 0) S2x4096x15
  reducesTo_S2x3x64x64_S_d0_1_2_3 : S2x3x64x64.ReducesTo [0, 1, 2, 3] S_
  bcast_S_S75x80 : S_.BroadcastsInDim S75x80 (![] : Fin 0 → Fin S75x80.rank)
  reducesTo_S75x80_S_d0_1 : S75x80.ReducesTo [0, 1] S_
  reducesTo_S2x4096x4096_S_d0_1_2 : S2x4096x4096.ReducesTo [0, 1, 2] S_
  slices_S2x4096x15_S2x4096x14_0_0_0 : S2x4096x15.Slices ![0, 0, 0] S2x4096x14
  slices_S2x4096x15_S2x4096x14_0_0_1 : S2x4096x15.Slices ![0, 0, 1] S2x4096x14
  reducesTo_S2x4096x14_S_d0_1_2 : S2x4096x14.ReducesTo [0, 1, 2] S_
  dot_S2x4096x25_S2x4096x25_S2x4096x4096_2_2_1_1_0_0_wf : DotDims.WF S2x4096x25 S2x4096x25 S2x4096x4096 [2] [2] [1] [1] [0] [0]

variable [Facts]

def dot_S2x4096x25_S2x4096x25_S2x4096x4096_2_2_1_1_0_0 : DotDims S2x4096x25 S2x4096x25 S2x4096x4096 where
  lhsContracting := [2]
  rhsContracting := [2]
  lhsNonContracting := [1]
  rhsNonContracting := [1]
  lhsBatch := [0]
  rhsBatch := [0]
  wf := dot_S2x4096x25_S2x4096x25_S2x4096x4096_2_2_1_1_0_0_wf

noncomputable abbrev lit0 : Fin 3 → BitVec 32 := fun
  | 0 => 0x3E99096C#32 | 1 => 0x3F1645A2#32 | 2 => 0x3DE978D5#32
  | _ => 0#32

def fn_flip {F : FTy → Type} [FloatOps F] (arg0 : FVec F S2x2x64 .f32) : FVec F S2x2x64 .f32 :=
  let v0 : FVec F S2x2x64 .f32 := Host.reverse [1] arg0
  v0

def fn_flip_0 {F : FTy → Type} [FloatOps F] (arg0 : FVec F S2x68x2 .f32) : FVec F S2x68x2 .f32 :=
  let v0 : FVec F S2x68x2 .f32 := Host.reverse [2] arg0
  v0

def fn_pad {F : FTy → Type} [FloatOps F] (arg0 : FVec F S2x64x64 .f32) (arg1 : IVec S_ 32) : FVec F S2x68x68 .f32 :=
  let v0 : FVec F S2x1x64 .f32 := (extractStridedSlice S2x1x64 ![0, 0, 0] · slices_S2x64x64_S2x1x64_0_0_0) arg0
  let v1 : FVec F S2x2x64 .f32 := (extractStridedSlice S2x2x64 ![0, 1, 0] · slices_S2x64x64_S2x2x64_0_1_0) arg0
  let v2 : FVec F S2x2x64 .f32 := fn_flip (F := F) v1
  let v3 : FVec F S2x66x64 .f32 := (fun a b => concatenate S2x66x64 1 [⟨S2x2x64, a⟩, ⟨S2x64x64, b⟩] concatenates_S2x2x64_S2x64x64_S2x66x64_d1) v2 arg0
  let v4 : FVec F S2x1x64 .f32 := (extractStridedSlice S2x1x64 ![0, 65, 0] · slices_S2x66x64_S2x1x64_0_65_0) v3
  let v5 : FVec F S2x2x64 .f32 := (extractStridedSlice S2x2x64 ![0, 63, 0] · slices_S2x66x64_S2x2x64_0_63_0) v3
  let v6 : FVec F S2x2x64 .f32 := fn_flip (F := F) v5
  let v7 : FVec F S2x68x64 .f32 := (fun a b => concatenate S2x68x64 1 [⟨S2x66x64, a⟩, ⟨S2x2x64, b⟩] concatenates_S2x66x64_S2x2x64_S2x68x64_d1) v3 v6
  let v8 : FVec F S2x68x1 .f32 := (extractStridedSlice S2x68x1 ![0, 0, 0] · slices_S2x68x64_S2x68x1_0_0_0) v7
  let v9 : FVec F S2x68x2 .f32 := (extractStridedSlice S2x68x2 ![0, 0, 1] · slices_S2x68x64_S2x68x2_0_0_1) v7
  let v10 : FVec F S2x68x2 .f32 := fn_flip_0 (F := F) v9
  let v11 : FVec F S2x68x66 .f32 := (fun a b => concatenate S2x68x66 2 [⟨S2x68x2, a⟩, ⟨S2x68x64, b⟩] concatenates_S2x68x2_S2x68x64_S2x68x66_d2) v10 v7
  let v12 : FVec F S2x68x1 .f32 := (extractStridedSlice S2x68x1 ![0, 0, 65] · slices_S2x68x66_S2x68x1_0_0_65) v11
  let v13 : FVec F S2x68x2 .f32 := (extractStridedSlice S2x68x2 ![0, 0, 63] · slices_S2x68x66_S2x68x2_0_0_63) v11
  let v14 : FVec F S2x68x2 .f32 := fn_flip_0 (F := F) v13
  let v15 : FVec F S2x68x68 .f32 := (fun a b => concatenate S2x68x68 2 [⟨S2x68x66, a⟩, ⟨S2x68x2, b⟩] concatenates_S2x68x66_S2x68x2_S2x68x68_d2) v11 v14
  v15

def fn_part3 {F : FTy → Type} [FloatOps F] (main_arg2 : FVec F S75x80 .f32) (main_v45 : FVec F S2x4096x4096 .f32) (main_v47 : FVec F S2x4096x15 .f32) (main_v54 : IVec S_ 1) (main_v55 : FVec F S75x80 .f32) : IVec S_ 1 :=
  let main_v56 : IVec S75x80 1 := cmpf .olt main_arg2 main_v55
  let main_cst_12 : FVec F S_ .f32 := constant S_ .f32 0x7F800000#32
  let main_v57 : FVec F S_ .f32 := Host.negf main_cst_12
  let main_v58 : FVec F S75x80 .f32 := broadcastInDim S75x80 ![] bcast_S_S75x80 main_v57
  let main_v59 : IVec S75x80 1 := cmpf .ogt main_arg2 main_v58
  let main_v60 : IVec S75x80 1 := andi main_v56 main_v59
  let main_c_13 : IVec S_ 1 := constantI S_ 1 1#1
  let main_v61 : IVec S_ 1 := (fun x v => Host.reduce IntOp.andi x v reducesTo_S75x80_S_d0_1 h_S_) main_v60 main_c_13
  let main_v62 : IVec S_ 1 := andi main_v54 main_v61
  let main_cst_14 : FVec F S_ .f32 := constant S_ .f32 0x7F61B1E6#32
  let main_v63 : FVec F S2x4096x4096 .f32 := broadcastInDim S2x4096x4096 ![] bcast_S_S2x4096x4096 main_cst_14
  let main_v64 : IVec S2x4096x4096 1 := cmpf .olt main_v45 main_v63
  let main_c_15 : IVec S_ 1 := constantI S_ 1 1#1
  let main_v65 : IVec S_ 1 := (fun x v => Host.reduce IntOp.andi x v reducesTo_S2x4096x4096_S_d0_1_2 h_S_) main_v64 main_c_15
  let main_v66 : IVec S_ 1 := andi main_v62 main_v65
  let main_v67 : FVec F S2x4096x14 .f32 := (extractStridedSlice S2x4096x14 ![0, 0, 0] · slices_S2x4096x15_S2x4096x14_0_0_0) main_v47
  let main_v68 : FVec F S2x4096x14 .f32 := (extractStridedSlice S2x4096x14 ![0, 0, 1] · slices_S2x4096x15_S2x4096x14_0_0_1) main_v47
  let main_v69 : IVec S2x4096x14 1 := cmpf .olt main_v67 main_v68
  let main_c_16 : IVec S_ 1 := constantI S_ 1 1#1
  let main_v70 : IVec S_ 1 := (fun x v => Host.reduce IntOp.andi x v reducesTo_S2x4096x14_S_d0_1_2 h_S_) main_v69 main_c_16
  let main_v71 : IVec S_ 1 := andi main_v66 main_v70
  main_v71

def fn_part2 {F : FTy → Type} [FloatOps F] (main_arg0 : FVec F S2x3x64x64 .f32) (main_arg2 : FVec F S75x80 .f32) (main_v34 : FVec F S2x4096x25 .f32) (main_v37 : FVec F S2x4096x1 .f32) (main_v38 : FVec F S2x1x4096 .f32) : IVec S_ 1 :=
  let main_v39 : FVec F S2x4096x4096 .f32 := broadcastInDim S2x4096x4096 ![0, 1, 2] bcast_S2x4096x1_S2x4096x4096_0_1_2 main_v37
  let main_v40 : FVec F S2x4096x4096 .f32 := broadcastInDim S2x4096x4096 ![0, 1, 2] bcast_S2x1x4096_S2x4096x4096_0_1_2 main_v38
  let main_v41 : FVec F S2x4096x4096 .f32 := addf main_v39 main_v40
  let main_v42 : FVec F S2x4096x4096 .f32 := (fun l r => Host.dotGeneral dot_S2x4096x25_S2x4096x25_S2x4096x4096_2_2_1_1_0_0 none l r) main_v34 main_v34
  let main_cst_7 : FVec F S_ .f32 := constant S_ .f32 0x40000000#32
  let main_v43 : FVec F S2x4096x4096 .f32 := broadcastInDim S2x4096x4096 ![] bcast_S_S2x4096x4096 main_cst_7
  let main_v44 : FVec F S2x4096x4096 .f32 := mulf main_v43 main_v42
  let main_v45 : FVec F S2x4096x4096 .f32 := subf main_v41 main_v44
  let main_v46 : FVec F S2x4096x4096 .f32 := Host.negf main_v45
  let main_values : FVec F S2x4096x15 .f32 := (fun x => (Host.topK S2x4096x15 2 (FloatOps.cmpfTotal .gt) x sliceFits_S2x4096x4096_S2x4096x15).1) main_v46
  let main_indices : IVec S2x4096x15 32 := (fun x => (Host.topK S2x4096x15 2 (FloatOps.cmpfTotal .gt) x sliceFits_S2x4096x4096_S2x4096x15).2) main_v46
  let main_v47 : FVec F S2x4096x15 .f32 := Host.negf main_values
  let main_cst_8 : FVec F S_ .f32 := constant S_ .f32 0x7F800000#32
  let main_v48 : FVec F S2x3x64x64 .f32 := broadcastInDim S2x3x64x64 ![] bcast_S_S2x3x64x64 main_cst_8
  let main_v49 : IVec S2x3x64x64 1 := cmpf .olt main_arg0 main_v48
  let main_cst_9 : FVec F S_ .f32 := constant S_ .f32 0x7F800000#32
  let main_v50 : FVec F S_ .f32 := Host.negf main_cst_9
  let main_v51 : FVec F S2x3x64x64 .f32 := broadcastInDim S2x3x64x64 ![] bcast_S_S2x3x64x64 main_v50
  let main_v52 : IVec S2x3x64x64 1 := cmpf .ogt main_arg0 main_v51
  let main_v53 : IVec S2x3x64x64 1 := andi main_v49 main_v52
  let main_c_10 : IVec S_ 1 := constantI S_ 1 1#1
  let main_v54 : IVec S_ 1 := (fun x v => Host.reduce IntOp.andi x v reducesTo_S2x3x64x64_S_d0_1_2_3 h_S_) main_v53 main_c_10
  let main_cst_11 : FVec F S_ .f32 := constant S_ .f32 0x7F800000#32
  let main_v55 : FVec F S75x80 .f32 := broadcastInDim S75x80 ![] bcast_S_S75x80 main_cst_11
  fn_part3 (F := F) main_arg2 main_v45 main_v47 main_v54 main_v55

def fn_part1 {F : FTy → Type} [FloatOps F] (main_arg0 : FVec F S2x3x64x64 .f32) (main_arg2 : FVec F S75x80 .f32) (main_v15 : FVec F S2x64x64 .f32) (main_c : IVec S_ 32) : IVec S_ 1 :=
  let main_v16 : FVec F S2x68x68 .f32 := fn_pad (F := F) main_v15 main_c
  let main_v17 : FVec F S2x68x64 .f32 := (extractStridedSlice S2x68x64 ![0, 0, 0] · slices_S2x68x68_S2x68x64_0_0_0) main_v16
  let main_v18 : FVec F S2x68x64 .f32 := (extractStridedSlice S2x68x64 ![0, 0, 1] · slices_S2x68x68_S2x68x64_0_0_1) main_v16
  let main_v19 : FVec F S2x68x64 .f32 := (extractStridedSlice S2x68x64 ![0, 0, 2] · slices_S2x68x68_S2x68x64_0_0_2) main_v16
  let main_v20 : FVec F S2x68x64 .f32 := (extractStridedSlice S2x68x64 ![0, 0, 3] · slices_S2x68x68_S2x68x64_0_0_3) main_v16
  let main_v21 : FVec F S2x68x64 .f32 := (extractStridedSlice S2x68x64 ![0, 0, 4] · slices_S2x68x68_S2x68x64_0_0_4) main_v16
  let main_v22 : FVec F S2x68x64x1 .f32 := broadcastInDim S2x68x64x1 ![0, 1, 2] bcast_S2x68x64_S2x68x64x1_0_1_2 main_v17
  let main_v23 : FVec F S2x68x64x1 .f32 := broadcastInDim S2x68x64x1 ![0, 1, 2] bcast_S2x68x64_S2x68x64x1_0_1_2 main_v18
  let main_v24 : FVec F S2x68x64x1 .f32 := broadcastInDim S2x68x64x1 ![0, 1, 2] bcast_S2x68x64_S2x68x64x1_0_1_2 main_v19
  let main_v25 : FVec F S2x68x64x1 .f32 := broadcastInDim S2x68x64x1 ![0, 1, 2] bcast_S2x68x64_S2x68x64x1_0_1_2 main_v20
  let main_v26 : FVec F S2x68x64x1 .f32 := broadcastInDim S2x68x64x1 ![0, 1, 2] bcast_S2x68x64_S2x68x64x1_0_1_2 main_v21
  let main_v27 : FVec F S2x68x64x5 .f32 := concatenate S2x68x64x5 3 [⟨S2x68x64x1, main_v22⟩, ⟨S2x68x64x1, main_v23⟩, ⟨S2x68x64x1, main_v24⟩, ⟨S2x68x64x1, main_v25⟩, ⟨S2x68x64x1, main_v26⟩] concatenates_S2x68x64x1_S2x68x64x1_S2x68x64x1_S2x68x64x1_S2x68x64x1_S2x68x64x5_d3
  let main_v28 : FVec F S2x64x64x5 .f32 := (extractStridedSlice S2x64x64x5 ![0, 0, 0, 0] · slices_S2x68x64x5_S2x64x64x5_0_0_0_0) main_v27
  let main_v29 : FVec F S2x64x64x5 .f32 := (extractStridedSlice S2x64x64x5 ![0, 1, 0, 0] · slices_S2x68x64x5_S2x64x64x5_0_1_0_0) main_v27
  let main_v30 : FVec F S2x64x64x5 .f32 := (extractStridedSlice S2x64x64x5 ![0, 2, 0, 0] · slices_S2x68x64x5_S2x64x64x5_0_2_0_0) main_v27
  let main_v31 : FVec F S2x64x64x5 .f32 := (extractStridedSlice S2x64x64x5 ![0, 3, 0, 0] · slices_S2x68x64x5_S2x64x64x5_0_3_0_0) main_v27
  let main_v32 : FVec F S2x64x64x5 .f32 := (extractStridedSlice S2x64x64x5 ![0, 4, 0, 0] · slices_S2x68x64x5_S2x64x64x5_0_4_0_0) main_v27
  let main_v33 : FVec F S2x64x64x25 .f32 := concatenate S2x64x64x25 3 [⟨S2x64x64x5, main_v28⟩, ⟨S2x64x64x5, main_v29⟩, ⟨S2x64x64x5, main_v30⟩, ⟨S2x64x64x5, main_v31⟩, ⟨S2x64x64x5, main_v32⟩] concatenates_S2x64x64x5_S2x64x64x5_S2x64x64x5_S2x64x64x5_S2x64x64x5_S2x64x64x25_d3
  let main_v34 : FVec F S2x4096x25 .f32 := shapeCast S2x4096x25 main_v33 shapeCasts_S2x64x64x25_S2x4096x25
  let main_v35 : FVec F S2x4096x25 .f32 := mulf main_v34 main_v34
  let main_cst_6 : FVec F S_ .f32 := constant S_ .f32 0x00000000#32
  let main_v36 : FVec F S2x4096 .f32 := (fun x v => Host.reduceAdd x v reducesTo_S2x4096x25_S2x4096_d2 h_S_) main_v35 main_cst_6
  let main_v37 : FVec F S2x4096x1 .f32 := broadcastInDim S2x4096x1 ![0, 1] bcast_S2x4096_S2x4096x1_0_1 main_v36
  let main_v38 : FVec F S2x1x4096 .f32 := broadcastInDim S2x1x4096 ![0, 2] bcast_S2x4096_S2x1x4096_0_2 main_v36
  fn_part2 (F := F) main_arg0 main_arg2 main_v34 main_v37 main_v38

def fn {F : FTy → Type} [FloatOps F] (main_arg0 : FVec F S2x3x64x64 .f32) (main_arg1 : FVec F S1 .f32) (main_arg2 : FVec F S75x80 .f32) (main_arg3 : FVec F S80 .f32) (main_arg4 : FVec F S80x75 .f32) (main_arg5 : FVec F S75 .f32) (main_arg6 : FVec F S80x1 .f32) (main_arg7 : FVec F S1 .f32) : IVec S_ 1 :=
  let main_cst : FVec F S3 .f32 := fun i => FloatOps.ofBits .f32 (lit0 (S3.rowMajor i))
  let main_cst_0 : FVec F S_ .f32 := constant S_ .f32 0x437F0000#32
  let main_v0 : FVec F S2x3x64x64 .f32 := broadcastInDim S2x3x64x64 ![] bcast_S_S2x3x64x64 main_cst_0
  let main_v1 : FVec F S2x3x64x64 .f32 := Host.divf main_arg0 main_v0
  let main_cst_1 : FVec F S_ .f32 := constant S_ .f32 0x3F000000#32
  let main_v2 : FVec F S2x3x64x64 .f32 := broadcastInDim S2x3x64x64 ![] bcast_S_S2x3x64x64 main_cst_1
  let main_v3 : FVec F S2x3x64x64 .f32 := subf main_v1 main_v2
  let main_cst_2 : FVec F S_ .f32 := constant S_ .f32 0x3F000000#32
  let main_v4 : FVec F S2x3x64x64 .f32 := broadcastInDim S2x3x64x64 ![] bcast_S_S2x3x64x64 main_cst_2
  let main_v5 : FVec F S2x3x64x64 .f32 := Host.divf main_v3 main_v4
  let main_cst_3 : FVec F S_ .f32 := constant S_ .f32 0x00000000#32
  let main_v6 : FVec F S2x3 .f32 := (fun x v => Host.reduceAdd x v reducesTo_S2x3x64x64_S2x3_d2_3 h_S_) main_v5 main_cst_3
  let main_v7 : FVec F S2x3x1x1 .f32 := broadcastInDim S2x3x1x1 ![0, 1] bcast_S2x3_S2x3x1x1_0_1 main_v6
  let main_cst_4 : FVec F S_ .f32 := constant S_ .f32 0x45800000#32
  let main_v8 : FVec F S2x3x1x1 .f32 := broadcastInDim S2x3x1x1 ![] bcast_S_S2x3x1x1 main_cst_4
  let main_v9 : FVec F S2x3x1x1 .f32 := Host.divf main_v7 main_v8
  let main_v10 : FVec F S2x3x64x64 .f32 := broadcastInDim S2x3x64x64 ![0, 1, 2, 3] bcast_S2x3x1x1_S2x3x64x64_0_1_2_3 main_v9
  let main_v11 : FVec F S2x3x64x64 .f32 := subf main_v5 main_v10
  let main_v12 : FVec F S1x3x1x1 .f32 := shapeCast S1x3x1x1 main_cst shapeCasts_S3_S1x3x1x1
  let main_v13 : FVec F S2x3x64x64 .f32 := broadcastInDim S2x3x64x64 ![0, 1, 2, 3] bcast_S1x3x1x1_S2x3x64x64_0_1_2_3 main_v12
  let main_v14 : FVec F S2x3x64x64 .f32 := mulf main_v11 main_v13
  let main_cst_5 : FVec F S_ .f32 := constant S_ .f32 0x00000000#32
  let main_v15 : FVec F S2x64x64 .f32 := (fun x v => Host.reduceAdd x v reducesTo_S2x3x64x64_S2x64x64_d1 h_S_) main_v14 main_cst_5
  let main_c : IVec S_ 32 := constantI S_ 32 0#32
  fn_part1 (F := F) main_arg0 main_arg2 main_v15 main_c
-- ==== Kernel.lean ====
abbrev S2x3x64x64 : Shape := ⟨4, ![2, 3, 64, 64]⟩
abbrev S1 : Shape := ⟨1, ![1]⟩
abbrev S75x80 : Shape := ⟨2, ![75, 80]⟩
abbrev S80 : Shape := ⟨1, ![80]⟩
abbrev S80x75 : Shape := ⟨2, ![80, 75]⟩
abbrev S75 : Shape := ⟨1, ![75]⟩
abbrev S80x1 : Shape := ⟨2, ![80, 1]⟩
abbrev S3 : Shape := ⟨1, ![3]⟩
abbrev S_ : Shape := ⟨0, ![]⟩
abbrev S2x3 : Shape := ⟨2, ![2, 3]⟩
abbrev S2x3x1x1 : Shape := ⟨4, ![2, 3, 1, 1]⟩
abbrev S1x3x1x1 : Shape := ⟨4, ![1, 3, 1, 1]⟩
abbrev S2x64x64 : Shape := ⟨3, ![2, 64, 64]⟩
abbrev S2x1x64 : Shape := ⟨3, ![2, 1, 64]⟩
abbrev S2x2x64 : Shape := ⟨3, ![2, 2, 64]⟩
abbrev S2x66x64 : Shape := ⟨3, ![2, 66, 64]⟩
abbrev S2x68x64 : Shape := ⟨3, ![2, 68, 64]⟩
abbrev S2x68x1 : Shape := ⟨3, ![2, 68, 1]⟩
abbrev S2x68x2 : Shape := ⟨3, ![2, 68, 2]⟩
abbrev S2x68x66 : Shape := ⟨3, ![2, 68, 66]⟩
abbrev S2x68x68 : Shape := ⟨3, ![2, 68, 68]⟩
abbrev S2x3x1x64 : Shape := ⟨4, ![2, 3, 1, 64]⟩
abbrev S2x3x2x64 : Shape := ⟨4, ![2, 3, 2, 64]⟩
abbrev S2x3x66x64 : Shape := ⟨4, ![2, 3, 66, 64]⟩
abbrev S2x3x68x64 : Shape := ⟨4, ![2, 3, 68, 64]⟩
abbrev S2x3x68x1 : Shape := ⟨4, ![2, 3, 68, 1]⟩
abbrev S2x3x68x2 : Shape := ⟨4, ![2, 3, 68, 2]⟩
abbrev S2x3x68x66 : Shape := ⟨4, ![2, 3, 68, 66]⟩
abbrev S2x3x68x68 : Shape := ⟨4, ![2, 3, 68, 68]⟩
abbrev S2x4096 : Shape := ⟨2, ![2, 4096]⟩
abbrev S2x1x4096 : Shape := ⟨3, ![2, 1, 4096]⟩
abbrev S2x16x4096 : Shape := ⟨3, ![2, 16, 4096]⟩
abbrev S2x9x4096 : Shape := ⟨3, ![2, 9, 4096]⟩
abbrev S2x25x4096 : Shape := ⟨3, ![2, 25, 4096]⟩
abbrev S2x3x4096 : Shape := ⟨3, ![2, 3, 4096]⟩
abbrev S2x1x3x4096 : Shape := ⟨4, ![2, 1, 3, 4096]⟩
abbrev S2x16x3x4096 : Shape := ⟨4, ![2, 16, 3, 4096]⟩
abbrev S2x9x3x4096 : Shape := ⟨4, ![2, 9, 3, 4096]⟩
abbrev S2x25x3x4096 : Shape := ⟨4, ![2, 25, 3, 4096]⟩
abbrev S2x75x4096 : Shape := ⟨3, ![2, 75, 4096]⟩
abbrev S3x25x80 : Shape := ⟨3, ![3, 25, 80]⟩
abbrev S25x3x80 : Shape := ⟨3, ![25, 3, 80]⟩
abbrev S1x1 : Shape := ⟨2, ![1, 1]⟩
abbrev S2x1 : Shape := ⟨2, ![2, 1]⟩
abbrev S2x4 : Shape := ⟨2, ![2, 4]⟩
abbrev S2x8 : Shape := ⟨2, ![2, 8]⟩
abbrev S2x1x8 : Shape := ⟨3, ![2, 1, 8]⟩
abbrev S80x76 : Shape := ⟨2, ![80, 76]⟩
abbrev S76 : Shape := ⟨1, ![76]⟩
abbrev S76x1 : Shape := ⟨2, ![76, 1]⟩
abbrev S1x1x8 : Shape := ⟨3, ![1, 1, 8]⟩
abbrev S1x25x4096 : Shape := ⟨3, ![1, 25, 4096]⟩
abbrev S1x75x4096 : Shape := ⟨3, ![1, 75, 4096]⟩
abbrev S1x3x4096 : Shape := ⟨3, ![1, 3, 4096]⟩
abbrev S4096x80 : Shape := ⟨2, ![4096, 80]⟩
abbrev S32x4096 : Shape := ⟨2, ![32, 4096]⟩
abbrev S75x4608 : Shape := ⟨2, ![75, 4608]⟩
abbrev S1x4608 : Shape := ⟨2, ![1, 4608]⟩
abbrev S75x4096 : Shape := ⟨2, ![75, 4096]⟩
abbrev S25x4096 : Shape := ⟨2, ![25, 4096]⟩
abbrev S4096 : Shape := ⟨1, ![4096]⟩
abbrev S1x4096 : Shape := ⟨2, ![1, 4096]⟩
abbrev S6x4096 : Shape := ⟨2, ![6, 4096]⟩
abbrev S75x256 : Shape := ⟨2, ![75, 256]⟩
abbrev S1x256 : Shape := ⟨2, ![1, 256]⟩
abbrev S32x256 : Shape := ⟨2, ![32, 256]⟩
abbrev S4096x256 : Shape := ⟨2, ![4096, 256]⟩
abbrev S64x64x256 : Shape := ⟨3, ![64, 64, 256]⟩
abbrev S64x256 : Shape := ⟨2, ![64, 256]⟩
abbrev S64x1x256 : Shape := ⟨3, ![64, 1, 256]⟩
abbrev S320x256 : Shape := ⟨2, ![320, 256]⟩
abbrev S256 : Shape := ⟨1, ![256]⟩
abbrev S14x256 : Shape := ⟨2, ![14, 256]⟩
abbrev S1x64x256 : Shape := ⟨3, ![1, 64, 256]⟩
abbrev S1x1x1 : Shape := ⟨3, ![1, 1, 1]⟩
abbrev S80x256 : Shape := ⟨2, ![80, 256]⟩
abbrev S76x256 : Shape := ⟨2, ![76, 256]⟩
abbrev S1x1x4096 : Shape := ⟨3, ![1, 1, 4096]⟩

abbrev nBuf : Space → Nat
  | .hbm => 246
  | .vmem => 17
  | .smem => 0
  | _ => 0

abbrev hbmTy0_0 (i : Nat) : BufTy := match i % 128 with
  | 0 => ⟨S2x3x64x64, .f32⟩
  | 1 => ⟨S1, .f32⟩
  | 2 => ⟨S75x80, .f32⟩
  | 3 => ⟨S80, .f32⟩
  | 4 => ⟨S80x75, .f32⟩
  | 5 => ⟨S75, .f32⟩
  | 6 => ⟨S80x1, .f32⟩
  | 7 => ⟨S1, .f32⟩
  | 8 => ⟨S3, .f32⟩
  | 9 => ⟨S_, .f32⟩
  | 10 => ⟨S2x3x64x64, .f32⟩
  | 11 => ⟨S2x3x64x64, .f32⟩
  | 12 => ⟨S_, .f32⟩
  | 13 => ⟨S2x3x64x64, .f32⟩
  | 14 => ⟨S2x3x64x64, .f32⟩
  | 15 => ⟨S_, .f32⟩
  | 16 => ⟨S2x3x64x64, .f32⟩
  | 17 => ⟨S2x3x64x64, .f32⟩
  | 18 => ⟨S_, .f32⟩
  | 19 => ⟨S2x3, .f32⟩
  | 20 => ⟨S2x3x1x1, .f32⟩
  | 21 => ⟨S_, .f32⟩
  | 22 => ⟨S2x3x1x1, .f32⟩
  | 23 => ⟨S2x3x1x1, .f32⟩
  | 24 => ⟨S2x3x64x64, .f32⟩
  | 25 => ⟨S2x3x64x64, .f32⟩
  | 26 => ⟨S1x3x1x1, .f32⟩
  | 27 => ⟨S2x3x64x64, .f32⟩
  | 28 => ⟨S2x3x64x64, .f32⟩
  | 29 => ⟨S_, .f32⟩
  | 30 => ⟨S2x64x64, .f32⟩
  | 31 => ⟨S_, .i32⟩
  | 32 => ⟨S2x1x64, .f32⟩
  | 33 => ⟨S2x2x64, .f32⟩
  | 34 => ⟨S2x2x64, .f32⟩
  | 35 => ⟨S2x66x64, .f32⟩
  | 36 => ⟨S2x1x64, .f32⟩
  | 37 => ⟨S2x2x64, .f32⟩
  | 38 => ⟨S2x2x64, .f32⟩
  | 39 => ⟨S2x68x64, .f32⟩
  | 40 => ⟨S2x68x1, .f32⟩
  | 41 => ⟨S2x68x2, .f32⟩
  | 42 => ⟨S2x68x2, .f32⟩
  | 43 => ⟨S2x68x66, .f32⟩
  | 44 => ⟨S2x68x1, .f32⟩
  | 45 => ⟨S2x68x2, .f32⟩
  | 46 => ⟨S2x68x2, .f32⟩
  | 47 => ⟨S2x68x68, .f32⟩
  | 48 => ⟨S_, .i32⟩
  | 49 => ⟨S2x3x1x64, .f32⟩
  | 50 => ⟨S2x3x2x64, .f32⟩
  | 51 => ⟨S2x3x2x64, .f32⟩
  | 52 => ⟨S2x3x66x64, .f32⟩
  | 53 => ⟨S2x3x1x64, .f32⟩
  | 54 => ⟨S2x3x2x64, .f32⟩
  | 55 => ⟨S2x3x2x64, .f32⟩
  | 56 => ⟨S2x3x68x64, .f32⟩
  | 57 => ⟨S2x3x68x1, .f32⟩
  | 58 => ⟨S2x3x68x2, .f32⟩
  | 59 => ⟨S2x3x68x2, .f32⟩
  | 60 => ⟨S2x3x68x66, .f32⟩
  | 61 => ⟨S2x3x68x1, .f32⟩
  | 62 => ⟨S2x3x68x2, .f32⟩
  | 63 => ⟨S2x3x68x2, .f32⟩
  | 64 => ⟨S2x3x68x68, .f32⟩
  | 65 => ⟨S2x64x64, .f32⟩
  | 66 => ⟨S2x4096, .f32⟩
  | 67 => ⟨S2x64x64, .f32⟩
  | 68 => ⟨S2x4096, .f32⟩
  | 69 => ⟨S2x64x64, .f32⟩
  | 70 => ⟨S2x4096, .f32⟩
  | 71 => ⟨S2x64x64, .f32⟩
  | 72 => ⟨S2x4096, .f32⟩
  | 73 => ⟨S2x64x64, .f32⟩
  | 74 => ⟨S2x4096, .f32⟩
  | 75 => ⟨S2x64x64, .f32⟩
  | 76 => ⟨S2x4096, .f32⟩
  | 77 => ⟨S2x64x64, .f32⟩
  | 78 => ⟨S2x4096, .f32⟩
  | 79 => ⟨S2x64x64, .f32⟩
  | 80 => ⟨S2x4096, .f32⟩
  | 81 => ⟨S2x64x64, .f32⟩
  | 82 => ⟨S2x4096, .f32⟩
  | 83 => ⟨S2x64x64, .f32⟩
  | 84 => ⟨S2x4096, .f32⟩
  | 85 => ⟨S2x64x64, .f32⟩
  | 86 => ⟨S2x4096, .f32⟩
  | 87 => ⟨S2x64x64, .f32⟩
  | 88 => ⟨S2x4096, .f32⟩
  | 89 => ⟨S2x64x64, .f32⟩
  | 90 => ⟨S2x4096, .f32⟩
  | 91 => ⟨S2x64x64, .f32⟩
  | 92 => ⟨S2x4096, .f32⟩
  | 93 => ⟨S2x64x64, .f32⟩
  | 94 => ⟨S2x4096, .f32⟩
  | 95 => ⟨S2x64x64, .f32⟩
  | 96 => ⟨S2x4096, .f32⟩
  | 97 => ⟨S2x64x64, .f32⟩
  | 98 => ⟨S2x4096, .f32⟩
  | 99 => ⟨S2x64x64, .f32⟩
  | 100 => ⟨S2x4096, .f32⟩
  | 101 => ⟨S2x64x64, .f32⟩
  | 102 => ⟨S2x4096, .f32⟩
  | 103 => ⟨S2x64x64, .f32⟩
  | 104 => ⟨S2x4096, .f32⟩
  | 105 => ⟨S2x64x64, .f32⟩
  | 106 => ⟨S2x4096, .f32⟩
  | 107 => ⟨S2x64x64, .f32⟩
  | 108 => ⟨S2x4096, .f32⟩
  | 109 => ⟨S2x64x64, .f32⟩
  | 110 => ⟨S2x4096, .f32⟩
  | 111 => ⟨S2x64x64, .f32⟩
  | 112 => ⟨S2x4096, .f32⟩
  | 113 => ⟨S2x64x64, .f32⟩
  | 114 => ⟨S2x4096, .f32⟩
  | 115 => ⟨S2x1x4096, .f32⟩
  | 116 => ⟨S2x1x4096, .f32⟩
  | 117 => ⟨S2x1x4096, .f32⟩
  | 118 => ⟨S2x1x4096, .f32⟩
  | 119 => ⟨S2x1x4096, .f32⟩
  | 120 => ⟨S2x1x4096, .f32⟩
  | 121 => ⟨S2x1x4096, .f32⟩
  | 122 => ⟨S2x1x4096, .f32⟩
  | 123 => ⟨S2x1x4096, .f32⟩
  | 124 => ⟨S2x1x4096, .f32⟩
  | 125 => ⟨S2x1x4096, .f32⟩
  | 126 => ⟨S2x1x4096, .f32⟩
  | 127 => ⟨S2x1x4096, .f32⟩
  | _ => ⟨S2x3x64x64, .f32⟩

abbrev hbmTy0_1 (i : Nat) : BufTy := match i % 128 with
  | 0 => ⟨S2x1x4096, .f32⟩
  | 1 => ⟨S2x1x4096, .f32⟩
  | 2 => ⟨S2x1x4096, .f32⟩
  | 3 => ⟨S2x1x4096, .f32⟩
  | 4 => ⟨S2x1x4096, .f32⟩
  | 5 => ⟨S2x1x4096, .f32⟩
  | 6 => ⟨S2x1x4096, .f32⟩
  | 7 => ⟨S2x1x4096, .f32⟩
  | 8 => ⟨S2x1x4096, .f32⟩
  | 9 => ⟨S2x1x4096, .f32⟩
  | 10 => ⟨S2x1x4096, .f32⟩
  | 11 => ⟨S2x1x4096, .f32⟩
  | 12 => ⟨S2x16x4096, .f32⟩
  | 13 => ⟨S2x9x4096, .f32⟩
  | 14 => ⟨S2x25x4096, .f32⟩
  | 15 => ⟨S2x3x64x64, .f32⟩
  | 16 => ⟨S2x3x4096, .f32⟩
  | 17 => ⟨S2x3x64x64, .f32⟩
  | 18 => ⟨S2x3x4096, .f32⟩
  | 19 => ⟨S2x3x64x64, .f32⟩
  | 20 => ⟨S2x3x4096, .f32⟩
  | 21 => ⟨S2x3x64x64, .f32⟩
  | 22 => ⟨S2x3x4096, .f32⟩
  | 23 => ⟨S2x3x64x64, .f32⟩
  | 24 => ⟨S2x3x4096, .f32⟩
  | 25 => ⟨S2x3x64x64, .f32⟩
  | 26 => ⟨S2x3x4096, .f32⟩
  | 27 => ⟨S2x3x64x64, .f32⟩
  | 28 => ⟨S2x3x4096, .f32⟩
  | 29 => ⟨S2x3x64x64, .f32⟩
  | 30 => ⟨S2x3x4096, .f32⟩
  | 31 => ⟨S2x3x64x64, .f32⟩
  | 32 => ⟨S2x3x4096, .f32⟩
  | 33 => ⟨S2x3x64x64, .f32⟩
  | 34 => ⟨S2x3x4096, .f32⟩
  | 35 => ⟨S2x3x64x64, .f32⟩
  | 36 => ⟨S2x3x4096, .f32⟩
  | 37 => ⟨S2x3x64x64, .f32⟩
  | 38 => ⟨S2x3x4096, .f32⟩
  | 39 => ⟨S2x3x64x64, .f32⟩
  | 40 => ⟨S2x3x4096, .f32⟩
  | 41 => ⟨S2x3x64x64, .f32⟩
  | 42 => ⟨S2x3x4096, .f32⟩
  | 43 => ⟨S2x3x64x64, .f32⟩
  | 44 => ⟨S2x3x4096, .f32⟩
  | 45 => ⟨S2x3x64x64, .f32⟩
  | 46 => ⟨S2x3x4096, .f32⟩
  | 47 => ⟨S2x3x64x64, .f32⟩
  | 48 => ⟨S2x3x4096, .f32⟩
  | 49 => ⟨S2x3x64x64, .f32⟩
  | 50 => ⟨S2x3x4096, .f32⟩
  | 51 => ⟨S2x3x64x64, .f32⟩
  | 52 => ⟨S2x3x4096, .f32⟩
  | 53 => ⟨S2x3x64x64, .f32⟩
  | 54 => ⟨S2x3x4096, .f32⟩
  | 55 => ⟨S2x3x64x64, .f32⟩
  | 56 => ⟨S2x3x4096, .f32⟩
  | 57 => ⟨S2x3x64x64, .f32⟩
  | 58 => ⟨S2x3x4096, .f32⟩
  | 59 => ⟨S2x3x64x64, .f32⟩
  | 60 => ⟨S2x3x4096, .f32⟩
  | 61 => ⟨S2x3x64x64, .f32⟩
  | 62 => ⟨S2x3x4096, .f32⟩
  | 63 => ⟨S2x3x64x64, .f32⟩
  | 64 => ⟨S2x3x4096, .f32⟩
  | 65 => ⟨S2x1x3x4096, .f32⟩
  | 66 => ⟨S2x1x3x4096, .f32⟩
  | 67 => ⟨S2x1x3x4096, .f32⟩
  | 68 => ⟨S2x1x3x4096, .f32⟩
  | 69 => ⟨S2x1x3x4096, .f32⟩
  | 70 => ⟨S2x1x3x4096, .f32⟩
  | 71 => ⟨S2x1x3x4096, .f32⟩
  | 72 => ⟨S2x1x3x4096, .f32⟩
  | 73 => ⟨S2x1x3x4096, .f32⟩
  | 74 => ⟨S2x1x3x4096, .f32⟩
  | 75 => ⟨S2x1x3x4096, .f32⟩
  | 76 => ⟨S2x1x3x4096, .f32⟩
  | 77 => ⟨S2x1x3x4096, .f32⟩
  | 78 => ⟨S2x1x3x4096, .f32⟩
  | 79 => ⟨S2x1x3x4096, .f32⟩
  | 80 => ⟨S2x1x3x4096, .f32⟩
  | 81 => ⟨S2x1x3x4096, .f32⟩
  | 82 => ⟨S2x1x3x4096, .f32⟩
  | 83 => ⟨S2x1x3x4096, .f32⟩
  | 84 => ⟨S2x1x3x4096, .f32⟩
  | 85 => ⟨S2x1x3x4096, .f32⟩
  | 86 => ⟨S2x1x3x4096, .f32⟩
  | 87 => ⟨S2x1x3x4096, .f32⟩
  | 88 => ⟨S2x1x3x4096, .f32⟩
  | 89 => ⟨S2x1x3x4096, .f32⟩
  | 90 => ⟨S2x16x3x4096, .f32⟩
  | 91 => ⟨S2x9x3x4096, .f32⟩
  | 92 => ⟨S2x25x3x4096, .f32⟩
  | 93 => ⟨S2x75x4096, .f32⟩
  | 94 => ⟨S3x25x80, .f32⟩
  | 95 => ⟨S25x3x80, .f32⟩
  | 96 => ⟨S75x80, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S2x3, .f32⟩
  | 106 => ⟨S1x1, .f32⟩
  | 107 => ⟨S2x1, .f32⟩
  | 108 => ⟨S_, .f32⟩
  | 109 => ⟨S2x4, .f32⟩
  | 110 => ⟨S2x8, .f32⟩
  | 111 => ⟨S2x1x8, .f32⟩
  | 112 => ⟨S80x76, .f32⟩
  | 113 => ⟨S76, .f32⟩
  | 114 => ⟨S76x1, .f32⟩
  | 115 => ⟨S80x1, .f32⟩
  | 116 => ⟨S2x3x4096, .f32⟩
  | 117 => ⟨S2x3x64x64, .f32⟩
  | _ => ⟨S2x3x64x64, .f32⟩

abbrev hbmTy (i : Nat) : BufTy := match i / 128 with
  | 0 => hbmTy0_0 i
  | 1 => hbmTy0_1 i
  | _ => ⟨S2x3x64x64, .f32⟩

abbrev bufTy : (tb : Table) → Fin (tcTables nBuf tb) → BufTy
  | .hbm, ⟨i, _⟩ => hbmTy i
  | .local _ .vmem, ⟨0, _⟩ => ⟨S1x1x8, .f32⟩
  | .local _ .vmem, ⟨1, _⟩ => ⟨S1x1x8, .f32⟩
  | .local _ .vmem, ⟨2, _⟩ => ⟨S1x25x4096, .f32⟩
  | .local _ .vmem, ⟨3, _⟩ => ⟨S1x25x4096, .f32⟩
  | .local _ .vmem, ⟨4, _⟩ => ⟨S1x75x4096, .f32⟩
  | .local _ .vmem, ⟨5, _⟩ => ⟨S1x75x4096, .f32⟩
  | .local _ .vmem, ⟨6, _⟩ => ⟨S75x80, .f32⟩
  | .local _ .vmem, ⟨7, _⟩ => ⟨S80x1, .f32⟩
  | .local _ .vmem, ⟨8, _⟩ => ⟨S80x76, .f32⟩
  | .local _ .vmem, ⟨9, _⟩ => ⟨S76x1, .f32⟩
  | .local _ .vmem, ⟨10, _⟩ => ⟨S1x3x4096, .f32⟩
  | .local _ .vmem, ⟨11, _⟩ => ⟨S1x3x4096, .f32⟩
  | .local _ .vmem, ⟨12, _⟩ => ⟨S4096x80, .f32⟩
  | .local _ .vmem, ⟨13, _⟩ => ⟨S32x4096, .f32⟩
  | .local _ .vmem, ⟨14, _⟩ => ⟨S32x4096, .f32⟩
  | .local _ .vmem, ⟨15, _⟩ => ⟨S75x4608, .f32⟩
  | .local _ .vmem, ⟨16, _⟩ => ⟨S1x4608, .f32⟩
  | _, _ => ⟨S2x3x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_cst_3 : Ref sig .tc := ⟨.hbm, 18, rfl⟩
abbrev main_v6 : Ref sig .tc := ⟨.hbm, 19, rfl⟩
abbrev main_v7 : Ref sig .tc := ⟨.hbm, 20, rfl⟩
abbrev main_cst_4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_c : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_v16 : Ref sig .tc := ⟨.hbm, 47, rfl⟩
abbrev main_c_6 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_cst_7 : Ref sig .tc := ⟨.hbm, 226, rfl⟩
abbrev main_v179 : Ref sig .tc := ⟨.hbm, 227, rfl⟩
abbrev main_cst_8 : Ref sig .tc := ⟨.hbm, 228, rfl⟩
abbrev main_v180 : Ref sig .tc := ⟨.hbm, 229, rfl⟩
abbrev main_v181 : Ref sig .tc := ⟨.hbm, 230, rfl⟩
abbrev main_cst_9 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_cst_10 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0 : Index := 0#32
  let arg1 : BitVec 32 := BitVec.ofNat 32 (i 1).val
  let c256_i32 : BitVec 32 := 256#32
  let v3 : BitVec 32 := Scalar.muli arg1 c256_i32
  let v4 : Index := Scalar.indexCast v3
  ![0, v4.toNat]
def k0_off2 (i : grid0.Coords) : Fin 2 → Nat :=
  let c0_64 : Index := 0#32
  let c256_i32_63 : BitVec 32 := 256#32
  let arg1 : BitVec 32 := BitVec.ofNat 32 (i 1).val
  let c256_i32_62 : BitVec 32 := 256#32
  let v173 : BitVec 32 := Scalar.muli arg1 c256_i32_62
  let v174 : BitVec 32 := Scalar.addi c256_i32_63 v173
  let v175 : Index := Scalar.indexCast v174
  ![0, v175.toNat]
def k0_off3 (i : grid0.Coords) : Fin 2 → Nat :=
  let c0_67 : Index := 0#32
  let c256_i32_66 : BitVec 32 := 256#32
  let arg1 : BitVec 32 := BitVec.ofNat 32 (i 1).val
  let c256_i32_65 : BitVec 32 := 256#32
  let v179 : BitVec 32 := Scalar.muli arg1 c256_i32_65
  let v180 : BitVec 32 := Scalar.addi c256_i32_66 v179
  let v181 : Index := Scalar.indexCast v180
  ![0, v181.toNat]
def k0_cond3 (i : grid0.Coords) : BitVec 1 :=
  let arg1 : BitVec 32 := BitVec.ofNat 32 (i 1).val
  let c15_i32 : BitVec 32 := 15#32
  let v185 : BitVec 1 := Scalar.cmpi .eq arg1 c15_i32
  let v186 : BitVec 32 := Scalar.extui v185
  let c0_i32_68 : BitVec 32 := 0#32
  let v187 : BitVec 1 := Scalar.cmpi .ne v186 c0_i32_68
  v187

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x25x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x75x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S75x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S80x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S80x76 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S76x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x3x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2x3x64x64 : Shape := ⟨4, ![2, 3, 64, 64]⟩
abbrev S1 : Shape := ⟨1, ![1]⟩
abbrev S75x80 : Shape := ⟨2, ![75, 80]⟩
abbrev S80 : Shape := ⟨1, ![80]⟩
abbrev S80x75 : Shape := ⟨2, ![80, 75]⟩
abbrev S75 : Shape := ⟨1, ![75]⟩
abbrev S80x1 : Shape := ⟨2, ![80, 1]⟩
abbrev S3 : Shape := ⟨1, ![3]⟩
abbrev S_ : Shape := ⟨0, ![]⟩
abbrev S2x3 : Shape := ⟨2, ![2, 3]⟩
abbrev S2x3x1x1 : Shape := ⟨4, ![2, 3, 1, 1]⟩
abbrev S1x3x1x1 : Shape := ⟨4, ![1, 3, 1, 1]⟩
abbrev S2x64x64 : Shape := ⟨3, ![2, 64, 64]⟩
abbrev S2x1x64 : Shape := ⟨3, ![2, 1, 64]⟩
abbrev S2x2x64 : Shape := ⟨3, ![2, 2, 64]⟩
abbrev S2x66x64 : Shape := ⟨3, ![2, 66, 64]⟩
abbrev S2x68x64 : Shape := ⟨3, ![2, 68, 64]⟩
abbrev S2x68x1 : Shape := ⟨3, ![2, 68, 1]⟩
abbrev S2x68x2 : Shape := ⟨3, ![2, 68, 2]⟩
abbrev S2x68x66 : Shape := ⟨3, ![2, 68, 66]⟩
abbrev S2x68x68 : Shape := ⟨3, ![2, 68, 68]⟩
abbrev S2x3x1x64 : Shape := ⟨4, ![2, 3, 1, 64]⟩
abbrev S2x3x2x64 : Shape := ⟨4, ![2, 3, 2, 64]⟩
abbrev S2x3x66x64 : Shape := ⟨4, ![2, 3, 66, 64]⟩
abbrev S2x3x68x64 : Shape := ⟨4, ![2, 3, 68, 64]⟩
abbrev S2x3x68x1 : Shape := ⟨4, ![2, 3, 68, 1]⟩
abbrev S2x3x68x2 : Shape := ⟨4, ![2, 3, 68, 2]⟩
abbrev S2x3x68x66 : Shape := ⟨4, ![2, 3, 68, 66]⟩
abbrev S2x3x68x68 : Shape := ⟨4, ![2, 3, 68, 68]⟩
abbrev S2x64x64x1 : Shape := ⟨4, ![2, 64, 64, 1]⟩
abbrev S2x64x64x16 : Shape := ⟨4, ![2, 64, 64, 16]⟩
abbrev S2x64x64x9 : Shape := ⟨4, ![2, 64, 64, 9]⟩
abbrev S2x64x64x25 : Shape := ⟨4, ![2, 64, 64, 25]⟩
abbrev S2x4096x25 : Shape := ⟨3, ![2, 4096, 25]⟩
abbrev S2x3x64x64x1 : Shape := ⟨5, ![2, 3, 64, 64, 1]⟩
abbrev S2x3x64x64x16 : Shape := ⟨5, ![2, 3, 64, 64, 16]⟩
abbrev S2x3x64x64x9 : Shape := ⟨5, ![2, 3, 64, 64, 9]⟩
abbrev S2x3x64x64x25 : Shape := ⟨5, ![2, 3, 64, 64, 25]⟩
abbrev S2x64x64x3x25 : Shape := ⟨5, ![2, 64, 64, 3, 25]⟩
abbrev S2x4096x75 : Shape := ⟨3, ![2, 4096, 75]⟩
abbrev S2x4096 : Shape := ⟨2, ![2, 4096]⟩
abbrev S2x4096x1 : Shape := ⟨3, ![2, 4096, 1]⟩
abbrev S2x1x4096 : Shape := ⟨3, ![2, 1, 4096]⟩
abbrev S2x4096x4096 : Shape := ⟨3, ![2, 4096, 4096]⟩
abbrev S2x4096x14 : Shape := ⟨3, ![2, 4096, 14]⟩
abbrev S2x4096x14x1 : Shape := ⟨4, ![2, 4096, 14, 1]⟩
abbrev S2x4096x14x75 : Shape := ⟨4, ![2, 4096, 14, 75]⟩
abbrev S2x4096x80 : Shape := ⟨3, ![2, 4096, 80]⟩
abbrev S1x1x80 : Shape := ⟨3, ![1, 1, 80]⟩
abbrev S1x1x75 : Shape := ⟨3, ![1, 1, 75]⟩
abbrev S1x1x1 : Shape := ⟨3, ![1, 1, 1]⟩
abbrev S2x4096x3x5x5 : Shape := ⟨5, ![2, 4096, 3, 5, 5]⟩
abbrev S64 : Shape := ⟨1, ![64]⟩
abbrev S64x64 : Shape := ⟨2, ![64, 64]⟩
abbrev S4096 : Shape := ⟨1, ![4096]⟩
abbrev S2x3x4624 : Shape := ⟨3, ![2, 3, 4624]⟩
abbrev S2x4096x3x1x1 : Shape := ⟨5, ![2, 4096, 3, 1, 1]⟩
abbrev S2x4096x3 : Shape := ⟨3, ![2, 4096, 3]⟩
abbrev S2x3x4096 : Shape := ⟨3, ![2, 3, 4096]⟩
abbrev S4096x1 : Shape := ⟨2, ![4096, 1]⟩

abbrev nBuf : Space → Nat
  | .hbm => 1137
  | .vmem => 0
  | .smem => 0
  | _ => 0

abbrev hbmTy0_0 (i : Nat) : BufTy := match i % 128 with
  | 0 => ⟨S2x3x64x64, .f32⟩
  | 1 => ⟨S1, .f32⟩
  | 2 => ⟨S75x80, .f32⟩
  | 3 => ⟨S80, .f32⟩
  | 4 => ⟨S80x75, .f32⟩
  | 5 => ⟨S75, .f32⟩
  | 6 => ⟨S80x1, .f32⟩
  | 7 => ⟨S1, .f32⟩
  | 8 => ⟨S3, .f32⟩
  | 9 => ⟨S_, .f32⟩
  | 10 => ⟨S2x3x64x64, .f32⟩
  | 11 => ⟨S2x3x64x64, .f32⟩
  | 12 => ⟨S_, .f32⟩
  | 13 => ⟨S2x3x64x64, .f32⟩
  | 14 => ⟨S2x3x64x64, .f32⟩
  | 15 => ⟨S_, .f32⟩
  | 16 => ⟨S2x3x64x64, .f32⟩
  | 17 => ⟨S2x3x64x64, .f32⟩
  | 18 => ⟨S_, .f32⟩
  | 19 => ⟨S2x3, .f32⟩
  | 20 => ⟨S2x3x1x1, .f32⟩
  | 21 => ⟨S_, .f32⟩
  | 22 => ⟨S2x3x1x1, .f32⟩
  | 23 => ⟨S2x3x1x1, .f32⟩
  | 24 => ⟨S2x3x64x64, .f32⟩
  | 25 => ⟨S2x3x64x64, .f32⟩
  | 26 => ⟨S1x3x1x1, .f32⟩
  | 27 => ⟨S2x3x64x64, .f32⟩
  | 28 => ⟨S2x3x64x64, .f32⟩
  | 29 => ⟨S_, .f32⟩
  | 30 => ⟨S2x64x64, .f32⟩
  | 31 => ⟨S_, .i32⟩
  | 32 => ⟨S2x1x64, .f32⟩
  | 33 => ⟨S2x2x64, .f32⟩
  | 34 => ⟨S2x2x64, .f32⟩
  | 35 => ⟨S2x66x64, .f32⟩
  | 36 => ⟨S2x1x64, .f32⟩
  | 37 => ⟨S2x2x64, .f32⟩
  | 38 => ⟨S2x2x64, .f32⟩
  | 39 => ⟨S2x68x64, .f32⟩
  | 40 => ⟨S2x68x1, .f32⟩
  | 41 => ⟨S2x68x2, .f32⟩
  | 42 => ⟨S2x68x2, .f32⟩
  | 43 => ⟨S2x68x66, .f32⟩
  | 44 => ⟨S2x68x1, .f32⟩
  | 45 => ⟨S2x68x2, .f32⟩
  | 46 => ⟨S2x68x2, .f32⟩
  | 47 => ⟨S2x68x68, .f32⟩
  | 48 => ⟨S_, .i32⟩
  | 49 => ⟨S2x3x1x64, .f32⟩
  | 50 => ⟨S2x3x2x64, .f32⟩
  | 51 => ⟨S2x3x2x64, .f32⟩
  | 52 => ⟨S2x3x66x64, .f32⟩
  | 53 => ⟨S2x3x1x64, .f32⟩
  | 54 => ⟨S2x3x2x64, .f32⟩
  | 55 => ⟨S2x3x2x64, .f32⟩
  | 56 => ⟨S2x3x68x64, .f32⟩
  | 57 => ⟨S2x3x68x1, .f32⟩
  | 58 => ⟨S2x3x68x2, .f32⟩
  | 59 => ⟨S2x3x68x2, .f32⟩
  | 60 => ⟨S2x3x68x66, .f32⟩
  | 61 => ⟨S2x3x68x1, .f32⟩
  | 62 => ⟨S2x3x68x2, .f32⟩
  | 63 => ⟨S2x3x68x2, .f32⟩
  | 64 => ⟨S2x3x68x68, .f32⟩
  | 65 => ⟨S2x64x64, .f32⟩
  | 66 => ⟨S2x64x64, .f32⟩
  | 67 => ⟨S2x64x64, .f32⟩
  | 68 => ⟨S2x64x64, .f32⟩
  | 69 => ⟨S2x64x64, .f32⟩
  | 70 => ⟨S2x64x64, .f32⟩
  | 71 => ⟨S2x64x64, .f32⟩
  | 72 => ⟨S2x64x64, .f32⟩
  | 73 => ⟨S2x64x64, .f32⟩
  | 74 => ⟨S2x64x64, .f32⟩
  | 75 => ⟨S2x64x64, .f32⟩
  | 76 => ⟨S2x64x64, .f32⟩
  | 77 => ⟨S2x64x64, .f32⟩
  | 78 => ⟨S2x64x64, .f32⟩
  | 79 => ⟨S2x64x64, .f32⟩
  | 80 => ⟨S2x64x64, .f32⟩
  | 81 => ⟨S2x64x64, .f32⟩
  | 82 => ⟨S2x64x64, .f32⟩
  | 83 => ⟨S2x64x64, .f32⟩
  | 84 => ⟨S2x64x64, .f32⟩
  | 85 => ⟨S2x64x64, .f32⟩
  | 86 => ⟨S2x64x64, .f32⟩
  | 87 => ⟨S2x64x64, .f32⟩
  | 88 => ⟨S2x64x64, .f32⟩
  | 89 => ⟨S2x64x64, .f32⟩
  | 90 => ⟨S2x64x64x1, .f32⟩
  | 91 => ⟨S2x64x64x1, .f32⟩
  | 92 => ⟨S2x64x64x1, .f32⟩
  | 93 => ⟨S2x64x64x1, .f32⟩
  | 94 => ⟨S2x64x64x1, .f32⟩
  | 95 => ⟨S2x64x64x1, .f32⟩
  | 96 => ⟨S2x64x64x1, .f32⟩
  | 97 => ⟨S2x64x64x1, .f32⟩
  | 98 => ⟨S2x64x64x1, .f32⟩
  | 99 => ⟨S2x64x64x1, .f32⟩
  | 100 => ⟨S2x64x64x1, .f32⟩
  | 101 => ⟨S2x64x64x1, .f32⟩
  | 102 => ⟨S2x64x64x1, .f32⟩
  | 103 => ⟨S2x64x64x1, .f32⟩
  | 104 => ⟨S2x64x64x1, .f32⟩
  | 105 => ⟨S2x64x64x1, .f32⟩
  | 106 => ⟨S2x64x64x1, .f32⟩
  | 107 => ⟨S2x64x64x1, .f32⟩
  | 108 => ⟨S2x64x64x1, .f32⟩
  | 109 => ⟨S2x64x64x1, .f32⟩
  | 110 => ⟨S2x64x64x1, .f32⟩
  | 111 => ⟨S2x64x64x1, .f32⟩
  | 112 => ⟨S2x64x64x1, .f32⟩
  | 113 => ⟨S2x64x64x1, .f32⟩
  | 114 => ⟨S2x64x64x1, .f32⟩
  | 115 => ⟨S2x64x64x16, .f32⟩
  | 116 => ⟨S2x64x64x9, .f32⟩
  | 117 => ⟨S2x64x64x25, .f32⟩
  | 118 => ⟨S2x4096x25, .f32⟩
  | 119 => ⟨S2x3x64x64, .f32⟩
  | 120 => ⟨S2x3x64x64, .f32⟩
  | 121 => ⟨S2x3x64x64, .f32⟩
  | 122 => ⟨S2x3x64x64, .f32⟩
  | 123 => ⟨S2x3x64x64, .f32⟩
  | 124 => ⟨S2x3x64x64, .f32⟩
  | 125 => ⟨S2x3x64x64, .f32⟩
  | 126 => ⟨S2x3x64x64, .f32⟩
  | 127 => ⟨S2x3x64x64, .f32⟩
  | _ => ⟨S2x3x64x64, .f32⟩

abbrev hbmTy0_1 (i : Nat) : BufTy := match i % 128 with
  | 0 => ⟨S2x3x64x64, .f32⟩
  | 1 => ⟨S2x3x64x64, .f32⟩
  | 2 => ⟨S2x3x64x64, .f32⟩
  | 3 => ⟨S2x3x64x64, .f32⟩
  | 4 => ⟨S2x3x64x64, .f32⟩
  | 5 => ⟨S2x3x64x64, .f32⟩
  | 6 => ⟨S2x3x64x64, .f32⟩
  | 7 => ⟨S2x3x64x64, .f32⟩
  | 8 => ⟨S2x3x64x64, .f32⟩
  | 9 => ⟨S2x3x64x64, .f32⟩
  | 10 => ⟨S2x3x64x64, .f32⟩
  | 11 => ⟨S2x3x64x64, .f32⟩
  | 12 => ⟨S2x3x64x64, .f32⟩
  | 13 => ⟨S2x3x64x64, .f32⟩
  | 14 => ⟨S2x3x64x64, .f32⟩
  | 15 => ⟨S2x3x64x64, .f32⟩
  | 16 => ⟨S2x3x64x64x1, .f32⟩
  | 17 => ⟨S2x3x64x64x1, .f32⟩
  | 18 => ⟨S2x3x64x64x1, .f32⟩
  | 19 => ⟨S2x3x64x64x1, .f32⟩
  | 20 => ⟨S2x3x64x64x1, .f32⟩
  | 21 => ⟨S2x3x64x64x1, .f32⟩
  | 22 => ⟨S2x3x64x64x1, .f32⟩
  | 23 => ⟨S2x3x64x64x1, .f32⟩
  | 24 => ⟨S2x3x64x64x1, .f32⟩
  | 25 => ⟨S2x3x64x64x1, .f32⟩
  | 26 => ⟨S2x3x64x64x1, .f32⟩
  | 27 => ⟨S2x3x64x64x1, .f32⟩
  | 28 => ⟨S2x3x64x64x1, .f32⟩
  | 29 => ⟨S2x3x64x64x1, .f32⟩
  | 30 => ⟨S2x3x64x64x1, .f32⟩
  | 31 => ⟨S2x3x64x64x1, .f32⟩
  | 32 => ⟨S2x3x64x64x1, .f32⟩
  | 33 => ⟨S2x3x64x64x1, .f32⟩
  | 34 => ⟨S2x3x64x64x1, .f32⟩
  | 35 => ⟨S2x3x64x64x1, .f32⟩
  | 36 => ⟨S2x3x64x64x1, .f32⟩
  | 37 => ⟨S2x3x64x64x1, .f32⟩
  | 38 => ⟨S2x3x64x64x1, .f32⟩
  | 39 => ⟨S2x3x64x64x1, .f32⟩
  | 40 => ⟨S2x3x64x64x1, .f32⟩
  | 41 => ⟨S2x3x64x64x16, .f32⟩
  | 42 => ⟨S2x3x64x64x9, .f32⟩
  | 43 => ⟨S2x3x64x64x25, .f32⟩
  | 44 => ⟨S2x64x64x3x25, .f32⟩
  | 45 => ⟨S2x4096x75, .f32⟩
  | 46 => ⟨S2x4096x25, .f32⟩
  | 47 => ⟨S_, .f32⟩
  | 48 => ⟨S2x4096, .f32⟩
  | 49 => ⟨S2x4096x1, .f32⟩
  | 50 => ⟨S2x1x4096, .f32⟩
  | 51 => ⟨S2x4096x4096, .f32⟩
  | 52 => ⟨S2x4096x4096, .f32⟩
  | 53 => ⟨S2x4096x4096, .f32⟩
  | 54 => ⟨S2x4096x4096, .f32⟩
  | 55 => ⟨S_, .f32⟩
  | 56 => ⟨S2x4096x4096, .f32⟩
  | 57 => ⟨S2x4096x4096, .f32⟩
  | 58 => ⟨S2x4096x4096, .f32⟩
  | 59 => ⟨S2x4096x4096, .f32⟩
  | 60 => ⟨S2x4096x14, .f32⟩
  | 61 => ⟨S2x4096x14, .i32⟩
  | 62 => ⟨S2x4096x14, .f32⟩
  | 63 => ⟨S_, .i32⟩
  | 64 => ⟨S2x4096x14, .i32⟩
  | 65 => ⟨S2x4096x14, .i1⟩
  | 66 => ⟨S_, .i32⟩
  | 67 => ⟨S2x4096x14, .i32⟩
  | 68 => ⟨S2x4096x14, .i32⟩
  | 69 => ⟨S2x4096x14, .i32⟩
  | 70 => ⟨S2x4096x14x1, .i32⟩
  | 71 => ⟨S2x4096x14x75, .f32⟩
  | 72 => ⟨S_, .f32⟩
  | 73 => ⟨S_, .f32⟩
  | 74 => ⟨S_, .f32⟩
  | 75 => ⟨S2x4096x14, .f32⟩
  | 76 => ⟨S_, .f32⟩
  | 77 => ⟨S_, .f32⟩
  | 78 => ⟨S_, .f32⟩
  | 79 => ⟨S_, .f32⟩
  | 80 => ⟨S_, .f32⟩
  | 81 => ⟨S2x4096x14, .f32⟩
  | 82 => ⟨S2x4096x14, .f32⟩
  | 83 => ⟨S_, .f32⟩
  | 84 => ⟨S2x4096, .f32⟩
  | 85 => ⟨S_, .f32⟩
  | 86 => ⟨S2x4096, .f32⟩
  | 87 => ⟨S2x4096, .f32⟩
  | 88 => ⟨S2x4096x1, .f32⟩
  | 89 => ⟨S2x4096x14, .f32⟩
  | 90 => ⟨S2x4096x14, .f32⟩
  | 91 => ⟨S2x4096x14, .f32⟩
  | 92 => ⟨S_, .f32⟩
  | 93 => ⟨S2x4096, .f32⟩
  | 94 => ⟨S2x4096x1, .f32⟩
  | 95 => ⟨S2x4096x14, .f32⟩
  | 96 => ⟨S2x4096x14, .f32⟩
  | 97 => ⟨S2x4096x14x1, .f32⟩
  | 98 => ⟨S2x4096x14x75, .f32⟩
  | 99 => ⟨S2x4096x14x75, .f32⟩
  | 100 => ⟨S_, .f32⟩
  | 101 => ⟨S2x4096x75, .f32⟩
  | 102 => ⟨S2x4096x80, .f32⟩
  | 103 => ⟨S1x1x80, .f32⟩
  | 104 => ⟨S2x4096x80, .f32⟩
  | 105 => ⟨S2x4096x80, .f32⟩
  | 106 => ⟨S_, .f32⟩
  | 107 => ⟨S2x4096x80, .f32⟩
  | 108 => ⟨S2x4096x80, .f32⟩
  | 109 => ⟨S2x4096x75, .f32⟩
  | 110 => ⟨S1x1x75, .f32⟩
  | 111 => ⟨S2x4096x75, .f32⟩
  | 112 => ⟨S2x4096x75, .f32⟩
  | 113 => ⟨S2x4096x1, .f32⟩
  | 114 => ⟨S1x1x1, .f32⟩
  | 115 => ⟨S2x4096x1, .f32⟩
  | 116 => ⟨S2x4096x1, .f32⟩
  | 117 => ⟨S2x4096x1, .f32⟩
  | 118 => ⟨S2x4096x1, .f32⟩
  | 119 => ⟨S_, .f32⟩
  | 120 => ⟨S2x4096x1, .f32⟩
  | 121 => ⟨S2x4096x1, .f32⟩
  | 122 => ⟨S_, .f32⟩
  | 123 => ⟨S2x4096x1, .f32⟩
  | 124 => ⟨S2x4096x1, .f32⟩
  | 125 => ⟨S2x4096x75, .f32⟩
  | 126 => ⟨S2x4096x75, .f32⟩
  | 127 => ⟨S2x4096x3x5x5, .f32⟩
  | _ => ⟨S2x3x64x64, .f32⟩

abbrev hbmTy0_2 (i : Nat) : BufTy := match i % 128 with
  | 0 => ⟨S2x4096x75, .f32⟩
  | 1 => ⟨S2x4096x3x5x5, .f32⟩
  | 2 => ⟨S64, .i32⟩
  | 3 => ⟨S64, .i32⟩
  | 4 => ⟨S64x64, .i32⟩
  | 5 => ⟨S64x64, .i32⟩
  | 6 => ⟨S4096, .i32⟩
  | 7 => ⟨S4096, .i32⟩
  | 8 => ⟨S_, .f32⟩
  | 9 => ⟨S2x3x4624, .f32⟩
  | 10 => ⟨S_, .f32⟩
  | 11 => ⟨S2x3x4624, .f32⟩
  | 12 => ⟨S_, .i32⟩
  | 13 => ⟨S4096, .i32⟩
  | 14 => ⟨S4096, .i32⟩
  | 15 => ⟨S_, .i32⟩
  | 16 => ⟨S4096, .i32⟩
  | 17 => ⟨S4096, .i32⟩
  | 18 => ⟨S_, .i32⟩
  | 19 => ⟨S4096, .i32⟩
  | 20 => ⟨S4096, .i32⟩
  | 21 => ⟨S4096, .i32⟩
  | 22 => ⟨S2x4096x3x1x1, .f32⟩
  | 23 => ⟨S2x4096x3, .f32⟩
  | 24 => ⟨S2x3x4096, .f32⟩
  | 25 => ⟨S_, .i32⟩
  | 26 => ⟨S4096, .i32⟩
  | 27 => ⟨S4096, .i1⟩
  | 28 => ⟨S_, .i32⟩
  | 29 => ⟨S4096, .i32⟩
  | 30 => ⟨S4096, .i32⟩
  | 31 => ⟨S4096, .i32⟩
  | 32 => ⟨S4096x1, .i32⟩
  | 33 => ⟨S2x3x4624, .f32⟩
  | 34 => ⟨S2x4096x3x1x1, .f32⟩
  | 35 => ⟨S2x4096x3, .f32⟩
  | 36 => ⟨S2x3x4096, .f32⟩
  | 37 => ⟨S_, .i32⟩
  | 38 => ⟨S4096, .i32⟩
  | 39 => ⟨S4096, .i1⟩
  | 40 => ⟨S_, .i32⟩
  | 41 => ⟨S4096, .i32⟩
  | 42 => ⟨S4096, .i32⟩
  | 43 => ⟨S4096, .i32⟩
  | 44 => ⟨S4096x1, .i32⟩
  | 45 => ⟨S2x3x4624, .f32⟩
  | 46 => ⟨S_, .i32⟩
  | 47 => ⟨S4096, .i32⟩
  | 48 => ⟨S4096, .i32⟩
  | 49 => ⟨S_, .i32⟩
  | 50 => ⟨S4096, .i32⟩
  | 51 => ⟨S4096, .i32⟩
  | 52 => ⟨S_, .i32⟩
  | 53 => ⟨S4096, .i32⟩
  | 54 => ⟨S4096, .i32⟩
  | 55 => ⟨S4096, .i32⟩
  | 56 => ⟨S2x4096x3x1x1, .f32⟩
  | 57 => ⟨S2x4096x3, .f32⟩
  | 58 => ⟨S2x3x4096, .f32⟩
  | 59 => ⟨S_, .i32⟩
  | 60 => ⟨S4096, .i32⟩
  | 61 => ⟨S4096, .i1⟩
  | 62 => ⟨S_, .i32⟩
  | 63 => ⟨S4096, .i32⟩
  | 64 => ⟨S4096, .i32⟩
  | 65 => ⟨S4096, .i32⟩
  | 66 => ⟨S4096x1, .i32⟩
  | 67 => ⟨S2x3x4624, .f32⟩
  | 68 => ⟨S2x4096x3x1x1, .f32⟩
  | 69 => ⟨S2x4096x3, .f32⟩
  | 70 => ⟨S2x3x4096, .f32⟩
  | 71 => ⟨S_, .i32⟩
  | 72 => ⟨S4096, .i32⟩
  | 73 => ⟨S4096, .i1⟩
  | 74 => ⟨S_, .i32⟩
  | 75 => ⟨S4096, .i32⟩
  | 76 => ⟨S4096, .i32⟩
  | 77 => ⟨S4096, .i32⟩
  | 78 => ⟨S4096x1, .i32⟩
  | 79 => ⟨S2x3x4624, .f32⟩
  | 80 => ⟨S_, .i32⟩
  | 81 => ⟨S4096, .i32⟩
  | 82 => ⟨S4096, .i32⟩
  | 83 => ⟨S_, .i32⟩
  | 84 => ⟨S4096, .i32⟩
  | 85 => ⟨S4096, .i32⟩
  | 86 => ⟨S_, .i32⟩
  | 87 => ⟨S4096, .i32⟩
  | 88 => ⟨S4096, .i32⟩
  | 89 => ⟨S4096, .i32⟩
  | 90 => ⟨S2x4096x3x1x1, .f32⟩
  | 91 => ⟨S2x4096x3, .f32⟩
  | 92 => ⟨S2x3x4096, .f32⟩
  | 93 => ⟨S_, .i32⟩
  | 94 => ⟨S4096, .i32⟩
  | 95 => ⟨S4096, .i1⟩
  | 96 => ⟨S_, .i32⟩
  | 97 => ⟨S4096, .i32⟩
  | 98 => ⟨S4096, .i32⟩
  | 99 => ⟨S4096, .i32⟩
  | 100 => ⟨S4096x1, .i32⟩
  | 101 => ⟨S2x3x4624, .f32⟩
  | 102 => ⟨S2x4096x3x1x1, .f32⟩
  | 103 => ⟨S2x4096x3, .f32⟩
  | 104 => ⟨S2x3x4096, .f32⟩
  | 105 => ⟨S_, .i32⟩
  | 106 => ⟨S4096, .i32⟩
  | 107 => ⟨S4096, .i1⟩
  | 108 => ⟨S_, .i32⟩
  | 109 => ⟨S4096, .i32⟩
  | 110 => ⟨S4096, .i32⟩
  | 111 => ⟨S4096, .i32⟩
  | 112 => ⟨S4096x1, .i32⟩
  | 113 => ⟨S2x3x4624, .f32⟩
  | 114 => ⟨S_, .i32⟩
  | 115 => ⟨S4096, .i32⟩
  | 116 => ⟨S4096, .i32⟩
  | 117 => ⟨S_, .i32⟩
  | 118 => ⟨S4096, .i32⟩
  | 119 => ⟨S4096, .i32⟩
  | 120 => ⟨S_, .i32⟩
  | 121 => ⟨S4096, .i32⟩
  | 122 => ⟨S4096, .i32⟩
  | 123 => ⟨S4096, .i32⟩
  | 124 => ⟨S2x4096x3x1x1, .f32⟩
  | 125 => ⟨S2x4096x3, .f32⟩
  | 126 => ⟨S2x3x4096, .f32⟩
  | 127 => ⟨S_, .i32⟩
  | _ => ⟨S2x3x64x64, .f32⟩

abbrev hbmTy0_3 (i : Nat) : BufTy := match i % 128 with
  | 0 => ⟨S4096, .i32⟩
  | 1 => ⟨S4096, .i1⟩
  | 2 => ⟨S_, .i32⟩
  | 3 => ⟨S4096, .i32⟩
  | 4 => ⟨S4096, .i32⟩
  | 5 => ⟨S4096, .i32⟩
  | 6 => ⟨S4096x1, .i32⟩
  | 7 => ⟨S2x3x4624, .f32⟩
  | 8 => ⟨S2x4096x3x1x1, .f32⟩
  | 9 => ⟨S2x4096x3, .f32⟩
  | 10 => ⟨S2x3x4096, .f32⟩
  | 11 => ⟨S_, .i32⟩
  | 12 => ⟨S4096, .i32⟩
  | 13 => ⟨S4096, .i1⟩
  | 14 => ⟨S_, .i32⟩
  | 15 => ⟨S4096, .i32⟩
  | 16 => ⟨S4096, .i32⟩
  | 17 => ⟨S4096, .i32⟩
  | 18 => ⟨S4096x1, .i32⟩
  | 19 => ⟨S2x3x4624, .f32⟩
  | 20 => ⟨S_, .i32⟩
  | 21 => ⟨S4096, .i32⟩
  | 22 => ⟨S4096, .i32⟩
  | 23 => ⟨S_, .i32⟩
  | 24 => ⟨S4096, .i32⟩
  | 25 => ⟨S4096, .i32⟩
  | 26 => ⟨S_, .i32⟩
  | 27 => ⟨S4096, .i32⟩
  | 28 => ⟨S4096, .i32⟩
  | 29 => ⟨S4096, .i32⟩
  | 30 => ⟨S2x4096x3x1x1, .f32⟩
  | 31 => ⟨S2x4096x3, .f32⟩
  | 32 => ⟨S2x3x4096, .f32⟩
  | 33 => ⟨S_, .i32⟩
  | 34 => ⟨S4096, .i32⟩
  | 35 => ⟨S4096, .i1⟩
  | 36 => ⟨S_, .i32⟩
  | 37 => ⟨S4096, .i32⟩
  | 38 => ⟨S4096, .i32⟩
  | 39 => ⟨S4096, .i32⟩
  | 40 => ⟨S4096x1, .i32⟩
  | 41 => ⟨S2x3x4624, .f32⟩
  | 42 => ⟨S2x4096x3x1x1, .f32⟩
  | 43 => ⟨S2x4096x3, .f32⟩
  | 44 => ⟨S2x3x4096, .f32⟩
  | 45 => ⟨S_, .i32⟩
  | 46 => ⟨S4096, .i32⟩
  | 47 => ⟨S4096, .i1⟩
  | 48 => ⟨S_, .i32⟩
  | 49 => ⟨S4096, .i32⟩
  | 50 => ⟨S4096, .i32⟩
  | 51 => ⟨S4096, .i32⟩
  | 52 => ⟨S4096x1, .i32⟩
  | 53 => ⟨S2x3x4624, .f32⟩
  | 54 => ⟨S_, .i32⟩
  | 55 => ⟨S4096, .i32⟩
  | 56 => ⟨S4096, .i32⟩
  | 57 => ⟨S_, .i32⟩
  | 58 => ⟨S4096, .i32⟩
  | 59 => ⟨S4096, .i32⟩
  | 60 => ⟨S_, .i32⟩
  | 61 => ⟨S4096, .i32⟩
  | 62 => ⟨S4096, .i32⟩
  | 63 => ⟨S4096, .i32⟩
  | 64 => ⟨S2x4096x3x1x1, .f32⟩
  | 65 => ⟨S2x4096x3, .f32⟩
  | 66 => ⟨S2x3x4096, .f32⟩
  | 67 => ⟨S_, .i32⟩
  | 68 => ⟨S4096, .i32⟩
  | 69 => ⟨S4096, .i1⟩
  | 70 => ⟨S_, .i32⟩
  | 71 => ⟨S4096, .i32⟩
  | 72 => ⟨S4096, .i32⟩
  | 73 => ⟨S4096, .i32⟩
  | 74 => ⟨S4096x1, .i32⟩
  | 75 => ⟨S2x3x4624, .f32⟩
  | 76 => ⟨S2x4096x3x1x1, .f32⟩
  | 77 => ⟨S2x4096x3, .f32⟩
  | 78 => ⟨S2x3x4096, .f32⟩
  | 79 => ⟨S_, .i32⟩
  | 80 => ⟨S4096, .i32⟩
  | 81 => ⟨S4096, .i1⟩
  | 82 => ⟨S_, .i32⟩
  | 83 => ⟨S4096, .i32⟩
  | 84 => ⟨S4096, .i32⟩
  | 85 => ⟨S4096, .i32⟩
  | 86 => ⟨S4096x1, .i32⟩
  | 87 => ⟨S2x3x4624, .f32⟩
  | 88 => ⟨S_, .i32⟩
  | 89 => ⟨S4096, .i32⟩
  | 90 => ⟨S4096, .i32⟩
  | 91 => ⟨S_, .i32⟩
  | 92 => ⟨S4096, .i32⟩
  | 93 => ⟨S4096, .i32⟩
  | 94 => ⟨S_, .i32⟩
  | 95 => ⟨S4096, .i32⟩
  | 96 => ⟨S4096, .i32⟩
  | 97 => ⟨S4096, .i32⟩
  | 98 => ⟨S2x4096x3x1x1, .f32⟩
  | 99 => ⟨S2x4096x3, .f32⟩
  | 100 => ⟨S2x3x4096, .f32⟩
  | 101 => ⟨S_, .i32⟩
  | 102 => ⟨S4096, .i32⟩
  | 103 => ⟨S4096, .i1⟩
  | 104 => ⟨S_, .i32⟩
  | 105 => ⟨S4096, .i32⟩
  | 106 => ⟨S4096, .i32⟩
  | 107 => ⟨S4096, .i32⟩
  | 108 => ⟨S4096x1, .i32⟩
  | 109 => ⟨S2x3x4624, .f32⟩
  | 110 => ⟨S2x4096x3x1x1, .f32⟩
  | 111 => ⟨S2x4096x3, .f32⟩
  | 112 => ⟨S2x3x4096, .f32⟩
  | 113 => ⟨S_, .i32⟩
  | 114 => ⟨S4096, .i32⟩
  | 115 => ⟨S4096, .i1⟩
  | 116 => ⟨S_, .i32⟩
  | 117 => ⟨S4096, .i32⟩
  | 118 => ⟨S4096, .i32⟩
  | 119 => ⟨S4096, .i32⟩
  | 120 => ⟨S4096x1, .i32⟩
  | 121 => ⟨S2x3x4624, .f32⟩
  | 122 => ⟨S_, .i32⟩
  | 123 => ⟨S4096, .i32⟩
  | 124 => ⟨S4096, .i32⟩
  | 125 => ⟨S_, .i32⟩
  | 126 => ⟨S4096, .i32⟩
  | 127 => ⟨S4096, .i32⟩
  | _ => ⟨S2x3x64x64, .f32⟩

abbrev hbmTy0_4 (i : Nat) : BufTy := match i % 128 with
  | 0 => ⟨S_, .i32⟩
  | 1 => ⟨S4096, .i32⟩
  | 2 => ⟨S4096, .i32⟩
  | 3 => ⟨S4096, .i32⟩
  | 4 => ⟨S2x4096x3x1x1, .f32⟩
  | 5 => ⟨S2x4096x3, .f32⟩
  | 6 => ⟨S2x3x4096, .f32⟩
  | 7 => ⟨S_, .i32⟩
  | 8 => ⟨S4096, .i32⟩
  | 9 => ⟨S4096, .i1⟩
  | 10 => ⟨S_, .i32⟩
  | 11 => ⟨S4096, .i32⟩
  | 12 => ⟨S4096, .i32⟩
  | 13 => ⟨S4096, .i32⟩
  | 14 => ⟨S4096x1, .i32⟩
  | 15 => ⟨S2x3x4624, .f32⟩
  | 16 => ⟨S2x4096x3x1x1, .f32⟩
  | 17 => ⟨S2x4096x3, .f32⟩
  | 18 => ⟨S2x3x4096, .f32⟩
  | 19 => ⟨S_, .i32⟩
  | 20 => ⟨S4096, .i32⟩
  | 21 => ⟨S4096, .i1⟩
  | 22 => ⟨S_, .i32⟩
  | 23 => ⟨S4096, .i32⟩
  | 24 => ⟨S4096, .i32⟩
  | 25 => ⟨S4096, .i32⟩
  | 26 => ⟨S4096x1, .i32⟩
  | 27 => ⟨S2x3x4624, .f32⟩
  | 28 => ⟨S_, .i32⟩
  | 29 => ⟨S4096, .i32⟩
  | 30 => ⟨S4096, .i32⟩
  | 31 => ⟨S_, .i32⟩
  | 32 => ⟨S4096, .i32⟩
  | 33 => ⟨S4096, .i32⟩
  | 34 => ⟨S_, .i32⟩
  | 35 => ⟨S4096, .i32⟩
  | 36 => ⟨S4096, .i32⟩
  | 37 => ⟨S4096, .i32⟩
  | 38 => ⟨S2x4096x3x1x1, .f32⟩
  | 39 => ⟨S2x4096x3, .f32⟩
  | 40 => ⟨S2x3x4096, .f32⟩
  | 41 => ⟨S_, .i32⟩
  | 42 => ⟨S4096, .i32⟩
  | 43 => ⟨S4096, .i1⟩
  | 44 => ⟨S_, .i32⟩
  | 45 => ⟨S4096, .i32⟩
  | 46 => ⟨S4096, .i32⟩
  | 47 => ⟨S4096, .i32⟩
  | 48 => ⟨S4096x1, .i32⟩
  | 49 => ⟨S2x3x4624, .f32⟩
  | 50 => ⟨S2x4096x3x1x1, .f32⟩
  | 51 => ⟨S2x4096x3, .f32⟩
  | 52 => ⟨S2x3x4096, .f32⟩
  | 53 => ⟨S_, .i32⟩
  | 54 => ⟨S4096, .i32⟩
  | 55 => ⟨S4096, .i1⟩
  | 56 => ⟨S_, .i32⟩
  | 57 => ⟨S4096, .i32⟩
  | 58 => ⟨S4096, .i32⟩
  | 59 => ⟨S4096, .i32⟩
  | 60 => ⟨S4096x1, .i32⟩
  | 61 => ⟨S2x3x4624, .f32⟩
  | 62 => ⟨S_, .i32⟩
  | 63 => ⟨S4096, .i32⟩
  | 64 => ⟨S4096, .i32⟩
  | 65 => ⟨S_, .i32⟩
  | 66 => ⟨S4096, .i32⟩
  | 67 => ⟨S4096, .i32⟩
  | 68 => ⟨S_, .i32⟩
  | 69 => ⟨S4096, .i32⟩
  | 70 => ⟨S4096, .i32⟩
  | 71 => ⟨S4096, .i32⟩
  | 72 => ⟨S2x4096x3x1x1, .f32⟩
  | 73 => ⟨S2x4096x3, .f32⟩
  | 74 => ⟨S2x3x4096, .f32⟩
  | 75 => ⟨S_, .i32⟩
  | 76 => ⟨S4096, .i32⟩
  | 77 => ⟨S4096, .i1⟩
  | 78 => ⟨S_, .i32⟩
  | 79 => ⟨S4096, .i32⟩
  | 80 => ⟨S4096, .i32⟩
  | 81 => ⟨S4096, .i32⟩
  | 82 => ⟨S4096x1, .i32⟩
  | 83 => ⟨S2x3x4624, .f32⟩
  | 84 => ⟨S2x4096x3x1x1, .f32⟩
  | 85 => ⟨S2x4096x3, .f32⟩
  | 86 => ⟨S2x3x4096, .f32⟩
  | 87 => ⟨S_, .i32⟩
  | 88 => ⟨S4096, .i32⟩
  | 89 => ⟨S4096, .i1⟩
  | 90 => ⟨S_, .i32⟩
  | 91 => ⟨S4096, .i32⟩
  | 92 => ⟨S4096, .i32⟩
  | 93 => ⟨S4096, .i32⟩
  | 94 => ⟨S4096x1, .i32⟩
  | 95 => ⟨S2x3x4624, .f32⟩
  | 96 => ⟨S_, .i32⟩
  | 97 => ⟨S4096, .i32⟩
  | 98 => ⟨S4096, .i32⟩
  | 99 => ⟨S_, .i32⟩
  | 100 => ⟨S4096, .i32⟩
  | 101 => ⟨S4096, .i32⟩
  | 102 => ⟨S_, .i32⟩
  | 103 => ⟨S4096, .i32⟩
  | 104 => ⟨S4096, .i32⟩
  | 105 => ⟨S4096, .i32⟩
  | 106 => ⟨S2x4096x3x1x1, .f32⟩
  | 107 => ⟨S2x4096x3, .f32⟩
  | 108 => ⟨S2x3x4096, .f32⟩
  | 109 => ⟨S_, .i32⟩
  | 110 => ⟨S4096, .i32⟩
  | 111 => ⟨S4096, .i1⟩
  | 112 => ⟨S_, .i32⟩
  | 113 => ⟨S4096, .i32⟩
  | 114 => ⟨S4096, .i32⟩
  | 115 => ⟨S4096, .i32⟩
  | 116 => ⟨S4096x1, .i32⟩
  | 117 => ⟨S2x3x4624, .f32⟩
  | 118 => ⟨S2x4096x3x1x1, .f32⟩
  | 119 => ⟨S2x4096x3, .f32⟩
  | 120 => ⟨S2x3x4096, .f32⟩
  | 121 => ⟨S_, .i32⟩
  | 122 => ⟨S4096, .i32⟩
  | 123 => ⟨S4096, .i1⟩
  | 124 => ⟨S_, .i32⟩
  | 125 => ⟨S4096, .i32⟩
  | 126 => ⟨S4096, .i32⟩
  | 127 => ⟨S4096, .i32⟩
  | _ => ⟨S2x3x64x64, .f32⟩

abbrev hbmTy0_5 (i : Nat) : BufTy := match i % 128 with
  | 0 => ⟨S4096x1, .i32⟩
  | 1 => ⟨S2x3x4624, .f32⟩
  | 2 => ⟨S_, .i32⟩
  | 3 => ⟨S4096, .i32⟩
  | 4 => ⟨S4096, .i32⟩
  | 5 => ⟨S_, .i32⟩
  | 6 => ⟨S4096, .i32⟩
  | 7 => ⟨S4096, .i32⟩
  | 8 => ⟨S_, .i32⟩
  | 9 => ⟨S4096, .i32⟩
  | 10 => ⟨S4096, .i32⟩
  | 11 => ⟨S4096, .i32⟩
  | 12 => ⟨S2x4096x3x1x1, .f32⟩
  | 13 => ⟨S2x4096x3, .f32⟩
  | 14 => ⟨S2x3x4096, .f32⟩
  | 15 => ⟨S_, .i32⟩
  | 16 => ⟨S4096, .i32⟩
  | 17 => ⟨S4096, .i1⟩
  | 18 => ⟨S_, .i32⟩
  | 19 => ⟨S4096, .i32⟩
  | 20 => ⟨S4096, .i32⟩
  | 21 => ⟨S4096, .i32⟩
  | 22 => ⟨S4096x1, .i32⟩
  | 23 => ⟨S2x3x4624, .f32⟩
  | 24 => ⟨S2x4096x3x1x1, .f32⟩
  | 25 => ⟨S2x4096x3, .f32⟩
  | 26 => ⟨S2x3x4096, .f32⟩
  | 27 => ⟨S_, .i32⟩
  | 28 => ⟨S4096, .i32⟩
  | 29 => ⟨S4096, .i1⟩
  | 30 => ⟨S_, .i32⟩
  | 31 => ⟨S4096, .i32⟩
  | 32 => ⟨S4096, .i32⟩
  | 33 => ⟨S4096, .i32⟩
  | 34 => ⟨S4096x1, .i32⟩
  | 35 => ⟨S2x3x4624, .f32⟩
  | 36 => ⟨S_, .i32⟩
  | 37 => ⟨S4096, .i32⟩
  | 38 => ⟨S4096, .i32⟩
  | 39 => ⟨S_, .i32⟩
  | 40 => ⟨S4096, .i32⟩
  | 41 => ⟨S4096, .i32⟩
  | 42 => ⟨S_, .i32⟩
  | 43 => ⟨S4096, .i32⟩
  | 44 => ⟨S4096, .i32⟩
  | 45 => ⟨S4096, .i32⟩
  | 46 => ⟨S2x4096x3x1x1, .f32⟩
  | 47 => ⟨S2x4096x3, .f32⟩
  | 48 => ⟨S2x3x4096, .f32⟩
  | 49 => ⟨S_, .i32⟩
  | 50 => ⟨S4096, .i32⟩
  | 51 => ⟨S4096, .i1⟩
  | 52 => ⟨S_, .i32⟩
  | 53 => ⟨S4096, .i32⟩
  | 54 => ⟨S4096, .i32⟩
  | 55 => ⟨S4096, .i32⟩
  | 56 => ⟨S4096x1, .i32⟩
  | 57 => ⟨S2x3x4624, .f32⟩
  | 58 => ⟨S2x4096x3x1x1, .f32⟩
  | 59 => ⟨S2x4096x3, .f32⟩
  | 60 => ⟨S2x3x4096, .f32⟩
  | 61 => ⟨S_, .i32⟩
  | 62 => ⟨S4096, .i32⟩
  | 63 => ⟨S4096, .i1⟩
  | 64 => ⟨S_, .i32⟩
  | 65 => ⟨S4096, .i32⟩
  | 66 => ⟨S4096, .i32⟩
  | 67 => ⟨S4096, .i32⟩
  | 68 => ⟨S4096x1, .i32⟩
  | 69 => ⟨S2x3x4624, .f32⟩
  | 70 => ⟨S_, .i32⟩
  | 71 => ⟨S4096, .i32⟩
  | 72 => ⟨S4096, .i32⟩
  | 73 => ⟨S_, .i32⟩
  | 74 => ⟨S4096, .i32⟩
  | 75 => ⟨S4096, .i32⟩
  | 76 => ⟨S_, .i32⟩
  | 77 => ⟨S4096, .i32⟩
  | 78 => ⟨S4096, .i32⟩
  | 79 => ⟨S4096, .i32⟩
  | 80 => ⟨S2x4096x3x1x1, .f32⟩
  | 81 => ⟨S2x4096x3, .f32⟩
  | 82 => ⟨S2x3x4096, .f32⟩
  | 83 => ⟨S_, .i32⟩
  | 84 => ⟨S4096, .i32⟩
  | 85 => ⟨S4096, .i1⟩
  | 86 => ⟨S_, .i32⟩
  | 87 => ⟨S4096, .i32⟩
  | 88 => ⟨S4096, .i32⟩
  | 89 => ⟨S4096, .i32⟩
  | 90 => ⟨S4096x1, .i32⟩
  | 91 => ⟨S2x3x4624, .f32⟩
  | 92 => ⟨S2x4096x3x1x1, .f32⟩
  | 93 => ⟨S2x4096x3, .f32⟩
  | 94 => ⟨S2x3x4096, .f32⟩
  | 95 => ⟨S_, .i32⟩
  | 96 => ⟨S4096, .i32⟩
  | 97 => ⟨S4096, .i1⟩
  | 98 => ⟨S_, .i32⟩
  | 99 => ⟨S4096, .i32⟩
  | 100 => ⟨S4096, .i32⟩
  | 101 => ⟨S4096, .i32⟩
  | 102 => ⟨S4096x1, .i32⟩
  | 103 => ⟨S2x3x4624, .f32⟩
  | 104 => ⟨S_, .i32⟩
  | 105 => ⟨S4096, .i32⟩
  | 106 => ⟨S4096, .i32⟩
  | 107 => ⟨S_, .i32⟩
  | 108 => ⟨S4096, .i32⟩
  | 109 => ⟨S4096, .i32⟩
  | 110 => ⟨S_, .i32⟩
  | 111 => ⟨S4096, .i32⟩
  | 112 => ⟨S4096, .i32⟩
  | 113 => ⟨S4096, .i32⟩
  | 114 => ⟨S2x4096x3x1x1, .f32⟩
  | 115 => ⟨S2x4096x3, .f32⟩
  | 116 => ⟨S2x3x4096, .f32⟩
  | 117 => ⟨S_, .i32⟩
  | 118 => ⟨S4096, .i32⟩
  | 119 => ⟨S4096, .i1⟩
  | 120 => ⟨S_, .i32⟩
  | 121 => ⟨S4096, .i32⟩
  | 122 => ⟨S4096, .i32⟩
  | 123 => ⟨S4096, .i32⟩
  | 124 => ⟨S4096x1, .i32⟩
  | 125 => ⟨S2x3x4624, .f32⟩
  | 126 => ⟨S2x4096x3x1x1, .f32⟩
  | 127 => ⟨S2x4096x3, .f32⟩
  | _ => ⟨S2x3x64x64, .f32⟩

abbrev hbmTy0_6 (i : Nat) : BufTy := match i % 128 with
  | 0 => ⟨S2x3x4096, .f32⟩
  | 1 => ⟨S_, .i32⟩
  | 2 => ⟨S4096, .i32⟩
  | 3 => ⟨S4096, .i1⟩
  | 4 => ⟨S_, .i32⟩
  | 5 => ⟨S4096, .i32⟩
  | 6 => ⟨S4096, .i32⟩
  | 7 => ⟨S4096, .i32⟩
  | 8 => ⟨S4096x1, .i32⟩
  | 9 => ⟨S2x3x4624, .f32⟩
  | 10 => ⟨S_, .i32⟩
  | 11 => ⟨S4096, .i32⟩
  | 12 => ⟨S4096, .i32⟩
  | 13 => ⟨S_, .i32⟩
  | 14 => ⟨S4096, .i32⟩
  | 15 => ⟨S4096, .i32⟩
  | 16 => ⟨S_, .i32⟩
  | 17 => ⟨S4096, .i32⟩
  | 18 => ⟨S4096, .i32⟩
  | 19 => ⟨S4096, .i32⟩
  | 20 => ⟨S2x4096x3x1x1, .f32⟩
  | 21 => ⟨S2x4096x3, .f32⟩
  | 22 => ⟨S2x3x4096, .f32⟩
  | 23 => ⟨S_, .i32⟩
  | 24 => ⟨S4096, .i32⟩
  | 25 => ⟨S4096, .i1⟩
  | 26 => ⟨S_, .i32⟩
  | 27 => ⟨S4096, .i32⟩
  | 28 => ⟨S4096, .i32⟩
  | 29 => ⟨S4096, .i32⟩
  | 30 => ⟨S4096x1, .i32⟩
  | 31 => ⟨S2x3x4624, .f32⟩
  | 32 => ⟨S2x4096x3x1x1, .f32⟩
  | 33 => ⟨S2x4096x3, .f32⟩
  | 34 => ⟨S2x3x4096, .f32⟩
  | 35 => ⟨S_, .i32⟩
  | 36 => ⟨S4096, .i32⟩
  | 37 => ⟨S4096, .i1⟩
  | 38 => ⟨S_, .i32⟩
  | 39 => ⟨S4096, .i32⟩
  | 40 => ⟨S4096, .i32⟩
  | 41 => ⟨S4096, .i32⟩
  | 42 => ⟨S4096x1, .i32⟩
  | 43 => ⟨S2x3x4624, .f32⟩
  | 44 => ⟨S_, .i32⟩
  | 45 => ⟨S4096, .i32⟩
  | 46 => ⟨S4096, .i32⟩
  | 47 => ⟨S_, .i32⟩
  | 48 => ⟨S4096, .i32⟩
  | 49 => ⟨S4096, .i32⟩
  | 50 => ⟨S_, .i32⟩
  | 51 => ⟨S4096, .i32⟩
  | 52 => ⟨S4096, .i32⟩
  | 53 => ⟨S4096, .i32⟩
  | 54 => ⟨S2x4096x3x1x1, .f32⟩
  | 55 => ⟨S2x4096x3, .f32⟩
  | 56 => ⟨S2x3x4096, .f32⟩
  | 57 => ⟨S_, .i32⟩
  | 58 => ⟨S4096, .i32⟩
  | 59 => ⟨S4096, .i1⟩
  | 60 => ⟨S_, .i32⟩
  | 61 => ⟨S4096, .i32⟩
  | 62 => ⟨S4096, .i32⟩
  | 63 => ⟨S4096, .i32⟩
  | 64 => ⟨S4096x1, .i32⟩
  | 65 => ⟨S2x3x4624, .f32⟩
  | 66 => ⟨S2x4096x3x1x1, .f32⟩
  | 67 => ⟨S2x4096x3, .f32⟩
  | 68 => ⟨S2x3x4096, .f32⟩
  | 69 => ⟨S_, .i32⟩
  | 70 => ⟨S4096, .i32⟩
  | 71 => ⟨S4096, .i1⟩
  | 72 => ⟨S_, .i32⟩
  | 73 => ⟨S4096, .i32⟩
  | 74 => ⟨S4096, .i32⟩
  | 75 => ⟨S4096, .i32⟩
  | 76 => ⟨S4096x1, .i32⟩
  | 77 => ⟨S2x3x4624, .f32⟩
  | 78 => ⟨S_, .i32⟩
  | 79 => ⟨S4096, .i32⟩
  | 80 => ⟨S4096, .i32⟩
  | 81 => ⟨S_, .i32⟩
  | 82 => ⟨S4096, .i32⟩
  | 83 => ⟨S4096, .i32⟩
  | 84 => ⟨S_, .i32⟩
  | 85 => ⟨S4096, .i32⟩
  | 86 => ⟨S4096, .i32⟩
  | 87 => ⟨S4096, .i32⟩
  | 88 => ⟨S2x4096x3x1x1, .f32⟩
  | 89 => ⟨S2x4096x3, .f32⟩
  | 90 => ⟨S2x3x4096, .f32⟩
  | 91 => ⟨S_, .i32⟩
  | 92 => ⟨S4096, .i32⟩
  | 93 => ⟨S4096, .i1⟩
  | 94 => ⟨S_, .i32⟩
  | 95 => ⟨S4096, .i32⟩
  | 96 => ⟨S4096, .i32⟩
  | 97 => ⟨S4096, .i32⟩
  | 98 => ⟨S4096x1, .i32⟩
  | 99 => ⟨S2x3x4624, .f32⟩
  | 100 => ⟨S2x4096x3x1x1, .f32⟩
  | 101 => ⟨S2x4096x3, .f32⟩
  | 102 => ⟨S2x3x4096, .f32⟩
  | 103 => ⟨S_, .i32⟩
  | 104 => ⟨S4096, .i32⟩
  | 105 => ⟨S4096, .i1⟩
  | 106 => ⟨S_, .i32⟩
  | 107 => ⟨S4096, .i32⟩
  | 108 => ⟨S4096, .i32⟩
  | 109 => ⟨S4096, .i32⟩
  | 110 => ⟨S4096x1, .i32⟩
  | 111 => ⟨S2x3x4624, .f32⟩
  | 112 => ⟨S_, .i32⟩
  | 113 => ⟨S4096, .i32⟩
  | 114 => ⟨S4096, .i32⟩
  | 115 => ⟨S_, .i32⟩
  | 116 => ⟨S4096, .i32⟩
  | 117 => ⟨S4096, .i32⟩
  | 118 => ⟨S_, .i32⟩
  | 119 => ⟨S4096, .i32⟩
  | 120 => ⟨S4096, .i32⟩
  | 121 => ⟨S4096, .i32⟩
  | 122 => ⟨S2x4096x3x1x1, .f32⟩
  | 123 => ⟨S2x4096x3, .f32⟩
  | 124 => ⟨S2x3x4096, .f32⟩
  | 125 => ⟨S_, .i32⟩
  | 126 => ⟨S4096, .i32⟩
  | 127 => ⟨S4096, .i1⟩
  | _ => ⟨S2x3x64x64, .f32⟩

abbrev hbmTy0_7 (i : Nat) : BufTy := match i % 128 with
  | 0 => ⟨S_, .i32⟩
  | 1 => ⟨S4096, .i32⟩
  | 2 => ⟨S4096, .i32⟩
  | 3 => ⟨S4096, .i32⟩
  | 4 => ⟨S4096x1, .i32⟩
  | 5 => ⟨S2x3x4624, .f32⟩
  | 6 => ⟨S2x4096x3x1x1, .f32⟩
  | 7 => ⟨S2x4096x3, .f32⟩
  | 8 => ⟨S2x3x4096, .f32⟩
  | 9 => ⟨S_, .i32⟩
  | 10 => ⟨S4096, .i32⟩
  | 11 => ⟨S4096, .i1⟩
  | 12 => ⟨S_, .i32⟩
  | 13 => ⟨S4096, .i32⟩
  | 14 => ⟨S4096, .i32⟩
  | 15 => ⟨S4096, .i32⟩
  | 16 => ⟨S4096x1, .i32⟩
  | 17 => ⟨S2x3x4624, .f32⟩
  | 18 => ⟨S_, .i32⟩
  | 19 => ⟨S4096, .i32⟩
  | 20 => ⟨S4096, .i32⟩
  | 21 => ⟨S_, .i32⟩
  | 22 => ⟨S4096, .i32⟩
  | 23 => ⟨S4096, .i32⟩
  | 24 => ⟨S_, .i32⟩
  | 25 => ⟨S4096, .i32⟩
  | 26 => ⟨S4096, .i32⟩
  | 27 => ⟨S4096, .i32⟩
  | 28 => ⟨S2x4096x3x1x1, .f32⟩
  | 29 => ⟨S2x4096x3, .f32⟩
  | 30 => ⟨S2x3x4096, .f32⟩
  | 31 => ⟨S_, .i32⟩
  | 32 => ⟨S4096, .i32⟩
  | 33 => ⟨S4096, .i1⟩
  | 34 => ⟨S_, .i32⟩
  | 35 => ⟨S4096, .i32⟩
  | 36 => ⟨S4096, .i32⟩
  | 37 => ⟨S4096, .i32⟩
  | 38 => ⟨S4096x1, .i32⟩
  | 39 => ⟨S2x3x4624, .f32⟩
  | 40 => ⟨S2x4096x3x1x1, .f32⟩
  | 41 => ⟨S2x4096x3, .f32⟩
  | 42 => ⟨S2x3x4096, .f32⟩
  | 43 => ⟨S_, .i32⟩
  | 44 => ⟨S4096, .i32⟩
  | 45 => ⟨S4096, .i1⟩
  | 46 => ⟨S_, .i32⟩
  | 47 => ⟨S4096, .i32⟩
  | 48 => ⟨S4096, .i32⟩
  | 49 => ⟨S4096, .i32⟩
  | 50 => ⟨S4096x1, .i32⟩
  | 51 => ⟨S2x3x4624, .f32⟩
  | 52 => ⟨S_, .i32⟩
  | 53 => ⟨S4096, .i32⟩
  | 54 => ⟨S4096, .i32⟩
  | 55 => ⟨S_, .i32⟩
  | 56 => ⟨S4096, .i32⟩
  | 57 => ⟨S4096, .i32⟩
  | 58 => ⟨S_, .i32⟩
  | 59 => ⟨S4096, .i32⟩
  | 60 => ⟨S4096, .i32⟩
  | 61 => ⟨S4096, .i32⟩
  | 62 => ⟨S2x4096x3x1x1, .f32⟩
  | 63 => ⟨S2x4096x3, .f32⟩
  | 64 => ⟨S2x3x4096, .f32⟩
  | 65 => ⟨S_, .i32⟩
  | 66 => ⟨S4096, .i32⟩
  | 67 => ⟨S4096, .i1⟩
  | 68 => ⟨S_, .i32⟩
  | 69 => ⟨S4096, .i32⟩
  | 70 => ⟨S4096, .i32⟩
  | 71 => ⟨S4096, .i32⟩
  | 72 => ⟨S4096x1, .i32⟩
  | 73 => ⟨S2x3x4624, .f32⟩
  | 74 => ⟨S2x4096x3x1x1, .f32⟩
  | 75 => ⟨S2x4096x3, .f32⟩
  | 76 => ⟨S2x3x4096, .f32⟩
  | 77 => ⟨S_, .i32⟩
  | 78 => ⟨S4096, .i32⟩
  | 79 => ⟨S4096, .i1⟩
  | 80 => ⟨S_, .i32⟩
  | 81 => ⟨S4096, .i32⟩
  | 82 => ⟨S4096, .i32⟩
  | 83 => ⟨S4096, .i32⟩
  | 84 => ⟨S4096x1, .i32⟩
  | 85 => ⟨S2x3x4624, .f32⟩
  | 86 => ⟨S_, .i32⟩
  | 87 => ⟨S4096, .i32⟩
  | 88 => ⟨S4096, .i32⟩
  | 89 => ⟨S_, .i32⟩
  | 90 => ⟨S4096, .i32⟩
  | 91 => ⟨S4096, .i32⟩
  | 92 => ⟨S_, .i32⟩
  | 93 => ⟨S4096, .i32⟩
  | 94 => ⟨S4096, .i32⟩
  | 95 => ⟨S4096, .i32⟩
  | 96 => ⟨S2x4096x3x1x1, .f32⟩
  | 97 => ⟨S2x4096x3, .f32⟩
  | 98 => ⟨S2x3x4096, .f32⟩
  | 99 => ⟨S_, .i32⟩
  | 100 => ⟨S4096, .i32⟩
  | 101 => ⟨S4096, .i1⟩
  | 102 => ⟨S_, .i32⟩
  | 103 => ⟨S4096, .i32⟩
  | 104 => ⟨S4096, .i32⟩
  | 105 => ⟨S4096, .i32⟩
  | 106 => ⟨S4096x1, .i32⟩
  | 107 => ⟨S2x3x4624, .f32⟩
  | 108 => ⟨S2x4096x3x1x1, .f32⟩
  | 109 => ⟨S2x4096x3, .f32⟩
  | 110 => ⟨S2x3x4096, .f32⟩
  | 111 => ⟨S_, .i32⟩
  | 112 => ⟨S4096, .i32⟩
  | 113 => ⟨S4096, .i1⟩
  | 114 => ⟨S_, .i32⟩
  | 115 => ⟨S4096, .i32⟩
  | 116 => ⟨S4096, .i32⟩
  | 117 => ⟨S4096, .i32⟩
  | 118 => ⟨S4096x1, .i32⟩
  | 119 => ⟨S2x3x4624, .f32⟩
  | 120 => ⟨S_, .i32⟩
  | 121 => ⟨S4096, .i32⟩
  | 122 => ⟨S4096, .i32⟩
  | 123 => ⟨S_, .i32⟩
  | 124 => ⟨S4096, .i32⟩
  | 125 => ⟨S4096, .i32⟩
  | 126 => ⟨S_, .i32⟩
  | 127 => ⟨S4096, .i32⟩
  | _ => ⟨S2x3x64x64, .f32⟩

abbrev hbmTy0_8 (i : Nat) : BufTy := match i % 128 with
  | 0 => ⟨S4096, .i32⟩
  | 1 => ⟨S4096, .i32⟩
  | 2 => ⟨S2x4096x3x1x1, .f32⟩
  | 3 => ⟨S2x4096x3, .f32⟩
  | 4 => ⟨S2x3x4096, .f32⟩
  | 5 => ⟨S_, .i32⟩
  | 6 => ⟨S4096, .i32⟩
  | 7 => ⟨S4096, .i1⟩
  | 8 => ⟨S_, .i32⟩
  | 9 => ⟨S4096, .i32⟩
  | 10 => ⟨S4096, .i32⟩
  | 11 => ⟨S4096, .i32⟩
  | 12 => ⟨S4096x1, .i32⟩
  | 13 => ⟨S2x3x4624, .f32⟩
  | 14 => ⟨S2x4096x3x1x1, .f32⟩
  | 15 => ⟨S2x4096x3, .f32⟩
  | 16 => ⟨S2x3x4096, .f32⟩
  | 17 => ⟨S_, .i32⟩
  | 18 => ⟨S4096, .i32⟩
  | 19 => ⟨S4096, .i1⟩
  | 20 => ⟨S_, .i32⟩
  | 21 => ⟨S4096, .i32⟩
  | 22 => ⟨S4096, .i32⟩
  | 23 => ⟨S4096, .i32⟩
  | 24 => ⟨S4096x1, .i32⟩
  | 25 => ⟨S2x3x4624, .f32⟩
  | 26 => ⟨S_, .i32⟩
  | 27 => ⟨S4096, .i32⟩
  | 28 => ⟨S4096, .i32⟩
  | 29 => ⟨S_, .i32⟩
  | 30 => ⟨S4096, .i32⟩
  | 31 => ⟨S4096, .i32⟩
  | 32 => ⟨S_, .i32⟩
  | 33 => ⟨S4096, .i32⟩
  | 34 => ⟨S4096, .i32⟩
  | 35 => ⟨S4096, .i32⟩
  | 36 => ⟨S2x4096x3x1x1, .f32⟩
  | 37 => ⟨S2x4096x3, .f32⟩
  | 38 => ⟨S2x3x4096, .f32⟩
  | 39 => ⟨S_, .i32⟩
  | 40 => ⟨S4096, .i32⟩
  | 41 => ⟨S4096, .i1⟩
  | 42 => ⟨S_, .i32⟩
  | 43 => ⟨S4096, .i32⟩
  | 44 => ⟨S4096, .i32⟩
  | 45 => ⟨S4096, .i32⟩
  | 46 => ⟨S4096x1, .i32⟩
  | 47 => ⟨S2x3x4624, .f32⟩
  | 48 => ⟨S2x4096x3x1x1, .f32⟩
  | 49 => ⟨S2x4096x3, .f32⟩
  | 50 => ⟨S2x3x4096, .f32⟩
  | 51 => ⟨S_, .i32⟩
  | 52 => ⟨S4096, .i32⟩
  | 53 => ⟨S4096, .i1⟩
  | 54 => ⟨S_, .i32⟩
  | 55 => ⟨S4096, .i32⟩
  | 56 => ⟨S4096, .i32⟩
  | 57 => ⟨S4096, .i32⟩
  | 58 => ⟨S4096x1, .i32⟩
  | 59 => ⟨S2x3x4624, .f32⟩
  | 60 => ⟨S_, .i32⟩
  | 61 => ⟨S4096, .i32⟩
  | 62 => ⟨S4096, .i32⟩
  | 63 => ⟨S_, .i32⟩
  | 64 => ⟨S4096, .i32⟩
  | 65 => ⟨S4096, .i32⟩
  | 66 => ⟨S_, .i32⟩
  | 67 => ⟨S4096, .i32⟩
  | 68 => ⟨S4096, .i32⟩
  | 69 => ⟨S4096, .i32⟩
  | 70 => ⟨S2x4096x3x1x1, .f32⟩
  | 71 => ⟨S2x4096x3, .f32⟩
  | 72 => ⟨S2x3x4096, .f32⟩
  | 73 => ⟨S_, .i32⟩
  | 74 => ⟨S4096, .i32⟩
  | 75 => ⟨S4096, .i1⟩
  | 76 => ⟨S_, .i32⟩
  | 77 => ⟨S4096, .i32⟩
  | 78 => ⟨S4096, .i32⟩
  | 79 => ⟨S4096, .i32⟩
  | 80 => ⟨S4096x1, .i32⟩
  | 81 => ⟨S2x3x4624, .f32⟩
  | 82 => ⟨S2x4096x3x1x1, .f32⟩
  | 83 => ⟨S2x4096x3, .f32⟩
  | 84 => ⟨S2x3x4096, .f32⟩
  | 85 => ⟨S_, .i32⟩
  | 86 => ⟨S4096, .i32⟩
  | 87 => ⟨S4096, .i1⟩
  | 88 => ⟨S_, .i32⟩
  | 89 => ⟨S4096, .i32⟩
  | 90 => ⟨S4096, .i32⟩
  | 91 => ⟨S4096, .i32⟩
  | 92 => ⟨S4096x1, .i32⟩
  | 93 => ⟨S2x3x4624, .f32⟩
  | 94 => ⟨S2x3x68x68, .f32⟩
  | 95 => ⟨S2x3x64x64, .f32⟩
  | 96 => ⟨S2x3x68x68, .f32⟩
  | 97 => ⟨S2x3x64x64, .f32⟩
  | 98 => ⟨S_, .f32⟩
  | 99 => ⟨S2x3x64x64, .f32⟩
  | 100 => ⟨S2x3x64x64, .f32⟩
  | 101 => ⟨S2x3x64x64, .f32⟩
  | 102 => ⟨S2x3x64x64, .f32⟩
  | 103 => ⟨S2x3x64x64, .f32⟩
  | 104 => ⟨S_, .f32⟩
  | 105 => ⟨S2x3x64x64, .f32⟩
  | 106 => ⟨S2x3x64x64, .f32⟩
  | 107 => ⟨S_, .f32⟩
  | 108 => ⟨S2x3x64x64, .f32⟩
  | 109 => ⟨S2x3x64x64, .f32⟩
  | 110 => ⟨S_, .f32⟩
  | 111 => ⟨S2x3x64x64, .f32⟩
  | 112 => ⟨S2x3x64x64, .f32⟩
  | _ => ⟨S2x3x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S2x3x64x64, .f32⟩

abbrev bufTy : (tb : Table) → Fin (tcTables nBuf tb) → BufTy
  | .hbm, ⟨i, _⟩ => hbmTy i
  | _, _ => ⟨S2x3x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_cst_3 : Ref sig .tc := ⟨.hbm, 18, rfl⟩
abbrev main_v6 : Ref sig .tc := ⟨.hbm, 19, rfl⟩
abbrev main_v7 : Ref sig .tc := ⟨.hbm, 20, rfl⟩
abbrev main_cst_4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_c : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_v16 : Ref sig .tc := ⟨.hbm, 47, rfl⟩
abbrev main_c_6 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_cst_7 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_cst_8 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_values : Ref sig .tc := ⟨.hbm, 188, rfl⟩
abbrev main_indices : Ref sig .tc := ⟨.hbm, 189, rfl⟩
abbrev main_v139 : Ref sig .tc := ⟨.hbm, 190, rfl⟩
abbrev main_c_9 : Ref sig .tc := ⟨.hbm, 191, rfl⟩
abbrev main_v140 : Ref sig .tc := ⟨.hbm, 192, rfl⟩
abbrev main_v141 : Ref sig .tc := ⟨.hbm, 193, rfl⟩
abbrev main_c_10 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_cst_11 : Ref sig .tc := ⟨.hbm, 201, rfl⟩
abbrev main_v148 : Ref sig .tc := ⟨.hbm, 202, rfl⟩
abbrev main_v149 : Ref sig .tc := ⟨.hbm, 203, rfl⟩
abbrev main_cst_12 : Ref sig .tc := ⟨.hbm, 204, rfl⟩
abbrev main_v150 : Ref sig .tc := ⟨.hbm, 205, rfl⟩
abbrev main_v151 : Ref sig .tc := ⟨.hbm, 206, rfl⟩
abbrev main_cst_13 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_cst_14 : Ref sig .tc := ⟨.hbm, 211, rfl⟩
abbrev main_v155 : Ref sig .tc := ⟨.hbm, 212, rfl⟩
abbrev main_cst_15 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_cst_16 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_cst_17 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_call2_cst : Ref sig .tc := ⟨.hbm, 234, rfl⟩
abbrev main_call2_v0 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_cst_18 : Ref sig .tc := ⟨.hbm, 247, rfl⟩
abbrev main_v185 : Ref sig .tc := ⟨.hbm, 248, rfl⟩
abbrev main_v186 : Ref sig .tc := ⟨.hbm, 249, rfl⟩
abbrev main_cst_19 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_cst_20 : Ref sig .tc := ⟨.hbm, 264, rfl⟩
abbrev main_v200 : Ref sig .tc := ⟨.hbm, 265, rfl⟩
abbrev main_cst_21 : Ref sig .tc := ⟨.hbm, 266, rfl⟩
abbrev main_v201 : Ref sig .tc := ⟨.hbm, 267, rfl⟩
abbrev main_c_22 : Ref sig .tc := ⟨.hbm, 268, rfl⟩
abbrev main_v202 : Ref sig .tc := ⟨.hbm, 269, rfl⟩
abbrev main_v203 : Ref sig .tc := ⟨.hbm, 270, rfl⟩
abbrev main_c_23 : Ref sig .tc := ⟨.hbm, 271, rfl⟩
abbrev main_v204 : Ref sig .tc := ⟨.hbm, 272, rfl⟩
abbrev main_v205 : Ref sig .tc := ⟨.hbm, 273, rfl⟩
abbrev main_c_24 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_c_25 : Ref sig .tc := ⟨.hbm, 281, rfl⟩
abbrev main_v212 : Ref sig .tc := ⟨.hbm, 282, rfl⟩
abbrev main_v213 : Ref sig .tc := ⟨.hbm, 283, rfl⟩
abbrev main_c_26 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_v220 : Ref sig .tc := ⟨.hbm, 291, rfl⟩
abbrev main_v221 : Ref sig .tc := ⟨.hbm, 292, rfl⟩
abbrev main_c_27 : Ref sig .tc := ⟨.hbm, 293, rfl⟩
abbrev main_v222 : Ref sig .tc := ⟨.hbm, 294, rfl⟩
abbrev main_v223 : Ref sig .tc := ⟨.hbm, 295, rfl⟩
abbrev main_c_28 : Ref sig .tc := ⟨.hbm, 296, rfl⟩
abbrev main_v224 : Ref sig .tc := ⟨.hbm, 297, rfl⟩
abbrev main_v225 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_c_29 : Ref sig .tc := ⟨.hbm, 302, rfl⟩
abbrev main_v229 : Ref sig .tc := ⟨.hbm, 303, rfl⟩
abbrev main_v230 : Ref sig .tc := ⟨.hbm, 304, rfl⟩
abbrev main_c_30 : Ref sig .tc := ⟨.hbm, 305, rfl⟩
abbrev main_v231 : Ref sig .tc := ⟨.hbm, 306, rfl⟩
abbrev main_v232 : Ref sig .tc := ⟨.hbm, 307, rfl⟩
abbrev main_c_31 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_v237 : Ref sig .tc := ⟨.hbm, 313, rfl⟩
abbrev main_v238 : Ref sig .tc := ⟨.hbm, 314, rfl⟩
abbrev main_c_32 : Ref sig .tc := ⟨.hbm, 315, rfl⟩
abbrev main_v239 : Ref sig .tc := ⟨.hbm, 316, rfl⟩
abbrev main_v240 : Ref sig .tc := ⟨.hbm, 317, rfl⟩
abbrev main_c_33 : Ref sig .tc := ⟨.hbm, 318, rfl⟩
abbrev main_v241 : Ref sig .tc := ⟨.hbm, 319, rfl⟩
abbrev main_v242 : Ref sig .tc := ⟨.hbm, 320, rfl⟩
abbrev main_v243 : Ref sig .tc := ⟨.hbm, 321, rfl⟩
abbrev main_v244 : Ref sig .tc := ⟨.hbm, 322, rfl⟩
abbrev main_v245 : Ref sig .tc := ⟨.hbm, 323, rfl⟩
abbrev main_v246 : Ref sig .tc := ⟨.hbm, 324, rfl⟩
abbrev main_v247 : Ref sig .tc := ⟨.hbm, 325, rfl⟩
abbrev main_v248 : Ref sig .tc := ⟨.hbm, 326, rfl⟩
abbrev main_c_34 : Ref sig .tc := ⟨.hbm, 327, rfl⟩
abbrev main_v249 : Ref sig .tc := ⟨.hbm, 328, rfl⟩
abbrev main_v250 : Ref sig .tc := ⟨.hbm, 329, rfl⟩
abbrev main_c_35 : Ref sig .tc := ⟨.hbm, 330, rfl⟩
abbrev main_v251 : Ref sig .tc := ⟨.hbm, 331, rfl⟩
abbrev main_v252 : Ref sig .tc := ⟨.hbm, 332, rfl⟩
abbrev main_v253 : Ref sig .tc := ⟨.hbm, 333, rfl⟩
abbrev main_v254 : Ref sig .tc := ⟨.hbm, 334, rfl⟩
abbrev main_v255 : Ref sig .tc := ⟨.hbm, 335, rfl⟩
abbrev main_c_36 : Ref sig .tc := ⟨.hbm, 336, rfl⟩
abbrev main_v256 : Ref sig .tc := ⟨.hbm, 337, rfl⟩
abbrev main_v257 : Ref sig .tc := ⟨.hbm, 338, rfl⟩
abbrev main_c_37 : Ref sig .tc := ⟨.hbm, 339, rfl⟩
abbrev main_v258 : Ref sig .tc := ⟨.hbm, 340, rfl⟩
abbrev main_v259 : Ref sig .tc := ⟨.hbm, 341, rfl⟩
abbrev main_c_38 : Ref sig .tc := ⟨.hbm, 342, rfl⟩
abbrev main_v260 : Ref sig .tc := ⟨.hbm, 343, rfl⟩
abbrev main_v261 : Ref sig .tc := ⟨.hbm, 344, rfl⟩
abbrev main_v262 : Ref sig .tc := ⟨.hbm, 345, rfl⟩
abbrev main_v263 : Ref sig .tc := ⟨.hbm, 346, rfl⟩
abbrev main_v264 : Ref sig .tc := ⟨.hbm, 347, rfl⟩
abbrev main_v265 : Ref sig .tc := ⟨.hbm, 348, rfl⟩
abbrev main_c_39 : Ref sig .tc := ⟨.hbm, 349, rfl⟩
abbrev main_v266 : Ref sig .tc := ⟨.hbm, 350, rfl⟩
abbrev main_v267 : Ref sig .tc := ⟨.hbm, 351, rfl⟩
abbrev main_c_40 : Ref sig .tc := ⟨.hbm, 352, rfl⟩
abbrev main_v268 : Ref sig .tc := ⟨.hbm, 353, rfl⟩
abbrev main_v269 : Ref sig .tc := ⟨.hbm, 354, rfl⟩
abbrev main_v270 : Ref sig .tc := ⟨.hbm, 355, rfl⟩
abbrev main_v271 : Ref sig .tc := ⟨.hbm, 356, rfl⟩
abbrev main_v272 : Ref sig .tc := ⟨.hbm, 357, rfl⟩
abbrev main_v273 : Ref sig .tc := ⟨.hbm, 358, rfl⟩
abbrev main_v274 : Ref sig .tc := ⟨.hbm, 359, rfl⟩
abbrev main_v275 : Ref sig .tc := ⟨.hbm, 360, rfl⟩
abbrev main_c_41 : Ref sig .tc := ⟨.hbm, 361, rfl⟩
abbrev main_v276 : Ref sig .tc := ⟨.hbm, 362, rfl⟩
abbrev main_v277 : Ref sig .tc := ⟨.hbm, 363, rfl⟩
abbrev main_c_42 : Ref sig .tc := ⟨.hbm, 364, rfl⟩
abbrev main_v278 : Ref sig .tc := ⟨.hbm, 365, rfl⟩
abbrev main_v279 : Ref sig .tc := ⟨.hbm, 366, rfl⟩
abbrev main_v280 : Ref sig .tc := ⟨.hbm, 367, rfl⟩
abbrev main_v281 : Ref sig .tc := ⟨.hbm, 368, rfl⟩
abbrev main_v282 : Ref sig .tc := ⟨.hbm, 369, rfl⟩
abbrev main_c_43 : Ref sig .tc := ⟨.hbm, 370, rfl⟩
abbrev main_v283 : Ref sig .tc := ⟨.hbm, 371, rfl⟩
abbrev main_v284 : Ref sig .tc := ⟨.hbm, 372, rfl⟩
abbrev main_c_44 : Ref sig .tc := ⟨.hbm, 373, rfl⟩
abbrev main_v285 : Ref sig .tc := ⟨.hbm, 374, rfl⟩
abbrev main_v286 : Ref sig .tc := ⟨.hbm, 375, rfl⟩
abbrev main_c_45 : Ref sig .tc := ⟨.hbm, 376, rfl⟩
abbrev main_v287 : Ref sig .tc := ⟨.hbm, 377, rfl⟩
abbrev main_v288 : Ref sig .tc := ⟨.hbm, 378, rfl⟩
abbrev main_v289 : Ref sig .tc := ⟨.hbm, 379, rfl⟩
abbrev main_v290 : Ref sig .tc := ⟨.hbm, 380, rfl⟩
abbrev main_v291 : Ref sig .tc := ⟨.hbm, 381, rfl⟩
abbrev main_v292 : Ref sig .tc := ⟨.hbm, 382, rfl⟩
abbrev main_c_46 : Ref sig .tc := ⟨.hbm, 383, rfl⟩
abbrev main_v293 : Ref sig .tc := ⟨.hbm, 384, rfl⟩
abbrev main_v294 : Ref sig .tc := ⟨.hbm, 385, rfl⟩
abbrev main_c_47 : Ref sig .tc := ⟨.hbm, 386, rfl⟩
abbrev main_v295 : Ref sig .tc := ⟨.hbm, 387, rfl⟩
abbrev main_v296 : Ref sig .tc := ⟨.hbm, 388, rfl⟩
abbrev main_v297 : Ref sig .tc := ⟨.hbm, 389, rfl⟩
abbrev main_v298 : Ref sig .tc := ⟨.hbm, 390, rfl⟩
abbrev main_v299 : Ref sig .tc := ⟨.hbm, 391, rfl⟩
abbrev main_v300 : Ref sig .tc := ⟨.hbm, 392, rfl⟩
abbrev main_v301 : Ref sig .tc := ⟨.hbm, 393, rfl⟩
abbrev main_v302 : Ref sig .tc := ⟨.hbm, 394, rfl⟩
abbrev main_c_48 : Ref sig .tc := ⟨.hbm, 395, rfl⟩
abbrev main_v303 : Ref sig .tc := ⟨.hbm, 396, rfl⟩
abbrev main_v304 : Ref sig .tc := ⟨.hbm, 397, rfl⟩
abbrev main_c_49 : Ref sig .tc := ⟨.hbm, 398, rfl⟩
abbrev main_v305 : Ref sig .tc := ⟨.hbm, 399, rfl⟩
abbrev main_v306 : Ref sig .tc := ⟨.hbm, 400, rfl⟩
abbrev main_v307 : Ref sig .tc := ⟨.hbm, 401, rfl⟩
abbrev main_v308 : Ref sig .tc := ⟨.hbm, 402, rfl⟩
abbrev main_v309 : Ref sig .tc := ⟨.hbm, 403, rfl⟩
abbrev main_c_50 : Ref sig .tc := ⟨.hbm, 404, rfl⟩
abbrev main_v310 : Ref sig .tc := ⟨.hbm, 405, rfl⟩
abbrev main_v311 : Ref sig .tc := ⟨.hbm, 406, rfl⟩
abbrev main_c_51 : Ref sig .tc := ⟨.hbm, 407, rfl⟩
abbrev main_v312 : Ref sig .tc := ⟨.hbm, 408, rfl⟩
abbrev main_v313 : Ref sig .tc := ⟨.hbm, 409, rfl⟩
abbrev main_c_52 : Ref sig .tc := ⟨.hbm, 410, rfl⟩
abbrev main_v314 : Ref sig .tc := ⟨.hbm, 411, rfl⟩
abbrev main_v315 : Ref sig .tc := ⟨.hbm, 412, rfl⟩
abbrev main_v316 : Ref sig .tc := ⟨.hbm, 413, rfl⟩
abbrev main_v317 : Ref sig .tc := ⟨.hbm, 414, rfl⟩
abbrev main_v318 : Ref sig .tc := ⟨.hbm, 415, rfl⟩
abbrev main_v319 : Ref sig .tc := ⟨.hbm, 416, rfl⟩
abbrev main_c_53 : Ref sig .tc := ⟨.hbm, 417, rfl⟩
abbrev main_v320 : Ref sig .tc := ⟨.hbm, 418, rfl⟩
abbrev main_v321 : Ref sig .tc := ⟨.hbm, 419, rfl⟩
abbrev main_c_54 : Ref sig .tc := ⟨.hbm, 420, rfl⟩
abbrev main_v322 : Ref sig .tc := ⟨.hbm, 421, rfl⟩
abbrev main_v323 : Ref sig .tc := ⟨.hbm, 422, rfl⟩
abbrev main_v324 : Ref sig .tc := ⟨.hbm, 423, rfl⟩
abbrev main_v325 : Ref sig .tc := ⟨.hbm, 424, rfl⟩
abbrev main_v326 : Ref sig .tc := ⟨.hbm, 425, rfl⟩
abbrev main_v327 : Ref sig .tc := ⟨.hbm, 426, rfl⟩
abbrev main_v328 : Ref sig .tc := ⟨.hbm, 427, rfl⟩
abbrev main_v329 : Ref sig .tc := ⟨.hbm, 428, rfl⟩
abbrev main_c_55 : Ref sig .tc := ⟨.hbm, 429, rfl⟩
abbrev main_v330 : Ref sig .tc := ⟨.hbm, 430, rfl⟩
abbrev main_v331 : Ref sig .tc := ⟨.hbm, 431, rfl⟩
abbrev main_c_56 : Ref sig .tc := ⟨.hbm, 432, rfl⟩
abbrev main_v332 : Ref sig .tc := ⟨.hbm, 433, rfl⟩
abbrev main_v333 : Ref sig .tc := ⟨.hbm, 434, rfl⟩
abbrev main_v334 : Ref sig .tc := ⟨.hbm, 435, rfl⟩
abbrev main_v335 : Ref sig .tc := ⟨.hbm, 436, rfl⟩
abbrev main_v336 : Ref sig .tc := ⟨.hbm, 437, rfl⟩
abbrev main_c_57 : Ref sig .tc := ⟨.hbm, 438, rfl⟩
abbrev main_v337 : Ref sig .tc := ⟨.hbm, 439, rfl⟩
abbrev main_v338 : Ref sig .tc := ⟨.hbm, 440, rfl⟩
abbrev main_c_58 : Ref sig .tc := ⟨.hbm, 441, rfl⟩
abbrev main_v339 : Ref sig .tc := ⟨.hbm, 442, rfl⟩
abbrev main_v340 : Ref sig .tc := ⟨.hbm, 443, rfl⟩
abbrev main_c_59 : Ref sig .tc := ⟨.hbm, 444, rfl⟩
abbrev main_v341 : Ref sig .tc := ⟨.hbm, 445, rfl⟩
abbrev main_v342 : Ref sig .tc := ⟨.hbm, 446, rfl⟩
abbrev main_v343 : Ref sig .tc := ⟨.hbm, 447, rfl⟩
abbrev main_v344 : Ref sig .tc := ⟨.hbm, 448, rfl⟩
abbrev main_v345 : Ref sig .tc := ⟨.hbm, 449, rfl⟩
abbrev main_v346 : Ref sig .tc := ⟨.hbm, 450, rfl⟩
abbrev main_c_60 : Ref sig .tc := ⟨.hbm, 451, rfl⟩
abbrev main_v347 : Ref sig .tc := ⟨.hbm, 452, rfl⟩
abbrev main_v348 : Ref sig .tc := ⟨.hbm, 453, rfl⟩
abbrev main_c_61 : Ref sig .tc := ⟨.hbm, 454, rfl⟩
abbrev main_v349 : Ref sig .tc := ⟨.hbm, 455, rfl⟩
abbrev main_v350 : Ref sig .tc := ⟨.hbm, 456, rfl⟩
abbrev main_v351 : Ref sig .tc := ⟨.hbm, 457, rfl⟩
abbrev main_v352 : Ref sig .tc := ⟨.hbm, 458, rfl⟩
abbrev main_v353 : Ref sig .tc := ⟨.hbm, 459, rfl⟩
abbrev main_v354 : Ref sig .tc := ⟨.hbm, 460, rfl⟩
abbrev main_v355 : Ref sig .tc := ⟨.hbm, 461, rfl⟩
abbrev main_v356 : Ref sig .tc := ⟨.hbm, 462, rfl⟩
abbrev main_c_62 : Ref sig .tc := ⟨.hbm, 463, rfl⟩
abbrev main_v357 : Ref sig .tc := ⟨.hbm, 464, rfl⟩
abbrev main_v358 : Ref sig .tc := ⟨.hbm, 465, rfl⟩
abbrev main_c_63 : Ref sig .tc := ⟨.hbm, 466, rfl⟩
abbrev main_v359 : Ref sig .tc := ⟨.hbm, 467, rfl⟩
abbrev main_v360 : Ref sig .tc := ⟨.hbm, 468, rfl⟩
abbrev main_v361 : Ref sig .tc := ⟨.hbm, 469, rfl⟩
abbrev main_v362 : Ref sig .tc := ⟨.hbm, 470, rfl⟩
abbrev main_v363 : Ref sig .tc := ⟨.hbm, 471, rfl⟩
abbrev main_c_64 : Ref sig .tc := ⟨.hbm, 472, rfl⟩
abbrev main_v364 : Ref sig .tc := ⟨.hbm, 473, rfl⟩
abbrev main_v365 : Ref sig .tc := ⟨.hbm, 474, rfl⟩
abbrev main_c_65 : Ref sig .tc := ⟨.hbm, 475, rfl⟩
abbrev main_v366 : Ref sig .tc := ⟨.hbm, 476, rfl⟩
abbrev main_v367 : Ref sig .tc := ⟨.hbm, 477, rfl⟩
abbrev main_c_66 : Ref sig .tc := ⟨.hbm, 478, rfl⟩
abbrev main_v368 : Ref sig .tc := ⟨.hbm, 479, rfl⟩
abbrev main_v369 : Ref sig .tc := ⟨.hbm, 480, rfl⟩
abbrev main_v370 : Ref sig .tc := ⟨.hbm, 481, rfl⟩
abbrev main_v371 : Ref sig .tc := ⟨.hbm, 482, rfl⟩
abbrev main_v372 : Ref sig .tc := ⟨.hbm, 483, rfl⟩
abbrev main_v373 : Ref sig .tc := ⟨.hbm, 484, rfl⟩
abbrev main_c_67 : Ref sig .tc := ⟨.hbm, 485, rfl⟩
abbrev main_v374 : Ref sig .tc := ⟨.hbm, 486, rfl⟩
abbrev main_v375 : Ref sig .tc := ⟨.hbm, 487, rfl⟩
abbrev main_c_68 : Ref sig .tc := ⟨.hbm, 488, rfl⟩
abbrev main_v376 : Ref sig .tc := ⟨.hbm, 489, rfl⟩
abbrev main_v377 : Ref sig .tc := ⟨.hbm, 490, rfl⟩
abbrev main_v378 : Ref sig .tc := ⟨.hbm, 491, rfl⟩
abbrev main_v379 : Ref sig .tc := ⟨.hbm, 492, rfl⟩
abbrev main_v380 : Ref sig .tc := ⟨.hbm, 493, rfl⟩
abbrev main_v381 : Ref sig .tc := ⟨.hbm, 494, rfl⟩
abbrev main_v382 : Ref sig .tc := ⟨.hbm, 495, rfl⟩
abbrev main_v383 : Ref sig .tc := ⟨.hbm, 496, rfl⟩
abbrev main_c_69 : Ref sig .tc := ⟨.hbm, 497, rfl⟩
abbrev main_v384 : Ref sig .tc := ⟨.hbm, 498, rfl⟩
abbrev main_v385 : Ref sig .tc := ⟨.hbm, 499, rfl⟩
abbrev main_c_70 : Ref sig .tc := ⟨.hbm, 500, rfl⟩
abbrev main_v386 : Ref sig .tc := ⟨.hbm, 501, rfl⟩
abbrev main_v387 : Ref sig .tc := ⟨.hbm, 502, rfl⟩
abbrev main_v388 : Ref sig .tc := ⟨.hbm, 503, rfl⟩
abbrev main_v389 : Ref sig .tc := ⟨.hbm, 504, rfl⟩
abbrev main_v390 : Ref sig .tc := ⟨.hbm, 505, rfl⟩
abbrev main_c_71 : Ref sig .tc := ⟨.hbm, 506, rfl⟩
abbrev main_v391 : Ref sig .tc := ⟨.hbm, 507, rfl⟩
abbrev main_v392 : Ref sig .tc := ⟨.hbm, 508, rfl⟩
abbrev main_c_72 : Ref sig .tc := ⟨.hbm, 509, rfl⟩
abbrev main_v393 : Ref sig .tc := ⟨.hbm, 510, rfl⟩
abbrev main_v394 : Ref sig .tc := ⟨.hbm, 511, rfl⟩
abbrev main_c_73 : Ref sig .tc := ⟨.hbm, 512, rfl⟩
abbrev main_v395 : Ref sig .tc := ⟨.hbm, 513, rfl⟩
abbrev main_v396 : Ref sig .tc := ⟨.hbm, 514, rfl⟩
abbrev main_v397 : Ref sig .tc := ⟨.hbm, 515, rfl⟩
abbrev main_v398 : Ref sig .tc := ⟨.hbm, 516, rfl⟩
abbrev main_v399 : Ref sig .tc := ⟨.hbm, 517, rfl⟩
abbrev main_v400 : Ref sig .tc := ⟨.hbm, 518, rfl⟩
abbrev main_c_74 : Ref sig .tc := ⟨.hbm, 519, rfl⟩
abbrev main_v401 : Ref sig .tc := ⟨.hbm, 520, rfl⟩
abbrev main_v402 : Ref sig .tc := ⟨.hbm, 521, rfl⟩
abbrev main_c_75 : Ref sig .tc := ⟨.hbm, 522, rfl⟩
abbrev main_v403 : Ref sig .tc := ⟨.hbm, 523, rfl⟩
abbrev main_v404 : Ref sig .tc := ⟨.hbm, 524, rfl⟩
abbrev main_v405 : Ref sig .tc := ⟨.hbm, 525, rfl⟩
abbrev main_v406 : Ref sig .tc := ⟨.hbm, 526, rfl⟩
abbrev main_v407 : Ref sig .tc := ⟨.hbm, 527, rfl⟩
abbrev main_v408 : Ref sig .tc := ⟨.hbm, 528, rfl⟩
abbrev main_v409 : Ref sig .tc := ⟨.hbm, 529, rfl⟩
abbrev main_v410 : Ref sig .tc := ⟨.hbm, 530, rfl⟩
abbrev main_c_76 : Ref sig .tc := ⟨.hbm, 531, rfl⟩
abbrev main_v411 : Ref sig .tc := ⟨.hbm, 532, rfl⟩
abbrev main_v412 : Ref sig .tc := ⟨.hbm, 533, rfl⟩
abbrev main_c_77 : Ref sig .tc := ⟨.hbm, 534, rfl⟩
abbrev main_v413 : Ref sig .tc := ⟨.hbm, 535, rfl⟩
abbrev main_v414 : Ref sig .tc := ⟨.hbm, 536, rfl⟩
abbrev main_v415 : Ref sig .tc := ⟨.hbm, 537, rfl⟩
abbrev main_v416 : Ref sig .tc := ⟨.hbm, 538, rfl⟩
abbrev main_v417 : Ref sig .tc := ⟨.hbm, 539, rfl⟩
abbrev main_c_78 : Ref sig .tc := ⟨.hbm, 540, rfl⟩
abbrev main_v418 : Ref sig .tc := ⟨.hbm, 541, rfl⟩
abbrev main_v419 : Ref sig .tc := ⟨.hbm, 542, rfl⟩
abbrev main_c_79 : Ref sig .tc := ⟨.hbm, 543, rfl⟩
abbrev main_v420 : Ref sig .tc := ⟨.hbm, 544, rfl⟩
abbrev main_v421 : Ref sig .tc := ⟨.hbm, 545, rfl⟩
abbrev main_c_80 : Ref sig .tc := ⟨.hbm, 546, rfl⟩
abbrev main_v422 : Ref sig .tc := ⟨.hbm, 547, rfl⟩
abbrev main_v423 : Ref sig .tc := ⟨.hbm, 548, rfl⟩
abbrev main_v424 : Ref sig .tc := ⟨.hbm, 549, rfl⟩
abbrev main_v425 : Ref sig .tc := ⟨.hbm, 550, rfl⟩
abbrev main_v426 : Ref sig .tc := ⟨.hbm, 551, rfl⟩
abbrev main_v427 : Ref sig .tc := ⟨.hbm, 552, rfl⟩
abbrev main_c_81 : Ref sig .tc := ⟨.hbm, 553, rfl⟩
abbrev main_v428 : Ref sig .tc := ⟨.hbm, 554, rfl⟩
abbrev main_v429 : Ref sig .tc := ⟨.hbm, 555, rfl⟩
abbrev main_c_82 : Ref sig .tc := ⟨.hbm, 556, rfl⟩
abbrev main_v430 : Ref sig .tc := ⟨.hbm, 557, rfl⟩
abbrev main_v431 : Ref sig .tc := ⟨.hbm, 558, rfl⟩
abbrev main_v432 : Ref sig .tc := ⟨.hbm, 559, rfl⟩
abbrev main_v433 : Ref sig .tc := ⟨.hbm, 560, rfl⟩
abbrev main_v434 : Ref sig .tc := ⟨.hbm, 561, rfl⟩
abbrev main_v435 : Ref sig .tc := ⟨.hbm, 562, rfl⟩
abbrev main_v436 : Ref sig .tc := ⟨.hbm, 563, rfl⟩
abbrev main_v437 : Ref sig .tc := ⟨.hbm, 564, rfl⟩
abbrev main_c_83 : Ref sig .tc := ⟨.hbm, 565, rfl⟩
abbrev main_v438 : Ref sig .tc := ⟨.hbm, 566, rfl⟩
abbrev main_v439 : Ref sig .tc := ⟨.hbm, 567, rfl⟩
abbrev main_c_84 : Ref sig .tc := ⟨.hbm, 568, rfl⟩
abbrev main_v440 : Ref sig .tc := ⟨.hbm, 569, rfl⟩
abbrev main_v441 : Ref sig .tc := ⟨.hbm, 570, rfl⟩
abbrev main_v442 : Ref sig .tc := ⟨.hbm, 571, rfl⟩
abbrev main_v443 : Ref sig .tc := ⟨.hbm, 572, rfl⟩
abbrev main_v444 : Ref sig .tc := ⟨.hbm, 573, rfl⟩
abbrev main_c_85 : Ref sig .tc := ⟨.hbm, 574, rfl⟩
abbrev main_v445 : Ref sig .tc := ⟨.hbm, 575, rfl⟩
abbrev main_v446 : Ref sig .tc := ⟨.hbm, 576, rfl⟩
abbrev main_c_86 : Ref sig .tc := ⟨.hbm, 577, rfl⟩
abbrev main_v447 : Ref sig .tc := ⟨.hbm, 578, rfl⟩
abbrev main_v448 : Ref sig .tc := ⟨.hbm, 579, rfl⟩
abbrev main_c_87 : Ref sig .tc := ⟨.hbm, 580, rfl⟩
abbrev main_v449 : Ref sig .tc := ⟨.hbm, 581, rfl⟩
abbrev main_v450 : Ref sig .tc := ⟨.hbm, 582, rfl⟩
abbrev main_v451 : Ref sig .tc := ⟨.hbm, 583, rfl⟩
abbrev main_v452 : Ref sig .tc := ⟨.hbm, 584, rfl⟩
abbrev main_v453 : Ref sig .tc := ⟨.hbm, 585, rfl⟩
abbrev main_v454 : Ref sig .tc := ⟨.hbm, 586, rfl⟩
abbrev main_c_88 : Ref sig .tc := ⟨.hbm, 587, rfl⟩
abbrev main_v455 : Ref sig .tc := ⟨.hbm, 588, rfl⟩
abbrev main_v456 : Ref sig .tc := ⟨.hbm, 589, rfl⟩
abbrev main_c_89 : Ref sig .tc := ⟨.hbm, 590, rfl⟩
abbrev main_v457 : Ref sig .tc := ⟨.hbm, 591, rfl⟩
abbrev main_v458 : Ref sig .tc := ⟨.hbm, 592, rfl⟩
abbrev main_v459 : Ref sig .tc := ⟨.hbm, 593, rfl⟩
abbrev main_v460 : Ref sig .tc := ⟨.hbm, 594, rfl⟩
abbrev main_v461 : Ref sig .tc := ⟨.hbm, 595, rfl⟩
abbrev main_v462 : Ref sig .tc := ⟨.hbm, 596, rfl⟩
abbrev main_v463 : Ref sig .tc := ⟨.hbm, 597, rfl⟩
abbrev main_v464 : Ref sig .tc := ⟨.hbm, 598, rfl⟩
abbrev main_c_90 : Ref sig .tc := ⟨.hbm, 599, rfl⟩
abbrev main_v465 : Ref sig .tc := ⟨.hbm, 600, rfl⟩
abbrev main_v466 : Ref sig .tc := ⟨.hbm, 601, rfl⟩
abbrev main_c_91 : Ref sig .tc := ⟨.hbm, 602, rfl⟩
abbrev main_v467 : Ref sig .tc := ⟨.hbm, 603, rfl⟩
abbrev main_v468 : Ref sig .tc := ⟨.hbm, 604, rfl⟩
abbrev main_v469 : Ref sig .tc := ⟨.hbm, 605, rfl⟩
abbrev main_v470 : Ref sig .tc := ⟨.hbm, 606, rfl⟩
abbrev main_v471 : Ref sig .tc := ⟨.hbm, 607, rfl⟩
abbrev main_c_92 : Ref sig .tc := ⟨.hbm, 608, rfl⟩
abbrev main_v472 : Ref sig .tc := ⟨.hbm, 609, rfl⟩
abbrev main_v473 : Ref sig .tc := ⟨.hbm, 610, rfl⟩
abbrev main_c_93 : Ref sig .tc := ⟨.hbm, 611, rfl⟩
abbrev main_v474 : Ref sig .tc := ⟨.hbm, 612, rfl⟩
abbrev main_v475 : Ref sig .tc := ⟨.hbm, 613, rfl⟩
abbrev main_c_94 : Ref sig .tc := ⟨.hbm, 614, rfl⟩
abbrev main_v476 : Ref sig .tc := ⟨.hbm, 615, rfl⟩
abbrev main_v477 : Ref sig .tc := ⟨.hbm, 616, rfl⟩
abbrev main_v478 : Ref sig .tc := ⟨.hbm, 617, rfl⟩
abbrev main_v479 : Ref sig .tc := ⟨.hbm, 618, rfl⟩
abbrev main_v480 : Ref sig .tc := ⟨.hbm, 619, rfl⟩
abbrev main_v481 : Ref sig .tc := ⟨.hbm, 620, rfl⟩
abbrev main_c_95 : Ref sig .tc := ⟨.hbm, 621, rfl⟩
abbrev main_v482 : Ref sig .tc := ⟨.hbm, 622, rfl⟩
abbrev main_v483 : Ref sig .tc := ⟨.hbm, 623, rfl⟩
abbrev main_c_96 : Ref sig .tc := ⟨.hbm, 624, rfl⟩
abbrev main_v484 : Ref sig .tc := ⟨.hbm, 625, rfl⟩
abbrev main_v485 : Ref sig .tc := ⟨.hbm, 626, rfl⟩
abbrev main_v486 : Ref sig .tc := ⟨.hbm, 627, rfl⟩
abbrev main_v487 : Ref sig .tc := ⟨.hbm, 628, rfl⟩
abbrev main_v488 : Ref sig .tc := ⟨.hbm, 629, rfl⟩
abbrev main_v489 : Ref sig .tc := ⟨.hbm, 630, rfl⟩
abbrev main_v490 : Ref sig .tc := ⟨.hbm, 631, rfl⟩
abbrev main_v491 : Ref sig .tc := ⟨.hbm, 632, rfl⟩
abbrev main_c_97 : Ref sig .tc := ⟨.hbm, 633, rfl⟩
abbrev main_v492 : Ref sig .tc := ⟨.hbm, 634, rfl⟩
abbrev main_v493 : Ref sig .tc := ⟨.hbm, 635, rfl⟩
abbrev main_c_98 : Ref sig .tc := ⟨.hbm, 636, rfl⟩
abbrev main_v494 : Ref sig .tc := ⟨.hbm, 637, rfl⟩
abbrev main_v495 : Ref sig .tc := ⟨.hbm, 638, rfl⟩
abbrev main_v496 : Ref sig .tc := ⟨.hbm, 639, rfl⟩
abbrev main_v497 : Ref sig .tc := ⟨.hbm, 640, rfl⟩
abbrev main_v498 : Ref sig .tc := ⟨.hbm, 641, rfl⟩
abbrev main_c_99 : Ref sig .tc := ⟨.hbm, 642, rfl⟩
abbrev main_v499 : Ref sig .tc := ⟨.hbm, 643, rfl⟩
abbrev main_v500 : Ref sig .tc := ⟨.hbm, 644, rfl⟩
abbrev main_c_100 : Ref sig .tc := ⟨.hbm, 645, rfl⟩
abbrev main_v501 : Ref sig .tc := ⟨.hbm, 646, rfl⟩
abbrev main_v502 : Ref sig .tc := ⟨.hbm, 647, rfl⟩
abbrev main_c_101 : Ref sig .tc := ⟨.hbm, 648, rfl⟩
abbrev main_v503 : Ref sig .tc := ⟨.hbm, 649, rfl⟩
abbrev main_v504 : Ref sig .tc := ⟨.hbm, 650, rfl⟩
abbrev main_v505 : Ref sig .tc := ⟨.hbm, 651, rfl⟩
abbrev main_v506 : Ref sig .tc := ⟨.hbm, 652, rfl⟩
abbrev main_v507 : Ref sig .tc := ⟨.hbm, 653, rfl⟩
abbrev main_v508 : Ref sig .tc := ⟨.hbm, 654, rfl⟩
abbrev main_c_102 : Ref sig .tc := ⟨.hbm, 655, rfl⟩
abbrev main_v509 : Ref sig .tc := ⟨.hbm, 656, rfl⟩
abbrev main_v510 : Ref sig .tc := ⟨.hbm, 657, rfl⟩
abbrev main_c_103 : Ref sig .tc := ⟨.hbm, 658, rfl⟩
abbrev main_v511 : Ref sig .tc := ⟨.hbm, 659, rfl⟩
abbrev main_v512 : Ref sig .tc := ⟨.hbm, 660, rfl⟩
abbrev main_v513 : Ref sig .tc := ⟨.hbm, 661, rfl⟩
abbrev main_v514 : Ref sig .tc := ⟨.hbm, 662, rfl⟩
abbrev main_v515 : Ref sig .tc := ⟨.hbm, 663, rfl⟩
abbrev main_v516 : Ref sig .tc := ⟨.hbm, 664, rfl⟩
abbrev main_v517 : Ref sig .tc := ⟨.hbm, 665, rfl⟩
abbrev main_v518 : Ref sig .tc := ⟨.hbm, 666, rfl⟩
abbrev main_c_104 : Ref sig .tc := ⟨.hbm, 667, rfl⟩
abbrev main_v519 : Ref sig .tc := ⟨.hbm, 668, rfl⟩
abbrev main_v520 : Ref sig .tc := ⟨.hbm, 669, rfl⟩
abbrev main_c_105 : Ref sig .tc := ⟨.hbm, 670, rfl⟩
abbrev main_v521 : Ref sig .tc := ⟨.hbm, 671, rfl⟩
abbrev main_v522 : Ref sig .tc := ⟨.hbm, 672, rfl⟩
abbrev main_v523 : Ref sig .tc := ⟨.hbm, 673, rfl⟩
abbrev main_v524 : Ref sig .tc := ⟨.hbm, 674, rfl⟩
abbrev main_v525 : Ref sig .tc := ⟨.hbm, 675, rfl⟩
abbrev main_c_106 : Ref sig .tc := ⟨.hbm, 676, rfl⟩
abbrev main_v526 : Ref sig .tc := ⟨.hbm, 677, rfl⟩
abbrev main_v527 : Ref sig .tc := ⟨.hbm, 678, rfl⟩
abbrev main_c_107 : Ref sig .tc := ⟨.hbm, 679, rfl⟩
abbrev main_v528 : Ref sig .tc := ⟨.hbm, 680, rfl⟩
abbrev main_v529 : Ref sig .tc := ⟨.hbm, 681, rfl⟩
abbrev main_c_108 : Ref sig .tc := ⟨.hbm, 682, rfl⟩
abbrev main_v530 : Ref sig .tc := ⟨.hbm, 683, rfl⟩
abbrev main_v531 : Ref sig .tc := ⟨.hbm, 684, rfl⟩
abbrev main_v532 : Ref sig .tc := ⟨.hbm, 685, rfl⟩
abbrev main_v533 : Ref sig .tc := ⟨.hbm, 686, rfl⟩
abbrev main_v534 : Ref sig .tc := ⟨.hbm, 687, rfl⟩
abbrev main_v535 : Ref sig .tc := ⟨.hbm, 688, rfl⟩
abbrev main_c_109 : Ref sig .tc := ⟨.hbm, 689, rfl⟩
abbrev main_v536 : Ref sig .tc := ⟨.hbm, 690, rfl⟩
abbrev main_v537 : Ref sig .tc := ⟨.hbm, 691, rfl⟩
abbrev main_c_110 : Ref sig .tc := ⟨.hbm, 692, rfl⟩
abbrev main_v538 : Ref sig .tc := ⟨.hbm, 693, rfl⟩
abbrev main_v539 : Ref sig .tc := ⟨.hbm, 694, rfl⟩
abbrev main_v540 : Ref sig .tc := ⟨.hbm, 695, rfl⟩
abbrev main_v541 : Ref sig .tc := ⟨.hbm, 696, rfl⟩
abbrev main_v542 : Ref sig .tc := ⟨.hbm, 697, rfl⟩
abbrev main_v543 : Ref sig .tc := ⟨.hbm, 698, rfl⟩
abbrev main_v544 : Ref sig .tc := ⟨.hbm, 699, rfl⟩
abbrev main_v545 : Ref sig .tc := ⟨.hbm, 700, rfl⟩
abbrev main_c_111 : Ref sig .tc := ⟨.hbm, 701, rfl⟩
abbrev main_v546 : Ref sig .tc := ⟨.hbm, 702, rfl⟩
abbrev main_v547 : Ref sig .tc := ⟨.hbm, 703, rfl⟩
abbrev main_c_112 : Ref sig .tc := ⟨.hbm, 704, rfl⟩
abbrev main_v548 : Ref sig .tc := ⟨.hbm, 705, rfl⟩
abbrev main_v549 : Ref sig .tc := ⟨.hbm, 706, rfl⟩
abbrev main_v550 : Ref sig .tc := ⟨.hbm, 707, rfl⟩
abbrev main_v551 : Ref sig .tc := ⟨.hbm, 708, rfl⟩
abbrev main_v552 : Ref sig .tc := ⟨.hbm, 709, rfl⟩
abbrev main_c_113 : Ref sig .tc := ⟨.hbm, 710, rfl⟩
abbrev main_v553 : Ref sig .tc := ⟨.hbm, 711, rfl⟩
abbrev main_v554 : Ref sig .tc := ⟨.hbm, 712, rfl⟩
abbrev main_c_114 : Ref sig .tc := ⟨.hbm, 713, rfl⟩
abbrev main_v555 : Ref sig .tc := ⟨.hbm, 714, rfl⟩
abbrev main_v556 : Ref sig .tc := ⟨.hbm, 715, rfl⟩
abbrev main_c_115 : Ref sig .tc := ⟨.hbm, 716, rfl⟩
abbrev main_v557 : Ref sig .tc := ⟨.hbm, 717, rfl⟩
abbrev main_v558 : Ref sig .tc := ⟨.hbm, 718, rfl⟩
abbrev main_v559 : Ref sig .tc := ⟨.hbm, 719, rfl⟩
abbrev main_v560 : Ref sig .tc := ⟨.hbm, 720, rfl⟩
abbrev main_v561 : Ref sig .tc := ⟨.hbm, 721, rfl⟩
abbrev main_v562 : Ref sig .tc := ⟨.hbm, 722, rfl⟩
abbrev main_c_116 : Ref sig .tc := ⟨.hbm, 723, rfl⟩
abbrev main_v563 : Ref sig .tc := ⟨.hbm, 724, rfl⟩
abbrev main_v564 : Ref sig .tc := ⟨.hbm, 725, rfl⟩
abbrev main_c_117 : Ref sig .tc := ⟨.hbm, 726, rfl⟩
abbrev main_v565 : Ref sig .tc := ⟨.hbm, 727, rfl⟩
abbrev main_v566 : Ref sig .tc := ⟨.hbm, 728, rfl⟩
abbrev main_v567 : Ref sig .tc := ⟨.hbm, 729, rfl⟩
abbrev main_v568 : Ref sig .tc := ⟨.hbm, 730, rfl⟩
abbrev main_v569 : Ref sig .tc := ⟨.hbm, 731, rfl⟩
abbrev main_v570 : Ref sig .tc := ⟨.hbm, 732, rfl⟩
abbrev main_v571 : Ref sig .tc := ⟨.hbm, 733, rfl⟩
abbrev main_v572 : Ref sig .tc := ⟨.hbm, 734, rfl⟩
abbrev main_c_118 : Ref sig .tc := ⟨.hbm, 735, rfl⟩
abbrev main_v573 : Ref sig .tc := ⟨.hbm, 736, rfl⟩
abbrev main_v574 : Ref sig .tc := ⟨.hbm, 737, rfl⟩
abbrev main_c_119 : Ref sig .tc := ⟨.hbm, 738, rfl⟩
abbrev main_v575 : Ref sig .tc := ⟨.hbm, 739, rfl⟩
abbrev main_v576 : Ref sig .tc := ⟨.hbm, 740, rfl⟩
abbrev main_v577 : Ref sig .tc := ⟨.hbm, 741, rfl⟩
abbrev main_v578 : Ref sig .tc := ⟨.hbm, 742, rfl⟩
abbrev main_v579 : Ref sig .tc := ⟨.hbm, 743, rfl⟩
abbrev main_c_120 : Ref sig .tc := ⟨.hbm, 744, rfl⟩
abbrev main_v580 : Ref sig .tc := ⟨.hbm, 745, rfl⟩
abbrev main_v581 : Ref sig .tc := ⟨.hbm, 746, rfl⟩
abbrev main_c_121 : Ref sig .tc := ⟨.hbm, 747, rfl⟩
abbrev main_v582 : Ref sig .tc := ⟨.hbm, 748, rfl⟩
abbrev main_v583 : Ref sig .tc := ⟨.hbm, 749, rfl⟩
abbrev main_c_122 : Ref sig .tc := ⟨.hbm, 750, rfl⟩
abbrev main_v584 : Ref sig .tc := ⟨.hbm, 751, rfl⟩
abbrev main_v585 : Ref sig .tc := ⟨.hbm, 752, rfl⟩
abbrev main_v586 : Ref sig .tc := ⟨.hbm, 753, rfl⟩
abbrev main_v587 : Ref sig .tc := ⟨.hbm, 754, rfl⟩
abbrev main_v588 : Ref sig .tc := ⟨.hbm, 755, rfl⟩
abbrev main_v589 : Ref sig .tc := ⟨.hbm, 756, rfl⟩
abbrev main_c_123 : Ref sig .tc := ⟨.hbm, 757, rfl⟩
abbrev main_v590 : Ref sig .tc := ⟨.hbm, 758, rfl⟩
abbrev main_v591 : Ref sig .tc := ⟨.hbm, 759, rfl⟩
abbrev main_c_124 : Ref sig .tc := ⟨.hbm, 760, rfl⟩
abbrev main_v592 : Ref sig .tc := ⟨.hbm, 761, rfl⟩
abbrev main_v593 : Ref sig .tc := ⟨.hbm, 762, rfl⟩
abbrev main_v594 : Ref sig .tc := ⟨.hbm, 763, rfl⟩
abbrev main_v595 : Ref sig .tc := ⟨.hbm, 764, rfl⟩
abbrev main_v596 : Ref sig .tc := ⟨.hbm, 765, rfl⟩
abbrev main_v597 : Ref sig .tc := ⟨.hbm, 766, rfl⟩
abbrev main_v598 : Ref sig .tc := ⟨.hbm, 767, rfl⟩
abbrev main_v599 : Ref sig .tc := ⟨.hbm, 768, rfl⟩
abbrev main_c_125 : Ref sig .tc := ⟨.hbm, 769, rfl⟩
abbrev main_v600 : Ref sig .tc := ⟨.hbm, 770, rfl⟩
abbrev main_v601 : Ref sig .tc := ⟨.hbm, 771, rfl⟩
abbrev main_c_126 : Ref sig .tc := ⟨.hbm, 772, rfl⟩
abbrev main_v602 : Ref sig .tc := ⟨.hbm, 773, rfl⟩
abbrev main_v603 : Ref sig .tc := ⟨.hbm, 774, rfl⟩
abbrev main_v604 : Ref sig .tc := ⟨.hbm, 775, rfl⟩
abbrev main_v605 : Ref sig .tc := ⟨.hbm, 776, rfl⟩
abbrev main_v606 : Ref sig .tc := ⟨.hbm, 777, rfl⟩
abbrev main_c_127 : Ref sig .tc := ⟨.hbm, 778, rfl⟩
abbrev main_v607 : Ref sig .tc := ⟨.hbm, 779, rfl⟩
abbrev main_v608 : Ref sig .tc := ⟨.hbm, 780, rfl⟩
abbrev main_c_128 : Ref sig .tc := ⟨.hbm, 781, rfl⟩
abbrev main_v609 : Ref sig .tc := ⟨.hbm, 782, rfl⟩
abbrev main_v610 : Ref sig .tc := ⟨.hbm, 783, rfl⟩
abbrev main_c_129 : Ref sig .tc := ⟨.hbm, 784, rfl⟩
abbrev main_v611 : Ref sig .tc := ⟨.hbm, 785, rfl⟩
abbrev main_v612 : Ref sig .tc := ⟨.hbm, 786, rfl⟩
abbrev main_v613 : Ref sig .tc := ⟨.hbm, 787, rfl⟩
abbrev main_v614 : Ref sig .tc := ⟨.hbm, 788, rfl⟩
abbrev main_v615 : Ref sig .tc := ⟨.hbm, 789, rfl⟩
abbrev main_v616 : Ref sig .tc := ⟨.hbm, 790, rfl⟩
abbrev main_c_130 : Ref sig .tc := ⟨.hbm, 791, rfl⟩
abbrev main_v617 : Ref sig .tc := ⟨.hbm, 792, rfl⟩
abbrev main_v618 : Ref sig .tc := ⟨.hbm, 793, rfl⟩
abbrev main_c_131 : Ref sig .tc := ⟨.hbm, 794, rfl⟩
abbrev main_v619 : Ref sig .tc := ⟨.hbm, 795, rfl⟩
abbrev main_v620 : Ref sig .tc := ⟨.hbm, 796, rfl⟩
abbrev main_v621 : Ref sig .tc := ⟨.hbm, 797, rfl⟩
abbrev main_v622 : Ref sig .tc := ⟨.hbm, 798, rfl⟩
abbrev main_v623 : Ref sig .tc := ⟨.hbm, 799, rfl⟩
abbrev main_v624 : Ref sig .tc := ⟨.hbm, 800, rfl⟩
abbrev main_v625 : Ref sig .tc := ⟨.hbm, 801, rfl⟩
abbrev main_v626 : Ref sig .tc := ⟨.hbm, 802, rfl⟩
abbrev main_c_132 : Ref sig .tc := ⟨.hbm, 803, rfl⟩
abbrev main_v627 : Ref sig .tc := ⟨.hbm, 804, rfl⟩
abbrev main_v628 : Ref sig .tc := ⟨.hbm, 805, rfl⟩
abbrev main_c_133 : Ref sig .tc := ⟨.hbm, 806, rfl⟩
abbrev main_v629 : Ref sig .tc := ⟨.hbm, 807, rfl⟩
abbrev main_v630 : Ref sig .tc := ⟨.hbm, 808, rfl⟩
abbrev main_v631 : Ref sig .tc := ⟨.hbm, 809, rfl⟩
abbrev main_v632 : Ref sig .tc := ⟨.hbm, 810, rfl⟩
abbrev main_v633 : Ref sig .tc := ⟨.hbm, 811, rfl⟩
abbrev main_c_134 : Ref sig .tc := ⟨.hbm, 812, rfl⟩
abbrev main_v634 : Ref sig .tc := ⟨.hbm, 813, rfl⟩
abbrev main_v635 : Ref sig .tc := ⟨.hbm, 814, rfl⟩
abbrev main_c_135 : Ref sig .tc := ⟨.hbm, 815, rfl⟩
abbrev main_v636 : Ref sig .tc := ⟨.hbm, 816, rfl⟩
abbrev main_v637 : Ref sig .tc := ⟨.hbm, 817, rfl⟩
abbrev main_c_136 : Ref sig .tc := ⟨.hbm, 818, rfl⟩
abbrev main_v638 : Ref sig .tc := ⟨.hbm, 819, rfl⟩
abbrev main_v639 : Ref sig .tc := ⟨.hbm, 820, rfl⟩
abbrev main_v640 : Ref sig .tc := ⟨.hbm, 821, rfl⟩
abbrev main_v641 : Ref sig .tc := ⟨.hbm, 822, rfl⟩
abbrev main_v642 : Ref sig .tc := ⟨.hbm, 823, rfl⟩
abbrev main_v643 : Ref sig .tc := ⟨.hbm, 824, rfl⟩
abbrev main_c_137 : Ref sig .tc := ⟨.hbm, 825, rfl⟩
abbrev main_v644 : Ref sig .tc := ⟨.hbm, 826, rfl⟩
abbrev main_v645 : Ref sig .tc := ⟨.hbm, 827, rfl⟩
abbrev main_c_138 : Ref sig .tc := ⟨.hbm, 828, rfl⟩
abbrev main_v646 : Ref sig .tc := ⟨.hbm, 829, rfl⟩
abbrev main_v647 : Ref sig .tc := ⟨.hbm, 830, rfl⟩
abbrev main_v648 : Ref sig .tc := ⟨.hbm, 831, rfl⟩
abbrev main_v649 : Ref sig .tc := ⟨.hbm, 832, rfl⟩
abbrev main_v650 : Ref sig .tc := ⟨.hbm, 833, rfl⟩
abbrev main_v651 : Ref sig .tc := ⟨.hbm, 834, rfl⟩
abbrev main_v652 : Ref sig .tc := ⟨.hbm, 835, rfl⟩
abbrev main_v653 : Ref sig .tc := ⟨.hbm, 836, rfl⟩
abbrev main_c_139 : Ref sig .tc := ⟨.hbm, 837, rfl⟩
abbrev main_v654 : Ref sig .tc := ⟨.hbm, 838, rfl⟩
abbrev main_v655 : Ref sig .tc := ⟨.hbm, 839, rfl⟩
abbrev main_c_140 : Ref sig .tc := ⟨.hbm, 840, rfl⟩
abbrev main_v656 : Ref sig .tc := ⟨.hbm, 841, rfl⟩
abbrev main_v657 : Ref sig .tc := ⟨.hbm, 842, rfl⟩
abbrev main_v658 : Ref sig .tc := ⟨.hbm, 843, rfl⟩
abbrev main_v659 : Ref sig .tc := ⟨.hbm, 844, rfl⟩
abbrev main_v660 : Ref sig .tc := ⟨.hbm, 845, rfl⟩
abbrev main_c_141 : Ref sig .tc := ⟨.hbm, 846, rfl⟩
abbrev main_v661 : Ref sig .tc := ⟨.hbm, 847, rfl⟩
abbrev main_v662 : Ref sig .tc := ⟨.hbm, 848, rfl⟩
abbrev main_c_142 : Ref sig .tc := ⟨.hbm, 849, rfl⟩
abbrev main_v663 : Ref sig .tc := ⟨.hbm, 850, rfl⟩
abbrev main_v664 : Ref sig .tc := ⟨.hbm, 851, rfl⟩
abbrev main_c_143 : Ref sig .tc := ⟨.hbm, 852, rfl⟩
abbrev main_v665 : Ref sig .tc := ⟨.hbm, 853, rfl⟩
abbrev main_v666 : Ref sig .tc := ⟨.hbm, 854, rfl⟩
abbrev main_v667 : Ref sig .tc := ⟨.hbm, 855, rfl⟩
abbrev main_v668 : Ref sig .tc := ⟨.hbm, 856, rfl⟩
abbrev main_v669 : Ref sig .tc := ⟨.hbm, 857, rfl⟩
abbrev main_v670 : Ref sig .tc := ⟨.hbm, 858, rfl⟩
abbrev main_c_144 : Ref sig .tc := ⟨.hbm, 859, rfl⟩
abbrev main_v671 : Ref sig .tc := ⟨.hbm, 860, rfl⟩
abbrev main_v672 : Ref sig .tc := ⟨.hbm, 861, rfl⟩
abbrev main_c_145 : Ref sig .tc := ⟨.hbm, 862, rfl⟩
abbrev main_v673 : Ref sig .tc := ⟨.hbm, 863, rfl⟩
abbrev main_v674 : Ref sig .tc := ⟨.hbm, 864, rfl⟩
abbrev main_v675 : Ref sig .tc := ⟨.hbm, 865, rfl⟩
abbrev main_v676 : Ref sig .tc := ⟨.hbm, 866, rfl⟩
abbrev main_v677 : Ref sig .tc := ⟨.hbm, 867, rfl⟩
abbrev main_v678 : Ref sig .tc := ⟨.hbm, 868, rfl⟩
abbrev main_v679 : Ref sig .tc := ⟨.hbm, 869, rfl⟩
abbrev main_v680 : Ref sig .tc := ⟨.hbm, 870, rfl⟩
abbrev main_c_146 : Ref sig .tc := ⟨.hbm, 871, rfl⟩
abbrev main_v681 : Ref sig .tc := ⟨.hbm, 872, rfl⟩
abbrev main_v682 : Ref sig .tc := ⟨.hbm, 873, rfl⟩
abbrev main_c_147 : Ref sig .tc := ⟨.hbm, 874, rfl⟩
abbrev main_v683 : Ref sig .tc := ⟨.hbm, 875, rfl⟩
abbrev main_v684 : Ref sig .tc := ⟨.hbm, 876, rfl⟩
abbrev main_v685 : Ref sig .tc := ⟨.hbm, 877, rfl⟩
abbrev main_v686 : Ref sig .tc := ⟨.hbm, 878, rfl⟩
abbrev main_v687 : Ref sig .tc := ⟨.hbm, 879, rfl⟩
abbrev main_c_148 : Ref sig .tc := ⟨.hbm, 880, rfl⟩
abbrev main_v688 : Ref sig .tc := ⟨.hbm, 881, rfl⟩
abbrev main_v689 : Ref sig .tc := ⟨.hbm, 882, rfl⟩
abbrev main_c_149 : Ref sig .tc := ⟨.hbm, 883, rfl⟩
abbrev main_v690 : Ref sig .tc := ⟨.hbm, 884, rfl⟩
abbrev main_v691 : Ref sig .tc := ⟨.hbm, 885, rfl⟩
abbrev main_c_150 : Ref sig .tc := ⟨.hbm, 886, rfl⟩
abbrev main_v692 : Ref sig .tc := ⟨.hbm, 887, rfl⟩
abbrev main_v693 : Ref sig .tc := ⟨.hbm, 888, rfl⟩
abbrev main_v694 : Ref sig .tc := ⟨.hbm, 889, rfl⟩
abbrev main_v695 : Ref sig .tc := ⟨.hbm, 890, rfl⟩
abbrev main_v696 : Ref sig .tc := ⟨.hbm, 891, rfl⟩
abbrev main_v697 : Ref sig .tc := ⟨.hbm, 892, rfl⟩
abbrev main_c_151 : Ref sig .tc := ⟨.hbm, 893, rfl⟩
abbrev main_v698 : Ref sig .tc := ⟨.hbm, 894, rfl⟩
abbrev main_v699 : Ref sig .tc := ⟨.hbm, 895, rfl⟩
abbrev main_c_152 : Ref sig .tc := ⟨.hbm, 896, rfl⟩
abbrev main_v700 : Ref sig .tc := ⟨.hbm, 897, rfl⟩
abbrev main_v701 : Ref sig .tc := ⟨.hbm, 898, rfl⟩
abbrev main_v702 : Ref sig .tc := ⟨.hbm, 899, rfl⟩
abbrev main_v703 : Ref sig .tc := ⟨.hbm, 900, rfl⟩
abbrev main_v704 : Ref sig .tc := ⟨.hbm, 901, rfl⟩
abbrev main_v705 : Ref sig .tc := ⟨.hbm, 902, rfl⟩
abbrev main_v706 : Ref sig .tc := ⟨.hbm, 903, rfl⟩
abbrev main_v707 : Ref sig .tc := ⟨.hbm, 904, rfl⟩
abbrev main_c_153 : Ref sig .tc := ⟨.hbm, 905, rfl⟩
abbrev main_v708 : Ref sig .tc := ⟨.hbm, 906, rfl⟩
abbrev main_v709 : Ref sig .tc := ⟨.hbm, 907, rfl⟩
abbrev main_c_154 : Ref sig .tc := ⟨.hbm, 908, rfl⟩
abbrev main_v710 : Ref sig .tc := ⟨.hbm, 909, rfl⟩
abbrev main_v711 : Ref sig .tc := ⟨.hbm, 910, rfl⟩
abbrev main_v712 : Ref sig .tc := ⟨.hbm, 911, rfl⟩
abbrev main_v713 : Ref sig .tc := ⟨.hbm, 912, rfl⟩
abbrev main_v714 : Ref sig .tc := ⟨.hbm, 913, rfl⟩
abbrev main_c_155 : Ref sig .tc := ⟨.hbm, 914, rfl⟩
abbrev main_v715 : Ref sig .tc := ⟨.hbm, 915, rfl⟩
abbrev main_v716 : Ref sig .tc := ⟨.hbm, 916, rfl⟩
abbrev main_c_156 : Ref sig .tc := ⟨.hbm, 917, rfl⟩
abbrev main_v717 : Ref sig .tc := ⟨.hbm, 918, rfl⟩
abbrev main_v718 : Ref sig .tc := ⟨.hbm, 919, rfl⟩
abbrev main_c_157 : Ref sig .tc := ⟨.hbm, 920, rfl⟩
abbrev main_v719 : Ref sig .tc := ⟨.hbm, 921, rfl⟩
abbrev main_v720 : Ref sig .tc := ⟨.hbm, 922, rfl⟩
abbrev main_v721 : Ref sig .tc := ⟨.hbm, 923, rfl⟩
abbrev main_v722 : Ref sig .tc := ⟨.hbm, 924, rfl⟩
abbrev main_v723 : Ref sig .tc := ⟨.hbm, 925, rfl⟩
abbrev main_v724 : Ref sig .tc := ⟨.hbm, 926, rfl⟩
abbrev main_c_158 : Ref sig .tc := ⟨.hbm, 927, rfl⟩
abbrev main_v725 : Ref sig .tc := ⟨.hbm, 928, rfl⟩
abbrev main_v726 : Ref sig .tc := ⟨.hbm, 929, rfl⟩
abbrev main_c_159 : Ref sig .tc := ⟨.hbm, 930, rfl⟩
abbrev main_v727 : Ref sig .tc := ⟨.hbm, 931, rfl⟩
abbrev main_v728 : Ref sig .tc := ⟨.hbm, 932, rfl⟩
abbrev main_v729 : Ref sig .tc := ⟨.hbm, 933, rfl⟩
abbrev main_v730 : Ref sig .tc := ⟨.hbm, 934, rfl⟩
abbrev main_v731 : Ref sig .tc := ⟨.hbm, 935, rfl⟩
abbrev main_v732 : Ref sig .tc := ⟨.hbm, 936, rfl⟩
abbrev main_v733 : Ref sig .tc := ⟨.hbm, 937, rfl⟩
abbrev main_v734 : Ref sig .tc := ⟨.hbm, 938, rfl⟩
abbrev main_c_160 : Ref sig .tc := ⟨.hbm, 939, rfl⟩
abbrev main_v735 : Ref sig .tc := ⟨.hbm, 940, rfl⟩
abbrev main_v736 : Ref sig .tc := ⟨.hbm, 941, rfl⟩
abbrev main_c_161 : Ref sig .tc := ⟨.hbm, 942, rfl⟩
abbrev main_v737 : Ref sig .tc := ⟨.hbm, 943, rfl⟩
abbrev main_v738 : Ref sig .tc := ⟨.hbm, 944, rfl⟩
abbrev main_v739 : Ref sig .tc := ⟨.hbm, 945, rfl⟩
abbrev main_v740 : Ref sig .tc := ⟨.hbm, 946, rfl⟩
abbrev main_v741 : Ref sig .tc := ⟨.hbm, 947, rfl⟩
abbrev main_c_162 : Ref sig .tc := ⟨.hbm, 948, rfl⟩
abbrev main_v742 : Ref sig .tc := ⟨.hbm, 949, rfl⟩
abbrev main_v743 : Ref sig .tc := ⟨.hbm, 950, rfl⟩
abbrev main_c_163 : Ref sig .tc := ⟨.hbm, 951, rfl⟩
abbrev main_v744 : Ref sig .tc := ⟨.hbm, 952, rfl⟩
abbrev main_v745 : Ref sig .tc := ⟨.hbm, 953, rfl⟩
abbrev main_c_164 : Ref sig .tc := ⟨.hbm, 954, rfl⟩
abbrev main_v746 : Ref sig .tc := ⟨.hbm, 955, rfl⟩
abbrev main_v747 : Ref sig .tc := ⟨.hbm, 956, rfl⟩
abbrev main_v748 : Ref sig .tc := ⟨.hbm, 957, rfl⟩
abbrev main_v749 : Ref sig .tc := ⟨.hbm, 958, rfl⟩
abbrev main_v750 : Ref sig .tc := ⟨.hbm, 959, rfl⟩
abbrev main_v751 : Ref sig .tc := ⟨.hbm, 960, rfl⟩
abbrev main_c_165 : Ref sig .tc := ⟨.hbm, 961, rfl⟩
abbrev main_v752 : Ref sig .tc := ⟨.hbm, 962, rfl⟩
abbrev main_v753 : Ref sig .tc := ⟨.hbm, 963, rfl⟩
abbrev main_c_166 : Ref sig .tc := ⟨.hbm, 964, rfl⟩
abbrev main_v754 : Ref sig .tc := ⟨.hbm, 965, rfl⟩
abbrev main_v755 : Ref sig .tc := ⟨.hbm, 966, rfl⟩
abbrev main_v756 : Ref sig .tc := ⟨.hbm, 967, rfl⟩
abbrev main_v757 : Ref sig .tc := ⟨.hbm, 968, rfl⟩
abbrev main_v758 : Ref sig .tc := ⟨.hbm, 969, rfl⟩
abbrev main_v759 : Ref sig .tc := ⟨.hbm, 970, rfl⟩
abbrev main_v760 : Ref sig .tc := ⟨.hbm, 971, rfl⟩
abbrev main_v761 : Ref sig .tc := ⟨.hbm, 972, rfl⟩
abbrev main_c_167 : Ref sig .tc := ⟨.hbm, 973, rfl⟩
abbrev main_v762 : Ref sig .tc := ⟨.hbm, 974, rfl⟩
abbrev main_v763 : Ref sig .tc := ⟨.hbm, 975, rfl⟩
abbrev main_c_168 : Ref sig .tc := ⟨.hbm, 976, rfl⟩
abbrev main_v764 : Ref sig .tc := ⟨.hbm, 977, rfl⟩
abbrev main_v765 : Ref sig .tc := ⟨.hbm, 978, rfl⟩
abbrev main_v766 : Ref sig .tc := ⟨.hbm, 979, rfl⟩
abbrev main_v767 : Ref sig .tc := ⟨.hbm, 980, rfl⟩
abbrev main_v768 : Ref sig .tc := ⟨.hbm, 981, rfl⟩
abbrev main_c_169 : Ref sig .tc := ⟨.hbm, 982, rfl⟩
abbrev main_v769 : Ref sig .tc := ⟨.hbm, 983, rfl⟩
abbrev main_v770 : Ref sig .tc := ⟨.hbm, 984, rfl⟩
abbrev main_c_170 : Ref sig .tc := ⟨.hbm, 985, rfl⟩
abbrev main_v771 : Ref sig .tc := ⟨.hbm, 986, rfl⟩
abbrev main_v772 : Ref sig .tc := ⟨.hbm, 987, rfl⟩
abbrev main_c_171 : Ref sig .tc := ⟨.hbm, 988, rfl⟩
abbrev main_v773 : Ref sig .tc := ⟨.hbm, 989, rfl⟩
abbrev main_v774 : Ref sig .tc := ⟨.hbm, 990, rfl⟩
abbrev main_v775 : Ref sig .tc := ⟨.hbm, 991, rfl⟩
abbrev main_v776 : Ref sig .tc := ⟨.hbm, 992, rfl⟩
abbrev main_v777 : Ref sig .tc := ⟨.hbm, 993, rfl⟩
abbrev main_v778 : Ref sig .tc := ⟨.hbm, 994, rfl⟩
abbrev main_c_172 : Ref sig .tc := ⟨.hbm, 995, rfl⟩
abbrev main_v779 : Ref sig .tc := ⟨.hbm, 996, rfl⟩
abbrev main_v780 : Ref sig .tc := ⟨.hbm, 997, rfl⟩
abbrev main_c_173 : Ref sig .tc := ⟨.hbm, 998, rfl⟩
abbrev main_v781 : Ref sig .tc := ⟨.hbm, 999, rfl⟩
abbrev main_v782 : Ref sig .tc := ⟨.hbm, 1000, rfl⟩
abbrev main_v783 : Ref sig .tc := ⟨.hbm, 1001, rfl⟩
abbrev main_v784 : Ref sig .tc := ⟨.hbm, 1002, rfl⟩
abbrev main_v785 : Ref sig .tc := ⟨.hbm, 1003, rfl⟩
abbrev main_v786 : Ref sig .tc := ⟨.hbm, 1004, rfl⟩
abbrev main_v787 : Ref sig .tc := ⟨.hbm, 1005, rfl⟩
abbrev main_v788 : Ref sig .tc := ⟨.hbm, 1006, rfl⟩
abbrev main_c_174 : Ref sig .tc := ⟨.hbm, 1007, rfl⟩
abbrev main_v789 : Ref sig .tc := ⟨.hbm, 1008, rfl⟩
abbrev main_v790 : Ref sig .tc := ⟨.hbm, 1009, rfl⟩
abbrev main_c_175 : Ref sig .tc := ⟨.hbm, 1010, rfl⟩
abbrev main_v791 : Ref sig .tc := ⟨.hbm, 1011, rfl⟩
abbrev main_v792 : Ref sig .tc := ⟨.hbm, 1012, rfl⟩
abbrev main_v793 : Ref sig .tc := ⟨.hbm, 1013, rfl⟩
abbrev main_v794 : Ref sig .tc := ⟨.hbm, 1014, rfl⟩
abbrev main_v795 : Ref sig .tc := ⟨.hbm, 1015, rfl⟩
abbrev main_c_176 : Ref sig .tc := ⟨.hbm, 1016, rfl⟩
abbrev main_v796 : Ref sig .tc := ⟨.hbm, 1017, rfl⟩
abbrev main_v797 : Ref sig .tc := ⟨.hbm, 1018, rfl⟩
abbrev main_c_177 : Ref sig .tc := ⟨.hbm, 1019, rfl⟩
abbrev main_v798 : Ref sig .tc := ⟨.hbm, 1020, rfl⟩
abbrev main_v799 : Ref sig .tc := ⟨.hbm, 1021, rfl⟩
abbrev main_c_178 : Ref sig .tc := ⟨.hbm, 1022, rfl⟩
abbrev main_v800 : Ref sig .tc := ⟨.hbm, 1023, rfl⟩
abbrev main_v801 : Ref sig .tc := ⟨.hbm, 1024, rfl⟩
abbrev main_v802 : Ref sig .tc := ⟨.hbm, 1025, rfl⟩
abbrev main_v803 : Ref sig .tc := ⟨.hbm, 1026, rfl⟩
abbrev main_v804 : Ref sig .tc := ⟨.hbm, 1027, rfl⟩
abbrev main_v805 : Ref sig .tc := ⟨.hbm, 1028, rfl⟩
abbrev main_c_179 : Ref sig .tc := ⟨.hbm, 1029, rfl⟩
abbrev main_v806 : Ref sig .tc := ⟨.hbm, 1030, rfl⟩
abbrev main_v807 : Ref sig .tc := ⟨.hbm, 1031, rfl⟩
abbrev main_c_180 : Ref sig .tc := ⟨.hbm, 1032, rfl⟩
abbrev main_v808 : Ref sig .tc := ⟨.hbm, 1033, rfl⟩
abbrev main_v809 : Ref sig .tc := ⟨.hbm, 1034, rfl⟩
abbrev main_v810 : Ref sig .tc := ⟨.hbm, 1035, rfl⟩
abbrev main_v811 : Ref sig .tc := ⟨.hbm, 1036, rfl⟩
abbrev main_v812 : Ref sig .tc := ⟨.hbm, 1037, rfl⟩
abbrev main_v813 : Ref sig .tc := ⟨.hbm, 1038, rfl⟩
abbrev main_v814 : Ref sig .tc := ⟨.hbm, 1039, rfl⟩
abbrev main_v815 : Ref sig .tc := ⟨.hbm, 1040, rfl⟩
abbrev main_c_181 : Ref sig .tc := ⟨.hbm, 1041, rfl⟩
abbrev main_v816 : Ref sig .tc := ⟨.hbm, 1042, rfl⟩
abbrev main_v817 : Ref sig .tc := ⟨.hbm, 1043, rfl⟩
abbrev main_c_182 : Ref sig .tc := ⟨.hbm, 1044, rfl⟩
abbrev main_v818 : Ref sig .tc := ⟨.hbm, 1045, rfl⟩
abbrev main_v819 : Ref sig .tc := ⟨.hbm, 1046, rfl⟩
abbrev main_v820 : Ref sig .tc := ⟨.hbm, 1047, rfl⟩
abbrev main_v821 : Ref sig .tc := ⟨.hbm, 1048, rfl⟩
abbrev main_v822 : Ref sig .tc := ⟨.hbm, 1049, rfl⟩
abbrev main_c_183 : Ref sig .tc := ⟨.hbm, 1050, rfl⟩
abbrev main_v823 : Ref sig .tc := ⟨.hbm, 1051, rfl⟩
abbrev main_v824 : Ref sig .tc := ⟨.hbm, 1052, rfl⟩
abbrev main_c_184 : Ref sig .tc := ⟨.hbm, 1053, rfl⟩
abbrev main_v825 : Ref sig .tc := ⟨.hbm, 1054, rfl⟩
abbrev main_v826 : Ref sig .tc := ⟨.hbm, 1055, rfl⟩
abbrev main_c_185 : Ref sig .tc := ⟨.hbm, 1056, rfl⟩
abbrev main_v827 : Ref sig .tc := ⟨.hbm, 1057, rfl⟩
abbrev main_v828 : Ref sig .tc := ⟨.hbm, 1058, rfl⟩
abbrev main_v829 : Ref sig .tc := ⟨.hbm, 1059, rfl⟩
abbrev main_v830 : Ref sig .tc := ⟨.hbm, 1060, rfl⟩
abbrev main_v831 : Ref sig .tc := ⟨.hbm, 1061, rfl⟩
abbrev main_v832 : Ref sig .tc := ⟨.hbm, 1062, rfl⟩
abbrev main_c_186 : Ref sig .tc := ⟨.hbm, 1063, rfl⟩
abbrev main_v833 : Ref sig .tc := ⟨.hbm, 1064, rfl⟩
abbrev main_v834 : Ref sig .tc := ⟨.hbm, 1065, rfl⟩
abbrev main_c_187 : Ref sig .tc := ⟨.hbm, 1066, rfl⟩
abbrev main_v835 : Ref sig .tc := ⟨.hbm, 1067, rfl⟩
abbrev main_v836 : Ref sig .tc := ⟨.hbm, 1068, rfl⟩
abbrev main_v837 : Ref sig .tc := ⟨.hbm, 1069, rfl⟩
abbrev main_v838 : Ref sig .tc := ⟨.hbm, 1070, rfl⟩
abbrev main_v839 : Ref sig .tc := ⟨.hbm, 1071, rfl⟩
abbrev main_v840 : Ref sig .tc := ⟨.hbm, 1072, rfl⟩
abbrev main_v841 : Ref sig .tc := ⟨.hbm, 1073, rfl⟩
abbrev main_v842 : Ref sig .tc := ⟨.hbm, 1074, rfl⟩
abbrev main_c_188 : Ref sig .tc := ⟨.hbm, 1075, rfl⟩
abbrev main_v843 : Ref sig .tc := ⟨.hbm, 1076, rfl⟩
abbrev main_v844 : Ref sig .tc := ⟨.hbm, 1077, rfl⟩
abbrev main_c_189 : Ref sig .tc := ⟨.hbm, 1078, rfl⟩
abbrev main_v845 : Ref sig .tc := ⟨.hbm, 1079, rfl⟩
abbrev main_v846 : Ref sig .tc := ⟨.hbm, 1080, rfl⟩
abbrev main_v847 : Ref sig .tc := ⟨.hbm, 1081, rfl⟩
abbrev main_v848 : Ref sig .tc := ⟨.hbm, 1082, rfl⟩
abbrev main_v849 : Ref sig .tc := ⟨.hbm, 1083, rfl⟩
abbrev main_c_190 : Ref sig .tc := ⟨.hbm, 1084, rfl⟩
abbrev main_v850 : Ref sig .tc := ⟨.hbm, 1085, rfl⟩
abbrev main_v851 : Ref sig .tc := ⟨.hbm, 1086, rfl⟩
abbrev main_c_191 : Ref sig .tc := ⟨.hbm, 1087, rfl⟩
abbrev main_v852 : Ref sig .tc := ⟨.hbm, 1088, rfl⟩
abbrev main_v853 : Ref sig .tc := ⟨.hbm, 1089, rfl⟩
abbrev main_c_192 : Ref sig .tc := ⟨.hbm, 1090, rfl⟩
abbrev main_v854 : Ref sig .tc := ⟨.hbm, 1091, rfl⟩
abbrev main_v855 : Ref sig .tc := ⟨.hbm, 1092, rfl⟩
abbrev main_v856 : Ref sig .tc := ⟨.hbm, 1093, rfl⟩
abbrev main_v857 : Ref sig .tc := ⟨.hbm, 1094, rfl⟩
abbrev main_v858 : Ref sig .tc := ⟨.hbm, 1095, rfl⟩
abbrev main_v859 : Ref sig .tc := ⟨.hbm, 1096, rfl⟩
abbrev main_c_193 : Ref sig .tc := ⟨.hbm, 1097, rfl⟩
abbrev main_v860 : Ref sig .tc := ⟨.hbm, 1098, rfl⟩
abbrev main_v861 : Ref sig .tc := ⟨.hbm, 1099, rfl⟩
abbrev main_c_194 : Ref sig .tc := ⟨.hbm, 1100, rfl⟩
abbrev main_v862 : Ref sig .tc := ⟨.hbm, 1101, rfl⟩
abbrev main_v863 : Ref sig .tc := ⟨.hbm, 1102, rfl⟩
abbrev main_v864 : Ref sig .tc := ⟨.hbm, 1103, rfl⟩
abbrev main_v865 : Ref sig .tc := ⟨.hbm, 1104, rfl⟩
abbrev main_v866 : Ref sig .tc := ⟨.hbm, 1105, rfl⟩
abbrev main_v867 : Ref sig .tc := ⟨.hbm, 1106, rfl⟩
abbrev main_v868 : Ref sig .tc := ⟨.hbm, 1107, rfl⟩
abbrev main_v869 : Ref sig .tc := ⟨.hbm, 1108, rfl⟩
abbrev main_c_195 : Ref sig .tc := ⟨.hbm, 1109, rfl⟩
abbrev main_v870 : Ref sig .tc := ⟨.hbm, 1110, rfl⟩
abbrev main_v871 : Ref sig .tc := ⟨.hbm, 1111, rfl⟩
abbrev main_c_196 : Ref sig .tc := ⟨.hbm, 1112, rfl⟩
abbrev main_v872 : Ref sig .tc := ⟨.hbm, 1113, rfl⟩
abbrev main_v873 : Ref sig .tc := ⟨.hbm, 1114, rfl⟩
abbrev main_v874 : Ref sig .tc := ⟨.hbm, 1115, rfl⟩
abbrev main_v875 : Ref sig .tc := ⟨.hbm, 1116, rfl⟩
abbrev main_v876 : Ref sig .tc := ⟨.hbm, 1117, rfl⟩
abbrev main_v877 : Ref sig .tc := ⟨.hbm, 1118, rfl⟩
abbrev main_v878 : Ref sig .tc := ⟨.hbm, 1119, rfl⟩
abbrev main_v879 : Ref sig .tc := ⟨.hbm, 1120, rfl⟩
abbrev main_v880 : Ref sig .tc := ⟨.hbm, 1121, rfl⟩
abbrev main_cst_197 : Ref sig .tc := ⟨.hbm, 1122, rfl⟩
abbrev main_v881 : Ref sig .tc := ⟨.hbm, 1123, rfl⟩
abbrev main_v882 : Ref sig .tc := ⟨.hbm, 1124, rfl⟩
abbrev main_v883 : Ref sig .tc := ⟨.hbm, 1125, rfl⟩
abbrev main_v884 : Ref sig .tc := ⟨.hbm, 1126, rfl⟩
abbrev main_v885 : Ref sig .tc := ⟨.hbm, 1127, rfl⟩
abbrev main_cst_198 : Ref sig .tc := ⟨.hbm, 1128, rfl⟩
abbrev main_v886 : Ref sig .tc := ⟨.hbm, 1129, rfl⟩
abbrev main_v887 : Ref sig .tc := ⟨.hbm, 1130, rfl⟩
abbrev main_cst_199 : Ref sig .tc := ⟨.hbm, 1131, rfl⟩
abbrev main_v888 : Ref sig .tc := ⟨.hbm, 1132, rfl⟩
abbrev main_v889 : Ref sig .tc := ⟨.hbm, 1133, rfl⟩
abbrev main_cst_200 : Ref sig .tc := ⟨.hbm, 1134, rfl⟩
abbrev main_v890 : Ref sig .tc := ⟨.hbm, 1135, rfl⟩
abbrev main_v891 : Ref sig .tc := ⟨.hbm, 1136, rfl⟩

abbrev nD : Nat := 1
abbrev τ : Topo := Topo.v7x

variable {F : FTy → Type} [FloatOps F]
-- ==== Proof.Setup.lean ====
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The fourteen smallest-distance rows the body goes on with: the pooled ones where the test on them holds, the full
    chain's otherwise. -/
def msel (v7 : FVec F S4096x256 .f32) (v115 : FVec F S14x256 .f32) (v127 : BitVec 32) (cst_43 : F .f32) (c0 : BitVec 32) :
    FVec F S14x256 .f32 :=
  if Scalar.cmpi .ne v127 c0 = 1#1 then v115 else
    k0_pay98 v7 cst_43 (k0_pay11 v7) (k0_pay12 v7 cst_43) (k0_pay13 v7 cst_43) (k0_pay14 v7 cst_43) (k0_pay15 v7 cst_43)
      (k0_pay16 v7 cst_43) (k0_pay17 v7 cst_43) (k0_pay18 v7 cst_43) (k0_pay19 v7 cst_43) (k0_pay20 v7 cst_43)

/-- The part of the body holding the branch on data, with the branch, which touches no memory, read as a choice of values. -/
def part24c (i : grid0.Coords) (arg2 : Memref sig .tc .vmem S1x1x8 .f32) (harg2 : arg2.IsWhole) (arg3 : Memref sig .tc .vmem S1x25x4096 .f32) (harg3 : arg3.IsWhole) (arg4 : Memref sig .tc .vmem S1x75x4096 .f32) (harg4 : arg4.IsWhole) (arg5 : Memref sig .tc .vmem S75x80 .f32) (harg5 : arg5.IsWhole) (arg6 : Memref sig .tc .vmem S80x1 .f32) (harg6 : arg6.IsWhole) (arg7 : Memref sig .tc .vmem S80x76 .f32) (harg7 : arg7.IsWhole) (arg8 : Memref sig .tc .vmem S76x1 .f32) (harg8 : arg8.IsWhole) (arg9 : Memref sig .tc .vmem S1x3x4096 .f32) (harg9 : arg9.IsWhole) (arg10 : Memref sig .tc .vmem S4096x80 .f32) (harg10 : arg10.IsWhole) (arg11 : Memref sig .tc .vmem S32x4096 .f32) (harg11 : arg11.IsWhole) (arg12 : Memref sig .tc .vmem S32x4096 .f32) (harg12 : arg12.IsWhole) (arg13 : Memref sig .tc .vmem S75x4608 .f32) (harg13 : arg13.IsWhole) (arg14 : Memref sig .tc .vmem S1x4608 .f32) (harg14 : arg14.IsWhole)
    (v7 : FVec F S4096x256 .f32) (v129 : FVec F S14x256 .f32) :
    Prog (TpuEff nD τ sig (Elt F) Λ₀ .tc) (Σ' (v169 : FVec F S1x256 .f32), FVec F S75x256 .f32) := do
  let v132 : Vec F S1x1x1 .f32 ← Prog.lift (.load arg2 (Rect.unit (s := S1x1x8) ![0, 0, 0] S1x1x1.size inb_S1x1x8_S1x1x1_0_0_0).toLoadRect (View.loadsAt_vmem h_S1x1x1))
  let v151 : Vec F S4096x80 .f32 ← Prog.lift (.load arg10 (Rect.unit (s := S4096x80) ![0, 0] S4096x80.size inb_S4096x80_S4096x80_0_0).toLoadRect (View.loadsAt_vmem h_S4096x80))
  let v155 : Vec F S80x1 .f32 ← Prog.lift (.load arg6 (Rect.unit (s := S80x1) ![0, 0] S80x1.size inb_S80x1_S80x1_0_0).toLoadRect (View.loadsAt_vmem h_S80x1))
  let v161 : Vec F S80x76 .f32 ← Prog.lift (.load arg7 (Rect.unit (s := S80x76) ![0, 0] S80x76.size inb_S80x76_S80x76_0_0).toLoadRect (View.loadsAt_vmem h_S80x76))
  let v164 : Vec F S76x1 .f32 ← Prog.lift (.load arg8 (Rect.unit (s := S76x1) ![0, 0] S76x1.size inb_S76x1_S76x1_0_0).toLoadRect (View.loadsAt_vmem h_S76x1))
  pure ⟨k0_pay100 v7 v129 v132 v151 v155 v161 v164, k0_pay101 v7 v129 v132 v151 v155 v161 v164⟩

set_option maxRecDepth 65536 in
/-- The branch on data is a choice of values. -/
theorem part24_eq (i : grid0.Coords) (arg2 : Memref sig .tc .vmem S1x1x8 .f32) (harg2 : arg2.IsWhole) (arg3 : Memref sig .tc .vmem S1x25x4096 .f32) (harg3 : arg3.IsWhole) (arg4 : Memref sig .tc .vmem S1x75x4096 .f32) (harg4 : arg4.IsWhole) (arg5 : Memref sig .tc .vmem S75x80 .f32) (harg5 : arg5.IsWhole) (arg6 : Memref sig .tc .vmem S80x1 .f32) (harg6 : arg6.IsWhole) (arg7 : Memref sig .tc .vmem S80x76 .f32) (harg7 : arg7.IsWhole) (arg8 : Memref sig .tc .vmem S76x1 .f32) (harg8 : arg8.IsWhole) (arg9 : Memref sig .tc .vmem S1x3x4096 .f32) (harg9 : arg9.IsWhole) (arg10 : Memref sig .tc .vmem S4096x80 .f32) (harg10 : arg10.IsWhole) (arg11 : Memref sig .tc .vmem S32x4096 .f32) (harg11 : arg11.IsWhole) (arg12 : Memref sig .tc .vmem S32x4096 .f32) (harg12 : arg12.IsWhole) (arg13 : Memref sig .tc .vmem S75x4608 .f32) (harg13 : arg13.IsWhole) (arg14 : Memref sig .tc .vmem S1x4608 .f32) (harg14 : arg14.IsWhole)
    (v7 : FVec F S4096x256 .f32) (v115 : FVec F S14x256 .f32) (v127 : BitVec 32) (cst_43 : F .f32) (c0 : BitVec 32) :
    k0_part24 (F := F) i arg2 harg2 arg3 harg3 arg4 harg4 arg5 harg5 arg6 harg6 arg7 harg7 arg8 harg8 arg9 harg9 arg10 harg10 arg11 harg11 arg12 harg12 arg13 harg13 arg14 harg14 v7 v115 v127 cst_43 c0
      = part24c i arg2 harg2 arg3 harg3 arg4 harg4 arg5 harg5 arg6 harg6 arg7 harg7 arg8 harg8 arg9 harg9 arg10 harg10 arg11 harg11 arg12 harg12 arg13 harg13 arg14 harg14 v7 (msel v7 v115 v127 cst_43 c0) := by
  rw [k0_part24_eq_skeleton]
  unfold k0_part24_skel part24c msel
  rw [k0_part2_eq_skeleton]
  unfold k0_part2_skel
  by_cases h : Scalar.cmpi .ne v127 c0 = 1#1
  · simp only [if_pos h, Prog.pure_eq_ret, Prog.bind_ret]
  · simp only [if_neg h, Prog.pure_eq_ret, Prog.bind_ret]

/-- The test of the body's first conditional, from the grid coordinates. -/
abbrev cond0_0 (i : grid0.Coords) : Prop := (Scalar.cmpi .ne (Scalar.extui (Scalar.cmpi .eq (BitVec.ofNat 32 (i 1).val) 0#32)) 0#32) = 1#1
/-- It holds at the points that are multiples of 16. -/
theorem hcond0_0 : ∀ t : Fin cfg0.N, cond0_0 (grid0.coords t) ↔ t.val % 16 = 0 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-- The test of the body's last conditional. -/
abbrev cond0_1 (i : grid0.Coords) : Prop := k0_cond3 i = 1#1
/-- It holds at the points that are 15 modulo 16. -/
theorem hcond0_1 : ∀ t : Fin cfg0.N, cond0_1 (grid0.coords t) ↔ t.val % 16 = 15 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_1, k0_cond3, e0, e1]
    word_cmp
   : ∀ t : Fin grid0.N, cond0_1 (grid0.coords t) ↔ t.val % 16 = 15)

/-- Window 0's staging memref at a point, and that it is whole. -/
abbrev ms0_0 (t : Fin cfg0.N) : Memref sig .tc .vmem S1x1x8 .f32 := win0_0.stage (cfg0.slots t 0)
/-- The window of the temperature and means is a whole buffer. -/
abbrev hs0_0 (t : Fin cfg0.N) : (ms0_0 t).IsWhole := hstage0_0 ((cfg0.slots t 0).cast nbuf0_0)
/-- Window 1's staging memref at a point, and that it is whole. -/
abbrev ms0_1 (t : Fin cfg0.N) : Memref sig .tc .vmem S1x25x4096 .f32 := win0_1.stage (cfg0.slots t 1)
/-- The window of the gray patches is a whole buffer. -/
abbrev hs0_1 (t : Fin cfg0.N) : (ms0_1 t).IsWhole := hstage0_1 ((cfg0.slots t 1).cast nbuf0_1)
/-- Window 2's staging memref at a point, and that it is whole. -/
abbrev ms0_2 (t : Fin cfg0.N) : Memref sig .tc .vmem S1x75x4096 .f32 := win0_2.stage (cfg0.slots t 2)
/-- The window of the colour patches is a whole buffer. -/
abbrev hs0_2 (t : Fin cfg0.N) : (ms0_2 t).IsWhole := hstage0_2 ((cfg0.slots t 2).cast nbuf0_2)
/-- Window 3's staging memref at a point, and that it is whole. -/
abbrev ms0_3 (t : Fin cfg0.N) : Memref sig .tc .vmem S75x80 .f32 := win0_3.stage (cfg0.slots t 3)
/-- The window of the first matrix is a whole buffer. -/
abbrev hs0_3 (t : Fin cfg0.N) : (ms0_3 t).IsWhole := hstage0_3 ((cfg0.slots t 3).cast nbuf0_3)
/-- Window 4's staging memref at a point, and that it is whole. -/
abbrev ms0_4 (t : Fin cfg0.N) : Memref sig .tc .vmem S80x1 .f32 := win0_4.stage (cfg0.slots t 4)
/-- The window of the first bias is a whole buffer. -/
abbrev hs0_4 (t : Fin cfg0.N) : (ms0_4 t).IsWhole := hstage0_4 ((cfg0.slots t 4).cast nbuf0_4)
/-- Window 5's staging memref at a point, and that it is whole. -/
abbrev ms0_5 (t : Fin cfg0.N) : Memref sig .tc .vmem S80x76 .f32 := win0_5.stage (cfg0.slots t 5)
/-- The window of the second matrices is a whole buffer. -/
abbrev hs0_5 (t : Fin cfg0.N) : (ms0_5 t).IsWhole := hstage0_5 ((cfg0.slots t 5).cast nbuf0_5)
/-- Window 6's staging memref at a point, and that it is whole. -/
abbrev ms0_6 (t : Fin cfg0.N) : Memref sig .tc .vmem S76x1 .f32 := win0_6.stage (cfg0.slots t 6)
/-- The window of the second biases is a whole buffer. -/
abbrev hs0_6 (t : Fin cfg0.N) : (ms0_6 t).IsWhole := hstage0_6 ((cfg0.slots t 6).cast nbuf0_6)
/-- Window 7's staging memref at a point, and that it is whole. -/
abbrev ms0_7 (t : Fin cfg0.N) : Memref sig .tc .vmem S1x3x4096 .f32 := win0_7.stage (cfg0.slots t 7)
/-- The window of the output block is a whole buffer. -/
abbrev hs0_7 (t : Fin cfg0.N) : (ms0_7 t).IsWhole := hstage0_7 ((cfg0.slots t 7).cast nbuf0_7)
/-- Scratch 0 as a memref. -/
abbrev scM0_0 : Memref sig .tc .vmem S4096x80 .f32 := Memref.whole cc0_scratch0
/-- Scratch 1 as a memref. -/
abbrev scM0_1 : Memref sig .tc .vmem S32x4096 .f32 := Memref.whole cc0_scratch1
/-- Scratch 2 as a memref. -/
abbrev scM0_2 : Memref sig .tc .vmem S32x4096 .f32 := Memref.whole cc0_scratch2
/-- Scratch 3 as a memref. -/
abbrev scM0_3 : Memref sig .tc .vmem S75x4608 .f32 := Memref.whole cc0_scratch3
/-- Scratch 4 as a memref. -/
abbrev scM0_4 : Memref sig .tc .vmem S1x4608 .f32 := Memref.whole cc0_scratch4

/-- The launch's own invariant: the scratch buffers owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Gen

end
-- ==== Proof.RunA.lean ====
module

public import proofs.«01_k».proof.Proof.Setup

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in case A: what it leaves in each buffer it stores into, as the list of its stores. -/
noncomputable def runA (c : Dev nD) (i : grid0.Coords) (arg2 : Memref sig .tc .vmem S1x1x8 .f32) (harg2 : arg2.IsWhole) (arg3 : Memref sig .tc .vmem S1x25x4096 .f32) (harg3 : arg3.IsWhole) (arg4 : Memref sig .tc .vmem S1x75x4096 .f32) (harg4 : arg4.IsWhole) (arg5 : Memref sig .tc .vmem S75x80 .f32) (harg5 : arg5.IsWhole) (arg6 : Memref sig .tc .vmem S80x1 .f32) (harg6 : arg6.IsWhole) (arg7 : Memref sig .tc .vmem S80x76 .f32) (harg7 : arg7.IsWhole) (arg8 : Memref sig .tc .vmem S76x1 .f32) (harg8 : arg8.IsWhole) (arg9 : Memref sig .tc .vmem S1x3x4096 .f32) (harg9 : arg9.IsWhole) (arg10 : Memref sig .tc .vmem S4096x80 .f32) (harg10 : arg10.IsWhole) (arg11 : Memref sig .tc .vmem S32x4096 .f32) (harg11 : arg11.IsWhole) (arg12 : Memref sig .tc .vmem S32x4096 .f32) (harg12 : arg12.IsWhole) (arg13 : Memref sig .tc .vmem S75x4608 .f32) (harg13 : arg13.IsWhole) (arg14 : Memref sig .tc .vmem S1x4608 .f32) (harg14 : arg14.IsWhole) (hc0 : cond0_0 i) (hc1 : ¬cond0_1 i)
    (x0 : Vec F S1x1x8 .f32) (x1 : Vec F S1x25x4096 .f32) (x2 : Vec F S1x75x4096 .f32) (x3 : Vec F S75x80 .f32) (x4 : Vec F S80x1 .f32) (x5 : Vec F S80x76 .f32) (x6 : Vec F S76x1 .f32) :
    Σ' (LS0 : List (View.Piece (Elt F) S4096x80 .f32)), Σ' (LS1 : List (View.Piece (Elt F) S32x4096 .f32)), Σ' (LS2 : List (View.Piece (Elt F) S32x4096 .f32)), Σ' (LS3 : List (View.Piece (Elt F) S75x4608 .f32)), { LS4 : List (View.Piece (Elt F) S1x4608 .f32) //
      ∀ (E : Set ℕ) (K : PUnit → sProp 𝕄) (y7 : Vec F S1x3x4096 .f32),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ (∃ f, (arg10.view.loc (c : Thread nD τ) ↦[arg10.view.set]{fullShare} arg10.view.writes (Elt F) f LS0)) ∗ (∃ f, (arg11.view.loc (c : Thread nD τ) ↦[arg11.view.set]{fullShare} arg11.view.writes (Elt F) f LS1)) ∗ (∃ f, (arg12.view.loc (c : Thread nD τ) ↦[arg12.view.set]{fullShare} arg12.view.writes (Elt F) f LS2)) ∗ (∃ f, (arg13.view.loc (c : Thread nD τ) ↦[arg13.view.set]{fullShare} arg13.view.writes (Elt F) f LS3)) ∗ (∃ f, (arg14.view.loc (c : Thread nD τ) ↦[arg14.view.set]{fullShare} arg14.view.writes (Elt F) f LS4))) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K y7 => ?run⟩
  case run =>
    simp only [cc0__body_eq_skeleton]; unfold cc0__body_skel
    simp only [k0_part1_eq_skeleton, k0_part21_eq_skeleton, k0_part22_eq_skeleton, k0_part23_eq_skeleton, part24_eq]
    unfold part24c
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact hf7
      iexact H7
    isplitl [HS0]; · iexists _; iexact HS0
    isplitl [HS1]; · iexists _; iexact HS1
    isplitl [HS2]; · iexists _; iexact HS2
    isplitl [HS3]; · iexists _; iexact HS3
    iexists _; iexact HS4

end Cert.KernelIdeal.Gen

end
-- ==== Proof.RunB.lean ====
module

public import proofs.«01_k».proof.Proof.Setup

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in case B: what it leaves in each buffer it stores into, as the list of its stores. -/
noncomputable def runB (c : Dev nD) (i : grid0.Coords) (arg2 : Memref sig .tc .vmem S1x1x8 .f32) (harg2 : arg2.IsWhole) (arg3 : Memref sig .tc .vmem S1x25x4096 .f32) (harg3 : arg3.IsWhole) (arg4 : Memref sig .tc .vmem S1x75x4096 .f32) (harg4 : arg4.IsWhole) (arg5 : Memref sig .tc .vmem S75x80 .f32) (harg5 : arg5.IsWhole) (arg6 : Memref sig .tc .vmem S80x1 .f32) (harg6 : arg6.IsWhole) (arg7 : Memref sig .tc .vmem S80x76 .f32) (harg7 : arg7.IsWhole) (arg8 : Memref sig .tc .vmem S76x1 .f32) (harg8 : arg8.IsWhole) (arg9 : Memref sig .tc .vmem S1x3x4096 .f32) (harg9 : arg9.IsWhole) (arg10 : Memref sig .tc .vmem S4096x80 .f32) (harg10 : arg10.IsWhole) (arg11 : Memref sig .tc .vmem S32x4096 .f32) (harg11 : arg11.IsWhole) (arg12 : Memref sig .tc .vmem S32x4096 .f32) (harg12 : arg12.IsWhole) (arg13 : Memref sig .tc .vmem S75x4608 .f32) (harg13 : arg13.IsWhole) (arg14 : Memref sig .tc .vmem S1x4608 .f32) (harg14 : arg14.IsWhole) (hc0 : ¬cond0_0 i) (hc1 : ¬cond0_1 i)
    (x0 : Vec F S1x1x8 .f32) (x1 : Vec F S1x25x4096 .f32) (x2 : Vec F S1x75x4096 .f32) (x3 : Vec F S75x80 .f32) (x4 : Vec F S80x1 .f32) (x5 : Vec F S80x76 .f32) (x6 : Vec F S76x1 .f32) (s0 : Vec F S4096x80 .f32) (s1 : Vec F S32x4096 .f32) (s2 : Vec F S32x4096 .f32) (s3 : Vec F S75x4608 .f32) (s4 : Vec F S1x4608 .f32) :
    Σ' (LS3 : List (View.Piece (Elt F) S75x4608 .f32)), { LS4 : List (View.Piece (Elt F) S1x4608 .f32) //
      ∀ (E : Set ℕ) (K : PUnit → sProp 𝕄) (y7 : Vec F S1x3x4096 .f32),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare s0 ∗ owns (c : Thread nD τ) arg11 fullShare s1 ∗ owns (c : Thread nD τ) arg12 fullShare s2 ∗ owns (c : Thread nD τ) arg13 fullShare s3 ∗ owns (c : Thread nD τ) arg14 fullShare s4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare s0 ∗ owns (c : Thread nD τ) arg11 fullShare s1 ∗ owns (c : Thread nD τ) arg12 fullShare s2 ∗ (arg13.view.loc (c : Thread nD τ) ↦[arg13.view.set]{fullShare} arg13.view.writes (Elt F) (harg13.unread s3) LS3) ∗ (arg14.view.loc (c : Thread nD τ) ↦[arg14.view.set]{fullShare} arg14.view.writes (Elt F) (harg14.unread s4) LS4)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K y7 => ?run⟩
  case run =>
    simp only [cc0__body_eq_skeleton]; unfold cc0__body_skel
    simp only [k0_part1_eq_skeleton, k0_part21_eq_skeleton, k0_part22_eq_skeleton, k0_part23_eq_skeleton, part24_eq]
    unfold part24c
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0; obtain rfl := harg11.eq_unread hfs1; obtain rfl := harg12.eq_unread hfs2; obtain rfl := harg13.eq_unread hfs3; obtain rfl := harg14.eq_unread hfs4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact hf7
      iexact H7
    isplitl [HS0]
    · iexists _; isplitr; · ipureintro; exact harg10.read_unread _
      iexact HS0
    isplitl [HS1]
    · iexists _; isplitr; · ipureintro; exact harg11.read_unread _
      iexact HS1
    isplitl [HS2]
    · iexists _; isplitr; · ipureintro; exact harg12.read_unread _
      iexact HS2
    isplitl [HS3]; · iexact HS3
    iexact HS4

end Cert.KernelIdeal.Gen

end
-- ==== Proof.RunC.lean ====
module

public import proofs.«01_k».proof.Proof.Setup

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in case C: what it leaves in each buffer it stores into, as the list of its stores. -/
noncomputable def runC (c : Dev nD) (i : grid0.Coords) (arg2 : Memref sig .tc .vmem S1x1x8 .f32) (harg2 : arg2.IsWhole) (arg3 : Memref sig .tc .vmem S1x25x4096 .f32) (harg3 : arg3.IsWhole) (arg4 : Memref sig .tc .vmem S1x75x4096 .f32) (harg4 : arg4.IsWhole) (arg5 : Memref sig .tc .vmem S75x80 .f32) (harg5 : arg5.IsWhole) (arg6 : Memref sig .tc .vmem S80x1 .f32) (harg6 : arg6.IsWhole) (arg7 : Memref sig .tc .vmem S80x76 .f32) (harg7 : arg7.IsWhole) (arg8 : Memref sig .tc .vmem S76x1 .f32) (harg8 : arg8.IsWhole) (arg9 : Memref sig .tc .vmem S1x3x4096 .f32) (harg9 : arg9.IsWhole) (arg10 : Memref sig .tc .vmem S4096x80 .f32) (harg10 : arg10.IsWhole) (arg11 : Memref sig .tc .vmem S32x4096 .f32) (harg11 : arg11.IsWhole) (arg12 : Memref sig .tc .vmem S32x4096 .f32) (harg12 : arg12.IsWhole) (arg13 : Memref sig .tc .vmem S75x4608 .f32) (harg13 : arg13.IsWhole) (arg14 : Memref sig .tc .vmem S1x4608 .f32) (harg14 : arg14.IsWhole) (hc0 : ¬cond0_0 i) (hc1 : cond0_1 i)
    (x0 : Vec F S1x1x8 .f32) (x1 : Vec F S1x25x4096 .f32) (x2 : Vec F S1x75x4096 .f32) (x3 : Vec F S75x80 .f32) (x4 : Vec F S80x1 .f32) (x5 : Vec F S80x76 .f32) (x6 : Vec F S76x1 .f32) (s0 : Vec F S4096x80 .f32) (s1 : Vec F S32x4096 .f32) (s2 : Vec F S32x4096 .f32) (s3 : Vec F S75x4608 .f32) (s4 : Vec F S1x4608 .f32) :
    Σ' (LO : List (View.Piece (Elt F) S1x3x4096 .f32)), Σ' (LS3 : List (View.Piece (Elt F) S75x4608 .f32)), { LS4 : List (View.Piece (Elt F) S1x4608 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare s0 ∗ owns (c : Thread nD τ) arg11 fullShare s1 ∗ owns (c : Thread nD τ) arg12 fullShare s2 ∗ owns (c : Thread nD τ) arg13 fullShare s3 ∗ owns (c : Thread nD τ) arg14 fullShare s4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, (arg9.view.loc (c : Thread nD τ) ↦[arg9.view.set]{fullShare} arg9.view.writes (Elt F) f LO)) ∗ owns (c : Thread nD τ) arg10 fullShare s0 ∗ owns (c : Thread nD τ) arg11 fullShare s1 ∗ owns (c : Thread nD τ) arg12 fullShare s2 ∗ (arg13.view.loc (c : Thread nD τ) ↦[arg13.view.set]{fullShare} arg13.view.writes (Elt F) (harg13.unread s3) LS3) ∗ (arg14.view.loc (c : Thread nD τ) ↦[arg14.view.set]{fullShare} arg14.view.writes (Elt F) (harg14.unread s4) LS4)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0__body_eq_skeleton]; unfold cc0__body_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, part24_eq]
    unfold part24c
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0; obtain rfl := harg11.eq_unread hfs1; obtain rfl := harg12.eq_unread hfs2; obtain rfl := harg13.eq_unread hfs3; obtain rfl := harg14.eq_unread hfs4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _; isplitr; · ipureintro; exact harg10.read_unread _
      iexact HS0
    isplitl [HS1]
    · iexists _; isplitr; · ipureintro; exact harg11.read_unread _
      iexact HS1
    isplitl [HS2]
    · iexists _; isplitr; · ipureintro; exact harg12.read_unread _
      iexact HS2
    isplitl [HS3]; · iexact HS3
    iexact HS4

end Cert.KernelIdeal.Gen

end
-- ==== Proof.Fold.lean ====
module

public import proofs.«01_k».proof.Proof.RunC
public import Idealize.ShloMosaic.Lib.WholeRead
public import Idealize.ShloMosaic.Lib.WritesUnit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a load through a rectangle reads of an array. -/
def pick {s : Shape} {α : Type} (X : s.Idx → α) (B : LoadRect s) : B.shape.Idx → α := fun x => X (B.idx x)

/-- A load through a whole buffer reads the picked entries. -/
theorem readAt_pick {sig : RefSig} {κ : Kind} {sp : Space} {s : Shape} {e : EltTy} {m : Memref sig κ sp s e} (h : m.IsWhole)
    (X : s.Idx → Elt F e) (B : LoadRect s) : View.readAt (Elt F) m.view B (h.unread X) = pick X B :=
  funext fun x => h.readAt_unread X B x

/-- The three rows the fold stores, from what its loads of the weighted patches, the weights and the scalars read. -/
def foldPieces (p2 : (B : LoadRect S1x1x8) → B.shape.Idx → F .f32) (p13 : (B : LoadRect S75x4608) → B.shape.Idx → F .f32)
    (p14 : (B : LoadRect S1x4608) → B.shape.Idx → F .f32) :
    List (View.Piece (Elt F) S1x3x4096 .f32) :=
  let v201 : Vec F S1x4096 .f32 := p14 (Rect.unit (s := S1x4608) ![0, 386] S1x4096.size inb_S1x4608_S1x4096_0_386).toLoadRect
  let v214 : Vec F S1x4096 .f32 := p14 (Rect.unit (s := S1x4608) ![0, 385] S1x4096.size inb_S1x4608_S1x4096_0_385).toLoadRect
  let v190 : IVec S1x4096 32 := k0_pay21
  let v200 : IVec S1x4096 1 := k0_pay22
  let v213 : IVec S1x4096 1 := k0_pay23
  let v217 : FVec F S1x4096 .f32 := k0_pay24 v201 v214
  let v226 : IVec S1x4096 1 := k0_pay25
  let v227 : Vec F S1x4096 .f32 := p14 (Rect.unit (s := S1x4608) ![0, 384] S1x4096.size inb_S1x4608_S1x4096_0_384).toLoadRect
  let v240 : Vec F S1x4096 .f32 := p14 (Rect.unit (s := S1x4608) ![0, 383] S1x4096.size inb_S1x4608_S1x4096_0_383).toLoadRect
  let v253 : Vec F S1x4096 .f32 := p14 (Rect.unit (s := S1x4608) ![0, 382] S1x4096.size inb_S1x4608_S1x4096_0_382).toLoadRect
  let v239 : IVec S1x4096 1 := k0_pay26 v190
  let v252 : IVec S1x4096 1 := k0_pay27 v190
  let v256 : FVec F S1x4096 .f32 := k0_pay28 v190 v217 v226 v227 v240 v253
  let v265 : IVec S1x4096 1 := k0_pay29 v190
  let v266 : Vec F S1x4096 .f32 := p14 (Rect.unit (s := S1x4608) ![0, 322] S1x4096.size inb_S1x4608_S1x4096_0_322).toLoadRect
  let v279 : Vec F S1x4096 .f32 := p14 (Rect.unit (s := S1x4608) ![0, 321] S1x4096.size inb_S1x4608_S1x4096_0_321).toLoadRect
  let v292 : Vec F S1x4096 .f32 := p14 (Rect.unit (s := S1x4608) ![0, 320] S1x4096.size inb_S1x4608_S1x4096_0_320).toLoadRect
  let v278 : IVec S1x4096 1 := k0_pay30 v190
  let v291 : IVec S1x4096 1 := k0_pay31 v190
  let v295 : FVec F S1x4096 .f32 := k0_pay32 v190 v256 v265 v266 v279 v292
  let v304 : IVec S1x4096 1 := k0_pay33 v190
  let v305 : Vec F S1x4096 .f32 := p14 (Rect.unit (s := S1x4608) ![0, 319] S1x4096.size inb_S1x4608_S1x4096_0_319).toLoadRect
  let v318 : Vec F S1x4096 .f32 := p14 (Rect.unit (s := S1x4608) ![0, 318] S1x4096.size inb_S1x4608_S1x4096_0_318).toLoadRect
  let v331 : Vec F S1x4096 .f32 := p14 (Rect.unit (s := S1x4608) ![0, 258] S1x4096.size inb_S1x4608_S1x4096_0_258).toLoadRect
  let v317 : IVec S1x4096 1 := k0_pay34 v190
  let v330 : IVec S1x4096 1 := k0_pay35 v190
  let v334 : FVec F S1x4096 .f32 := k0_pay36 v190 v295 v304 v305 v318 v331
  let v343 : IVec S1x4096 1 := k0_pay37 v190
  let v344 : Vec F S1x4096 .f32 := p14 (Rect.unit (s := S1x4608) ![0, 257] S1x4096.size inb_S1x4608_S1x4096_0_257).toLoadRect
  let v357 : Vec F S1x4096 .f32 := p14 (Rect.unit (s := S1x4608) ![0, 256] S1x4096.size inb_S1x4608_S1x4096_0_256).toLoadRect
  let v370 : Vec F S1x4096 .f32 := p14 (Rect.unit (s := S1x4608) ![0, 255] S1x4096.size inb_S1x4608_S1x4096_0_255).toLoadRect
  let v356 : IVec S1x4096 1 := k0_pay38 v190
  let v369 : IVec S1x4096 1 := k0_pay39 v190
  let v373 : FVec F S1x4096 .f32 := k0_pay40 v190 v334 v343 v344 v357 v370
  let v382 : IVec S1x4096 1 := k0_pay41 v190
  let v383 : Vec F S1x4096 .f32 := p14 (Rect.unit (s := S1x4608) ![0, 254] S1x4096.size inb_S1x4608_S1x4096_0_254).toLoadRect
  let v396 : Vec F S1x4096 .f32 := p14 (Rect.unit (s := S1x4608) ![0, 194] S1x4096.size inb_S1x4608_S1x4096_0_194).toLoadRect
  let v409 : Vec F S1x4096 .f32 := p14 (Rect.unit (s := S1x4608) ![0, 193] S1x4096.size inb_S1x4608_S1x4096_0_193).toLoadRect
  let v395 : IVec S1x4096 1 := k0_pay42 v190
  let v408 : IVec S1x4096 1 := k0_pay43 v190
  let v412 : FVec F S1x4096 .f32 := k0_pay44 v190 v373 v382 v383 v396 v409
  let v421 : IVec S1x4096 1 := k0_pay45 v190
  let v422 : Vec F S1x4096 .f32 := p14 (Rect.unit (s := S1x4608) ![0, 192] S1x4096.size inb_S1x4608_S1x4096_0_192).toLoadRect
  let v435 : Vec F S1x4096 .f32 := p14 (Rect.unit (s := S1x4608) ![0, 191] S1x4096.size inb_S1x4608_S1x4096_0_191).toLoadRect
  let v448 : Vec F S1x4096 .f32 := p14 (Rect.unit (s := S1x4608) ![0, 190] S1x4096.size inb_S1x4608_S1x4096_0_190).toLoadRect
  let v434 : IVec S1x4096 1 := k0_pay46 v190
  let v447 : IVec S1x4096 1 := k0_pay47 v190
  let v451 : FVec F S1x4096 .f32 := k0_pay48 v190 v412 v421 v422 v435 v448
  let v460 : IVec S1x4096 1 := k0_pay49 v190
  let v461 : Vec F S1x4096 .f32 := p14 (Rect.unit (s := S1x4608) ![0, 130] S1x4096.size inb_S1x4608_S1x4096_0_130).toLoadRect
  let v474 : Vec F S1x4096 .f32 := p14 (Rect.unit (s := S1x4608) ![0, 129] S1x4096.size inb_S1x4608_S1x4096_0_129).toLoadRect
  let v487 : Vec F S1x4096 .f32 := p14 (Rect.unit (s := S1x4608) ![0, 128] S1x4096.size inb_S1x4608_S1x4096_0_128).toLoadRect
  let v473 : IVec S1x4096 1 := k0_pay50 v190
  let v486 : IVec S1x4096 1 := k0_pay51 v190
  let v490 : FVec F S1x4096 .f32 := k0_pay52 v190 v451 v460 v461 v474 v487
  let v499 : IVec S1x4096 1 := k0_pay53 v190
  let v500 : Vec F S1x4096 .f32 := p14 (Rect.unit (s := S1x4608) ![0, 127] S1x4096.size inb_S1x4608_S1x4096_0_127).toLoadRect
  let v513 : Vec F S1x4096 .f32 := p14 (Rect.unit (s := S1x4608) ![0, 126] S1x4096.size inb_S1x4608_S1x4096_0_126).toLoadRect
  let v522 : Vec F S1x4096 .f32 := p13 (Rect.unit (s := S75x4608) ![0, 386] S1x4096.size inb_S75x4608_S1x4096_0_386).toLoadRect
  let v526 : Vec F S1x4096 .f32 := p13 (Rect.unit (s := S75x4608) ![1, 385] S1x4096.size inb_S75x4608_S1x4096_1_385).toLoadRect
  let v530 : Vec F S1x4096 .f32 := p13 (Rect.unit (s := S75x4608) ![2, 384] S1x4096.size inb_S75x4608_S1x4096_2_384).toLoadRect
  let v534 : Vec F S1x4096 .f32 := p13 (Rect.unit (s := S75x4608) ![3, 383] S1x4096.size inb_S75x4608_S1x4096_3_383).toLoadRect
  let v512 : IVec S1x4096 1 := k0_pay54 v190
  let v520 : FVec F S1x4096 .f32 := k0_pay55 v190 v490 v499 v500 v513
  let v533 : FVec F S1x4096 .f32 := k0_pay56 v200 v213 v226 v522 v526 v530
  let v535 : FVec F S1x4096 .f32 := k0_pay57 (F := F)
  let v538 : Vec F S1x4096 .f32 := p13 (Rect.unit (s := S75x4608) ![4, 382] S1x4096.size inb_S75x4608_S1x4096_4_382).toLoadRect
  let v542 : Vec F S1x4096 .f32 := p13 (Rect.unit (s := S75x4608) ![5, 322] S1x4096.size inb_S75x4608_S1x4096_5_322).toLoadRect
  let v546 : Vec F S1x4096 .f32 := p13 (Rect.unit (s := S75x4608) ![6, 321] S1x4096.size inb_S75x4608_S1x4096_6_321).toLoadRect
  let v550 : Vec F S1x4096 .f32 := p13 (Rect.unit (s := S75x4608) ![7, 320] S1x4096.size inb_S75x4608_S1x4096_7_320).toLoadRect
  let v554 : Vec F S1x4096 .f32 := p13 (Rect.unit (s := S75x4608) ![8, 319] S1x4096.size inb_S75x4608_S1x4096_8_319).toLoadRect
  let v558 : Vec F S1x4096 .f32 := p13 (Rect.unit (s := S75x4608) ![9, 318] S1x4096.size inb_S75x4608_S1x4096_9_318).toLoadRect
  let v562 : Vec F S1x4096 .f32 := p13 (Rect.unit (s := S75x4608) ![10, 258] S1x4096.size inb_S75x4608_S1x4096_10_258).toLoadRect
  let v566 : Vec F S1x4096 .f32 := p13 (Rect.unit (s := S75x4608) ![11, 257] S1x4096.size inb_S75x4608_S1x4096_11_257).toLoadRect
  let v569 : FVec F S1x4096 .f32 := k0_pay58 v239 v252 v265 v278 v291 v304 v317 v330 v343 v533 v534 v535 v538 v542 v546 v550 v554 v558 v562 v566
  let v570 : Vec F S1x4096 .f32 := p13 (Rect.unit (s := S75x4608) ![12, 256] S1x4096.size inb_S75x4608_S1x4096_12_256).toLoadRect
  let v574 : Vec F S1x4096 .f32 := p13 (Rect.unit (s := S75x4608) ![13, 255] S1x4096.size inb_S75x4608_S1x4096_13_255).toLoadRect
  let v578 : Vec F S1x4096 .f32 := p13 (Rect.unit (s := S75x4608) ![14, 254] S1x4096.size inb_S75x4608_S1x4096_14_254).toLoadRect
  let v582 : Vec F S1x4096 .f32 := p13 (Rect.unit (s := S75x4608) ![15, 194] S1x4096.size inb_S75x4608_S1x4096_15_194).toLoadRect
  let v586 : Vec F S1x4096 .f32 := p13 (Rect.unit (s := S75x4608) ![16, 193] S1x4096.size inb_S75x4608_S1x4096_16_193).toLoadRect
  let v590 : Vec F S1x4096 .f32 := p13 (Rect.unit (s := S75x4608) ![17, 192] S1x4096.size inb_S75x4608_S1x4096_17_192).toLoadRect
  let v594 : Vec F S1x4096 .f32 := p13 (Rect.unit (s := S75x4608) ![18, 191] S1x4096.size inb_S75x4608_S1x4096_18_191).toLoadRect
  let v598 : Vec F S1x4096 .f32 := p13 (Rect.unit (s := S75x4608) ![19, 190] S1x4096.size inb_S75x4608_S1x4096_19_190).toLoadRect
  let v602 : Vec F S1x4096 .f32 := p13 (Rect.unit (s := S75x4608) ![20, 130] S1x4096.size inb_S75x4608_S1x4096_20_130).toLoadRect
  let v601 : FVec F S1x4096 .f32 := k0_pay59 v356 v369 v382 v395 v408 v421 v434 v447 v569 v570 v574 v578 v582 v586 v590 v594 v598
  let v604 : Vec F S1x4096 .f32 := k0_pay60 v460 v602
  let v606 : Vec F S1x4096 .f32 := p13 (Rect.unit (s := S75x4608) ![21, 129] S1x4096.size inb_S75x4608_S1x4096_21_129).toLoadRect
  let v610 : Vec F S1x4096 .f32 := p13 (Rect.unit (s := S75x4608) ![22, 128] S1x4096.size inb_S75x4608_S1x4096_22_128).toLoadRect
  let v614 : Vec F S1x4096 .f32 := p13 (Rect.unit (s := S75x4608) ![23, 127] S1x4096.size inb_S75x4608_S1x4096_23_127).toLoadRect
  let v618 : Vec F S1x4096 .f32 := p13 (Rect.unit (s := S75x4608) ![24, 126] S1x4096.size inb_S75x4608_S1x4096_24_126).toLoadRect
  let v622 : Vec F S1x1x1 .f32 := p2 (Rect.unit (s := S1x1x8) ![0, 0, 1] S1x1x1.size inb_S1x1x8_S1x1x1_0_0_1).toLoadRect
  let v637 : Vec F S1x4096 .f32 := p13 (Rect.unit (s := S75x4608) ![25, 386] S1x4096.size inb_S75x4608_S1x4096_25_386).toLoadRect
  let v636 : FVec F S1x4096 .f32 := k0_pay62 (F := F)
  let v639 : Vec F S1x4096 .f32 := k0_pay63 v200 v637
  let v641 : Vec F S1x4096 .f32 := p13 (Rect.unit (s := S75x4608) ![26, 385] S1x4096.size inb_S75x4608_S1x4096_26_385).toLoadRect
  let v645 : Vec F S1x4096 .f32 := p13 (Rect.unit (s := S75x4608) ![27, 384] S1x4096.size inb_S75x4608_S1x4096_27_384).toLoadRect
  let v649 : Vec F S1x4096 .f32 := p13 (Rect.unit (s := S75x4608) ![28, 383] S1x4096.size inb_S75x4608_S1x4096_28_383).toLoadRect
  let v653 : Vec F S1x4096 .f32 := p13 (Rect.unit (s := S75x4608) ![29, 382] S1x4096.size inb_S75x4608_S1x4096_29_382).toLoadRect
  let v657 : Vec F S1x4096 .f32 := p13 (Rect.unit (s := S75x4608) ![30, 322] S1x4096.size inb_S75x4608_S1x4096_30_322).toLoadRect
  let v661 : Vec F S1x4096 .f32 := p13 (Rect.unit (s := S75x4608) ![31, 321] S1x4096.size inb_S75x4608_S1x4096_31_321).toLoadRect
  let v665 : Vec F S1x4096 .f32 := p13 (Rect.unit (s := S75x4608) ![32, 320] S1x4096.size inb_S75x4608_S1x4096_32_320).toLoadRect
  let v669 : Vec F S1x4096 .f32 := p13 (Rect.unit (s := S75x4608) ![33, 319] S1x4096.size inb_S75x4608_S1x4096_33_319).toLoadRect
  let v673 : Vec F S1x4096 .f32 := p13 (Rect.unit (s := S75x4608) ![34, 318] S1x4096.size inb_S75x4608_S1x4096_34_318).toLoadRect
  let v672 : FVec F S1x4096 .f32 := k0_pay64 v213 v226 v239 v252 v265 v278 v291 v304 v636 v639 v641 v645 v649 v653 v657 v661 v665 v669
  let v677 : Vec F S1x4096 .f32 := p13 (Rect.unit (s := S75x4608) ![35, 258] S1x4096.size inb_S75x4608_S1x4096_35_258).toLoadRect
  let v681 : Vec F S1x4096 .f32 := p13 (Rect.unit (s := S75x4608) ![36, 257] S1x4096.size inb_S75x4608_S1x4096_36_257).toLoadRect
  let v685 : Vec F S1x4096 .f32 := p13 (Rect.unit (s := S75x4608) ![37, 256] S1x4096.size inb_S75x4608_S1x4096_37_256).toLoadRect
  let v689 : Vec F S1x4096 .f32 := p13 (Rect.unit (s := S75x4608) ![38, 255] S1x4096.size inb_S75x4608_S1x4096_38_255).toLoadRect
  let v693 : Vec F S1x4096 .f32 := p13 (Rect.unit (s := S75x4608) ![39, 254] S1x4096.size inb_S75x4608_S1x4096_39_254).toLoadRect
  let v697 : Vec F S1x4096 .f32 := p13 (Rect.unit (s := S75x4608) ![40, 194] S1x4096.size inb_S75x4608_S1x4096_40_194).toLoadRect
  let v701 : Vec F S1x4096 .f32 := p13 (Rect.unit (s := S75x4608) ![41, 193] S1x4096.size inb_S75x4608_S1x4096_41_193).toLoadRect
  let v705 : Vec F S1x4096 .f32 := p13 (Rect.unit (s := S75x4608) ![42, 192] S1x4096.size inb_S75x4608_S1x4096_42_192).toLoadRect
  let v708 : FVec F S1x4096 .f32 := k0_pay65 v317 v330 v343 v356 v369 v382 v395 v408 v421 v672 v673 v677 v681 v685 v689 v693 v697 v701 v705
  let v709 : Vec F S1x4096 .f32 := p13 (Rect.unit (s := S75x4608) ![43, 191] S1x4096.size inb_S75x4608_S1x4096_43_191).toLoadRect
  let v713 : Vec F S1x4096 .f32 := p13 (Rect.unit (s := S75x4608) ![44, 190] S1x4096.size inb_S75x4608_S1x4096_44_190).toLoadRect
  let v717 : Vec F S1x4096 .f32 := p13 (Rect.unit (s := S75x4608) ![45, 130] S1x4096.size inb_S75x4608_S1x4096_45_130).toLoadRect
  let v721 : Vec F S1x4096 .f32 := p13 (Rect.unit (s := S75x4608) ![46, 129] S1x4096.size inb_S75x4608_S1x4096_46_129).toLoadRect
  let v725 : Vec F S1x4096 .f32 := p13 (Rect.unit (s := S75x4608) ![47, 128] S1x4096.size inb_S75x4608_S1x4096_47_128).toLoadRect
  let v729 : Vec F S1x4096 .f32 := p13 (Rect.unit (s := S75x4608) ![48, 127] S1x4096.size inb_S75x4608_S1x4096_48_127).toLoadRect
  let v733 : Vec F S1x4096 .f32 := p13 (Rect.unit (s := S75x4608) ![49, 126] S1x4096.size inb_S75x4608_S1x4096_49_126).toLoadRect
  let v737 : Vec F S1x1x1 .f32 := p2 (Rect.unit (s := S1x1x8) ![0, 0, 2] S1x1x1.size inb_S1x1x8_S1x1x1_0_0_2).toLoadRect
  let cst_331 : F .f32 := Scalar.ofBits .f32 0x42FF0000#32
  let v743 : FVec F S4096 .f32 := k0_pay66 v434 v447 v460 v473 v486 v499 v512 v520 v708 v709 v713 v717 v721 v725 v729 v733 v737
  let v752 : Vec F S1x4096 .f32 := p13 (Rect.unit (s := S75x4608) ![50, 386] S1x4096.size inb_S75x4608_S1x4096_50_386).toLoadRect
  let v756 : Vec F S1x4096 .f32 := p13 (Rect.unit (s := S75x4608) ![51, 385] S1x4096.size inb_S75x4608_S1x4096_51_385).toLoadRect
  let v760 : Vec F S1x4096 .f32 := p13 (Rect.unit (s := S75x4608) ![52, 384] S1x4096.size inb_S75x4608_S1x4096_52_384).toLoadRect
  let v764 : Vec F S1x4096 .f32 := p13 (Rect.unit (s := S75x4608) ![53, 383] S1x4096.size inb_S75x4608_S1x4096_53_383).toLoadRect
  let v768 : Vec F S1x4096 .f32 := p13 (Rect.unit (s := S75x4608) ![54, 382] S1x4096.size inb_S75x4608_S1x4096_54_382).toLoadRect
  let v772 : Vec F S1x4096 .f32 := p13 (Rect.unit (s := S75x4608) ![55, 322] S1x4096.size inb_S75x4608_S1x4096_55_322).toLoadRect
  let v776 : Vec F S1x4096 .f32 := p13 (Rect.unit (s := S75x4608) ![56, 321] S1x4096.size inb_S75x4608_S1x4096_56_321).toLoadRect
  let cst_350 : F .f32 := Scalar.ofBits .f32 0x00000000#32
  let v775 : FVec F S1x4096 .f32 := k0_pay68 v200 v213 v226 v239 v252 v265 v752 v756 v760 v764 v768 v772
  let v780 : Vec F S1x4096 .f32 := p13 (Rect.unit (s := S75x4608) ![57, 320] S1x4096.size inb_S75x4608_S1x4096_57_320).toLoadRect
  let v784 : Vec F S1x4096 .f32 := p13 (Rect.unit (s := S75x4608) ![58, 319] S1x4096.size inb_S75x4608_S1x4096_58_319).toLoadRect
  let v788 : Vec F S1x4096 .f32 := p13 (Rect.unit (s := S75x4608) ![59, 318] S1x4096.size inb_S75x4608_S1x4096_59_318).toLoadRect
  let v792 : Vec F S1x4096 .f32 := p13 (Rect.unit (s := S75x4608) ![60, 258] S1x4096.size inb_S75x4608_S1x4096_60_258).toLoadRect
  let v796 : Vec F S1x4096 .f32 := p13 (Rect.unit (s := S75x4608) ![61, 257] S1x4096.size inb_S75x4608_S1x4096_61_257).toLoadRect
  let v800 : Vec F S1x4096 .f32 := p13 (Rect.unit (s := S75x4608) ![62, 256] S1x4096.size inb_S75x4608_S1x4096_62_256).toLoadRect
  let v804 : Vec F S1x4096 .f32 := p13 (Rect.unit (s := S75x4608) ![63, 255] S1x4096.size inb_S75x4608_S1x4096_63_255).toLoadRect
  let v808 : Vec F S1x4096 .f32 := p13 (Rect.unit (s := S75x4608) ![64, 254] S1x4096.size inb_S75x4608_S1x4096_64_254).toLoadRect
  let v811 : FVec F S1x4096 .f32 := k0_pay69 v278 v291 v304 v317 v330 v343 v356 v369 v382 v775 v776 cst_350 v780 v784 v788 v792 v796 v800 v804 v808
  let v812 : Vec F S1x4096 .f32 := p13 (Rect.unit (s := S75x4608) ![65, 194] S1x4096.size inb_S75x4608_S1x4096_65_194).toLoadRect
  let v816 : Vec F S1x4096 .f32 := p13 (Rect.unit (s := S75x4608) ![66, 193] S1x4096.size inb_S75x4608_S1x4096_66_193).toLoadRect
  let v820 : Vec F S1x4096 .f32 := p13 (Rect.unit (s := S75x4608) ![67, 192] S1x4096.size inb_S75x4608_S1x4096_67_192).toLoadRect
  let v824 : Vec F S1x4096 .f32 := p13 (Rect.unit (s := S75x4608) ![68, 191] S1x4096.size inb_S75x4608_S1x4096_68_191).toLoadRect
  let v828 : Vec F S1x4096 .f32 := p13 (Rect.unit (s := S75x4608) ![69, 190] S1x4096.size inb_S75x4608_S1x4096_69_190).toLoadRect
  let v832 : Vec F S1x4096 .f32 := p13 (Rect.unit (s := S75x4608) ![70, 130] S1x4096.size inb_S75x4608_S1x4096_70_130).toLoadRect
  let v836 : Vec F S1x4096 .f32 := p13 (Rect.unit (s := S75x4608) ![71, 129] S1x4096.size inb_S75x4608_S1x4096_71_129).toLoadRect
  let v840 : Vec F S1x4096 .f32 := p13 (Rect.unit (s := S75x4608) ![72, 128] S1x4096.size inb_S75x4608_S1x4096_72_128).toLoadRect
  let v844 : Vec F S1x4096 .f32 := p13 (Rect.unit (s := S75x4608) ![73, 127] S1x4096.size inb_S75x4608_S1x4096_73_127).toLoadRect
  let v843 : FVec F S1x4096 .f32 := k0_pay70 v395 v408 v421 v434 v447 v460 v473 v486 v811 v812 v816 v820 v824 v828 v832 v836 v840
  let v845 : FVec F S1x4096 .f32 := k0_pay71 (F := F)
  let v848 : Vec F S1x4096 .f32 := p13 (Rect.unit (s := S75x4608) ![74, 126] S1x4096.size inb_S75x4608_S1x4096_74_126).toLoadRect
  let v852 : Vec F S1x1x1 .f32 := p2 (Rect.unit (s := S1x1x8) ![0, 0, 3] S1x1x1.size inb_S1x1x8_S1x1x1_0_0_3).toLoadRect
  [⟨Rect.unit (s := S1x3x4096) ![0, 2, 0] S1x1x4096.size inb_S1x3x4096_S1x1x4096_0_2_0, k0_pay3 v499 v512 v520 v843 v844 v845 v848 v852⟩,
    ⟨Rect.unit (s := S1x3x4096) ![0, 1, 0] S1x1x4096.size inb_S1x3x4096_S1x1x4096_0_1_0, k0_pay67 v743 cst_331⟩,
    ⟨Rect.unit (s := S1x3x4096) ![0, 0, 0] S1x1x4096.size inb_S1x3x4096_S1x1x4096_0_0_0, k0_pay61 v473 v486 v499 v512 v520 v601 v604 v606 v610 v614 v618 v622⟩]

end Cert.KernelIdeal.Gen

end
-- ==== Proof.Spec.lean ====
module

public import proofs.«01_k».proof.Proof.RunA
public import proofs.«01_k».proof.Proof.RunB
public import proofs.«01_k».proof.Proof.Fold
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (put)

/-- The literal the kernel puts in the place of excluded distances. -/
def bigF : F .f32 := Scalar.ofBits .f32 0x7F61B1E6#32

/-- What the initialisation leaves in the first 32-row scratch: the doubled negated patches, their squared norms, zeros. -/
def AOf (base : Vec F S32x4096 .f32) (x1 : Vec F S1x25x4096 .f32) : Vec F S32x4096 .f32 :=
  put (put (put base ![0, 0] S25x4096.size (k0_pay6 x1)) ![25, 0] S1x4096.size (k0_pay7 x1)) ![26, 0] S6x4096.size k0_pay8

/-- What the initialisation leaves in the second 32-row scratch: the patches, ones, zeros. -/
def BOf (base : Vec F S32x4096 .f32) (x1 : Vec F S1x25x4096 .f32) : Vec F S32x4096 .f32 :=
  put (put (put base ![0, 0] S25x4096.size (k0_pay9 x1)) ![25, 0] S1x4096.size (k0_pay72 k0_pay10)) ![26, 0] S6x4096.size k0_pay73

/-- A constant array, for the places every store covers. -/
def zero32 : Vec F S32x4096 .f32 := fun _ => Scalar.ofBits .f32 0#32

/-- The three blocks of rows fill the 32 rows: what was there before does not matter. -/
theorem put3_cover {α : Type} (b b' : S32x4096.Idx → α) (w1 : ((a : Fin 2) → Fin (S25x4096.size a)) → α) (w2 : ((a : Fin 2) → Fin (S1x4096.size a)) → α)
    (w3 : ((a : Fin 2) → Fin (S6x4096.size a)) → α) :
    put (put (put b ![0, 0] S25x4096.size w1) ![25, 0] S1x4096.size w2) ![26, 0] S6x4096.size w3
      = put (put (put b' ![0, 0] S25x4096.size w1) ![25, 0] S1x4096.size w2) ![26, 0] S6x4096.size w3 := by
  funext y
  have h0 : (y 0).val < 32 := (y 0).isLt
  have h1 : (y 1).val < 4096 := (y 1).isLt
  unfold put
  split_ifs with ha hb hc
  · rfl
  · rfl
  · rfl
  · exfalso
    simp only [not_forall] at ha hb hc
    obtain ⟨a, ha⟩ := ha
    obtain ⟨b, hb⟩ := hb
    obtain ⟨c, hc⟩ := hc
    have ea : a = 0 ∨ a = 1 := by fin_cases a <;> simp
    have eb : b = 0 ∨ b = 1 := by fin_cases b <;> simp
    have ec : c = 0 ∨ c = 1 := by fin_cases c <;> simp
    have k0 : S6x4096.size (0 : Fin 2) = 6 := rfl
    have k1 : S6x4096.size (1 : Fin 2) = 4096 := rfl
    have k2 : S1x4096.size (0 : Fin 2) = 1 := rfl
    have k3 : S1x4096.size (1 : Fin 2) = 4096 := rfl
    have k4 : S25x4096.size (0 : Fin 2) = 25 := rfl
    have k5 : S25x4096.size (1 : Fin 2) = 4096 := rfl
    rcases ea with rfl | rfl <;> rcases eb with rfl | rfl <;> rcases ec with rfl | rfl <;>
      simp only [Matrix.cons_val_zero, Matrix.cons_val_one, Matrix.cons_val_fin_one, k0, k1, k2, k3, k4, k5] at ha hb hc <;> omega

/-- The fourteen rows of smallest distances the block goes on with, from the block's patches and all patches. -/
def mselF (v5 : Vec F S32x256 .f32) (v6 : Vec F S32x4096 .f32) : FVec F S14x256 .f32 :=
  let v7 := k0_pay78 v5 v6
  let v33 := k0_pay84 v5 v6
  let v34 := k0_pay85 v5 v6
  let v36 := k0_pay86 v5 v6
  let v38 := k0_pay87 v5 v6
  let v42 := k0_pay88 v34 v38 bigF
  let v48 := k0_pay89 v34 v38 bigF
  let v54 := k0_pay90 v34 v38 bigF
  let v60 := k0_pay91 v34 v38 bigF
  let v66 := k0_pay92 v34 v38 bigF
  let v72 := k0_pay93 v34 v38 bigF
  let v78 := k0_pay94 v34 v38 bigF
  let v83 := k0_pay95 v34 v38 bigF
  msel v7 (k0_pay96 v34 v36 v42 v48 v54 v60 v66 v72 v78 v83)
    (Scalar.extui (Scalar.cmpf .ogt (k0_pay97 v33 v34 v36 v42 v48 v54 v60 v66 v72 v78 v83) (Scalar.ofBits .f32 0x3F000000#32))) bigF 0#32

/-- The block of weights from the loaded arrays. -/
def wF (v5 : Vec F S32x256 .f32) (v6 : Vec F S32x4096 .f32) (v132 : Vec F S1x1x1 .f32) (v151 : Vec F S4096x80 .f32)
    (v155 : Vec F S80x1 .f32) (v161 : Vec F S80x76 .f32) (v164 : Vec F S76x1 .f32) : FVec F S1x256 .f32 :=
  k0_pay100 (k0_pay78 v5 v6) (mselF v5 v6) v132 v151 v155 v161 v164

/-- The block of patches from the loaded arrays, before the weighting. -/
def pF (v5 : Vec F S32x256 .f32) (v6 : Vec F S32x4096 .f32) (v132 : Vec F S1x1x1 .f32) (v151 : Vec F S4096x80 .f32)
    (v155 : Vec F S80x1 .f32) (v161 : Vec F S80x76 .f32) (v164 : Vec F S76x1 .f32) : FVec F S75x256 .f32 :=
  k0_pay101 (k0_pay78 v5 v6) (mselF v5 v6) v132 v151 v155 v161 v164

/-- The block's own patches. -/
def qOf (i : grid0.Coords) (s2 : Vec F S32x4096 .f32) : Vec F S32x256 .f32 :=
  pick s2 (Rect.unit (s := S32x4096) (k0_off1 i) S32x256.size (k0_off1_inb i)).toLoadRect

/-- The temperature of the image. -/
def tOf (x0 : Vec F S1x1x8 .f32) : Vec F S1x1x1 .f32 :=
  pick x0 (Rect.unit (s := S1x1x8) ![0, 0, 0] S1x1x1.size inb_S1x1x8_S1x1x1_0_0_0).toLoadRect

/-- The block of weighted patches stored at a grid point. -/
def blkI (i : grid0.Coords) (x0 : Vec F S1x1x8 .f32) (x4 : Vec F S80x1 .f32) (x5 : Vec F S80x76 .f32) (x6 : Vec F S76x1 .f32)
    (s0 : Vec F S4096x80 .f32) (s1 s2 : Vec F S32x4096 .f32) : FVec F S75x256 .f32 :=
  k0_pay1 (wF (qOf i s2) s1 (tOf x0) s0 x4 x5 x6) (pF (qOf i s2) s1 (tOf x0) s0 x4 x5 x6)

/-- The block of weights stored at a grid point. -/
def blkP (i : grid0.Coords) (x0 : Vec F S1x1x8 .f32) (x4 : Vec F S80x1 .f32) (x5 : Vec F S80x76 .f32) (x6 : Vec F S76x1 .f32)
    (s0 : Vec F S4096x80 .f32) (s1 s2 : Vec F S32x4096 .f32) : FVec F S1x256 .f32 :=
  k0_pay2 (wF (qOf i s2) s1 (tOf x0) s0 x4 x5 x6)

/-- A load reads the picked entries of what the view reads. -/
theorem readAt_eq_pick {sig : RefSig} {κ : Kind} {sp : Space} {s : Shape} {e : EltTy} (v : View sig κ sp s e)
    (f : v.ty.Contents (Elt F)) (B : LoadRect s) : View.readAt (Elt F) v B f = pick (v.read (Elt F) f) B := rfl

/-- Picking a whole array. -/
theorem pick_full {s : Shape} {α : Type} (X : s.Idx → α) {off : Fin s.rank → ℕ} (inb : ∀ a, off a + s.size a ≤ s.size a) :
    pick X (Rect.unit off s.size inb).toLoadRect = X := by
  funext y
  exact congrArg X (funext fun a => Fin.ext (by
    show off a + 1 * (y a).val = (y a).val
    have := inb a; omega))

set_option maxHeartbeats 2000000 in
/-- What this run stores into the carried buffer is the block. -/
theorem runB_imr (c : Dev nD) (i : grid0.Coords) (arg2 : Memref sig .tc .vmem S1x1x8 .f32) (harg2 : arg2.IsWhole) (arg3 : Memref sig .tc .vmem S1x25x4096 .f32) (harg3 : arg3.IsWhole) (arg4 : Memref sig .tc .vmem S1x75x4096 .f32) (harg4 : arg4.IsWhole) (arg5 : Memref sig .tc .vmem S75x80 .f32) (harg5 : arg5.IsWhole) (arg6 : Memref sig .tc .vmem S80x1 .f32) (harg6 : arg6.IsWhole) (arg7 : Memref sig .tc .vmem S80x76 .f32) (harg7 : arg7.IsWhole) (arg8 : Memref sig .tc .vmem S76x1 .f32) (harg8 : arg8.IsWhole) (arg9 : Memref sig .tc .vmem S1x3x4096 .f32) (harg9 : arg9.IsWhole) (arg10 : Memref sig .tc .vmem S4096x80 .f32) (harg10 : arg10.IsWhole) (arg11 : Memref sig .tc .vmem S32x4096 .f32) (harg11 : arg11.IsWhole) (arg12 : Memref sig .tc .vmem S32x4096 .f32) (harg12 : arg12.IsWhole) (arg13 : Memref sig .tc .vmem S75x4608 .f32) (harg13 : arg13.IsWhole) (arg14 : Memref sig .tc .vmem S1x4608 .f32) (harg14 : arg14.IsWhole) (hc0 : ¬cond0_0 i) (hc1 : ¬cond0_1 i) (x0 : Vec F S1x1x8 .f32) (x1 : Vec F S1x25x4096 .f32) (x2 : Vec F S1x75x4096 .f32) (x3 : Vec F S75x80 .f32) (x4 : Vec F S80x1 .f32) (x5 : Vec F S80x76 .f32) (x6 : Vec F S76x1 .f32) (s0 : Vec F S4096x80 .f32) (s1 : Vec F S32x4096 .f32) (s2 : Vec F S32x4096 .f32) (s3 : Vec F S75x4608 .f32) (s4 : Vec F S1x4608 .f32) :
    arg13.view.read (Elt F) (arg13.view.writes (Elt F) (harg13.unread s3) (runB c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 s0 s1 s2 s3 s4).1)
      = put s3 (k0_off2 i) S75x256.size (blkI i x0 x4 x5 x6 s0 s1 s2) := by
  have e : (runB c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 s0 s1 s2 s3 s4).1 = [⟨Rect.unit (k0_off2 i) S75x256.size (k0_off2_inb i), k0_pay1 (wF (View.readAt (Elt F) arg12.view (Rect.unit (s := S32x4096) (k0_off1 i) S32x256.size (k0_off1_inb i)).toLoadRect (harg12.unread s2)) (View.readAt (Elt F) arg11.view (Rect.unit (s := S32x4096) ![0, 0] S32x4096.size inb_S32x4096_S32x4096_0_0).toLoadRect (harg11.unread s1)) (View.readAt (Elt F) arg2.view (Rect.unit (s := S1x1x8) ![0, 0, 0] S1x1x1.size inb_S1x1x8_S1x1x1_0_0_0).toLoadRect (harg2.unread x0)) (View.readAt (Elt F) arg10.view (Rect.unit (s := S4096x80) ![0, 0] S4096x80.size inb_S4096x80_S4096x80_0_0).toLoadRect (harg10.unread s0)) (View.readAt (Elt F) arg6.view (Rect.unit (s := S80x1) ![0, 0] S80x1.size inb_S80x1_S80x1_0_0).toLoadRect (harg6.unread x4)) (View.readAt (Elt F) arg7.view (Rect.unit (s := S80x76) ![0, 0] S80x76.size inb_S80x76_S80x76_0_0).toLoadRect (harg7.unread x5)) (View.readAt (Elt F) arg8.view (Rect.unit (s := S76x1) ![0, 0] S76x1.size inb_S76x1_S76x1_0_0).toLoadRect (harg8.unread x6))) (pF (View.readAt (Elt F) arg12.view (Rect.unit (s := S32x4096) (k0_off1 i) S32x256.size (k0_off1_inb i)).toLoadRect (harg12.unread s2)) (View.readAt (Elt F) arg11.view (Rect.unit (s := S32x4096) ![0, 0] S32x4096.size inb_S32x4096_S32x4096_0_0).toLoadRect (harg11.unread s1)) (View.readAt (Elt F) arg2.view (Rect.unit (s := S1x1x8) ![0, 0, 0] S1x1x1.size inb_S1x1x8_S1x1x1_0_0_0).toLoadRect (harg2.unread x0)) (View.readAt (Elt F) arg10.view (Rect.unit (s := S4096x80) ![0, 0] S4096x80.size inb_S4096x80_S4096x80_0_0).toLoadRect (harg10.unread s0)) (View.readAt (Elt F) arg6.view (Rect.unit (s := S80x1) ![0, 0] S80x1.size inb_S80x1_S80x1_0_0).toLoadRect (harg6.unread x4)) (View.readAt (Elt F) arg7.view (Rect.unit (s := S80x76) ![0, 0] S80x76.size inb_S80x76_S80x76_0_0).toLoadRect (harg7.unread x5)) (View.readAt (Elt F) arg8.view (Rect.unit (s := S76x1) ![0, 0] S76x1.size inb_S76x1_S76x1_0_0).toLoadRect (harg8.unread x6)))⟩] := rfl
  rw [readAt_pick harg12, readAt_pick harg11, readAt_pick harg2, readAt_pick harg10, readAt_pick harg6, readAt_pick harg7, readAt_pick harg8,
    pick_full s1, pick_full s0, pick_full x4, pick_full x5, pick_full x6] at e
  rw [e]
  refine (View.read_writes_cons_put (e := .f32) arg13.view _ _ _ [] rfl).trans ?_
  rw [View.writes_nil, harg13.read_unread]
  rfl

set_option maxHeartbeats 2000000 in
/-- What this run stores into the carried buffer is the block. -/
theorem runB_pw (c : Dev nD) (i : grid0.Coords) (arg2 : Memref sig .tc .vmem S1x1x8 .f32) (harg2 : arg2.IsWhole) (arg3 : Memref sig .tc .vmem S1x25x4096 .f32) (harg3 : arg3.IsWhole) (arg4 : Memref sig .tc .vmem S1x75x4096 .f32) (harg4 : arg4.IsWhole) (arg5 : Memref sig .tc .vmem S75x80 .f32) (harg5 : arg5.IsWhole) (arg6 : Memref sig .tc .vmem S80x1 .f32) (harg6 : arg6.IsWhole) (arg7 : Memref sig .tc .vmem S80x76 .f32) (harg7 : arg7.IsWhole) (arg8 : Memref sig .tc .vmem S76x1 .f32) (harg8 : arg8.IsWhole) (arg9 : Memref sig .tc .vmem S1x3x4096 .f32) (harg9 : arg9.IsWhole) (arg10 : Memref sig .tc .vmem S4096x80 .f32) (harg10 : arg10.IsWhole) (arg11 : Memref sig .tc .vmem S32x4096 .f32) (harg11 : arg11.IsWhole) (arg12 : Memref sig .tc .vmem S32x4096 .f32) (harg12 : arg12.IsWhole) (arg13 : Memref sig .tc .vmem S75x4608 .f32) (harg13 : arg13.IsWhole) (arg14 : Memref sig .tc .vmem S1x4608 .f32) (harg14 : arg14.IsWhole) (hc0 : ¬cond0_0 i) (hc1 : ¬cond0_1 i) (x0 : Vec F S1x1x8 .f32) (x1 : Vec F S1x25x4096 .f32) (x2 : Vec F S1x75x4096 .f32) (x3 : Vec F S75x80 .f32) (x4 : Vec F S80x1 .f32) (x5 : Vec F S80x76 .f32) (x6 : Vec F S76x1 .f32) (s0 : Vec F S4096x80 .f32) (s1 : Vec F S32x4096 .f32) (s2 : Vec F S32x4096 .f32) (s3 : Vec F S75x4608 .f32) (s4 : Vec F S1x4608 .f32) :
    arg14.view.read (Elt F) (arg14.view.writes (Elt F) (harg14.unread s4) (runB c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 s0 s1 s2 s3 s4).2.1)
      = put s4 (k0_off3 i) S1x256.size (blkP i x0 x4 x5 x6 s0 s1 s2) := by
  have e : (runB c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 s0 s1 s2 s3 s4).2.1 = [⟨Rect.unit (k0_off3 i) S1x256.size (k0_off3_inb i), k0_pay2 (wF (View.readAt (Elt F) arg12.view (Rect.unit (s := S32x4096) (k0_off1 i) S32x256.size (k0_off1_inb i)).toLoadRect (harg12.unread s2)) (View.readAt (Elt F) arg11.view (Rect.unit (s := S32x4096) ![0, 0] S32x4096.size inb_S32x4096_S32x4096_0_0).toLoadRect (harg11.unread s1)) (View.readAt (Elt F) arg2.view (Rect.unit (s := S1x1x8) ![0, 0, 0] S1x1x1.size inb_S1x1x8_S1x1x1_0_0_0).toLoadRect (harg2.unread x0)) (View.readAt (Elt F) arg10.view (Rect.unit (s := S4096x80) ![0, 0] S4096x80.size inb_S4096x80_S4096x80_0_0).toLoadRect (harg10.unread s0)) (View.readAt (Elt F) arg6.view (Rect.unit (s := S80x1) ![0, 0] S80x1.size inb_S80x1_S80x1_0_0).toLoadRect (harg6.unread x4)) (View.readAt (Elt F) arg7.view (Rect.unit (s := S80x76) ![0, 0] S80x76.size inb_S80x76_S80x76_0_0).toLoadRect (harg7.unread x5)) (View.readAt (Elt F) arg8.view (Rect.unit (s := S76x1) ![0, 0] S76x1.size inb_S76x1_S76x1_0_0).toLoadRect (harg8.unread x6)))⟩] := rfl
  rw [readAt_pick harg12, readAt_pick harg11, readAt_pick harg2, readAt_pick harg10, readAt_pick harg6, readAt_pick harg7, readAt_pick harg8,
    pick_full s1, pick_full s0, pick_full x4, pick_full x5, pick_full x6] at e
  rw [e]
  refine (View.read_writes_cons_put (e := .f32) arg14.view _ _ _ [] rfl).trans ?_
  rw [View.writes_nil, harg14.read_unread]
  rfl

set_option maxHeartbeats 2000000 in
/-- What this run stores into the carried buffer is the block. -/
theorem runC_imr (c : Dev nD) (i : grid0.Coords) (arg2 : Memref sig .tc .vmem S1x1x8 .f32) (harg2 : arg2.IsWhole) (arg3 : Memref sig .tc .vmem S1x25x4096 .f32) (harg3 : arg3.IsWhole) (arg4 : Memref sig .tc .vmem S1x75x4096 .f32) (harg4 : arg4.IsWhole) (arg5 : Memref sig .tc .vmem S75x80 .f32) (harg5 : arg5.IsWhole) (arg6 : Memref sig .tc .vmem S80x1 .f32) (harg6 : arg6.IsWhole) (arg7 : Memref sig .tc .vmem S80x76 .f32) (harg7 : arg7.IsWhole) (arg8 : Memref sig .tc .vmem S76x1 .f32) (harg8 : arg8.IsWhole) (arg9 : Memref sig .tc .vmem S1x3x4096 .f32) (harg9 : arg9.IsWhole) (arg10 : Memref sig .tc .vmem S4096x80 .f32) (harg10 : arg10.IsWhole) (arg11 : Memref sig .tc .vmem S32x4096 .f32) (harg11 : arg11.IsWhole) (arg12 : Memref sig .tc .vmem S32x4096 .f32) (harg12 : arg12.IsWhole) (arg13 : Memref sig .tc .vmem S75x4608 .f32) (harg13 : arg13.IsWhole) (arg14 : Memref sig .tc .vmem S1x4608 .f32) (harg14 : arg14.IsWhole) (hc0 : ¬cond0_0 i) (hc1 : cond0_1 i) (x0 : Vec F S1x1x8 .f32) (x1 : Vec F S1x25x4096 .f32) (x2 : Vec F S1x75x4096 .f32) (x3 : Vec F S75x80 .f32) (x4 : Vec F S80x1 .f32) (x5 : Vec F S80x76 .f32) (x6 : Vec F S76x1 .f32) (s0 : Vec F S4096x80 .f32) (s1 : Vec F S32x4096 .f32) (s2 : Vec F S32x4096 .f32) (s3 : Vec F S75x4608 .f32) (s4 : Vec F S1x4608 .f32) :
    arg13.view.read (Elt F) (arg13.view.writes (Elt F) (harg13.unread s3) (runC c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 s0 s1 s2 s3 s4).2.1)
      = put s3 (k0_off2 i) S75x256.size (blkI i x0 x4 x5 x6 s0 s1 s2) := by
  have e : (runC c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 s0 s1 s2 s3 s4).2.1 = [⟨Rect.unit (k0_off2 i) S75x256.size (k0_off2_inb i), k0_pay1 (wF (View.readAt (Elt F) arg12.view (Rect.unit (s := S32x4096) (k0_off1 i) S32x256.size (k0_off1_inb i)).toLoadRect (harg12.unread s2)) (View.readAt (Elt F) arg11.view (Rect.unit (s := S32x4096) ![0, 0] S32x4096.size inb_S32x4096_S32x4096_0_0).toLoadRect (harg11.unread s1)) (View.readAt (Elt F) arg2.view (Rect.unit (s := S1x1x8) ![0, 0, 0] S1x1x1.size inb_S1x1x8_S1x1x1_0_0_0).toLoadRect (harg2.unread x0)) (View.readAt (Elt F) arg10.view (Rect.unit (s := S4096x80) ![0, 0] S4096x80.size inb_S4096x80_S4096x80_0_0).toLoadRect (harg10.unread s0)) (View.readAt (Elt F) arg6.view (Rect.unit (s := S80x1) ![0, 0] S80x1.size inb_S80x1_S80x1_0_0).toLoadRect (harg6.unread x4)) (View.readAt (Elt F) arg7.view (Rect.unit (s := S80x76) ![0, 0] S80x76.size inb_S80x76_S80x76_0_0).toLoadRect (harg7.unread x5)) (View.readAt (Elt F) arg8.view (Rect.unit (s := S76x1) ![0, 0] S76x1.size inb_S76x1_S76x1_0_0).toLoadRect (harg8.unread x6))) (pF (View.readAt (Elt F) arg12.view (Rect.unit (s := S32x4096) (k0_off1 i) S32x256.size (k0_off1_inb i)).toLoadRect (harg12.unread s2)) (View.readAt (Elt F) arg11.view (Rect.unit (s := S32x4096) ![0, 0] S32x4096.size inb_S32x4096_S32x4096_0_0).toLoadRect (harg11.unread s1)) (View.readAt (Elt F) arg2.view (Rect.unit (s := S1x1x8) ![0, 0, 0] S1x1x1.size inb_S1x1x8_S1x1x1_0_0_0).toLoadRect (harg2.unread x0)) (View.readAt (Elt F) arg10.view (Rect.unit (s := S4096x80) ![0, 0] S4096x80.size inb_S4096x80_S4096x80_0_0).toLoadRect (harg10.unread s0)) (View.readAt (Elt F) arg6.view (Rect.unit (s := S80x1) ![0, 0] S80x1.size inb_S80x1_S80x1_0_0).toLoadRect (harg6.unread x4)) (View.readAt (Elt F) arg7.view (Rect.unit (s := S80x76) ![0, 0] S80x76.size inb_S80x76_S80x76_0_0).toLoadRect (harg7.unread x5)) (View.readAt (Elt F) arg8.view (Rect.unit (s := S76x1) ![0, 0] S76x1.size inb_S76x1_S76x1_0_0).toLoadRect (harg8.unread x6)))⟩] := rfl
  rw [readAt_pick harg12, readAt_pick harg11, readAt_pick harg2, readAt_pick harg10, readAt_pick harg6, readAt_pick harg7, readAt_pick harg8,
    pick_full s1, pick_full s0, pick_full x4, pick_full x5, pick_full x6] at e
  rw [e]
  refine (View.read_writes_cons_put (e := .f32) arg13.view _ _ _ [] rfl).trans ?_
  rw [View.writes_nil, harg13.read_unread]
  rfl

set_option maxHeartbeats 2000000 in
/-- What this run stores into the carried buffer is the block. -/
theorem runC_pw (c : Dev nD) (i : grid0.Coords) (arg2 : Memref sig .tc .vmem S1x1x8 .f32) (harg2 : arg2.IsWhole) (arg3 : Memref sig .tc .vmem S1x25x4096 .f32) (harg3 : arg3.IsWhole) (arg4 : Memref sig .tc .vmem S1x75x4096 .f32) (harg4 : arg4.IsWhole) (arg5 : Memref sig .tc .vmem S75x80 .f32) (harg5 : arg5.IsWhole) (arg6 : Memref sig .tc .vmem S80x1 .f32) (harg6 : arg6.IsWhole) (arg7 : Memref sig .tc .vmem S80x76 .f32) (harg7 : arg7.IsWhole) (arg8 : Memref sig .tc .vmem S76x1 .f32) (harg8 : arg8.IsWhole) (arg9 : Memref sig .tc .vmem S1x3x4096 .f32) (harg9 : arg9.IsWhole) (arg10 : Memref sig .tc .vmem S4096x80 .f32) (harg10 : arg10.IsWhole) (arg11 : Memref sig .tc .vmem S32x4096 .f32) (harg11 : arg11.IsWhole) (arg12 : Memref sig .tc .vmem S32x4096 .f32) (harg12 : arg12.IsWhole) (arg13 : Memref sig .tc .vmem S75x4608 .f32) (harg13 : arg13.IsWhole) (arg14 : Memref sig .tc .vmem S1x4608 .f32) (harg14 : arg14.IsWhole) (hc0 : ¬cond0_0 i) (hc1 : cond0_1 i) (x0 : Vec F S1x1x8 .f32) (x1 : Vec F S1x25x4096 .f32) (x2 : Vec F S1x75x4096 .f32) (x3 : Vec F S75x80 .f32) (x4 : Vec F S80x1 .f32) (x5 : Vec F S80x76 .f32) (x6 : Vec F S76x1 .f32) (s0 : Vec F S4096x80 .f32) (s1 : Vec F S32x4096 .f32) (s2 : Vec F S32x4096 .f32) (s3 : Vec F S75x4608 .f32) (s4 : Vec F S1x4608 .f32) :
    arg14.view.read (Elt F) (arg14.view.writes (Elt F) (harg14.unread s4) (runC c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 s0 s1 s2 s3 s4).2.2.1)
      = put s4 (k0_off3 i) S1x256.size (blkP i x0 x4 x5 x6 s0 s1 s2) := by
  have e : (runC c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 s0 s1 s2 s3 s4).2.2.1 = [⟨Rect.unit (k0_off3 i) S1x256.size (k0_off3_inb i), k0_pay2 (wF (View.readAt (Elt F) arg12.view (Rect.unit (s := S32x4096) (k0_off1 i) S32x256.size (k0_off1_inb i)).toLoadRect (harg12.unread s2)) (View.readAt (Elt F) arg11.view (Rect.unit (s := S32x4096) ![0, 0] S32x4096.size inb_S32x4096_S32x4096_0_0).toLoadRect (harg11.unread s1)) (View.readAt (Elt F) arg2.view (Rect.unit (s := S1x1x8) ![0, 0, 0] S1x1x1.size inb_S1x1x8_S1x1x1_0_0_0).toLoadRect (harg2.unread x0)) (View.readAt (Elt F) arg10.view (Rect.unit (s := S4096x80) ![0, 0] S4096x80.size inb_S4096x80_S4096x80_0_0).toLoadRect (harg10.unread s0)) (View.readAt (Elt F) arg6.view (Rect.unit (s := S80x1) ![0, 0] S80x1.size inb_S80x1_S80x1_0_0).toLoadRect (harg6.unread x4)) (View.readAt (Elt F) arg7.view (Rect.unit (s := S80x76) ![0, 0] S80x76.size inb_S80x76_S80x76_0_0).toLoadRect (harg7.unread x5)) (View.readAt (Elt F) arg8.view (Rect.unit (s := S76x1) ![0, 0] S76x1.size inb_S76x1_S76x1_0_0).toLoadRect (harg8.unread x6)))⟩] := rfl
  rw [readAt_pick harg12, readAt_pick harg11, readAt_pick harg2, readAt_pick harg10, readAt_pick harg6, readAt_pick harg7, readAt_pick harg8,
    pick_full s1, pick_full s0, pick_full x4, pick_full x5, pick_full x6] at e
  rw [e]
  refine (View.read_writes_cons_put (e := .f32) arg14.view _ _ _ [] rfl).trans ?_
  rw [View.writes_nil, harg14.read_unread]
  rfl

/-- The first grid point. -/
def pt0 : Fin cfg0.N := ⟨0, Nat.lt_of_lt_of_eq (by decide : 0 < 32) N_0.symm⟩

/-- The output block of an image, from the scalars, the weighted patches and the weights. -/
def outOf (x0 : Vec F S1x1x8 .f32) (d13 : Vec F S75x4608 .f32) (d14 : Vec F S1x4608 .f32) : Vec F S1x3x4096 .f32 :=
  (ms0_7 pt0).view.read (Elt F) ((ms0_7 pt0).view.writes (Elt F) (ms0_7 pt0).view.junk (foldPieces (pick x0) (pick d13) (pick d14)))

set_option maxHeartbeats 2000000 in
set_option maxRecDepth 65536 in
/-- What the last run of an image stores into the output block. -/
theorem runC_pieces (c : Dev nD) (i : grid0.Coords) (arg2 : Memref sig .tc .vmem S1x1x8 .f32) (harg2 : arg2.IsWhole) (arg3 : Memref sig .tc .vmem S1x25x4096 .f32) (harg3 : arg3.IsWhole) (arg4 : Memref sig .tc .vmem S1x75x4096 .f32) (harg4 : arg4.IsWhole) (arg5 : Memref sig .tc .vmem S75x80 .f32) (harg5 : arg5.IsWhole) (arg6 : Memref sig .tc .vmem S80x1 .f32) (harg6 : arg6.IsWhole) (arg7 : Memref sig .tc .vmem S80x76 .f32) (harg7 : arg7.IsWhole) (arg8 : Memref sig .tc .vmem S76x1 .f32) (harg8 : arg8.IsWhole) (arg9 : Memref sig .tc .vmem S1x3x4096 .f32) (harg9 : arg9.IsWhole) (arg10 : Memref sig .tc .vmem S4096x80 .f32) (harg10 : arg10.IsWhole) (arg11 : Memref sig .tc .vmem S32x4096 .f32) (harg11 : arg11.IsWhole) (arg12 : Memref sig .tc .vmem S32x4096 .f32) (harg12 : arg12.IsWhole) (arg13 : Memref sig .tc .vmem S75x4608 .f32) (harg13 : arg13.IsWhole) (arg14 : Memref sig .tc .vmem S1x4608 .f32) (harg14 : arg14.IsWhole) (hc0 : ¬cond0_0 i) (hc1 : cond0_1 i) (x0 : Vec F S1x1x8 .f32) (x1 : Vec F S1x25x4096 .f32) (x2 : Vec F S1x75x4096 .f32) (x3 : Vec F S75x80 .f32) (x4 : Vec F S80x1 .f32) (x5 : Vec F S80x76 .f32) (x6 : Vec F S76x1 .f32) (s0 : Vec F S4096x80 .f32) (s1 : Vec F S32x4096 .f32) (s2 : Vec F S32x4096 .f32) (s3 : Vec F S75x4608 .f32) (s4 : Vec F S1x4608 .f32) :
    (runC c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 s0 s1 s2 s3 s4).1 = foldPieces (pick x0) (pick (put s3 (k0_off2 i) S75x256.size (blkI i x0 x4 x5 x6 s0 s1 s2))) (pick (put s4 (k0_off3 i) S1x256.size (blkP i x0 x4 x5 x6 s0 s1 s2))) := by
  have e : (runC c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 s0 s1 s2 s3 s4).1 = foldPieces (fun B => View.readAt (Elt F) arg2.view B (harg2.unread x0))
      (fun B => View.readAt (Elt F) arg13.view B (arg13.view.writes (Elt F) (harg13.unread s3) (runC c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 s0 s1 s2 s3 s4).2.1))
      (fun B => View.readAt (Elt F) arg14.view B (arg14.view.writes (Elt F) (harg14.unread s4) (runC c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 s0 s1 s2 s3 s4).2.2.1)) := rfl
  rw [e]
  simp only [readAt_eq_pick]
  rw [runC_imr, runC_pw, harg2.read_unread]

/-- The zero columns left and right of the weighted patches. -/
def padI (x : Vec F S75x4608 .f32) : Vec F S75x4608 .f32 :=
  put (put x ![0, 0] S75x256.size k0_pay74) ![0, 4352] S75x256.size k0_pay75

/-- The zero columns left and right of the weights. -/
def padP (x : Vec F S1x4608 .f32) : Vec F S1x4608 .f32 :=
  put (put x ![0, 0] S1x256.size k0_pay76) ![0, 4352] S1x256.size k0_pay77

set_option maxHeartbeats 2000000 in
/-- The first run of an image leaves the projected patches in the first scratch. -/
theorem runA_cw (c : Dev nD) (i : grid0.Coords) (arg2 : Memref sig .tc .vmem S1x1x8 .f32) (harg2 : arg2.IsWhole) (arg3 : Memref sig .tc .vmem S1x25x4096 .f32) (harg3 : arg3.IsWhole) (arg4 : Memref sig .tc .vmem S1x75x4096 .f32) (harg4 : arg4.IsWhole) (arg5 : Memref sig .tc .vmem S75x80 .f32) (harg5 : arg5.IsWhole) (arg6 : Memref sig .tc .vmem S80x1 .f32) (harg6 : arg6.IsWhole) (arg7 : Memref sig .tc .vmem S80x76 .f32) (harg7 : arg7.IsWhole) (arg8 : Memref sig .tc .vmem S76x1 .f32) (harg8 : arg8.IsWhole) (arg9 : Memref sig .tc .vmem S1x3x4096 .f32) (harg9 : arg9.IsWhole) (arg10 : Memref sig .tc .vmem S4096x80 .f32) (harg10 : arg10.IsWhole) (arg11 : Memref sig .tc .vmem S32x4096 .f32) (harg11 : arg11.IsWhole) (arg12 : Memref sig .tc .vmem S32x4096 .f32) (harg12 : arg12.IsWhole) (arg13 : Memref sig .tc .vmem S75x4608 .f32) (harg13 : arg13.IsWhole) (arg14 : Memref sig .tc .vmem S1x4608 .f32) (harg14 : arg14.IsWhole) (hc0 : cond0_0 i) (hc1 : ¬cond0_1 i) (x0 : Vec F S1x1x8 .f32) (x1 : Vec F S1x25x4096 .f32) (x2 : Vec F S1x75x4096 .f32) (x3 : Vec F S75x80 .f32) (x4 : Vec F S80x1 .f32) (x5 : Vec F S80x76 .f32) (x6 : Vec F S76x1 .f32) (f : arg10.view.ty.Contents (Elt F)) :
    arg10.view.read (Elt F) (arg10.view.writes (Elt F) f (runA c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).1) = k0_pay4 x2 x3 := by
  have e : (runA c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).1 = [⟨Rect.unit (s := S4096x80) ![0, 0] S4096x80.size inb_S4096x80_S4096x80_0_0, k0_pay4 (View.readAt (Elt F) arg4.view (Rect.unit (s := S1x75x4096) ![0, 0, 0] S1x75x4096.size inb_S1x75x4096_S1x75x4096_0_0_0).toLoadRect (harg4.unread x2)) (View.readAt (Elt F) arg5.view (Rect.unit (s := S75x80) ![0, 0] S75x80.size inb_S75x80_S75x80_0_0).toLoadRect (harg5.unread x3))⟩] := rfl
  rw [readAt_pick harg4, readAt_pick harg5, pick_full x2, pick_full x3] at e
  rw [e]
  exact View.read_writes_full (e := .f32) arg10.view f _ _ []

set_option maxHeartbeats 2000000 in
/-- The first run of an image leaves the doubled negated patches and squared norms in the second scratch. -/
theorem runA_A (c : Dev nD) (i : grid0.Coords) (arg2 : Memref sig .tc .vmem S1x1x8 .f32) (harg2 : arg2.IsWhole) (arg3 : Memref sig .tc .vmem S1x25x4096 .f32) (harg3 : arg3.IsWhole) (arg4 : Memref sig .tc .vmem S1x75x4096 .f32) (harg4 : arg4.IsWhole) (arg5 : Memref sig .tc .vmem S75x80 .f32) (harg5 : arg5.IsWhole) (arg6 : Memref sig .tc .vmem S80x1 .f32) (harg6 : arg6.IsWhole) (arg7 : Memref sig .tc .vmem S80x76 .f32) (harg7 : arg7.IsWhole) (arg8 : Memref sig .tc .vmem S76x1 .f32) (harg8 : arg8.IsWhole) (arg9 : Memref sig .tc .vmem S1x3x4096 .f32) (harg9 : arg9.IsWhole) (arg10 : Memref sig .tc .vmem S4096x80 .f32) (harg10 : arg10.IsWhole) (arg11 : Memref sig .tc .vmem S32x4096 .f32) (harg11 : arg11.IsWhole) (arg12 : Memref sig .tc .vmem S32x4096 .f32) (harg12 : arg12.IsWhole) (arg13 : Memref sig .tc .vmem S75x4608 .f32) (harg13 : arg13.IsWhole) (arg14 : Memref sig .tc .vmem S1x4608 .f32) (harg14 : arg14.IsWhole) (hc0 : cond0_0 i) (hc1 : ¬cond0_1 i) (x0 : Vec F S1x1x8 .f32) (x1 : Vec F S1x25x4096 .f32) (x2 : Vec F S1x75x4096 .f32) (x3 : Vec F S75x80 .f32) (x4 : Vec F S80x1 .f32) (x5 : Vec F S80x76 .f32) (x6 : Vec F S76x1 .f32) (f : arg11.view.ty.Contents (Elt F)) :
    arg11.view.read (Elt F) (arg11.view.writes (Elt F) f (runA c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.1) = AOf zero32 x1 := by
  have e : (runA c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.1 = [⟨Rect.unit (s := S32x4096) ![26, 0] S6x4096.size inb_S32x4096_S6x4096_26_0, k0_pay8⟩, ⟨Rect.unit (s := S32x4096) ![25, 0] S1x4096.size inb_S32x4096_S1x4096_25_0, k0_pay7 (View.readAt (Elt F) arg3.view (Rect.unit (s := S1x25x4096) ![0, 0, 0] S1x25x4096.size inb_S1x25x4096_S1x25x4096_0_0_0).toLoadRect (harg3.unread x1))⟩, ⟨Rect.unit (s := S32x4096) ![0, 0] S25x4096.size inb_S32x4096_S25x4096_0_0, k0_pay6 (View.readAt (Elt F) arg3.view (Rect.unit (s := S1x25x4096) ![0, 0, 0] S1x25x4096.size inb_S1x25x4096_S1x25x4096_0_0_0).toLoadRect (harg3.unread x1))⟩] := rfl
  rw [readAt_pick harg3, pick_full x1] at e
  rw [e, View.read_writes_cons_put (e := .f32) arg11.view f _ _ _ rfl, View.read_writes_cons_put (e := .f32) arg11.view f _ _ _ rfl, View.read_writes_cons_put (e := .f32) arg11.view f _ _ _ rfl]
  exact put3_cover _ _ _ _ _

set_option maxHeartbeats 2000000 in
/-- The first run of an image leaves the patches and ones in the third scratch. -/
theorem runA_B (c : Dev nD) (i : grid0.Coords) (arg2 : Memref sig .tc .vmem S1x1x8 .f32) (harg2 : arg2.IsWhole) (arg3 : Memref sig .tc .vmem S1x25x4096 .f32) (harg3 : arg3.IsWhole) (arg4 : Memref sig .tc .vmem S1x75x4096 .f32) (harg4 : arg4.IsWhole) (arg5 : Memref sig .tc .vmem S75x80 .f32) (harg5 : arg5.IsWhole) (arg6 : Memref sig .tc .vmem S80x1 .f32) (harg6 : arg6.IsWhole) (arg7 : Memref sig .tc .vmem S80x76 .f32) (harg7 : arg7.IsWhole) (arg8 : Memref sig .tc .vmem S76x1 .f32) (harg8 : arg8.IsWhole) (arg9 : Memref sig .tc .vmem S1x3x4096 .f32) (harg9 : arg9.IsWhole) (arg10 : Memref sig .tc .vmem S4096x80 .f32) (harg10 : arg10.IsWhole) (arg11 : Memref sig .tc .vmem S32x4096 .f32) (harg11 : arg11.IsWhole) (arg12 : Memref sig .tc .vmem S32x4096 .f32) (harg12 : arg12.IsWhole) (arg13 : Memref sig .tc .vmem S75x4608 .f32) (harg13 : arg13.IsWhole) (arg14 : Memref sig .tc .vmem S1x4608 .f32) (harg14 : arg14.IsWhole) (hc0 : cond0_0 i) (hc1 : ¬cond0_1 i) (x0 : Vec F S1x1x8 .f32) (x1 : Vec F S1x25x4096 .f32) (x2 : Vec F S1x75x4096 .f32) (x3 : Vec F S75x80 .f32) (x4 : Vec F S80x1 .f32) (x5 : Vec F S80x76 .f32) (x6 : Vec F S76x1 .f32) (f : arg12.view.ty.Contents (Elt F)) :
    arg12.view.read (Elt F) (arg12.view.writes (Elt F) f (runA c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.1) = BOf zero32 x1 := by
  have e : (runA c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.1 = [⟨Rect.unit (s := S32x4096) ![26, 0] S6x4096.size inb_S32x4096_S6x4096_26_0, k0_pay73⟩, ⟨Rect.unit (s := S32x4096) ![25, 0] S1x4096.size inb_S32x4096_S1x4096_25_0, k0_pay72 k0_pay10⟩, ⟨Rect.unit (s := S32x4096) ![0, 0] S25x4096.size inb_S32x4096_S25x4096_0_0, k0_pay9 (View.readAt (Elt F) arg3.view (Rect.unit (s := S1x25x4096) ![0, 0, 0] S1x25x4096.size inb_S1x25x4096_S1x25x4096_0_0_0).toLoadRect (harg3.unread x1))⟩] := rfl
  rw [readAt_pick harg3, pick_full x1] at e
  rw [e, View.read_writes_cons_put (e := .f32) arg12.view f _ _ _ rfl, View.read_writes_cons_put (e := .f32) arg12.view f _ _ _ rfl, View.read_writes_cons_put (e := .f32) arg12.view f _ _ _ rfl]
  exact put3_cover _ _ _ _ _

set_option maxHeartbeats 2000000 in
/-- The first run of an image leaves the zero columns and the first block in the carried buffer. -/
theorem runA_imr (c : Dev nD) (i : grid0.Coords) (arg2 : Memref sig .tc .vmem S1x1x8 .f32) (harg2 : arg2.IsWhole) (arg3 : Memref sig .tc .vmem S1x25x4096 .f32) (harg3 : arg3.IsWhole) (arg4 : Memref sig .tc .vmem S1x75x4096 .f32) (harg4 : arg4.IsWhole) (arg5 : Memref sig .tc .vmem S75x80 .f32) (harg5 : arg5.IsWhole) (arg6 : Memref sig .tc .vmem S80x1 .f32) (harg6 : arg6.IsWhole) (arg7 : Memref sig .tc .vmem S80x76 .f32) (harg7 : arg7.IsWhole) (arg8 : Memref sig .tc .vmem S76x1 .f32) (harg8 : arg8.IsWhole) (arg9 : Memref sig .tc .vmem S1x3x4096 .f32) (harg9 : arg9.IsWhole) (arg10 : Memref sig .tc .vmem S4096x80 .f32) (harg10 : arg10.IsWhole) (arg11 : Memref sig .tc .vmem S32x4096 .f32) (harg11 : arg11.IsWhole) (arg12 : Memref sig .tc .vmem S32x4096 .f32) (harg12 : arg12.IsWhole) (arg13 : Memref sig .tc .vmem S75x4608 .f32) (harg13 : arg13.IsWhole) (arg14 : Memref sig .tc .vmem S1x4608 .f32) (harg14 : arg14.IsWhole) (hc0 : cond0_0 i) (hc1 : ¬cond0_1 i) (x0 : Vec F S1x1x8 .f32) (x1 : Vec F S1x25x4096 .f32) (x2 : Vec F S1x75x4096 .f32) (x3 : Vec F S75x80 .f32) (x4 : Vec F S80x1 .f32) (x5 : Vec F S80x76 .f32) (x6 : Vec F S76x1 .f32) (f : arg13.view.ty.Contents (Elt F)) :
    arg13.view.read (Elt F) (arg13.view.writes (Elt F) f (runA c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.1)
      = put (padI (arg13.view.read (Elt F) f)) (k0_off2 i) S75x256.size (blkI i x0 x4 x5 x6 (k0_pay4 x2 x3) (AOf zero32 x1) (BOf zero32 x1)) := by
  have e : (runA c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.1 = [⟨Rect.unit (k0_off2 i) S75x256.size (k0_off2_inb i), k0_pay1 (wF (View.readAt (Elt F) arg12.view (Rect.unit (s := S32x4096) (k0_off1 i) S32x256.size (k0_off1_inb i)).toLoadRect (arg12.view.writes (Elt F) arg12.view.junk (runA c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.1)) (View.readAt (Elt F) arg11.view (Rect.unit (s := S32x4096) ![0, 0] S32x4096.size inb_S32x4096_S32x4096_0_0).toLoadRect (arg11.view.writes (Elt F) arg11.view.junk (runA c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.1)) (View.readAt (Elt F) arg2.view (Rect.unit (s := S1x1x8) ![0, 0, 0] S1x1x1.size inb_S1x1x8_S1x1x1_0_0_0).toLoadRect (harg2.unread x0)) (View.readAt (Elt F) arg10.view (Rect.unit (s := S4096x80) ![0, 0] S4096x80.size inb_S4096x80_S4096x80_0_0).toLoadRect (arg10.view.writes (Elt F) arg10.view.junk (runA c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).1)) (View.readAt (Elt F) arg6.view (Rect.unit (s := S80x1) ![0, 0] S80x1.size inb_S80x1_S80x1_0_0).toLoadRect (harg6.unread x4)) (View.readAt (Elt F) arg7.view (Rect.unit (s := S80x76) ![0, 0] S80x76.size inb_S80x76_S80x76_0_0).toLoadRect (harg7.unread x5)) (View.readAt (Elt F) arg8.view (Rect.unit (s := S76x1) ![0, 0] S76x1.size inb_S76x1_S76x1_0_0).toLoadRect (harg8.unread x6))) (pF (View.readAt (Elt F) arg12.view (Rect.unit (s := S32x4096) (k0_off1 i) S32x256.size (k0_off1_inb i)).toLoadRect (arg12.view.writes (Elt F) arg12.view.junk (runA c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.1)) (View.readAt (Elt F) arg11.view (Rect.unit (s := S32x4096) ![0, 0] S32x4096.size inb_S32x4096_S32x4096_0_0).toLoadRect (arg11.view.writes (Elt F) arg11.view.junk (runA c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.1)) (View.readAt (Elt F) arg2.view (Rect.unit (s := S1x1x8) ![0, 0, 0] S1x1x1.size inb_S1x1x8_S1x1x1_0_0_0).toLoadRect (harg2.unread x0)) (View.readAt (Elt F) arg10.view (Rect.unit (s := S4096x80) ![0, 0] S4096x80.size inb_S4096x80_S4096x80_0_0).toLoadRect (arg10.view.writes (Elt F) arg10.view.junk (runA c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).1)) (View.readAt (Elt F) arg6.view (Rect.unit (s := S80x1) ![0, 0] S80x1.size inb_S80x1_S80x1_0_0).toLoadRect (harg6.unread x4)) (View.readAt (Elt F) arg7.view (Rect.unit (s := S80x76) ![0, 0] S80x76.size inb_S80x76_S80x76_0_0).toLoadRect (harg7.unread x5)) (View.readAt (Elt F) arg8.view (Rect.unit (s := S76x1) ![0, 0] S76x1.size inb_S76x1_S76x1_0_0).toLoadRect (harg8.unread x6)))⟩,
      ⟨Rect.unit (s := S75x4608) ![0, 4352] S75x256.size inb_S75x4608_S75x256_0_4352, k0_pay75⟩, ⟨Rect.unit (s := S75x4608) ![0, 0] S75x256.size inb_S75x4608_S75x256_0_0, k0_pay74⟩] := rfl
  rw [readAt_pick harg2, readAt_pick harg6, readAt_pick harg7, readAt_pick harg8, pick_full x4, pick_full x5, pick_full x6] at e
  simp only [readAt_eq_pick] at e
  rw [runA_cw, runA_A, runA_B, pick_full (AOf zero32 x1), pick_full (k0_pay4 x2 x3)] at e
  rw [e, View.read_writes_cons_put (e := .f32) arg13.view f _ _ _ rfl, View.read_writes_cons_put (e := .f32) arg13.view f _ _ _ rfl, View.read_writes_cons_put (e := .f32) arg13.view f _ _ _ rfl]
  rfl

set_option maxHeartbeats 2000000 in
/-- The first run of an image leaves the zero columns and the first block in the carried buffer. -/
theorem runA_pw (c : Dev nD) (i : grid0.Coords) (arg2 : Memref sig .tc .vmem S1x1x8 .f32) (harg2 : arg2.IsWhole) (arg3 : Memref sig .tc .vmem S1x25x4096 .f32) (harg3 : arg3.IsWhole) (arg4 : Memref sig .tc .vmem S1x75x4096 .f32) (harg4 : arg4.IsWhole) (arg5 : Memref sig .tc .vmem S75x80 .f32) (harg5 : arg5.IsWhole) (arg6 : Memref sig .tc .vmem S80x1 .f32) (harg6 : arg6.IsWhole) (arg7 : Memref sig .tc .vmem S80x76 .f32) (harg7 : arg7.IsWhole) (arg8 : Memref sig .tc .vmem S76x1 .f32) (harg8 : arg8.IsWhole) (arg9 : Memref sig .tc .vmem S1x3x4096 .f32) (harg9 : arg9.IsWhole) (arg10 : Memref sig .tc .vmem S4096x80 .f32) (harg10 : arg10.IsWhole) (arg11 : Memref sig .tc .vmem S32x4096 .f32) (harg11 : arg11.IsWhole) (arg12 : Memref sig .tc .vmem S32x4096 .f32) (harg12 : arg12.IsWhole) (arg13 : Memref sig .tc .vmem S75x4608 .f32) (harg13 : arg13.IsWhole) (arg14 : Memref sig .tc .vmem S1x4608 .f32) (harg14 : arg14.IsWhole) (hc0 : cond0_0 i) (hc1 : ¬cond0_1 i) (x0 : Vec F S1x1x8 .f32) (x1 : Vec F S1x25x4096 .f32) (x2 : Vec F S1x75x4096 .f32) (x3 : Vec F S75x80 .f32) (x4 : Vec F S80x1 .f32) (x5 : Vec F S80x76 .f32) (x6 : Vec F S76x1 .f32) (f : arg14.view.ty.Contents (Elt F)) :
    arg14.view.read (Elt F) (arg14.view.writes (Elt F) f (runA c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.2.1)
      = put (padP (arg14.view.read (Elt F) f)) (k0_off3 i) S1x256.size (blkP i x0 x4 x5 x6 (k0_pay4 x2 x3) (AOf zero32 x1) (BOf zero32 x1)) := by
  have e : (runA c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.2.1 = [⟨Rect.unit (k0_off3 i) S1x256.size (k0_off3_inb i), k0_pay2 (wF (View.readAt (Elt F) arg12.view (Rect.unit (s := S32x4096) (k0_off1 i) S32x256.size (k0_off1_inb i)).toLoadRect (arg12.view.writes (Elt F) arg12.view.junk (runA c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.1)) (View.readAt (Elt F) arg11.view (Rect.unit (s := S32x4096) ![0, 0] S32x4096.size inb_S32x4096_S32x4096_0_0).toLoadRect (arg11.view.writes (Elt F) arg11.view.junk (runA c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.1)) (View.readAt (Elt F) arg2.view (Rect.unit (s := S1x1x8) ![0, 0, 0] S1x1x1.size inb_S1x1x8_S1x1x1_0_0_0).toLoadRect (harg2.unread x0)) (View.readAt (Elt F) arg10.view (Rect.unit (s := S4096x80) ![0, 0] S4096x80.size inb_S4096x80_S4096x80_0_0).toLoadRect (arg10.view.writes (Elt F) arg10.view.junk (runA c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).1)) (View.readAt (Elt F) arg6.view (Rect.unit (s := S80x1) ![0, 0] S80x1.size inb_S80x1_S80x1_0_0).toLoadRect (harg6.unread x4)) (View.readAt (Elt F) arg7.view (Rect.unit (s := S80x76) ![0, 0] S80x76.size inb_S80x76_S80x76_0_0).toLoadRect (harg7.unread x5)) (View.readAt (Elt F) arg8.view (Rect.unit (s := S76x1) ![0, 0] S76x1.size inb_S76x1_S76x1_0_0).toLoadRect (harg8.unread x6)))⟩,
      ⟨Rect.unit (s := S1x4608) ![0, 4352] S1x256.size inb_S1x4608_S1x256_0_4352, k0_pay77⟩, ⟨Rect.unit (s := S1x4608) ![0, 0] S1x256.size inb_S1x4608_S1x256_0_0, k0_pay76⟩] := rfl
  rw [readAt_pick harg2, readAt_pick harg6, readAt_pick harg7, readAt_pick harg8, pick_full x4, pick_full x5, pick_full x6] at e
  simp only [readAt_eq_pick] at e
  rw [runA_cw, runA_A, runA_B, pick_full (AOf zero32 x1), pick_full (k0_pay4 x2 x3)] at e
  rw [e, View.read_writes_cons_put (e := .f32) arg14.view f _ _ _ rfl, View.read_writes_cons_put (e := .f32) arg14.view f _ _ _ rfl, View.read_writes_cons_put (e := .f32) arg14.view f _ _ _ rfl]
  rfl

end Cert.KernelIdeal.Gen

end
-- ==== Proof.State.lean ====
module

public import proofs.«01_k».proof.Proof.Spec

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (put)

variable (m : (ℓ : Loc nD τ sig) → Buf (Elt F) ℓ) (ρ : Dev nD → PrngReg)

/-- The grid point of a number. -/
def ptAt (k : ℕ) : Fin cfg0.N := ⟨k % 32, Nat.lt_of_lt_of_eq (Nat.mod_lt _ (by decide)) N_0.symm⟩

/-- A point is the point of its number. -/
theorem ptAt_val (t : Fin cfg0.N) : ptAt t.val = t :=
  Fin.ext (Nat.mod_eq_of_lt (Nat.lt_of_lt_of_eq t.isLt N_0))

/-- The windows' blocks as plain arrays. -/
def b0 (c : Dev nD) (k : ℕ) : Vec F S1x1x8 .f32 := iblk m c 0 (ptAt k)
/-- The block of the gray patches at step `k`. -/
def b1 (c : Dev nD) (k : ℕ) : Vec F S1x25x4096 .f32 := iblk m c 1 (ptAt k)
/-- The block of the colour patches at step `k`. -/
def b2 (c : Dev nD) (k : ℕ) : Vec F S1x75x4096 .f32 := iblk m c 2 (ptAt k)
/-- The block of the first matrix at step `k`. -/
def b3 (c : Dev nD) (k : ℕ) : Vec F S75x80 .f32 := iblk m c 3 (ptAt k)
/-- The block of the first bias at step `k`. -/
def b4 (c : Dev nD) (k : ℕ) : Vec F S80x1 .f32 := iblk m c 4 (ptAt k)
/-- The block of the second matrices at step `k`. -/
def b5 (c : Dev nD) (k : ℕ) : Vec F S80x76 .f32 := iblk m c 5 (ptAt k)
/-- The block of the second biases at step `k`. -/
def b6 (c : Dev nD) (k : ℕ) : Vec F S76x1 .f32 := iblk m c 6 (ptAt k)

/-- The first scratch during image `a`: the projected patches. -/
def cwA (c : Dev nD) (a : ℕ) : Vec F S4096x80 .f32 := k0_pay4 (b2 m c (16 * a)) (b3 m c (16 * a))
/-- The second scratch during image `a`. -/
def AA (c : Dev nD) (a : ℕ) : Vec F S32x4096 .f32 := AOf zero32 (b1 m c (16 * a))
/-- The third scratch during image `a`. -/
def BA (c : Dev nD) (a : ℕ) : Vec F S32x4096 .f32 := BOf zero32 (b1 m c (16 * a))

/-- The block of weighted patches stored at point `k`. -/
def bI (c : Dev nD) (k : ℕ) : FVec F S75x256 .f32 :=
  blkI (grid0.coords (ptAt k)) (b0 m c k) (b4 m c k) (b5 m c k) (b6 m c k) (cwA m c (k / 16)) (AA m c (k / 16)) (BA m c (k / 16))
/-- The block of weights stored at point `k`. -/
def bP (c : Dev nD) (k : ℕ) : FVec F S1x256 .f32 :=
  blkP (grid0.coords (ptAt k)) (b0 m c k) (b4 m c k) (b5 m c k) (b6 m c k) (cwA m c (k / 16)) (AA m c (k / 16)) (BA m c (k / 16))

/-- A padded buffer assembled of sixteen blocks of columns over given columns at its sides. -/
def assemble {r : ℕ} {α : Type} (side : (⟨2, ![r, 4608]⟩ : Shape).Idx → α) (blk : ℕ → (⟨2, ![r, 256]⟩ : Shape).Idx → α) :
    (⟨2, ![r, 4608]⟩ : Shape).Idx → α := fun y =>
  if 256 ≤ (y 1).val ∧ (y 1).val < 4352 then
    blk (((y 1).val - 256) / 256) (Shape.pair (y 0) ⟨((y 1).val - 256) % 256, Nat.mod_lt _ (by decide)⟩)
  else side y

/-- All of the padded weighted patches of image `a`. -/
def imrA (c : Dev nD) (a : ℕ) : Vec F S75x4608 .f32 :=
  assemble (r := 75) (padI fun _ => Scalar.ofBits .f32 0#32) (fun q => bI m c (16 * a + q))
/-- All of the padded weights of image `a`. -/
def pwA (c : Dev nD) (a : ℕ) : Vec F S1x4608 .f32 :=
  assemble (r := 1) (padP fun _ => Scalar.ofBits .f32 0#32) (fun q => bP m c (16 * a + q))

/-- The columns filled after `q` blocks of an image. -/
def filled (q : ℕ) (v : ℕ) : Prop := v < 256 + 256 * q ∨ 4352 ≤ v

/-- The columns at which a step stores its weighted patches begin at 256 + 256 · (step in its image). -/
theorem off2_eq (t : Fin cfg0.N) : k0_off2 (grid0.coords t) = ![0, 256 + 256 * (t.val % 16)] := by
  have ht : t.val < 32 := Nat.lt_of_lt_of_eq t.isLt N_0
  have e1 : (grid0.coords t 1).val = t.val / 1 % 16 := Pipeline.Grid.coords_val t 1 (by decide) rfl
  unfold k0_off2
  simp only [e1, Nat.div_one]
  have e : (Scalar.indexCast (Scalar.addi 256#32 (Scalar.muli (BitVec.ofNat 32 (t.val % 16)) 256#32))).toNat = 256 + 256 * (t.val % 16) := by
    show (256#32 + BitVec.ofNat 32 (t.val % 16) * 256#32).toNat = _
    simp only [BitVec.toNat_add, BitVec.toNat_mul, BitVec.toNat_ofNat]
    omega
  exact congrArg (fun n : ℕ => (![0, n] : Fin 2 → ℕ)) e

/-- The columns at which a step stores its weights begin at the same place. -/
theorem off3_eq (t : Fin cfg0.N) : k0_off3 (grid0.coords t) = ![0, 256 + 256 * (t.val % 16)] := off2_eq t

/-- Storing the next block extends the filled columns by it. -/
theorem put_filled {r : ℕ} {α : Type} (side : (⟨2, ![r, 4608]⟩ : Shape).Idx → α) (blk : ℕ → (⟨2, ![r, 256]⟩ : Shape).Idx → α)
    (q : ℕ) (hq : q < 16) (d : (⟨2, ![r, 4608]⟩ : Shape).Idx → α)
    (hd : ∀ y, filled q (y 1).val → d y = assemble side blk y) (y : (⟨2, ![r, 4608]⟩ : Shape).Idx) (hy : filled (q + 1) (y 1).val) :
    put (s := ⟨2, ![r, 4608]⟩) d ![0, 256 + 256 * q] ![r, 256] (blk q) y = assemble side blk y := by
  unfold filled at hy
  have h0 : (y 0).val < r := (y 0).isLt
  unfold put
  split_ifs with h
  · have h1 := h 1
    simp only [Matrix.cons_val_one, Matrix.cons_val_fin_one] at h1
    unfold assemble
    rw [if_pos ⟨by omega, by omega⟩]
    have e : ((y 1).val - 256) / 256 = q := by omega
    rw [e]
    congr 1
    funext a
    apply Fin.ext
    fin_cases a
    · show (y 0).val - 0 = (y 0).val
      omega
    · show (y 1).val - (256 + 256 * q) = ((y 1).val - 256) % 256
      omega
  · refine hd y ?_
    unfold filled
    by_contra hc
    apply h
    intro a
    have ea : a = 0 ∨ a = 1 := by fin_cases a <;> simp
    rcases ea with rfl | rfl
    · simp only [Matrix.cons_val_zero]
      omega
    · simp only [Matrix.cons_val_one, Matrix.cons_val_fin_one]
      omega

end Cert.KernelIdeal.Gen

end
-- ==== Proof.Dats.lean ====
module

public import proofs.«01_k».proof.Proof.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (put)

variable (m : (ℓ : Loc nD τ sig) → Buf (Elt F) ℓ) (ρ : Dev nD → PrngReg)

/-- The five scratch buffers inside image `a` after `q` of its blocks: the projected patches, the two distance operands,
    and the padded buffers with the blocks so far filled in. -/
def scr (c : Dev nD) (a q : ℕ) : sProp 𝕄 :=
  iprop(iprop(owns (c : Thread nD τ) scM0_0 fullShare (cwA m c a) ∗ owns (c : Thread nD τ) scM0_1 fullShare (AA m c a)
    ∗ owns (c : Thread nD τ) scM0_2 fullShare (BA m c a)
    ∗ (∃ d, ⌜∀ y : S75x4608.Idx, filled q (y 1).val → d y = imrA m c a y⌝ ∗ owns (c : Thread nD τ) scM0_3 fullShare d)
    ∗ (∃ d, ⌜∀ y : S1x4608.Idx, filled q (y 1).val → d y = pwA m c a y⌝ ∗ owns (c : Thread nD τ) scM0_4 fullShare d))
    ∗ (∃ r, prngReg c r))

/-- The invariant before point `n`: nothing known of the scratch between images, `scr` inside one. -/
def PhiS (c : Dev nD) (n : ℕ) (_h : n ≤ cfg0.N) : sProp 𝕄 :=
  if n % 16 = 0 then Pipeline.ΦA spec0 c else scr m c (n / 16) (n % 16)

/-- At the first step of an image nothing is known of the scratch buffers. -/
theorem PhiS_start (c : Dev nD) (n : ℕ) (h : n ≤ cfg0.N) (hz : n % 16 = 0) : PhiS m c n h = Pipeline.ΦA spec0 c := if_pos hz
/-- Between two steps of an image the scratch buffers hold what the steps so far have stored. -/
theorem PhiS_mid (c : Dev nD) (n : ℕ) (h : n ≤ cfg0.N) (hz : n % 16 ≠ 0) : PhiS m c n h = scr m c (n / 16) (n % 16) := if_neg hz

/-- The output block of the image point `k` lies in. -/
def outA (c : Dev nD) (k : ℕ) : Vec F S1x3x4096 .f32 := outOf (b0 m c k) (imrA m c (k / 16)) (pwA m c (k / 16))

/-- The proof data of the region. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outA m c t.val
  Φ t := PhiS m c t.val (Nat.le_of_lt_succ t.isLt)
  q _ := fullShare
  owed _ := 0

/-- The proof data's arrays are what the region finds. -/
theorem A_eq (c : Dev nD) (w : Fin cfg0.W) : (dats m 0 c).A w = V m c (Pipeline.arrRef spec0 w) := by
  dsimp only [dats]

/-- The invariant at a point's start, at the point's number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in each window. -/
theorem after0_0 (c : Dev nD) (t : Fin cfg0.N) : (dats m 0 c).after 0 t = iblk m c 0 t := by dsimp only [dats]
/-- What a step leaves in the window of the gray patches. -/
theorem after0_1 (c : Dev nD) (t : Fin cfg0.N) : (dats m 0 c).after 1 t = iblk m c 1 t := by dsimp only [dats]
/-- What a step leaves in the window of the colour patches. -/
theorem after0_2 (c : Dev nD) (t : Fin cfg0.N) : (dats m 0 c).after 2 t = iblk m c 2 t := by dsimp only [dats]
/-- What a step leaves in the window of the first matrix. -/
theorem after0_3 (c : Dev nD) (t : Fin cfg0.N) : (dats m 0 c).after 3 t = iblk m c 3 t := by dsimp only [dats]
/-- What a step leaves in the window of the first bias. -/
theorem after0_4 (c : Dev nD) (t : Fin cfg0.N) : (dats m 0 c).after 4 t = iblk m c 4 t := by dsimp only [dats]
/-- What a step leaves in the window of the second matrices. -/
theorem after0_5 (c : Dev nD) (t : Fin cfg0.N) : (dats m 0 c).after 5 t = iblk m c 5 t := by dsimp only [dats]
/-- What a step leaves in the window of the second biases. -/
theorem after0_6 (c : Dev nD) (t : Fin cfg0.N) : (dats m 0 c).after 6 t = iblk m c 6 t := by dsimp only [dats]
/-- What a step leaves in the window of the output block. -/
theorem after0_7 (c : Dev nD) (t : Fin cfg0.N) : (dats m 0 c).after 7 t = outA m c t.val := by dsimp only [dats]

/-- Each input's staging buffer holds its block at every point. -/
theorem before0_0 (c : Dev nD) (t : Fin cfg0.N) (d) : (dats m 0 c).before 0 t d = iblk m c 0 t := before0_0_of m (dats m 0 c) (A_eq m c 0) (after0_0 m c) t d
/-- What a step finds in the window of the gray patches. -/
theorem before0_1 (c : Dev nD) (t : Fin cfg0.N) (d) : (dats m 0 c).before 1 t d = iblk m c 1 t := before0_1_of m (dats m 0 c) (A_eq m c 1) (after0_1 m c) t d
/-- What a step finds in the window of the colour patches. -/
theorem before0_2 (c : Dev nD) (t : Fin cfg0.N) (d) : (dats m 0 c).before 2 t d = iblk m c 2 t := before0_2_of m (dats m 0 c) (A_eq m c 2) (after0_2 m c) t d
/-- What a step finds in the window of the first matrix. -/
theorem before0_3 (c : Dev nD) (t : Fin cfg0.N) (d) : (dats m 0 c).before 3 t d = iblk m c 3 t := before0_3_of m (dats m 0 c) (A_eq m c 3) (after0_3 m c) t d
/-- What a step finds in the window of the first bias. -/
theorem before0_4 (c : Dev nD) (t : Fin cfg0.N) (d) : (dats m 0 c).before 4 t d = iblk m c 4 t := before0_4_of m (dats m 0 c) (A_eq m c 4) (after0_4 m c) t d
/-- What a step finds in the window of the second matrices. -/
theorem before0_5 (c : Dev nD) (t : Fin cfg0.N) (d) : (dats m 0 c).before 5 t d = iblk m c 5 t := before0_5_of m (dats m 0 c) (A_eq m c 5) (after0_5 m c) t d
/-- What a step finds in the window of the second biases. -/
theorem before0_6 (c : Dev nD) (t : Fin cfg0.N) (d) : (dats m 0 c).before 6 t d = iblk m c 6 t := before0_6_of m (dats m 0 c) (A_eq m c 6) (after0_6 m c) t d

/-- An input's buffer is left at its block. -/
theorem leaves0_0 (c : Dev nD) (t : Fin cfg0.N) : (dats m 0 c).leavesExact 0 t = owns (c : Thread nD τ) (ms0_0 t) fullShare (iblk m c 0 t) := by
  unfold Dat.leavesExact; rw [show cfg0.idle 0 (cfg0.grid.coords t) = false from rfl, after0_0]
/-- After a step the window of the gray patches holds its block whole. -/
theorem leaves0_1 (c : Dev nD) (t : Fin cfg0.N) : (dats m 0 c).leavesExact 1 t = owns (c : Thread nD τ) (ms0_1 t) fullShare (iblk m c 1 t) := by
  unfold Dat.leavesExact; rw [show cfg0.idle 1 (cfg0.grid.coords t) = false from rfl, after0_1]
/-- After a step the window of the colour patches holds its block whole. -/
theorem leaves0_2 (c : Dev nD) (t : Fin cfg0.N) : (dats m 0 c).leavesExact 2 t = owns (c : Thread nD τ) (ms0_2 t) fullShare (iblk m c 2 t) := by
  unfold Dat.leavesExact; rw [show cfg0.idle 2 (cfg0.grid.coords t) = false from rfl, after0_2]
/-- After a step the window of the first matrix holds its block whole. -/
theorem leaves0_3 (c : Dev nD) (t : Fin cfg0.N) : (dats m 0 c).leavesExact 3 t = owns (c : Thread nD τ) (ms0_3 t) fullShare (iblk m c 3 t) := by
  unfold Dat.leavesExact; rw [show cfg0.idle 3 (cfg0.grid.coords t) = false from rfl, after0_3]
/-- After a step the window of the first bias holds its block whole. -/
theorem leaves0_4 (c : Dev nD) (t : Fin cfg0.N) : (dats m 0 c).leavesExact 4 t = owns (c : Thread nD τ) (ms0_4 t) fullShare (iblk m c 4 t) := by
  unfold Dat.leavesExact; rw [show cfg0.idle 4 (cfg0.grid.coords t) = false from rfl, after0_4]
/-- After a step the window of the second matrices holds its block whole. -/
theorem leaves0_5 (c : Dev nD) (t : Fin cfg0.N) : (dats m 0 c).leavesExact 5 t = owns (c : Thread nD τ) (ms0_5 t) fullShare (iblk m c 5 t) := by
  unfold Dat.leavesExact; rw [show cfg0.idle 5 (cfg0.grid.coords t) = false from rfl, after0_5]
/-- After a step the window of the second biases holds its block whole. -/
theorem leaves0_6 (c : Dev nD) (t : Fin cfg0.N) : (dats m 0 c).leavesExact 6 t = owns (c : Thread nD τ) (ms0_6 t) fullShare (iblk m c 6 t) := by
  unfold Dat.leavesExact; rw [show cfg0.idle 6 (cfg0.grid.coords t) = false from rfl, after0_6]

/-- Before an image's last point the output's buffer goes back as it was found. -/
theorem leaves0_7_idle (c : Dev nD) (t : Fin cfg0.N) (h1 : ¬ t.val % 16 = 15) :
    (dats m 0 c).leavesExact 7 t = iprop(∃ d, owns (c : Thread nD τ) (ms0_7 t) fullShare ((dats m 0 c).before 7 t d)) := by
  refine Pipeline.Dat.leavesExact_idle (dats m 0 c) 7 t ?_ ?_
  · have hn : ¬ k0_cond3 (cfg0.grid.coords t) = 1#1 := fun h => h1 ((hcond0_1 t).mp h)
    show (!(k0_cond3 (cfg0.grid.coords t) == 1#1)) = true
    rw [beq_eq_false_iff_ne.mpr hn]
    rfl
  · exact Bool.eq_false_iff.mpr fun h => h1 ((flush0_7 t).mp h)

/-- At an image's last point it is left at the image's output. -/
theorem leaves0_7_last (c : Dev nD) (t : Fin cfg0.N) (h1 : t.val % 16 = 15) :
    (dats m 0 c).leavesExact 7 t = owns (c : Thread nD τ) (ms0_7 t) fullShare (outA m c t.val) := by
  have hi : cfg0.idle 7 (cfg0.grid.coords t) = false := by
    have hn : k0_cond3 (cfg0.grid.coords t) = 1#1 := (hcond0_1 t).mpr h1
    show (!(k0_cond3 (cfg0.grid.coords t) == 1#1)) = false
    rw [hn]
    rfl
  unfold Dat.leavesExact; rw [hi, after0_7]

/-! ## What the stores leave, against the assembled buffers -/

/-- Between images: the zero columns are filled before any block. -/
theorem padI_filled (c : Dev nD) (a : ℕ) (x : Vec F S75x4608 .f32) (y : S75x4608.Idx) (hy : filled 0 (y 1).val) :
    padI x y = imrA m c a y := by
  unfold filled at hy
  have h0 : (y 0).val < 75 := (y 0).isLt
  have h4 : (y 1).val < 4608 := (y 1).isLt
  unfold imrA assemble
  rw [if_neg (by omega)]
  unfold padI put
  split_ifs with h h'
  · rfl
  · rfl
  · exfalso
    simp only [not_forall] at h h'
    obtain ⟨a, ha⟩ := h
    obtain ⟨b, hb⟩ := h'
    have ea : a = 0 ∨ a = 1 := by fin_cases a <;> simp
    have eb : b = 0 ∨ b = 1 := by fin_cases b <;> simp
    have k0 : S75x256.size (0 : Fin 2) = 75 := rfl
    have k1 : S75x256.size (1 : Fin 2) = 256 := rfl
    rcases ea with rfl | rfl <;> rcases eb with rfl | rfl <;>
      simp only [Matrix.cons_val_zero, Matrix.cons_val_one, Matrix.cons_val_fin_one, k0, k1] at ha hb <;> omega

/-- Filling in the margins leaves a weight row's filled columns as they are. -/
theorem padP_filled (c : Dev nD) (a : ℕ) (x : Vec F S1x4608 .f32) (y : S1x4608.Idx) (hy : filled 0 (y 1).val) :
    padP x y = pwA m c a y := by
  unfold filled at hy
  have h0 : (y 0).val < 1 := (y 0).isLt
  have h4 : (y 1).val < 4608 := (y 1).isLt
  unfold pwA assemble
  rw [if_neg (by omega)]
  unfold padP put
  split_ifs with h h'
  · rfl
  · rfl
  · exfalso
    simp only [not_forall] at h h'
    obtain ⟨a, ha⟩ := h
    obtain ⟨b, hb⟩ := h'
    have ea : a = 0 ∨ a = 1 := by fin_cases a <;> simp
    have eb : b = 0 ∨ b = 1 := by fin_cases b <;> simp
    have k0 : S1x256.size (0 : Fin 2) = 1 := rfl
    have k1 : S1x256.size (1 : Fin 2) = 256 := rfl
    rcases ea with rfl | rfl <;> rcases eb with rfl | rfl <;>
      simp only [Matrix.cons_val_zero, Matrix.cons_val_one, Matrix.cons_val_fin_one, k0, k1] at ha hb <;> omega

/-- The next block of weighted patches, put into what is filled so far, fills the next columns. -/
theorem stepI (c : Dev nD) (t : Fin cfg0.N) (d : Vec F S75x4608 .f32)
    (hd : ∀ y : S75x4608.Idx, filled (t.val % 16) (y 1).val → d y = imrA m c (t.val / 16) y) (y : S75x4608.Idx)
    (hy : filled (t.val % 16 + 1) (y 1).val) :
    put d (k0_off2 (grid0.coords t)) S75x256.size (bI m c t.val) y = imrA m c (t.val / 16) y := by
  rw [off2_eq]
  have e : t.val = 16 * (t.val / 16) + t.val % 16 := (Nat.div_add_mod _ _).symm
  have := put_filled (r := 75) (padI fun _ => (Scalar.ofBits .f32 0#32 : F .f32)) (fun q => bI m c (16 * (t.val / 16) + q)) (t.val % 16)
    (Nat.mod_lt _ (by decide)) d hd y hy
  rw [← e] at this
  exact this

/-- A step's store of its 256 columns carries the weight row's description one step on. -/
theorem stepP (c : Dev nD) (t : Fin cfg0.N) (d : Vec F S1x4608 .f32)
    (hd : ∀ y : S1x4608.Idx, filled (t.val % 16) (y 1).val → d y = pwA m c (t.val / 16) y) (y : S1x4608.Idx)
    (hy : filled (t.val % 16 + 1) (y 1).val) :
    put d (k0_off3 (grid0.coords t)) S1x256.size (bP m c t.val) y = pwA m c (t.val / 16) y := by
  rw [off3_eq]
  have e : t.val = 16 * (t.val / 16) + t.val % 16 := (Nat.div_add_mod _ _).symm
  have := put_filled (r := 1) (padP fun _ => (Scalar.ofBits .f32 0#32 : F .f32)) (fun q => bP m c (16 * (t.val / 16) + q)) (t.val % 16)
    (Nat.mod_lt _ (by decide)) d hd y hy
  rw [← e] at this
  exact this

/-- The blocks at a point, from the windows' blocks there. -/
theorem bI_eq (c : Dev nD) (t : Fin cfg0.N) :
    bI m c t.val = blkI (grid0.coords t) (iblk m c 0 t) (iblk m c 4 t) (iblk m c 5 t) (iblk m c 6 t) (cwA m c (t.val / 16)) (AA m c (t.val / 16)) (BA m c (t.val / 16)) := by
  unfold bI b0 b4 b5 b6; rw [ptAt_val]
/-- The weight columns that a step stores, from the step's blocks. -/
theorem bP_eq (c : Dev nD) (t : Fin cfg0.N) :
    bP m c t.val = blkP (grid0.coords t) (iblk m c 0 t) (iblk m c 4 t) (iblk m c 5 t) (iblk m c 6 t) (cwA m c (t.val / 16)) (AA m c (t.val / 16)) (BA m c (t.val / 16)) := by
  unfold bP b0 b4 b5 b6; rw [ptAt_val]

/-- At an image's first point the scratch blocks are that point's. -/
theorem cwA_start (c : Dev nD) (t : Fin cfg0.N) (h : t.val % 16 = 0) : cwA m c (t.val / 16) = k0_pay4 (iblk m c 2 t) (iblk m c 3 t) := by
  unfold cwA b2 b3; rw [show 16 * (t.val / 16) = t.val by omega, ptAt_val]
/-- In an image's first step the left search buffer is built from that step's gray patches. -/
theorem AA_start (c : Dev nD) (t : Fin cfg0.N) (h : t.val % 16 = 0) : AA m c (t.val / 16) = AOf zero32 (iblk m c 1 t) := by
  unfold AA b1; rw [show 16 * (t.val / 16) = t.val by omega, ptAt_val]
/-- In an image's first step the right search buffer is built from that step's gray patches. -/
theorem BA_start (c : Dev nD) (t : Fin cfg0.N) (h : t.val % 16 = 0) : BA m c (t.val / 16) = BOf zero32 (iblk m c 1 t) := by
  unfold BA b1; rw [show 16 * (t.val / 16) = t.val by omega, ptAt_val]

end Cert.KernelIdeal.Gen

end
-- ==== Proof.Launched.lean ====
module

public import proofs.«01_k».proof.Proof.Dats
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (put)

variable (m : (ℓ : Loc nD τ sig) → Buf (Elt F) ℓ) (ρ : Dev nD → PrngReg)

/-- What the body is called with at a point, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at an image's first point. -/
theorem sound_A (c : Dev nD) (t : Fin cfg0.N) (h0 : t.val % 16 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, leaves0_0, leaves0_1, leaves0_2, leaves0_3, leaves0_4, leaves0_5, leaves0_6]
  rw [show (dats m 0 c).owesAt () t.succ = (dats m 0 c).owesAt () t.castSucc from rfl]
  rw [show (dats m 0 c).Φ t.succ = PhiS m c (t.val + 1) t.isLt from rfl]
  have hN : t.val < 32 := lt_of_lt_of_eq t.isLt (show cfg0.N = 32 from N_0)
  have h1 : ¬ t.val % 16 = 15 := by omega
  rw [PhiS_castSucc m c t, PhiS_start m c _ _ h0, PhiA0_eq, PhiS_mid m c (t.val + 1) _ (by omega), leaves0_7_idle m c t h1]
  rw [show (t.val + 1) / 16 = t.val / 16 by omega, show (t.val + 1) % 16 = t.val % 16 + 1 by omega]
  unfold scr
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA c (grid0.coords t) _ _ _ _ _ _ _ _ _ _ _ _ _ _ _ _ _ _ _ _ _ _ _ _ _ _  ((hcond0_0 t).mpr h0) (fun h => h1 ((hcond0_1 t).mp h)) (iblk m c 0 t) (iblk m c 1 t) (iblk m c 2 t) (iblk m c 3 t) (iblk m c 4 t) (iblk m c 5 t) (iblk m c 6 t)).2.2.2.2.2 Set.univ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, ⟨%es0, HS0⟩, ⟨%es1, HS1⟩, ⟨%es2, HS2⟩, ⟨%es3, HS3⟩, ⟨%es4, HS4⟩⟩
  isplitl [HS0 HS1 HS2 HS3 HS4 Hg]
  · isplitl [HS0 HS1 HS2 HS3 HS4]
    · isplitl [HS0]
      · unfold owns; iexists _; isplitr
        swap; · iexact HS0
        ipureintro; rw [cwA_start m c t h0]; exact runA_cw ..
      isplitl [HS1]
      · unfold owns; iexists _; isplitr
        swap; · iexact HS1
        ipureintro; rw [AA_start m c t h0]; exact runA_A ..
      isplitl [HS2]
      · unfold owns; iexists _; isplitr
        swap; · iexact HS2
        ipureintro; rw [BA_start m c t h0]; exact runA_B ..
      isplitl [HS3]
      · iexists _; isplitr
        swap
        · unfold owns; iexists _; isplitr
          swap; · iexact HS3
          ipureintro; exact runA_imr ..
        ipureintro
        rw [← cwA_start m c t h0, ← AA_start m c t h0, ← BA_start m c t h0, ← bI_eq]
        exact stepI m c t _ (by rw [h0]; exact padI_filled m c (t.val / 16) _)
      · iexists _; isplitr
        swap
        · unfold owns; iexists _; isplitr
          swap; · iexact HS4
          ipureintro; exact runA_pw ..
        ipureintro
        rw [← cwA_start m c t h0, ← AA_start m c t h0, ← BA_start m c t h0, ← bP_eq]
        exact stepP m c t _ (by rw [h0]; exact padP_filled m c (t.val / 16) _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 4000000 in
/-- The body at a point inside an image. -/
theorem sound_B (c : Dev nD) (t : Fin cfg0.N) (h0 : ¬ t.val % 16 = 0) (h1 : ¬ t.val % 16 = 15) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, leaves0_0, leaves0_1, leaves0_2, leaves0_3, leaves0_4, leaves0_5, leaves0_6]
  rw [show (dats m 0 c).owesAt () t.succ = (dats m 0 c).owesAt () t.castSucc from rfl]
  rw [show (dats m 0 c).Φ t.succ = PhiS m c (t.val + 1) t.isLt from rfl]
  have hN : t.val < 32 := lt_of_lt_of_eq t.isLt (show cfg0.N = 32 from N_0)
  rw [PhiS_castSucc m c t, PhiS_mid m c _ _ h0, PhiS_mid m c (t.val + 1) _ (by omega), leaves0_7_idle m c t h1]
  rw [show (t.val + 1) / 16 = t.val / 16 by omega, show (t.val + 1) % 16 = t.val % 16 + 1 by omega]
  unfold scr
  iintro ⟨⟨⟨HS0, HS1, HS2, ⟨%e3, %he3, HS3⟩, ⟨%e4, %he4, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB c (grid0.coords t) _ _ _ _ _ _ _ _ _ _ _ _ _ _ _ _ _ _ _ _ _ _ _ _ _ _  (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _ _ _ _ _).2.2 Set.univ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]
      · iexists _; isplitr
        swap
        · unfold owns; iexists _; isplitr
          swap; · iexact HS3
          ipureintro; exact runB_imr ..
        ipureintro
        rw [← bI_eq]
        exact stepI m c t e3 he3
      · iexists _; isplitr
        swap
        · unfold owns; iexists _; isplitr
          swap; · iexact HS4
          ipureintro; exact runB_pw ..
        ipureintro
        rw [← bP_eq]
        exact stepP m c t e4 he4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

/-- The stores of the fold cover the output block: what was there before does not matter. -/
theorem fold_cover (p2 : (B : LoadRect S1x1x8) → B.shape.Idx → F .f32) (p13 : (B : LoadRect S75x4608) → B.shape.Idx → F .f32)
    (p14 : (B : LoadRect S1x4608) → B.shape.Idx → F .f32) (y : S1x3x4096.Idx) :
    ∃ pc ∈ foldPieces p2 p13 p14, y ∈ pc.1.set :=
  View.cover_of_tiledL (foldPieces p2 p13 p14) ![1, 1, 4096] (by sl_kernel_rfl) y

set_option maxHeartbeats 4000000 in
/-- The body at an image's last point. -/
theorem sound_C (c : Dev nD) (t : Fin cfg0.N) (h1 : t.val % 16 = 15) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, leaves0_0, leaves0_1, leaves0_2, leaves0_3, leaves0_4, leaves0_5, leaves0_6]
  rw [show (dats m 0 c).owesAt () t.succ = (dats m 0 c).owesAt () t.castSucc from rfl]
  rw [show (dats m 0 c).Φ t.succ = PhiS m c (t.val + 1) t.isLt from rfl]
  have hN : t.val < 32 := lt_of_lt_of_eq t.isLt (show cfg0.N = 32 from N_0)
  have h0 : ¬ t.val % 16 = 0 := by omega
  rw [PhiS_castSucc m c t, PhiS_mid m c _ _ h0, PhiS_start m c (t.val + 1) _ (by omega), PhiA0_eq, leaves0_7_last m c t h1]
  unfold scr
  iintro ⟨⟨⟨HS0, HS1, HS2, ⟨%e3, %he3, HS3⟩, ⟨%e4, %he4, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runC c (grid0.coords t) _ _ _ _ _ _ _ _ _ _ _ _ _ _ _ _ _ _ _ _ _ _ _ _ _ _  (fun h => h0 ((hcond0_0 t).mp h)) ((hcond0_1 t).mpr h1) (iblk m c 0 t) (iblk m c 1 t) (iblk m c 2 t) (iblk m c 3 t) (iblk m c 4 t) (iblk m c 5 t) (iblk m c 6 t) _ _ _ _ _).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, ⟨%f7, H7⟩, HS0, HS1, HS2, HS3, HS4⟩
  isplitl [HS0 HS1 HS2 HS3 HS4 Hg]
  · isplitl [HS0 HS1 HS2 HS3 HS4]
    · isplitl [HS0]; · iexists _; iexact HS0
      isplitl [HS1]; · iexists _; iexact HS1
      isplitl [HS2]; · iexists _; iexact HS2
      isplitl [HS3]
      · iexists _; unfold owns; iexists _; isplitr
        swap; · iexact HS3
        ipureintro; exact runC_imr ..
      · iexists _; unfold owns; iexists _; isplitr
        swap; · iexact HS4
        ipureintro; exact runC_pw ..
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro
  have e3' : put e3 (k0_off2 (grid0.coords t)) S75x256.size (bI m c t.val) = imrA m c (t.val / 16) := funext fun y =>
    stepI m c t e3 he3 y (by unfold filled; omega)
  have e4' : put e4 (k0_off3 (grid0.coords t)) S1x256.size (bP m c t.val) = pwA m c (t.val / 16) := funext fun y =>
    stepP m c t e4 he4 y (by unfold filled; omega)
  rw [runC_pieces, ← bI_eq, ← bP_eq, e3', e4']
  unfold outA outOf b0
  rw [ptAt_val]
  exact View.read_writes_of_cover _ _ _ _ _ (fold_cover _ _ _)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 16 = 0
  · exact sound_A m c t h0
  · by_cases h1 : t.val % 16 = 15
    · exact sound_C m c t h1
    · exact sound_B m c t h0 h1

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_start m c 0 _ rfl]

/-- After the last point the invariant is what the launch takes back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_start m c _ _ (by rw [Fin.val_last]; have : cfg0.N = 32 := N_0; omega)]

set_option backward.isDefEq.respectTransparency.types false in
set_option maxHeartbeats 800000 in
/-- The run: it ends, the arrays and buffers as the proof data and the trailing host operations give them, every counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: every argument array ends as it began, and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.KernelIdeal.Gen

end
-- ==== Proof.SameText.lean ====
module

public import proofs.«01_k».proof.Proof.Gen.Kernel
public import proofs.«01_k».proof.Proof.Gen.KernelIdeal

@[expose] public section

set_option maxRecDepth 65536

noncomputable section

namespace Cert.Proof

open Idealize.ShloMosaic Idealize.SL.Sem

variable (F : FTy → Type) [FloatOps F]

set_option maxHeartbeats 4000000 in
/-- The two programs' kernel bodies have one text. -/
theorem body_same : @Cert.Kernel.cc0__body F _ _ = @Cert.KernelIdeal.cc0__body F _ _ := rfl

set_option maxHeartbeats 4000000 in
/-- The two programs' body tables are one. -/
theorem defs₀_same : @Cert.Kernel.defs₀ F _ _ = @Cert.KernelIdeal.defs₀ F _ _ := by
  unfold Cert.Kernel.defs₀ Cert.KernelIdeal.defs₀
  rw [body_same]
  refine congrArg Defs.onTc ?_
  funext l x
  match l, x with
  | 0, (t, s) => rfl
  | ⟨_ + 1, h⟩, _ => exact absurd h (Nat.not_lt.2 (Nat.le_add_left _ _))

set_option maxHeartbeats 4000000 in
/-- The two programs' definitions are one. -/
theorem defs_same : @Cert.Kernel.defs F _ _ = @Cert.KernelIdeal.defs F _ _ := by
  unfold Cert.Kernel.defs
  rw [defs₀_same]
  rfl

set_option maxHeartbeats 4000000 in
/-- The two programs' host functions are one. -/
theorem main_same : @Cert.Kernel.main F _ _ = @Cert.KernelIdeal.main F _ _ := rfl

end Cert.Proof

end
-- ==== Proof.Frames.lean ====
module

public import proofs.«01_k».proof.Defs
public import proofs.«01_k».proof.Proof.Launched
public import proofs.«01_k».proof.Proof.SameText
public import proofs.«01_k».proof.Proof.Gen.Kernel
public import proofs.«01_k».proof.Proof.Gen.ReferenceIdeal
public import proofs.«01_k».proof.Proof.Gen.ReferenceIdeal.Run
public import Idealize.ShloMosaic.Lib.Claim

@[expose] public section

set_option maxRecDepth 65536

noncomputable section

namespace Cert.Proof

open Idealize.ShloMosaic Idealize.SL.Sem

/-- The kernel's frame: its text is the ideal program's, so the run at any float arithmetic carries over. -/
theorem frame_kernel : Cert.quiescent_Kernel := by
  intro m ρ _
  rw [defs_same, main_same]
  exact Cert.KernelIdeal.Gen.frame_any (F := Bits) m ρ

/-- The ideal program's frame. -/
theorem frame_ideal : Cert.quiescent_KernelIdeal :=
  fun m ρ _ => Cert.KernelIdeal.Gen.frame_any (F := Ideal) m ρ

/-- The reference's frame: it is host operations only, none of which writes an argument, and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.KBlk.lean ====
module

public import proofs.«01_k».proof.Proof.State
public import Idealize.ShloMosaic.Lib.Pipeline.ValueKit
public import Idealize.ShloMosaic.Lib.Pointwise
public import Idealize.ShloMosaic.Lib.StableHlo.RunRead

@[expose] public section

set_option maxRecDepth 65536

noncomputable section

namespace Cert.KernelIdeal.Gen

open Idealize.ShloMosaic Idealize.ShloMosaic.TcCoe Idealize.ShloMosaic.Tactic
open Idealize.ShloMosaic.StableHlo

variable (m : (ℓ : Loc nD τ sig) → Buf (Elt Ideal) ℓ)

/-- The windows' blocks at every point: one image's part of the arrays by image, the whole of the weights. -/
theorem idxs : ∀ t : Fin cfg0.N, win0_0.index t = ![t.val / 16, 0, 0] ∧ win0_1.index t = ![t.val / 16, 0, 0] ∧ win0_2.index t = ![t.val / 16, 0, 0]
    ∧ win0_3.index t = ![0, 0] ∧ win0_4.index t = ![0, 0] ∧ win0_5.index t = ![0, 0] ∧ win0_6.index t = ![0, 0] ∧ win0_7.index t = ![t.val / 16, 0, 0] :=
  (by decide +kernel : ∀ t : Fin grid0.N, _)

/-- A block's entry in its array. -/
theorem b0_at (c : Dev nD) (k : ℕ) (hk : k < 32) (d : Fin 1) (q : Fin 8) :
    (b0 m c k : S1x1x8.Idx → EReal) (ix3 0 d q) = (V m c main_v188 : S2x1x8.Idx → EReal) (ix3 ⟨k / 16, by omega⟩ d q) := by
  have hp : (ptAt k).val = k := Nat.mod_eq_of_lt hk
  have hi := (idxs (ptAt k)).1
  rw [hp] at hi
  unfold b0 iblk
  generalize V m c main_v188 = A
  blk_ext [hi]

/-- A block's entry in its array. -/
theorem b1_at (c : Dev nD) (k : ℕ) (hk : k < 32) (d : Fin 25) (q : Fin 4096) :
    (b1 m c k : S1x25x4096.Idx → EReal) (ix3 0 d q) = (V m c main_v95 : S2x25x4096.Idx → EReal) (ix3 ⟨k / 16, by omega⟩ d q) := by
  have hp : (ptAt k).val = k := Nat.mod_eq_of_lt hk
  have hi := (idxs (ptAt k)).2.1
  rw [hp] at hi
  unfold b1 iblk
  generalize V m c main_v95 = A
  blk_ext [hi]

/-- A block's entry in its array. -/
theorem b2_at (c : Dev nD) (k : ℕ) (hk : k < 32) (d : Fin 75) (q : Fin 4096) :
    (b2 m c k : S1x75x4096.Idx → EReal) (ix3 0 d q) = (V m c main_v174 : S2x75x4096.Idx → EReal) (ix3 ⟨k / 16, by omega⟩ d q) := by
  have hp : (ptAt k).val = k := Nat.mod_eq_of_lt hk
  have hi := (idxs (ptAt k)).2.2.1
  rw [hp] at hi
  unfold b2 iblk
  generalize V m c main_v174 = A
  blk_ext [hi]

/-- A block's entry in its array. -/
theorem b3_at (c : Dev nD) (k : ℕ) (d : Fin 75) (q : Fin 80) :
    (b3 m c k : S75x80.Idx → EReal) (ix2 d q) = (V m c main_v177 : S75x80.Idx → EReal) (ix2 d q) := by
  have hi := (idxs (ptAt k)).2.2.2.1
  unfold b3 iblk
  blk_ext [hi]

/-- A block's entry in its array. -/
theorem b4_at (c : Dev nD) (k : ℕ) (d : Fin 80) (q : Fin 1) :
    (b4 m c k : S80x1.Idx → EReal) (ix2 d q) = (V m c main_v192 : S80x1.Idx → EReal) (ix2 d q) := by
  have hi := (idxs (ptAt k)).2.2.2.2.1
  unfold b4 iblk
  blk_ext [hi]

/-- A block's entry in its array. -/
theorem b5_at (c : Dev nD) (k : ℕ) (d : Fin 80) (q : Fin 76) :
    (b5 m c k : S80x76.Idx → EReal) (ix2 d q) = (V m c main_v189 : S80x76.Idx → EReal) (ix2 d q) := by
  have hi := (idxs (ptAt k)).2.2.2.2.2.1
  unfold b5 iblk
  blk_ext [hi]

/-- A block's entry in its array. -/
theorem b6_at (c : Dev nD) (k : ℕ) (d : Fin 76) (q : Fin 1) :
    (b6 m c k : S76x1.Idx → EReal) (ix2 d q) = (V m c main_v191 : S76x1.Idx → EReal) (ix2 d q) := by
  have hi := (idxs (ptAt k)).2.2.2.2.2.2.1
  unfold b6 iblk
  blk_ext [hi]

end Cert.KernelIdeal.Gen
-- ==== Proof.KPre.lean ====
module

public import proofs.«01_k».proof.Proof.Launched
public import Idealize.ShloMosaic.Lib.Pointwise
public import Idealize.ShloMosaic.Lib.StableHlo.RunRead

@[expose] public section

set_option maxRecDepth 65536

noncomputable section

namespace Cert.KernelIdeal.Gen

open Idealize.ShloMosaic Idealize.ShloMosaic.TcCoe Idealize.ShloMosaic.Tactic
open Idealize.ShloMosaic.StableHlo

set_option maxHeartbeats 4000000 in
/-- The grey array is the stack of its twenty-five shifted views. -/
theorem rd_v95 (W : Valuation τ sig (Elt Ideal)) :
    after hostOps0_4 W (Proc.devRef .tc main_v95)
      = concatenate S2x25x4096 1 [⟨S2x16x4096, concatenate S2x16x4096 1 [⟨S2x1x4096, upto hostOps0_4 W 75 (Proc.devRef .tc main_v68)⟩, ⟨S2x1x4096, upto hostOps0_4 W 75 (Proc.devRef .tc main_v69)⟩, ⟨S2x1x4096, upto hostOps0_4 W 75 (Proc.devRef .tc main_v70)⟩, ⟨S2x1x4096, upto hostOps0_4 W 75 (Proc.devRef .tc main_v71)⟩, ⟨S2x1x4096, upto hostOps0_4 W 75 (Proc.devRef .tc main_v72)⟩, ⟨S2x1x4096, upto hostOps0_4 W 75 (Proc.devRef .tc main_v73)⟩, ⟨S2x1x4096, upto hostOps0_4 W 75 (Proc.devRef .tc main_v74)⟩, ⟨S2x1x4096, upto hostOps0_4 W 75 (Proc.devRef .tc main_v75)⟩, ⟨S2x1x4096, upto hostOps0_4 W 75 (Proc.devRef .tc main_v76)⟩, ⟨S2x1x4096, upto hostOps0_4 W 75 (Proc.devRef .tc main_v77)⟩, ⟨S2x1x4096, upto hostOps0_4 W 75 (Proc.devRef .tc main_v78)⟩, ⟨S2x1x4096, upto hostOps0_4 W 75 (Proc.devRef .tc main_v79)⟩, ⟨S2x1x4096, upto hostOps0_4 W 75 (Proc.devRef .tc main_v80)⟩, ⟨S2x1x4096, upto hostOps0_4 W 75 (Proc.devRef .tc main_v81)⟩, ⟨S2x1x4096, upto hostOps0_4 W 75 (Proc.devRef .tc main_v82)⟩, ⟨S2x1x4096, upto hostOps0_4 W 75 (Proc.devRef .tc main_v83)⟩] concatenates_S2x1x4096_S2x1x4096_S2x1x4096_S2x1x4096_S2x1x4096_S2x1x4096_S2x1x4096_S2x1x4096_S2x1x4096_S2x1x4096_S2x1x4096_S2x1x4096_S2x1x4096_S2x1x4096_S2x1x4096_S2x1x4096_S2x16x4096_d1⟩, ⟨S2x9x4096, concatenate S2x9x4096 1 [⟨S2x1x4096, upto hostOps0_4 W 76 (Proc.devRef .tc main_v84)⟩, ⟨S2x1x4096, upto hostOps0_4 W 76 (Proc.devRef .tc main_v85)⟩, ⟨S2x1x4096, upto hostOps0_4 W 76 (Proc.devRef .tc main_v86)⟩, ⟨S2x1x4096, upto hostOps0_4 W 76 (Proc.devRef .tc main_v87)⟩, ⟨S2x1x4096, upto hostOps0_4 W 76 (Proc.devRef .tc main_v88)⟩, ⟨S2x1x4096, upto hostOps0_4 W 76 (Proc.devRef .tc main_v89)⟩, ⟨S2x1x4096, upto hostOps0_4 W 76 (Proc.devRef .tc main_v90)⟩, ⟨S2x1x4096, upto hostOps0_4 W 76 (Proc.devRef .tc main_v91)⟩, ⟨S2x1x4096, upto hostOps0_4 W 76 (Proc.devRef .tc main_v92)⟩] concatenates_S2x1x4096_S2x1x4096_S2x1x4096_S2x1x4096_S2x1x4096_S2x1x4096_S2x1x4096_S2x1x4096_S2x1x4096_S2x9x4096_d1⟩] concatenates_S2x16x4096_S2x9x4096_S2x25x4096_d1 := by
  after_reads_simp
  rfl

set_option maxHeartbeats 4000000 in
/-- The colour array is the stack of its twenty-five shifted views, the planes inside each. -/
theorem rd_v174 (W : Valuation τ sig (Elt Ideal)) :
    after hostOps0_4 W (Proc.devRef .tc main_v174)
      = shapeCast S2x75x4096 (concatenate S2x25x3x4096 1 [⟨S2x16x3x4096, concatenate S2x16x3x4096 1 [⟨S2x1x3x4096, upto hostOps0_4 W 153 (Proc.devRef .tc main_v146)⟩, ⟨S2x1x3x4096, upto hostOps0_4 W 153 (Proc.devRef .tc main_v147)⟩, ⟨S2x1x3x4096, upto hostOps0_4 W 153 (Proc.devRef .tc main_v148)⟩, ⟨S2x1x3x4096, upto hostOps0_4 W 153 (Proc.devRef .tc main_v149)⟩, ⟨S2x1x3x4096, upto hostOps0_4 W 153 (Proc.devRef .tc main_v150)⟩, ⟨S2x1x3x4096, upto hostOps0_4 W 153 (Proc.devRef .tc main_v151)⟩, ⟨S2x1x3x4096, upto hostOps0_4 W 153 (Proc.devRef .tc main_v152)⟩, ⟨S2x1x3x4096, upto hostOps0_4 W 153 (Proc.devRef .tc main_v153)⟩, ⟨S2x1x3x4096, upto hostOps0_4 W 153 (Proc.devRef .tc main_v154)⟩, ⟨S2x1x3x4096, upto hostOps0_4 W 153 (Proc.devRef .tc main_v155)⟩, ⟨S2x1x3x4096, upto hostOps0_4 W 153 (Proc.devRef .tc main_v156)⟩, ⟨S2x1x3x4096, upto hostOps0_4 W 153 (Proc.devRef .tc main_v157)⟩, ⟨S2x1x3x4096, upto hostOps0_4 W 153 (Proc.devRef .tc main_v158)⟩, ⟨S2x1x3x4096, upto hostOps0_4 W 153 (Proc.devRef .tc main_v159)⟩, ⟨S2x1x3x4096, upto hostOps0_4 W 153 (Proc.devRef .tc main_v160)⟩, ⟨S2x1x3x4096, upto hostOps0_4 W 153 (Proc.devRef .tc main_v161)⟩] concatenates_S2x1x3x4096_S2x1x3x4096_S2x1x3x4096_S2x1x3x4096_S2x1x3x4096_S2x1x3x4096_S2x1x3x4096_S2x1x3x4096_S2x1x3x4096_S2x1x3x4096_S2x1x3x4096_S2x1x3x4096_S2x1x3x4096_S2x1x3x4096_S2x1x3x4096_S2x1x3x4096_S2x16x3x4096_d1⟩, ⟨S2x9x3x4096, concatenate S2x9x3x4096 1 [⟨S2x1x3x4096, upto hostOps0_4 W 154 (Proc.devRef .tc main_v162)⟩, ⟨S2x1x3x4096, upto hostOps0_4 W 154 (Proc.devRef .tc main_v163)⟩, ⟨S2x1x3x4096, upto hostOps0_4 W 154 (Proc.devRef .tc main_v164)⟩, ⟨S2x1x3x4096, upto hostOps0_4 W 154 (Proc.devRef .tc main_v165)⟩, ⟨S2x1x3x4096, upto hostOps0_4 W 154 (Proc.devRef .tc main_v166)⟩, ⟨S2x1x3x4096, upto hostOps0_4 W 154 (Proc.devRef .tc main_v167)⟩, ⟨S2x1x3x4096, upto hostOps0_4 W 154 (Proc.devRef .tc main_v168)⟩, ⟨S2x1x3x4096, upto hostOps0_4 W 154 (Proc.devRef .tc main_v169)⟩, ⟨S2x1x3x4096, upto hostOps0_4 W 154 (Proc.devRef .tc main_v170)⟩] concatenates_S2x1x3x4096_S2x1x3x4096_S2x1x3x4096_S2x1x3x4096_S2x1x3x4096_S2x1x3x4096_S2x1x3x4096_S2x1x3x4096_S2x1x3x4096_S2x9x3x4096_d1⟩] concatenates_S2x16x3x4096_S2x9x3x4096_S2x25x3x4096_d1) shapeCasts_S2x25x3x4096_S2x75x4096 := by
  after_reads_simp
  rfl

set_option maxHeartbeats 4000000 in
/-- Entry `d` of the grey array at pixel `q` is the padded grey image `d / 5` down and `d % 5` right of the pixel. -/
theorem arr_v95 (W : Valuation τ sig (Elt Ideal)) (t : Fin 2) (d : Fin 25) (q : Fin 4096) :
    (after hostOps0_4 W (Proc.devRef .tc main_v95) : S2x25x4096.Idx → EReal) (ix3 t d q)
      = (W (Proc.devRef .tc main_v16) : S2x68x68.Idx → EReal) (ix3 t ⟨d.val / 5 + q.val / 64, by omega⟩ ⟨d.val % 5 + q.val % 64, by omega⟩) := by
  rw [rd_v95]
  fin_cases d
  all_goals
    pointwise
    after_reads_simp
    pointwise
    try simp

set_option maxHeartbeats 4000000 in
/-- Entry `(d, c)` of the colour array at pixel `q` is plane `c` of the padded image, `d / 5` down and `d % 5` right. -/
theorem arr_v174 (W : Valuation τ sig (Elt Ideal)) (t : Fin 2) (d : Fin 25) (c : Fin 3) (q : Fin 4096) :
    (after hostOps0_4 W (Proc.devRef .tc main_v174) : S2x75x4096.Idx → EReal) (ix3 t ⟨d.val * 3 + c.val, by omega⟩ q)
      = (W (Proc.devRef .tc main_v17) : S2x3x68x68.Idx → EReal) (ix4 t c ⟨d.val / 5 + q.val / 64, by omega⟩ ⟨d.val % 5 + q.val % 64, by omega⟩) := by
  rw [rd_v174]
  fin_cases d <;> fin_cases c
  all_goals
    pointwise
    after_reads_simp
    pointwise
    try simp

set_option maxHeartbeats 4000000 in
/-- The first matrix's rows, the planes inside each offset. -/
theorem arr_v177 (W : Valuation τ sig (Elt Ideal)) (f : Fin 75) (j : Fin 80) :
    (after hostOps0_4 W (Proc.devRef .tc main_v177) : S75x80.Idx → EReal) (ix2 f j)
      = (W (Proc.devRef .tc main_arg2) : S75x80.Idx → EReal) (ix2 ⟨f.val % 3 * 25 + f.val / 3, by omega⟩ j) := by
  unfold_abbrev_sides
  after_reads_simp
  pointwise

set_option maxHeartbeats 4000000 in
/-- The joined second matrices. -/
theorem arr_v189 (W : Valuation τ sig (Elt Ideal)) (x : Fin 80) (j : Fin 76) :
    (after hostOps0_4 W (Proc.devRef .tc main_v189) : S80x76.Idx → EReal) (ix2 x j)
      = if h : j.val < 75 then (W (Proc.devRef .tc main_arg4) : S80x75.Idx → EReal) (ix2 x ⟨j.val, h⟩)
        else (W (Proc.devRef .tc main_arg6) : S80x1.Idx → EReal) (ix2 x 0) := by
  unfold_abbrev_sides
  after_reads_simp
  pointwise
  try after_reads_simp
  by_cases h : j.val < 75
  · rw [dif_pos h, dif_pos h]
  · rw [dif_neg h, dif_neg h]
    have e : (⟨j.val - 75, by omega⟩ : Fin 1) = 0 := Subsingleton.elim _ _
    exact congrArg _ (by rw [e])

set_option maxHeartbeats 4000000 in
/-- The joined second biases. -/
theorem arr_v191 (W : Valuation τ sig (Elt Ideal)) (j : Fin 76) :
    (after hostOps0_4 W (Proc.devRef .tc main_v191) : S76x1.Idx → EReal) (ix2 j 0)
      = if h : j.val < 75 then (W (Proc.devRef .tc main_arg5) : S75.Idx → EReal) (ix1 ⟨j.val, h⟩)
        else (W (Proc.devRef .tc main_arg7) : S1.Idx → EReal) (ix1 0) := by
  unfold_abbrev_sides
  after_reads_simp
  pointwise
  try after_reads_simp
  by_cases h : j.val < 75
  · rw [dif_pos h, dif_pos h]
  · rw [dif_neg h, dif_neg h]
    have e : (⟨j.val - 75, by omega⟩ : Fin 1) = 0 := Subsingleton.elim _ _
    exact congrArg _ (by rw [e])

set_option maxHeartbeats 4000000 in
/-- The first bias. -/
theorem arr_v192 (W : Valuation τ sig (Elt Ideal)) (j : Fin 80) :
    (after hostOps0_4 W (Proc.devRef .tc main_v192) : S80x1.Idx → EReal) (ix2 j 0)
      = (W (Proc.devRef .tc main_arg3) : S80.Idx → EReal) (ix1 j) := by
  unfold_abbrev_sides
  after_reads_simp
  pointwise

set_option maxHeartbeats 4000000 in
/-- The first scalar is the temperature. -/
theorem arr_v188_0 (W : Valuation τ sig (Elt Ideal)) (t : Fin 2) :
    (after hostOps0_4 W (Proc.devRef .tc main_v188) : S2x1x8.Idx → EReal) (ix3 t 0 0)
      = Ideal.ofBits .f32 0x42960000#32 * Ideal.div ((W (Proc.devRef .tc main_arg1) : S1.Idx → EReal) (ix1 0)) (Ideal.ofBits .f32 0x437F0000#32)
          * Ideal.div ((W (Proc.devRef .tc main_arg1) : S1.Idx → EReal) (ix1 0)) (Ideal.ofBits .f32 0x437F0000#32)
        + Ideal.ofBits .f32 0x358637BD#32 := by
  unfold_abbrev_sides
  after_reads_simp
  pointwise
  after_reads_simp
  pointwise
  rfl

set_option maxHeartbeats 4000000 in
/-- The next three scalars are the means. -/
theorem arr_v188_c (W : Valuation τ sig (Elt Ideal)) (t : Fin 2) (c : Fin 3) :
    (after hostOps0_4 W (Proc.devRef .tc main_v188) : S2x1x8.Idx → EReal) (ix3 t 0 ⟨c.val + 1, by omega⟩)
      = (W (Proc.devRef .tc main_v9) : S2x3x1x1.Idx → EReal) (ix4 t c 0 0) := by
  unfold_abbrev_sides
  after_reads_simp
  pointwise
  after_reads_simp
  pointwise
  rw [dif_neg (by omega), dif_pos (by omega)]
  rfl

end Cert.KernelIdeal.Gen

end
-- ==== Proof.KPfx.lean ====
module

public import proofs.«01_k».proof.Proof.KPre
public import proofs.«01_k».proof.Proof.Gen.ReferenceIdeal.Run
public import Idealize.ShloMosaic.Lib.Pointwise
public import Idealize.ShloMosaic.Lib.StableHlo.RunRead

@[expose] public section

set_option maxRecDepth 65536

noncomputable section

namespace Cert.KernelIdeal.Gen

open Idealize.ShloMosaic Idealize.ShloMosaic.TcCoe Idealize.ShloMosaic.Tactic
open Idealize.ShloMosaic.StableHlo

set_option maxHeartbeats 4000000 in
/-- The image less its mean, before the padding, of both programs: buffer `v9`. -/
theorem pre_v9 (V : Valuation τ sig (Elt Ideal)) (V' : Valuation Cert.ReferenceIdeal.τ Cert.ReferenceIdeal.sig (Elt Ideal))
    (h : V' (Proc.devRef .tc Cert.ReferenceIdeal.main_arg0) = (V (Proc.devRef .tc main_arg0) : S2x3x64x64.Idx → EReal)) :
    (after hostOps0 V (Proc.devRef .tc main_v9) : S2x3x1x1.Idx → EReal) = Cert.ReferenceIdeal.Value.res_main_v9 V' := by
  unfold Cert.ReferenceIdeal.Value.res_main_v9 Cert.ReferenceIdeal.Value.res_main_v5
  rw [h]
  after_reads_simp
  try rfl

set_option maxHeartbeats 4000000 in
/-- The image less its mean, before the padding, of both programs: buffer `v11`. -/
theorem pre_v11 (V : Valuation τ sig (Elt Ideal)) (V' : Valuation Cert.ReferenceIdeal.τ Cert.ReferenceIdeal.sig (Elt Ideal))
    (h : V' (Proc.devRef .tc Cert.ReferenceIdeal.main_arg0) = (V (Proc.devRef .tc main_arg0) : S2x3x64x64.Idx → EReal)) :
    (after hostOps0 V (Proc.devRef .tc main_v11) : S2x3x64x64.Idx → EReal) = Cert.ReferenceIdeal.Value.res_main_v11 V' := by
  unfold Cert.ReferenceIdeal.Value.res_main_v11 Cert.ReferenceIdeal.Value.res_main_v9 Cert.ReferenceIdeal.Value.res_main_v5
  rw [h]
  after_reads_simp
  try rfl

set_option maxHeartbeats 4000000 in
/-- The image less its mean, before the padding, of both programs: buffer `v15`. -/
theorem pre_v15 (V : Valuation τ sig (Elt Ideal)) (V' : Valuation Cert.ReferenceIdeal.τ Cert.ReferenceIdeal.sig (Elt Ideal))
    (h : V' (Proc.devRef .tc Cert.ReferenceIdeal.main_arg0) = (V (Proc.devRef .tc main_arg0) : S2x3x64x64.Idx → EReal)) :
    (after hostOps0 V (Proc.devRef .tc main_v15) : S2x64x64.Idx → EReal) = Cert.ReferenceIdeal.Value.res_main_v15 V' := by
  unfold Cert.ReferenceIdeal.Value.res_main_v15 Cert.ReferenceIdeal.Value.res_main_v11 Cert.ReferenceIdeal.Value.res_main_v9 Cert.ReferenceIdeal.Value.res_main_v5
  rw [h]
  after_reads_simp
  try rfl

/-- A part of the padding's operations. -/
abbrev hostOps0_1p0 : List (HloOp τ sig (Elt Ideal)) :=
  [ StableHlo.TRef.unary (.of main_v15 : StableHlo.TRef sig ⟨S2x64x64, .f32⟩) (.of main_call0_v0 : StableHlo.TRef sig ⟨S2x1x64, .f32⟩) (extractStridedSlice S2x1x64 ![0, 0, 0] · slices_S2x64x64_S2x1x64_0_0_0),
    StableHlo.TRef.unary (.of main_v15 : StableHlo.TRef sig ⟨S2x64x64, .f32⟩) (.of main_call0_v1 : StableHlo.TRef sig ⟨S2x2x64, .f32⟩) (extractStridedSlice S2x2x64 ![0, 1, 0] · slices_S2x64x64_S2x2x64_0_1_0),
    StableHlo.TRef.unary (.of main_call0_v1 : StableHlo.TRef sig ⟨S2x2x64, .f32⟩) (.of main_call0_v2 : StableHlo.TRef sig ⟨S2x2x64, .f32⟩) (Host.reverse [1]),
    StableHlo.TRef.binary main_call0_call0.v0 (.of main_v15 : StableHlo.TRef sig ⟨S2x64x64, .f32⟩) (.of main_call0_v3 : StableHlo.TRef sig ⟨S2x66x64, .f32⟩) (fun a b => concatenate S2x66x64 1 [⟨S2x2x64, a⟩, ⟨S2x64x64, b⟩] concatenates_S2x2x64_S2x64x64_S2x66x64_d1) ]

/-- A part of the padding's operations. -/
abbrev hostOps0_1p1 : List (HloOp τ sig (Elt Ideal)) :=
  [ StableHlo.TRef.unary (.of main_call0_v3 : StableHlo.TRef sig ⟨S2x66x64, .f32⟩) (.of main_call0_v4 : StableHlo.TRef sig ⟨S2x1x64, .f32⟩) (extractStridedSlice S2x1x64 ![0, 65, 0] · slices_S2x66x64_S2x1x64_0_65_0),
    StableHlo.TRef.unary (.of main_call0_v3 : StableHlo.TRef sig ⟨S2x66x64, .f32⟩) (.of main_call0_v5 : StableHlo.TRef sig ⟨S2x2x64, .f32⟩) (extractStridedSlice S2x2x64 ![0, 63, 0] · slices_S2x66x64_S2x2x64_0_63_0),
    StableHlo.TRef.unary (.of main_call0_v5 : StableHlo.TRef sig ⟨S2x2x64, .f32⟩) (.of main_call0_v6 : StableHlo.TRef sig ⟨S2x2x64, .f32⟩) (Host.reverse [1]),
    StableHlo.TRef.binary (.of main_call0_v3 : StableHlo.TRef sig ⟨S2x66x64, .f32⟩) main_call0_call1.v0 (.of main_call0_v7 : StableHlo.TRef sig ⟨S2x68x64, .f32⟩) (fun a b => concatenate S2x68x64 1 [⟨S2x66x64, a⟩, ⟨S2x2x64, b⟩] concatenates_S2x66x64_S2x2x64_S2x68x64_d1) ]

/-- A part of the padding's operations. -/
abbrev hostOps0_1p2 : List (HloOp τ sig (Elt Ideal)) :=
  [ StableHlo.TRef.unary (.of main_call0_v7 : StableHlo.TRef sig ⟨S2x68x64, .f32⟩) (.of main_call0_v8 : StableHlo.TRef sig ⟨S2x68x1, .f32⟩) (extractStridedSlice S2x68x1 ![0, 0, 0] · slices_S2x68x64_S2x68x1_0_0_0),
    StableHlo.TRef.unary (.of main_call0_v7 : StableHlo.TRef sig ⟨S2x68x64, .f32⟩) (.of main_call0_v9 : StableHlo.TRef sig ⟨S2x68x2, .f32⟩) (extractStridedSlice S2x68x2 ![0, 0, 1] · slices_S2x68x64_S2x68x2_0_0_1),
    StableHlo.TRef.unary (.of main_call0_v9 : StableHlo.TRef sig ⟨S2x68x2, .f32⟩) (.of main_call0_v10 : StableHlo.TRef sig ⟨S2x68x2, .f32⟩) (Host.reverse [2]),
    StableHlo.TRef.binary main_call0_call2.v0 (.of main_call0_v7 : StableHlo.TRef sig ⟨S2x68x64, .f32⟩) (.of main_call0_v11 : StableHlo.TRef sig ⟨S2x68x66, .f32⟩) (fun a b => concatenate S2x68x66 2 [⟨S2x68x2, a⟩, ⟨S2x68x64, b⟩] concatenates_S2x68x2_S2x68x64_S2x68x66_d2) ]

/-- A part of the padding's operations. -/
abbrev hostOps0_1p3 : List (HloOp τ sig (Elt Ideal)) :=
  [ StableHlo.TRef.unary (.of main_call0_v11 : StableHlo.TRef sig ⟨S2x68x66, .f32⟩) (.of main_call0_v12 : StableHlo.TRef sig ⟨S2x68x1, .f32⟩) (extractStridedSlice S2x68x1 ![0, 0, 65] · slices_S2x68x66_S2x68x1_0_0_65),
    StableHlo.TRef.unary (.of main_call0_v11 : StableHlo.TRef sig ⟨S2x68x66, .f32⟩) (.of main_call0_v13 : StableHlo.TRef sig ⟨S2x68x2, .f32⟩) (extractStridedSlice S2x68x2 ![0, 0, 63] · slices_S2x68x66_S2x68x2_0_0_63),
    StableHlo.TRef.unary (.of main_call0_v13 : StableHlo.TRef sig ⟨S2x68x2, .f32⟩) (.of main_call0_v14 : StableHlo.TRef sig ⟨S2x68x2, .f32⟩) (Host.reverse [2]),
    StableHlo.TRef.binary (.of main_call0_v11 : StableHlo.TRef sig ⟨S2x68x66, .f32⟩) main_call0_call3.v0 (.of main_v16 : StableHlo.TRef sig ⟨S2x68x68, .f32⟩) (fun a b => concatenate S2x68x68 2 [⟨S2x68x66, a⟩, ⟨S2x68x2, b⟩] concatenates_S2x68x66_S2x68x2_S2x68x68_d2) ]

set_option maxHeartbeats 1000000 in
/-- One extension of the image by its mirror at an edge. -/
theorem hostOps0_1r0 (V : Valuation τ sig (Elt Ideal)) : after hostOps0_1p0 V (Proc.devRef .tc main_call0_v3) = concatenate S2x66x64 1 [⟨S2x2x64, (Host.reverse [1] (extractStridedSlice S2x2x64 ![0, 1, 0] (V (Proc.devRef .tc main_v15)) slices_S2x64x64_S2x2x64_0_1_0))⟩, ⟨S2x64x64, (V (Proc.devRef .tc main_v15))⟩] concatenates_S2x2x64_S2x64x64_S2x66x64_d1 := by
  after_reads_simp
  try rfl

set_option maxHeartbeats 1000000 in
/-- One extension of the image by its mirror at an edge. -/
theorem hostOps0_1r1 (V : Valuation τ sig (Elt Ideal)) : after hostOps0_1p1 V (Proc.devRef .tc main_call0_v7) = concatenate S2x68x64 1 [⟨S2x66x64, (V (Proc.devRef .tc main_call0_v3))⟩, ⟨S2x2x64, (Host.reverse [1] (extractStridedSlice S2x2x64 ![0, 63, 0] (V (Proc.devRef .tc main_call0_v3)) slices_S2x66x64_S2x2x64_0_63_0))⟩] concatenates_S2x66x64_S2x2x64_S2x68x64_d1 := by
  after_reads_simp
  try rfl

set_option maxHeartbeats 1000000 in
/-- One extension of the image by its mirror at an edge. -/
theorem hostOps0_1r2 (V : Valuation τ sig (Elt Ideal)) : after hostOps0_1p2 V (Proc.devRef .tc main_call0_v11) = concatenate S2x68x66 2 [⟨S2x68x2, (Host.reverse [2] (extractStridedSlice S2x68x2 ![0, 0, 1] (V (Proc.devRef .tc main_call0_v7)) slices_S2x68x64_S2x68x2_0_0_1))⟩, ⟨S2x68x64, (V (Proc.devRef .tc main_call0_v7))⟩] concatenates_S2x68x2_S2x68x64_S2x68x66_d2 := by
  after_reads_simp
  try rfl

set_option maxHeartbeats 1000000 in
/-- One extension of the image by its mirror at an edge. -/
theorem hostOps0_1r3 (V : Valuation τ sig (Elt Ideal)) : after hostOps0_1p3 V (Proc.devRef .tc main_v16) = concatenate S2x68x68 2 [⟨S2x68x66, (V (Proc.devRef .tc main_call0_v11))⟩, ⟨S2x68x2, (Host.reverse [2] (extractStridedSlice S2x68x2 ![0, 0, 63] (V (Proc.devRef .tc main_call0_v11)) slices_S2x68x66_S2x68x2_0_0_63))⟩] concatenates_S2x68x66_S2x68x2_S2x68x68_d2 := by
  after_reads_simp
  try rfl

set_option maxHeartbeats 4000000 in
/-- The padded image of both programs. -/
theorem pad_v16 (V : Valuation τ sig (Elt Ideal)) (V' : Valuation Cert.ReferenceIdeal.τ Cert.ReferenceIdeal.sig (Elt Ideal))
    (h : (V (Proc.devRef .tc main_v15) : S2x64x64.Idx → EReal) = Cert.ReferenceIdeal.Value.res_main_v15 V') :
    (after hostOps0_1 V (Proc.devRef .tc main_v16) : S2x68x68.Idx → EReal) = Cert.ReferenceIdeal.Value.res_main_v16 V' := by
  show (after hostOps0_1p3 (after hostOps0_1p2 (after hostOps0_1p1 (after hostOps0_1p0 V))) (Proc.devRef .tc main_v16) : S2x68x68.Idx → EReal) = _
  unfold Cert.ReferenceIdeal.Value.res_main_v16 Cert.ReferenceIdeal.Value.res_main_call0_v11 Cert.ReferenceIdeal.Value.res_main_call0_v7 Cert.ReferenceIdeal.Value.res_main_call0_v3
  rw [hostOps0_1r3, hostOps0_1r2, hostOps0_1r1, hostOps0_1r0, h]
  try rfl

/-- A part of the padding's operations. -/
abbrev hostOps0_3p0 : List (HloOp τ sig (Elt Ideal)) :=
  [ StableHlo.TRef.unary (.of main_v11 : StableHlo.TRef sig ⟨S2x3x64x64, .f32⟩) (.of main_call1_v0 : StableHlo.TRef sig ⟨S2x3x1x64, .f32⟩) (extractStridedSlice S2x3x1x64 ![0, 0, 0, 0] · slices_S2x3x64x64_S2x3x1x64_0_0_0_0),
    StableHlo.TRef.unary (.of main_v11 : StableHlo.TRef sig ⟨S2x3x64x64, .f32⟩) (.of main_call1_v1 : StableHlo.TRef sig ⟨S2x3x2x64, .f32⟩) (extractStridedSlice S2x3x2x64 ![0, 0, 1, 0] · slices_S2x3x64x64_S2x3x2x64_0_0_1_0),
    StableHlo.TRef.unary (.of main_call1_v1 : StableHlo.TRef sig ⟨S2x3x2x64, .f32⟩) (.of main_call1_v2 : StableHlo.TRef sig ⟨S2x3x2x64, .f32⟩) (Host.reverse [2]),
    StableHlo.TRef.binary main_call1_call0.v0 (.of main_v11 : StableHlo.TRef sig ⟨S2x3x64x64, .f32⟩) (.of main_call1_v3 : StableHlo.TRef sig ⟨S2x3x66x64, .f32⟩) (fun a b => concatenate S2x3x66x64 2 [⟨S2x3x2x64, a⟩, ⟨S2x3x64x64, b⟩] concatenates_S2x3x2x64_S2x3x64x64_S2x3x66x64_d2) ]

/-- A part of the padding's operations. -/
abbrev hostOps0_3p1 : List (HloOp τ sig (Elt Ideal)) :=
  [ StableHlo.TRef.unary (.of main_call1_v3 : StableHlo.TRef sig ⟨S2x3x66x64, .f32⟩) (.of main_call1_v4 : StableHlo.TRef sig ⟨S2x3x1x64, .f32⟩) (extractStridedSlice S2x3x1x64 ![0, 0, 65, 0] · slices_S2x3x66x64_S2x3x1x64_0_0_65_0),
    StableHlo.TRef.unary (.of main_call1_v3 : StableHlo.TRef sig ⟨S2x3x66x64, .f32⟩) (.of main_call1_v5 : StableHlo.TRef sig ⟨S2x3x2x64, .f32⟩) (extractStridedSlice S2x3x2x64 ![0, 0, 63, 0] · slices_S2x3x66x64_S2x3x2x64_0_0_63_0),
    StableHlo.TRef.unary (.of main_call1_v5 : StableHlo.TRef sig ⟨S2x3x2x64, .f32⟩) (.of main_call1_v6 : StableHlo.TRef sig ⟨S2x3x2x64, .f32⟩) (Host.reverse [2]),
    StableHlo.TRef.binary (.of main_call1_v3 : StableHlo.TRef sig ⟨S2x3x66x64, .f32⟩) main_call1_call1.v0 (.of main_call1_v7 : StableHlo.TRef sig ⟨S2x3x68x64, .f32⟩) (fun a b => concatenate S2x3x68x64 2 [⟨S2x3x66x64, a⟩, ⟨S2x3x2x64, b⟩] concatenates_S2x3x66x64_S2x3x2x64_S2x3x68x64_d2) ]

/-- A part of the padding's operations. -/
abbrev hostOps0_3p2 : List (HloOp τ sig (Elt Ideal)) :=
  [ StableHlo.TRef.unary (.of main_call1_v7 : StableHlo.TRef sig ⟨S2x3x68x64, .f32⟩) (.of main_call1_v8 : StableHlo.TRef sig ⟨S2x3x68x1, .f32⟩) (extractStridedSlice S2x3x68x1 ![0, 0, 0, 0] · slices_S2x3x68x64_S2x3x68x1_0_0_0_0),
    StableHlo.TRef.unary (.of main_call1_v7 : StableHlo.TRef sig ⟨S2x3x68x64, .f32⟩) (.of main_call1_v9 : StableHlo.TRef sig ⟨S2x3x68x2, .f32⟩) (extractStridedSlice S2x3x68x2 ![0, 0, 0, 1] · slices_S2x3x68x64_S2x3x68x2_0_0_0_1),
    StableHlo.TRef.unary (.of main_call1_v9 : StableHlo.TRef sig ⟨S2x3x68x2, .f32⟩) (.of main_call1_v10 : StableHlo.TRef sig ⟨S2x3x68x2, .f32⟩) (Host.reverse [3]),
    StableHlo.TRef.binary main_call1_call2.v0 (.of main_call1_v7 : StableHlo.TRef sig ⟨S2x3x68x64, .f32⟩) (.of main_call1_v11 : StableHlo.TRef sig ⟨S2x3x68x66, .f32⟩) (fun a b => concatenate S2x3x68x66 3 [⟨S2x3x68x2, a⟩, ⟨S2x3x68x64, b⟩] concatenates_S2x3x68x2_S2x3x68x64_S2x3x68x66_d3) ]

/-- A part of the padding's operations. -/
abbrev hostOps0_3p3 : List (HloOp τ sig (Elt Ideal)) :=
  [ StableHlo.TRef.unary (.of main_call1_v11 : StableHlo.TRef sig ⟨S2x3x68x66, .f32⟩) (.of main_call1_v12 : StableHlo.TRef sig ⟨S2x3x68x1, .f32⟩) (extractStridedSlice S2x3x68x1 ![0, 0, 0, 65] · slices_S2x3x68x66_S2x3x68x1_0_0_0_65),
    StableHlo.TRef.unary (.of main_call1_v11 : StableHlo.TRef sig ⟨S2x3x68x66, .f32⟩) (.of main_call1_v13 : StableHlo.TRef sig ⟨S2x3x68x2, .f32⟩) (extractStridedSlice S2x3x68x2 ![0, 0, 0, 63] · slices_S2x3x68x66_S2x3x68x2_0_0_0_63),
    StableHlo.TRef.unary (.of main_call1_v13 : StableHlo.TRef sig ⟨S2x3x68x2, .f32⟩) (.of main_call1_v14 : StableHlo.TRef sig ⟨S2x3x68x2, .f32⟩) (Host.reverse [3]),
    StableHlo.TRef.binary (.of main_call1_v11 : StableHlo.TRef sig ⟨S2x3x68x66, .f32⟩) main_call1_call3.v0 (.of main_v17 : StableHlo.TRef sig ⟨S2x3x68x68, .f32⟩) (fun a b => concatenate S2x3x68x68 3 [⟨S2x3x68x66, a⟩, ⟨S2x3x68x2, b⟩] concatenates_S2x3x68x66_S2x3x68x2_S2x3x68x68_d3) ]

set_option maxHeartbeats 1000000 in
/-- One extension of the image by its mirror at an edge. -/
theorem hostOps0_3r0 (V : Valuation τ sig (Elt Ideal)) : after hostOps0_3p0 V (Proc.devRef .tc main_call1_v3) = concatenate S2x3x66x64 2 [⟨S2x3x2x64, (Host.reverse [2] (extractStridedSlice S2x3x2x64 ![0, 0, 1, 0] (V (Proc.devRef .tc main_v11)) slices_S2x3x64x64_S2x3x2x64_0_0_1_0))⟩, ⟨S2x3x64x64, (V (Proc.devRef .tc main_v11))⟩] concatenates_S2x3x2x64_S2x3x64x64_S2x3x66x64_d2 := by
  after_reads_simp
  try rfl

set_option maxHeartbeats 1000000 in
/-- One extension of the image by its mirror at an edge. -/
theorem hostOps0_3r1 (V : Valuation τ sig (Elt Ideal)) : after hostOps0_3p1 V (Proc.devRef .tc main_call1_v7) = concatenate S2x3x68x64 2 [⟨S2x3x66x64, (V (Proc.devRef .tc main_call1_v3))⟩, ⟨S2x3x2x64, (Host.reverse [2] (extractStridedSlice S2x3x2x64 ![0, 0, 63, 0] (V (Proc.devRef .tc main_call1_v3)) slices_S2x3x66x64_S2x3x2x64_0_0_63_0))⟩] concatenates_S2x3x66x64_S2x3x2x64_S2x3x68x64_d2 := by
  after_reads_simp
  try rfl

set_option maxHeartbeats 1000000 in
/-- One extension of the image by its mirror at an edge. -/
theorem hostOps0_3r2 (V : Valuation τ sig (Elt Ideal)) : after hostOps0_3p2 V (Proc.devRef .tc main_call1_v11) = concatenate S2x3x68x66 3 [⟨S2x3x68x2, (Host.reverse [3] (extractStridedSlice S2x3x68x2 ![0, 0, 0, 1] (V (Proc.devRef .tc main_call1_v7)) slices_S2x3x68x64_S2x3x68x2_0_0_0_1))⟩, ⟨S2x3x68x64, (V (Proc.devRef .tc main_call1_v7))⟩] concatenates_S2x3x68x2_S2x3x68x64_S2x3x68x66_d3 := by
  after_reads_simp
  try rfl

set_option maxHeartbeats 1000000 in
/-- One extension of the image by its mirror at an edge. -/
theorem hostOps0_3r3 (V : Valuation τ sig (Elt Ideal)) : after hostOps0_3p3 V (Proc.devRef .tc main_v17) = concatenate S2x3x68x68 3 [⟨S2x3x68x66, (V (Proc.devRef .tc main_call1_v11))⟩, ⟨S2x3x68x2, (Host.reverse [3] (extractStridedSlice S2x3x68x2 ![0, 0, 0, 63] (V (Proc.devRef .tc main_call1_v11)) slices_S2x3x68x66_S2x3x68x2_0_0_0_63))⟩] concatenates_S2x3x68x66_S2x3x68x2_S2x3x68x68_d3 := by
  after_reads_simp
  try rfl

set_option maxHeartbeats 4000000 in
/-- The padded image of both programs. -/
theorem pad_v17 (V : Valuation τ sig (Elt Ideal)) (V' : Valuation Cert.ReferenceIdeal.τ Cert.ReferenceIdeal.sig (Elt Ideal))
    (h : (V (Proc.devRef .tc main_v11) : S2x3x64x64.Idx → EReal) = Cert.ReferenceIdeal.Value.res_main_v11 V') :
    (after hostOps0_3 V (Proc.devRef .tc main_v17) : S2x3x68x68.Idx → EReal) = Cert.ReferenceIdeal.Value.res_main_v17 V' := by
  show (after hostOps0_3p3 (after hostOps0_3p2 (after hostOps0_3p1 (after hostOps0_3p0 V))) (Proc.devRef .tc main_v17) : S2x3x68x68.Idx → EReal) = _
  unfold Cert.ReferenceIdeal.Value.res_main_v17 Cert.ReferenceIdeal.Value.res_main_call1_v11 Cert.ReferenceIdeal.Value.res_main_call1_v7 Cert.ReferenceIdeal.Value.res_main_call1_v3
  rw [hostOps0_3r3, hostOps0_3r2, hostOps0_3r1, hostOps0_3r0, h]
  try rfl

/-- These operations leave the buffer alone. -/
theorem keephostOps0_1_v9 (V : Valuation τ sig (Elt Ideal)) : after hostOps0_1 V (Proc.devRef .tc main_v9) = V (Proc.devRef .tc main_v9) := by
  after_reads_simp

/-- These operations leave the buffer alone. -/
theorem keephostOps0_1_v11 (V : Valuation τ sig (Elt Ideal)) : after hostOps0_1 V (Proc.devRef .tc main_v11) = V (Proc.devRef .tc main_v11) := by
  after_reads_simp

/-- These operations leave the buffer alone. -/
theorem keephostOps0_2_v9 (V : Valuation τ sig (Elt Ideal)) : after hostOps0_2 V (Proc.devRef .tc main_v9) = V (Proc.devRef .tc main_v9) := by
  after_reads_simp

/-- These operations leave the buffer alone. -/
theorem keephostOps0_2_v11 (V : Valuation τ sig (Elt Ideal)) : after hostOps0_2 V (Proc.devRef .tc main_v11) = V (Proc.devRef .tc main_v11) := by
  after_reads_simp

/-- These operations leave the buffer alone. -/
theorem keephostOps0_2_v16 (V : Valuation τ sig (Elt Ideal)) : after hostOps0_2 V (Proc.devRef .tc main_v16) = V (Proc.devRef .tc main_v16) := by
  after_reads_simp

/-- These operations leave the buffer alone. -/
theorem keephostOps0_3_v9 (V : Valuation τ sig (Elt Ideal)) : after hostOps0_3 V (Proc.devRef .tc main_v9) = V (Proc.devRef .tc main_v9) := by
  after_reads_simp

/-- These operations leave the buffer alone. -/
theorem keephostOps0_3_v11 (V : Valuation τ sig (Elt Ideal)) : after hostOps0_3 V (Proc.devRef .tc main_v11) = V (Proc.devRef .tc main_v11) := by
  after_reads_simp

/-- These operations leave the buffer alone. -/
theorem keephostOps0_3_v16 (V : Valuation τ sig (Elt Ideal)) : after hostOps0_3 V (Proc.devRef .tc main_v16) = V (Proc.devRef .tc main_v16) := by
  after_reads_simp

/-- These operations leave the buffer alone. -/
theorem keephostOps0_arg0 (V : Valuation τ sig (Elt Ideal)) : after hostOps0 V (Proc.devRef .tc main_arg0) = V (Proc.devRef .tc main_arg0) := by
  after_reads_simp

/-- These operations leave the buffer alone. -/
theorem keephostOps0_arg1 (V : Valuation τ sig (Elt Ideal)) : after hostOps0 V (Proc.devRef .tc main_arg1) = V (Proc.devRef .tc main_arg1) := by
  after_reads_simp

/-- These operations leave the buffer alone. -/
theorem keephostOps0_arg2 (V : Valuation τ sig (Elt Ideal)) : after hostOps0 V (Proc.devRef .tc main_arg2) = V (Proc.devRef .tc main_arg2) := by
  after_reads_simp

/-- These operations leave the buffer alone. -/
theorem keephostOps0_arg3 (V : Valuation τ sig (Elt Ideal)) : after hostOps0 V (Proc.devRef .tc main_arg3) = V (Proc.devRef .tc main_arg3) := by
  after_reads_simp

/-- These operations leave the buffer alone. -/
theorem keephostOps0_arg4 (V : Valuation τ sig (Elt Ideal)) : after hostOps0 V (Proc.devRef .tc main_arg4) = V (Proc.devRef .tc main_arg4) := by
  after_reads_simp

/-- These operations leave the buffer alone. -/
theorem keephostOps0_arg5 (V : Valuation τ sig (Elt Ideal)) : after hostOps0 V (Proc.devRef .tc main_arg5) = V (Proc.devRef .tc main_arg5) := by
  after_reads_simp

/-- These operations leave the buffer alone. -/
theorem keephostOps0_arg6 (V : Valuation τ sig (Elt Ideal)) : after hostOps0 V (Proc.devRef .tc main_arg6) = V (Proc.devRef .tc main_arg6) := by
  after_reads_simp

/-- These operations leave the buffer alone. -/
theorem keephostOps0_arg7 (V : Valuation τ sig (Elt Ideal)) : after hostOps0 V (Proc.devRef .tc main_arg7) = V (Proc.devRef .tc main_arg7) := by
  after_reads_simp

/-- These operations leave the buffer alone. -/
theorem keephostOps0_1_arg0 (V : Valuation τ sig (Elt Ideal)) : after hostOps0_1 V (Proc.devRef .tc main_arg0) = V (Proc.devRef .tc main_arg0) := by
  after_reads_simp

/-- These operations leave the buffer alone. -/
theorem keephostOps0_1_arg1 (V : Valuation τ sig (Elt Ideal)) : after hostOps0_1 V (Proc.devRef .tc main_arg1) = V (Proc.devRef .tc main_arg1) := by
  after_reads_simp

/-- These operations leave the buffer alone. -/
theorem keephostOps0_1_arg2 (V : Valuation τ sig (Elt Ideal)) : after hostOps0_1 V (Proc.devRef .tc main_arg2) = V (Proc.devRef .tc main_arg2) := by
  after_reads_simp

/-- These operations leave the buffer alone. -/
theorem keephostOps0_1_arg3 (V : Valuation τ sig (Elt Ideal)) : after hostOps0_1 V (Proc.devRef .tc main_arg3) = V (Proc.devRef .tc main_arg3) := by
  after_reads_simp

/-- These operations leave the buffer alone. -/
theorem keephostOps0_1_arg4 (V : Valuation τ sig (Elt Ideal)) : after hostOps0_1 V (Proc.devRef .tc main_arg4) = V (Proc.devRef .tc main_arg4) := by
  after_reads_simp

/-- These operations leave the buffer alone. -/
theorem keephostOps0_1_arg5 (V : Valuation τ sig (Elt Ideal)) : after hostOps0_1 V (Proc.devRef .tc main_arg5) = V (Proc.devRef .tc main_arg5) := by
  after_reads_simp

/-- These operations leave the buffer alone. -/
theorem keephostOps0_1_arg6 (V : Valuation τ sig (Elt Ideal)) : after hostOps0_1 V (Proc.devRef .tc main_arg6) = V (Proc.devRef .tc main_arg6) := by
  after_reads_simp

/-- These operations leave the buffer alone. -/
theorem keephostOps0_1_arg7 (V : Valuation τ sig (Elt Ideal)) : after hostOps0_1 V (Proc.devRef .tc main_arg7) = V (Proc.devRef .tc main_arg7) := by
  after_reads_simp

/-- These operations leave the buffer alone. -/
theorem keephostOps0_2_arg0 (V : Valuation τ sig (Elt Ideal)) : after hostOps0_2 V (Proc.devRef .tc main_arg0) = V (Proc.devRef .tc main_arg0) := by
  after_reads_simp

/-- These operations leave the buffer alone. -/
theorem keephostOps0_2_arg1 (V : Valuation τ sig (Elt Ideal)) : after hostOps0_2 V (Proc.devRef .tc main_arg1) = V (Proc.devRef .tc main_arg1) := by
  after_reads_simp

/-- These operations leave the buffer alone. -/
theorem keephostOps0_2_arg2 (V : Valuation τ sig (Elt Ideal)) : after hostOps0_2 V (Proc.devRef .tc main_arg2) = V (Proc.devRef .tc main_arg2) := by
  after_reads_simp

/-- These operations leave the buffer alone. -/
theorem keephostOps0_2_arg3 (V : Valuation τ sig (Elt Ideal)) : after hostOps0_2 V (Proc.devRef .tc main_arg3) = V (Proc.devRef .tc main_arg3) := by
  after_reads_simp

/-- These operations leave the buffer alone. -/
theorem keephostOps0_2_arg4 (V : Valuation τ sig (Elt Ideal)) : after hostOps0_2 V (Proc.devRef .tc main_arg4) = V (Proc.devRef .tc main_arg4) := by
  after_reads_simp

/-- These operations leave the buffer alone. -/
theorem keephostOps0_2_arg5 (V : Valuation τ sig (Elt Ideal)) : after hostOps0_2 V (Proc.devRef .tc main_arg5) = V (Proc.devRef .tc main_arg5) := by
  after_reads_simp

/-- These operations leave the buffer alone. -/
theorem keephostOps0_2_arg6 (V : Valuation τ sig (Elt Ideal)) : after hostOps0_2 V (Proc.devRef .tc main_arg6) = V (Proc.devRef .tc main_arg6) := by
  after_reads_simp

/-- These operations leave the buffer alone. -/
theorem keephostOps0_2_arg7 (V : Valuation τ sig (Elt Ideal)) : after hostOps0_2 V (Proc.devRef .tc main_arg7) = V (Proc.devRef .tc main_arg7) := by
  after_reads_simp

/-- These operations leave the buffer alone. -/
theorem keephostOps0_3_arg0 (V : Valuation τ sig (Elt Ideal)) : after hostOps0_3 V (Proc.devRef .tc main_arg0) = V (Proc.devRef .tc main_arg0) := by
  after_reads_simp

/-- These operations leave the buffer alone. -/
theorem keephostOps0_3_arg1 (V : Valuation τ sig (Elt Ideal)) : after hostOps0_3 V (Proc.devRef .tc main_arg1) = V (Proc.devRef .tc main_arg1) := by
  after_reads_simp

/-- These operations leave the buffer alone. -/
theorem keephostOps0_3_arg2 (V : Valuation τ sig (Elt Ideal)) : after hostOps0_3 V (Proc.devRef .tc main_arg2) = V (Proc.devRef .tc main_arg2) := by
  after_reads_simp

/-- These operations leave the buffer alone. -/
theorem keephostOps0_3_arg3 (V : Valuation τ sig (Elt Ideal)) : after hostOps0_3 V (Proc.devRef .tc main_arg3) = V (Proc.devRef .tc main_arg3) := by
  after_reads_simp

/-- These operations leave the buffer alone. -/
theorem keephostOps0_3_arg4 (V : Valuation τ sig (Elt Ideal)) : after hostOps0_3 V (Proc.devRef .tc main_arg4) = V (Proc.devRef .tc main_arg4) := by
  after_reads_simp

/-- These operations leave the buffer alone. -/
theorem keephostOps0_3_arg5 (V : Valuation τ sig (Elt Ideal)) : after hostOps0_3 V (Proc.devRef .tc main_arg5) = V (Proc.devRef .tc main_arg5) := by
  after_reads_simp

/-- These operations leave the buffer alone. -/
theorem keephostOps0_3_arg6 (V : Valuation τ sig (Elt Ideal)) : after hostOps0_3 V (Proc.devRef .tc main_arg6) = V (Proc.devRef .tc main_arg6) := by
  after_reads_simp

/-- These operations leave the buffer alone. -/
theorem keephostOps0_3_arg7 (V : Valuation τ sig (Elt Ideal)) : after hostOps0_3 V (Proc.devRef .tc main_arg7) = V (Proc.devRef .tc main_arg7) := by
  after_reads_simp

/-- What the array operations before the last part leave. -/
abbrev WK (V : Valuation τ sig (Elt Ideal)) : Valuation τ sig (Elt Ideal) := after hostOps0_3 (after hostOps0_2 (after hostOps0_1 (after hostOps0 V)))

/-- The operations before the launch, their last part apart. -/
theorem after_split (V : Valuation τ sig (Elt Ideal)) : after (List.flatten [hostOps0, hostOps0_1, hostOps0_2, hostOps0_3, hostOps0_4]) V = after hostOps0_4 (WK V) := by
  show after (hostOps0 ++ (hostOps0_1 ++ (hostOps0_2 ++ (hostOps0_3 ++ (hostOps0_4 ++ []))))) V = _
  rw [after_append, after_append, after_append, after_append, List.append_nil]

/-- The argument is as it was. -/
theorem WK_arg0 (V : Valuation τ sig (Elt Ideal)) : WK V (Proc.devRef .tc main_arg0) = V (Proc.devRef .tc main_arg0) := by
  rw [WK, keephostOps0_3_arg0, keephostOps0_2_arg0, keephostOps0_1_arg0, keephostOps0_arg0]

/-- The argument is as it was. -/
theorem WK_arg1 (V : Valuation τ sig (Elt Ideal)) : WK V (Proc.devRef .tc main_arg1) = V (Proc.devRef .tc main_arg1) := by
  rw [WK, keephostOps0_3_arg1, keephostOps0_2_arg1, keephostOps0_1_arg1, keephostOps0_arg1]

/-- The argument is as it was. -/
theorem WK_arg2 (V : Valuation τ sig (Elt Ideal)) : WK V (Proc.devRef .tc main_arg2) = V (Proc.devRef .tc main_arg2) := by
  rw [WK, keephostOps0_3_arg2, keephostOps0_2_arg2, keephostOps0_1_arg2, keephostOps0_arg2]

/-- The argument is as it was. -/
theorem WK_arg3 (V : Valuation τ sig (Elt Ideal)) : WK V (Proc.devRef .tc main_arg3) = V (Proc.devRef .tc main_arg3) := by
  rw [WK, keephostOps0_3_arg3, keephostOps0_2_arg3, keephostOps0_1_arg3, keephostOps0_arg3]

/-- The argument is as it was. -/
theorem WK_arg4 (V : Valuation τ sig (Elt Ideal)) : WK V (Proc.devRef .tc main_arg4) = V (Proc.devRef .tc main_arg4) := by
  rw [WK, keephostOps0_3_arg4, keephostOps0_2_arg4, keephostOps0_1_arg4, keephostOps0_arg4]

/-- The argument is as it was. -/
theorem WK_arg5 (V : Valuation τ sig (Elt Ideal)) : WK V (Proc.devRef .tc main_arg5) = V (Proc.devRef .tc main_arg5) := by
  rw [WK, keephostOps0_3_arg5, keephostOps0_2_arg5, keephostOps0_1_arg5, keephostOps0_arg5]

/-- The argument is as it was. -/
theorem WK_arg6 (V : Valuation τ sig (Elt Ideal)) : WK V (Proc.devRef .tc main_arg6) = V (Proc.devRef .tc main_arg6) := by
  rw [WK, keephostOps0_3_arg6, keephostOps0_2_arg6, keephostOps0_1_arg6, keephostOps0_arg6]

/-- The argument is as it was. -/
theorem WK_arg7 (V : Valuation τ sig (Elt Ideal)) : WK V (Proc.devRef .tc main_arg7) = V (Proc.devRef .tc main_arg7) := by
  rw [WK, keephostOps0_3_arg7, keephostOps0_2_arg7, keephostOps0_1_arg7, keephostOps0_arg7]

/-- The image means of both programs. -/
theorem WK_v9 (V : Valuation τ sig (Elt Ideal)) (V' : Valuation Cert.ReferenceIdeal.τ Cert.ReferenceIdeal.sig (Elt Ideal))
    (h : V' (Proc.devRef .tc Cert.ReferenceIdeal.main_arg0) = (V (Proc.devRef .tc main_arg0) : S2x3x64x64.Idx → EReal)) : (WK V (Proc.devRef .tc main_v9) : S2x3x1x1.Idx → EReal) = Cert.ReferenceIdeal.Value.res_main_v9 V' := by
  rw [WK, keephostOps0_3_v9, keephostOps0_2_v9, keephostOps0_1_v9]
  exact pre_v9 V V' h

/-- The padded grey image of both programs. -/
theorem WK_v16 (V : Valuation τ sig (Elt Ideal)) (V' : Valuation Cert.ReferenceIdeal.τ Cert.ReferenceIdeal.sig (Elt Ideal))
    (h : V' (Proc.devRef .tc Cert.ReferenceIdeal.main_arg0) = (V (Proc.devRef .tc main_arg0) : S2x3x64x64.Idx → EReal)) : (WK V (Proc.devRef .tc main_v16) : S2x68x68.Idx → EReal) = Cert.ReferenceIdeal.Value.res_main_v16 V' := by
  rw [WK, keephostOps0_3_v16, keephostOps0_2_v16]
  exact pad_v16 _ V' (pre_v15 V V' h)

/-- The padded colour image of both programs. -/
theorem WK_v17 (V : Valuation τ sig (Elt Ideal)) (V' : Valuation Cert.ReferenceIdeal.τ Cert.ReferenceIdeal.sig (Elt Ideal))
    (h : V' (Proc.devRef .tc Cert.ReferenceIdeal.main_arg0) = (V (Proc.devRef .tc main_arg0) : S2x3x64x64.Idx → EReal)) : (WK V (Proc.devRef .tc main_v17) : S2x3x68x68.Idx → EReal) = Cert.ReferenceIdeal.Value.res_main_v17 V' := by
  refine pad_v17 _ V' ?_
  rw [keephostOps0_2_v11, keephostOps0_1_v11]
  exact pre_v11 V V' h

end Cert.KernelIdeal.Gen
-- ==== Proof.RefOps.lean ====
module

public import proofs.«01_k».proof.Proof.Gen.ReferenceIdeal.Run
public import Idealize.ShloMosaic.Lib.Pointwise
public import Idealize.ShloMosaic.Lib.SortFacts
public import Idealize.ShloMosaic.Lib.KernelVsHost
public import Idealize.ShloMosaic.Lib.Routing.OpsPair

@[expose] public section

set_option maxRecDepth 65536

noncomputable section

namespace Cert.ReferenceIdeal.Value

open Idealize.ShloMosaic Idealize.ShloMosaic.TcCoe Idealize.ShloMosaic.Tactic
open Idealize.ShloMosaic.StableHlo Cert.ReferenceIdeal

variable (V0 : Valuation τ sig (Elt Ideal))

/-- The arrangement the host's sort gives one row of distances. -/
def arrange (x : S2x4096x4096.Idx → EReal) (t : Fin 2) (q : Fin 4096) : Fin 4096 → Fin 4096 :=
  sortedFrom fun k k' => (FloatOps.cmpfTotal (F := Ideal) (φ := .f32) .gt (x (ix3 t q k)) (x (ix3 t q k')) == 1#1)

/-- Replacing the last coordinate. -/
theorem along_ix3 (t : Fin 2) (q k k' : Fin 4096) :
    Shape.Idx.along (s := S2x4096x4096) (ix3 t q k) 2 k' = ix3 t q k' := by
  funext a
  match a with
  | ⟨0, _⟩ => rfl
  | ⟨1, _⟩ => rfl
  | ⟨2, _⟩ => rfl

set_option maxHeartbeats 2000000 in
/-- The greatest entries' values of one row, in order. -/
theorem topK_val (m : ℕ) (hm : m ≤ 4096) (x : S2x4096x4096.Idx → EReal) (h : S2x4096x4096.Slices (fun _ => 0) ⟨3, ![2, 4096, m]⟩)
    (t : Fin 2) (q : Fin 4096) (j : Fin m) :
    (Host.topK (α := EReal) ⟨3, ![2, 4096, m]⟩ 2 (FloatOps.cmpfTotal (F := Ideal) (φ := .f32) .gt) x h).1 (ix3 t q j)
      = x (ix3 t q (arrange x t q ⟨j.val, by omega⟩)) := by
  have e : (fun a => (⟨0 + ((ix3 t q j) (a.cast h.1.symm)).val, Nat.lt_of_lt_of_le (Nat.add_lt_add_left (Fin.isLt _) _) (h.2 a)⟩ : Fin (S2x4096x4096.size a)))
      = (ix3 t q ⟨j.val, by omega⟩ : S2x4096x4096.Idx) := by
    funext a
    match a with
    | ⟨0, _⟩ => exact Fin.ext (Nat.zero_add _)
    | ⟨1, _⟩ => exact Fin.ext (Nat.zero_add _)
    | ⟨2, _⟩ => exact Fin.ext (Nat.zero_add _)
  unfold Host.topK Host.sort2 extractStridedSlice
  simp only [dif_pos (show 2 < S2x4096x4096.rank from by decide)]
  refine (congrArg (fun i : S2x4096x4096.Idx => x (Shape.Idx.along i 2 (sortedFrom (fun k k' => (FloatOps.cmpfTotal (F := Ideal) (φ := .f32) .gt (x (Shape.Idx.along i 2 k)) (x (Shape.Idx.along i 2 k')) == 1#1)) (i 2)))) e).trans ?_
  refine (congrArg x (along_ix3 t q ⟨j.val, by omega⟩ _)).trans ?_
  refine congrArg (fun f : Fin 4096 → Fin 4096 → Bool => x (ix3 t q (sortedFrom f ⟨j.val, by omega⟩))) ?_
  funext k k'
  rw [← along_ix3 t q ⟨j.val, by omega⟩ k, ← along_ix3 t q ⟨j.val, by omega⟩ k']

set_option maxHeartbeats 2000000 in
/-- Their positions, as words. -/
theorem topK_idx (m : ℕ) (hm : m ≤ 4096) (x : S2x4096x4096.Idx → EReal) (h : S2x4096x4096.Slices (fun _ => 0) ⟨3, ![2, 4096, m]⟩)
    (t : Fin 2) (q : Fin 4096) (j : Fin m) :
    (Host.topK (α := EReal) ⟨3, ![2, 4096, m]⟩ 2 (FloatOps.cmpfTotal (F := Ideal) (φ := .f32) .gt) x h).2 (ix3 t q j)
      = BitVec.ofNat 32 (arrange x t q ⟨j.val, by omega⟩).val := by
  have e : (fun a => (⟨0 + ((ix3 t q j) (a.cast h.1.symm)).val, Nat.lt_of_lt_of_le (Nat.add_lt_add_left (Fin.isLt _) _) (h.2 a)⟩ : Fin (S2x4096x4096.size a)))
      = (ix3 t q ⟨j.val, by omega⟩ : S2x4096x4096.Idx) := by
    funext a
    match a with
    | ⟨0, _⟩ => exact Fin.ext (Nat.zero_add _)
    | ⟨1, _⟩ => exact Fin.ext (Nat.zero_add _)
    | ⟨2, _⟩ => exact Fin.ext (Nat.zero_add _)
  unfold Host.topK Host.sort2 extractStridedSlice
  simp only [dif_pos (show 2 < S2x4096x4096.rank from by decide)]
  refine (congrArg (fun i : S2x4096x4096.Idx => iotaInDim S2x4096x4096 32 ⟨2, by decide⟩ (Shape.Idx.along i 2 (sortedFrom (fun k k' => (FloatOps.cmpfTotal (F := Ideal) (φ := .f32) .gt (x (Shape.Idx.along i 2 k)) (x (Shape.Idx.along i 2 k')) == 1#1)) (i 2)))) e).trans ?_
  refine (congrArg (iotaInDim S2x4096x4096 32 ⟨2, by decide⟩) (along_ix3 t q ⟨j.val, by omega⟩ _)).trans ?_
  refine congrArg (fun f : Fin 4096 → Fin 4096 → Bool => BitVec.ofNat 32 (sortedFrom f ⟨j.val, by omega⟩).val) ?_
  funext k k'
  rw [← along_ix3 t q ⟨j.val, by omega⟩ k, ← along_ix3 t q ⟨j.val, by omega⟩ k']

/-- Every position occurs. -/
theorem arrange_surjective (x : S2x4096x4096.Idx → EReal) (t : Fin 2) (q : Fin 4096) : Function.Surjective (arrange x t q) :=
  sortedFrom_surjective _

/-- No position occurs twice. -/
theorem arrange_injective (x : S2x4096x4096.Idx → EReal) (t : Fin 2) (q : Fin 4096) : Function.Injective (arrange x t q) :=
  sortedFrom_injective _

/-- The arrangement descends. -/
theorem arrange_anti (x : S2x4096x4096.Idx → EReal) (t : Fin 2) (q : Fin 4096) (i j : Fin 4096) (hij : i ≤ j) :
    x (ix3 t q (arrange x t q j)) ≤ x (ix3 t q (arrange x t q i)) := by
  rcases hij.eq_or_lt with rfl | hlt
  · exact le_rfl
  have hc : ∀ a b : EReal, (FloatOps.cmpfTotal (F := Ideal) (φ := .f32) .gt a b == 1#1) = true ↔ b < a := by
    intro a b
    by_cases c : b < a
    · simp [FloatOps.cmpfTotal, Ideal.cmpTotal, Ideal.cmp, CmpDirection.ordered, c]
    · simp [FloatOps.cmpfTotal, Ideal.cmpTotal, Ideal.cmp, CmpDirection.ordered, c]
  have hf : ∀ a b : EReal, (FloatOps.cmpfTotal (F := Ideal) (φ := .f32) .gt a b == 1#1) = false ↔ ¬ b < a := by
    intro a b
    rw [← hc]; simp
  have := sortedFrom_noInversion
    (fun k k' => (FloatOps.cmpfTotal (F := Ideal) (φ := .f32) .gt (x (ix3 t q k)) (x (ix3 t q k')) == 1#1))
    (fun k k' => (FloatOps.cmpfTotal (F := Ideal) (φ := .f32) .gt (x (ix3 t q k)) (x (ix3 t q k')) == 1#1))
    (fun a b h => (hf _ _).mpr (not_lt.mpr ((hc _ _).mp h).le)) (fun _ _ h => h)
    (fun a b c h1 h2 => (hf _ _).mpr (not_lt.mpr ((not_lt.mp ((hf _ _).mp h1)).trans (not_lt.mp ((hf _ _).mp h2))))) i j hlt
  exact not_lt.mp ((hf _ _).mp this)

/-- The gathered rows: row `j` of query `q` is the row its word names. -/
theorem gather_at (x : S2x4096x75.Idx → EReal) (idx : IVec S2x4096x14x1 32) (t : Fin 2) (q : Fin 4096) (j : Fin 14) (f : Fin 75)
    (n : Fin 4096) (hn : idx (ix4 t q j 0) = BitVec.ofNat 32 n.val) :
    Host.gather gather_S2x4096x75_S2x4096x14x1_S2x4096x14x75_3_1_0_0_1_3_1175 x idx (ix4 t q j f) = x (ix3 t n f) := by
  unfold Host.gather
  congr 1
  funext a
  apply Fin.ext
  match a with
  | ⟨0, _⟩ =>
    show 0 + t.val + 0 = t.val
    omega
  | ⟨1, _⟩ =>
    show min (idx _).toInt.toNat (4096 - 1) + 0 + 0 = n.val
    have e : GatherDims.siIdx gather_S2x4096x75_S2x4096x14x1_S2x4096x14x75_3_1_0_0_1_3_1175 (ix4 t q j f) ⟨0, by decide⟩ = (ix4 t q j 0 : S2x4096x14x1.Idx) := by
      funext b
      match b with
      | ⟨0, _⟩ => rfl
      | ⟨1, _⟩ => rfl
      | ⟨2, _⟩ => rfl
      | ⟨3, _⟩ => rfl
    have e2 : (idx (GatherDims.siIdx gather_S2x4096x75_S2x4096x14x1_S2x4096x14x75_3_1_0_0_1_3_1175 (ix4 t q j f) ⟨0, by decide⟩)) = BitVec.ofNat 32 n.val := by rw [e, hn]
    have e3 : (BitVec.ofNat 32 n.val).toInt.toNat = n.val := by
      have := n.isLt
      rw [BitVec.toInt_eq_toNat_of_lt (by rw [BitVec.toNat_ofNat]; omega), BitVec.toNat_ofNat]
      omega
    refine (congrArg (fun v : BitVec 32 => min v.toInt.toNat (4096 - 1) + 0 + 0) e2).trans ?_
    show min (BitVec.ofNat 32 n.val).toInt.toNat (4096 - 1) + 0 + 0 = n.val
    rw [e3]
    have := n.isLt
    omega
  | ⟨2, _⟩ =>
    show 0 + 0 + f.val = f.val
    omega

/-- One accumulating scatter: to the entry at a place is added the update of the queries whose word is the place. -/
theorem scatter_at (x : FVec Ideal S2x3x4624 .f32) (idx : IVec S4096x1 32) (u : FVec Ideal S2x3x4096 .f32) (P : Fin 4096 → ℕ)
    (hP : ∀ q, P q < 4624) (hidx : ∀ q, idx (ix2 q 0) = BitVec.ofNat 32 (P q)) (t : Fin 2) (c : Fin 3) (p : Fin 4624) :
    (Host.scatterAdd scatter_S2x3x4624_S4096x1_S2x3x4096_01_2_2_1 x idx u : S2x3x4624.Idx → EReal) (ix3 t c p)
      = (x (ix3 t c p) : EReal) + ∑ q ∈ Finset.univ.filter (fun q : Fin 4096 => P q = p.val), (u (ix3 t c q) : EReal) := by
  show (x (ix3 t c p) : EReal) + ∑ j ∈ Finset.univ.filter (fun j => ScatterDims.resultIdx? scatter_S2x3x4624_S4096x1_S2x3x4096_01_2_2_1 j idx = some (ix3 t c p)), (u j : EReal) = _
  congr 1
  have key : ∀ j : S2x3x4096.Idx, ScatterDims.resultIdx? scatter_S2x3x4624_S4096x1_S2x3x4096_01_2_2_1 j idx = some (ix3 t c p) ↔ j 0 = t ∧ j 1 = c ∧ P (j 2) = p.val := by
    intro j
    rw [Routing.resultIdx?_eq_some]
    have e2 : ScatterDims.siIdx scatter_S2x3x4624_S4096x1_S2x3x4096_01_2_2_1 j ⟨0, by decide⟩ = (ix2 (j 2) 0 : S4096x1.Idx) := by
      funext b
      match b with
      | ⟨0, _⟩ => rfl
      | ⟨1, _⟩ => rfl
    have s2 : ScatterDims.start scatter_S2x3x4624_S4096x1_S2x3x4096_01_2_2_1 j idx 2 = (P (j 2) : Int) := by
      refine (congrArg (fun i => (idx i).toInt) e2).trans ?_
      refine (congrArg BitVec.toInt (hidx (j 2))).trans ?_
      have := hP (j 2)
      rw [BitVec.toInt_eq_toNat_of_lt (by rw [BitVec.toNat_ofNat]; omega), BitVec.toNat_ofNat]
      congr 1
      omega
    have s0 : ScatterDims.start scatter_S2x3x4624_S4096x1_S2x3x4096_01_2_2_1 j idx 0 = 0 := rfl
    have s1 : ScatterDims.start scatter_S2x3x4624_S4096x1_S2x3x4096_01_2_2_1 j idx 1 = 0 := rfl
    have w0 : ScatterDims.window scatter_S2x3x4624_S4096x1_S2x3x4096_01_2_2_1 j 0 = (j 0).val := rfl
    have w1 : ScatterDims.window scatter_S2x3x4624_S4096x1_S2x3x4096_01_2_2_1 j 1 = (j 1).val := rfl
    have w2 : ScatterDims.window scatter_S2x3x4624_S4096x1_S2x3x4096_01_2_2_1 j 2 = 0 := rfl
    constructor
    · intro h
      have h0 := h 0
      have h1 := h 1
      have h2 := h 2
      rw [s0, w0] at h0
      rw [s1, w1] at h1
      rw [s2, w2] at h2
      refine ⟨Fin.ext ?_, Fin.ext ?_, ?_⟩
      · have : (((ix3 t c p : S2x3x4624.Idx) 0).val : Int) = t.val := rfl
        omega
      · have : (((ix3 t c p : S2x3x4624.Idx) 1).val : Int) = c.val := rfl
        omega
      · have : (((ix3 t c p : S2x3x4624.Idx) 2).val : Int) = p.val := rfl
        omega
    · rintro ⟨h0, h1, h2⟩ a
      match a with
      | ⟨0, _⟩ =>
        show ScatterDims.start scatter_S2x3x4624_S4096x1_S2x3x4096_01_2_2_1 j idx 0 + (ScatterDims.window scatter_S2x3x4624_S4096x1_S2x3x4096_01_2_2_1 j 0 : Int) = (t.val : Int)
        rw [s0, w0, h0]; omega
      | ⟨1, _⟩ =>
        show ScatterDims.start scatter_S2x3x4624_S4096x1_S2x3x4096_01_2_2_1 j idx 1 + (ScatterDims.window scatter_S2x3x4624_S4096x1_S2x3x4096_01_2_2_1 j 1 : Int) = (c.val : Int)
        rw [s1, w1, h1]; omega
      | ⟨2, _⟩ =>
        show ScatterDims.start scatter_S2x3x4624_S4096x1_S2x3x4096_01_2_2_1 j idx 2 + (ScatterDims.window scatter_S2x3x4624_S4096x1_S2x3x4096_01_2_2_1 j 2 : Int) = (p.val : Int)
        rw [s2, w2, h2]; omega
  refine Finset.sum_nbij' (fun j => j 2) (fun q => ix3 t c q) ?_ ?_ ?_ ?_ ?_
  · intro j hj
    exact Finset.mem_filter.mpr ⟨Finset.mem_univ _, ((key j).mp (Finset.mem_filter.mp hj).2).2.2⟩
  · intro q hq
    exact Finset.mem_filter.mpr ⟨Finset.mem_univ _, (key _).mpr ⟨rfl, rfl, (Finset.mem_filter.mp hq).2⟩⟩
  · intro j hj
    rw [Finset.mem_filter] at hj
    obtain ⟨h0, h1, _⟩ := (key j).mp hj.2
    funext a
    match a with
    | ⟨0, _⟩ => exact h0.symm
    | ⟨1, _⟩ => exact h1.symm
    | ⟨2, _⟩ => rfl
  · intro q _; rfl
  · intro j hj
    rw [Finset.mem_filter] at hj
    obtain ⟨h0, h1, _⟩ := (key j).mp hj.2
    congr 1
    funext a
    match a with
    | ⟨0, _⟩ => exact h0
    | ⟨1, _⟩ => exact h1
    | ⟨2, _⟩ => rfl

end Cert.ReferenceIdeal.Value

end
-- ==== Proof.RefRead.lean ====
module

public import proofs.«01_k».proof.Proof.RefOps
public import Idealize.ShloMosaic.Lib.Pointwise
public import Idealize.ShloMosaic.Lib.SortFacts
public import Idealize.ShloMosaic.Lib.KernelVsHost
public import Idealize.ShloMosaic.Lib.Routing.OpsPair

@[expose] public section

set_option maxRecDepth 65536

noncomputable section

namespace Cert.ReferenceIdeal.Value

open Idealize.ShloMosaic Idealize.ShloMosaic.TcCoe Idealize.ShloMosaic.Tactic
open Idealize.ShloMosaic.StableHlo Cert.ReferenceIdeal Cert.ReferenceIdeal.Gen

variable (V0 : Valuation τ sig (Elt Ideal))

set_option maxHeartbeats 4000000 in
/-- The grey patches. -/
theorem v71_at (t : Fin 2) (q : Fin 4096) (d : Fin 25) :
    (res_main_v71 V0 : S2x4096x25.Idx → EReal) (ix3 t q d)
      = (res_main_v16 V0 : S2x68x68.Idx → EReal) (ix3 t ⟨d.val / 5 + q.val / 64, by omega⟩ ⟨d.val % 5 + q.val % 64, by omega⟩) := by
  unfold res_main_v71 res_main_v70
  generalize res_main_v16 V0 = g
  fin_cases d
  all_goals
    pointwise
    try simp

/-- The grey patches, by name. -/
abbrev gP (t : Fin 2) (q : Fin 4096) (d : Fin 25) : EReal := (res_main_v71 V0 : S2x4096x25.Idx → EReal) (ix3 t q d)

set_option maxHeartbeats 4000000 in
/-- The negated distances. -/
theorem v138_at (t : Fin 2) (q k : Fin 4096) :
    (res_main_v138 V0 : S2x4096x4096.Idx → EReal) (ix3 t q k)
      = (-(∑ d, gP V0 t q d * gP V0 t q d + ∑ d, gP V0 t k d * gP V0 t k d - Ideal.ofBits .f32 0x40000000#32 * ∑ d, gP V0 t q d * gP V0 t k d) : EReal) := by
  unfold res_main_v138 res_main_v128
  pointwise

/-- The `j`-th nearest patch of a query. -/
abbrev nn (t : Fin 2) (q : Fin 4096) : Fin 4096 → Fin 4096 := arrange (res_main_v138 V0) t q

/-- The denominator of the scores. -/
abbrev tempR : EReal := Ideal.ofBits .f32 0x42960000#32 * Ideal.div ((V0 (Proc.devRef .tc main_arg1) : S1.Idx → EReal) (ix1 0)) (Ideal.ofBits .f32 0x437F0000#32)
    * Ideal.div ((V0 (Proc.devRef .tc main_arg1) : S1.Idx → EReal) (ix1 0)) (Ideal.ofBits .f32 0x437F0000#32) + Ideal.ofBits .f32 0x358637BD#32

/-- The scores as extended reals. -/
abbrev N138 : S2x4096x4096.Idx → EReal := res_main_v138 V0

set_option maxHeartbeats 4000000 in
/-- The scores of the fourteen nearest. -/
theorem v154_at (t : Fin 2) (q : Fin 4096) (j : Fin 14) :
    (res_main_v154 V0 : S2x4096x14.Idx → EReal) (ix3 t q j)
      = (Ideal.div (- - N138 V0 (ix3 t q (nn V0 t q ⟨j.val, by omega⟩))) (tempR V0) : EReal) := by
  unfold res_main_v154 res_main_v148
  generalize hT : (Host.topK S2x4096x14 2 (FloatOps.cmpfTotal .gt) (res_main_v138 V0) _).1 = T
  have eT : (T (ix3 t q j) : EReal) = N138 V0 (ix3 t q (nn V0 t q ⟨j.val, by omega⟩)) := by
    rw [← hT]
    exact topK_val 14 (by norm_num) (res_main_v138 V0) _ t q j
  rw [← eT]
  pointwise

/-- The divided scores as extended reals. -/
abbrev N154 : S2x4096x14.Idx → EReal := res_main_v154 V0

/-- The weights as extended reals. -/
abbrev N161 : S2x4096x14.Idx → EReal := res_main_v161 V0

/-- The colour image, padded. -/
abbrev N17 : S2x3x68x68.Idx → EReal := res_main_v17 V0

/-- The host's maximum over fourteen, as an array. -/
abbrev hmax (s : FVec Ideal S2x4096x14 .f32) : S2x4096.Idx → EReal :=
  (Host.reduce FloatOps.maximumf s (constant S_ .f32 0xFF800000#32) reducesTo_S2x4096x14_S2x4096_d2 h_S_ : FVec Ideal S2x4096 .f32)

/-- The host's maximum over fourteen. -/
theorem hostmax_at (s : FVec Ideal S2x4096x14 .f32) (t : Fin 2) (q : Fin 4096) :
    hmax s (ix2 t q)
      = (Finset.fold max (Ideal.ofBits .f32 0xFF800000#32) (fun j : Fin 14 => (s (ix3 t q j) : EReal)) Finset.univ : EReal) := by
  have e := hostReduce_maximumf_eq_multiReduction (F := Ideal) (φ := .f32) (s := S2x4096x14) (axes := [2]) (t := S2x4096) (u := S_) s 0xFF800000#32
    reducesTo_S2x4096x14_S2x4096_d2 h_S_ (by decide +kernel) (.inl rfl) rfl
  unfold hmax
  rw [e]
  pointwise

/-- The greatest of the scores. -/
abbrev topR (t : Fin 2) (q : Fin 4096) : EReal :=
  max (Ideal.ofBits .f32 0xFF800000#32) (Finset.fold max (Ideal.ofBits .f32 0xFF800000#32) (fun j : Fin 14 => N154 V0 (ix3 t q j)) Finset.univ)

set_option maxHeartbeats 4000000 in
/-- The weights of the fourteen nearest, before they are divided by their sum. -/
theorem v161_at (t : Fin 2) (q : Fin 4096) (j : Fin 14) :
    (res_main_v161 V0 : S2x4096x14.Idx → EReal) (ix3 t q j)
      = (Ideal.exp (N154 V0 (ix3 t q j) - topR V0 t q) : EReal) := by
  rw [show topR V0 t q = max (Ideal.ofBits .f32 0xFF800000#32) (hmax (res_main_v154 V0) (ix2 t q)) from by rw [hostmax_at]]
  unfold res_main_v161 N154 hmax
  generalize Host.reduce FloatOps.maximumf (res_main_v154 V0) (constant S_ .f32 0xFF800000#32) reducesTo_S2x4096x14_S2x4096_d2 h_S_ = r
  generalize res_main_v154 V0 = s
  pointwise

/-- The features' words as extended reals. -/
abbrev N174 : S2x4096x80.Idx → EReal := res_main_v174 V0

/-- The weights as extended reals. -/
abbrev N188 : S2x4096x1.Idx → EReal := res_main_v188 V0

/-- An argument. -/
abbrev a2 : S75x80.Idx → EReal := V0 (Proc.devRef .tc main_arg2)
/-- An argument. -/
abbrev a3 : S80.Idx → EReal := V0 (Proc.devRef .tc main_arg3)
/-- An argument. -/
abbrev a4 : S80x75.Idx → EReal := V0 (Proc.devRef .tc main_arg4)
/-- An argument. -/
abbrev a5 : S75.Idx → EReal := V0 (Proc.devRef .tc main_arg5)
/-- An argument. -/
abbrev a6 : S80x1.Idx → EReal := V0 (Proc.devRef .tc main_arg6)
/-- An argument. -/
abbrev a7 : S1.Idx → EReal := V0 (Proc.devRef .tc main_arg7)

set_option maxHeartbeats 4000000 in
/-- The weight's logistic, written out. -/
theorem v188_at (t : Fin 2) (q : Fin 4096) :
    (res_main_v188 V0 : S2x4096x1.Idx → EReal) (ix3 t q 0)
      = (Ideal.div 1 (1 + Ideal.exp (-(∑ x : Fin 80, N174 V0 (ix3 t q x) * a6 V0 (ix2 x 0)
          + a7 V0 (ix1 0)))) : EReal) := by
  unfold res_main_v188 N174 a6 a7
  generalize res_main_v174 V0 = s
  pointwise

set_option maxHeartbeats 4000000 in
/-- The weighted patches. -/
theorem v191_at (t : Fin 2) (q : Fin 4096) (c : Fin 3) (a b : Fin 5) :
    (res_main_v191 V0 : S2x4096x3x5x5.Idx → EReal) (ix5 t q c a b)
      = ((∑ x : Fin 80, N174 V0 (ix3 t q x) * a4 V0 (ix2 x ⟨c.val * 25 + a.val * 5 + b.val, by omega⟩)
          + a5 V0 (ix1 ⟨c.val * 25 + a.val * 5 + b.val, by omega⟩)) * N188 V0 (ix3 t q 0) : EReal) := by
  unfold res_main_v191 N174 N188 a4 a5
  generalize res_main_v174 V0 = s
  generalize res_main_v188 V0 = w
  pointwise

set_option maxHeartbeats 4000000 in
/-- The weights, once for each place of a patch. -/
theorem v193_at (t : Fin 2) (q : Fin 4096) (c : Fin 3) (a b : Fin 5) :
    (res_main_v193 V0 : S2x4096x3x5x5.Idx → EReal) (ix5 t q c a b) = (N188 V0 (ix3 t q 0) : EReal) := by
  unfold res_main_v193 N188
  generalize res_main_v188 V0 = w
  pointwise

end Cert.ReferenceIdeal.Value
-- ==== Proof.Soft.lean ====
module

public import Idealize.ShloMosaic.PureOps.Ideal
public import Idealize.ShloMosaic.Lib.Pointwise
public import Mathlib.Analysis.SpecialFunctions.Exp
public import Mathlib.Algebra.BigOperators.Fin

@[expose] public section

noncomputable section

namespace Cert.Soft

open Idealize.ShloMosaic

/-- A sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing reals by a positive extended real is multiplying by a real. -/
theorem div_pos_coe (T : EReal) (hT : 0 < T) : ∃ r : ℝ, ∀ x : ℝ, Ideal.div (x : EReal) T = ((x * r : ℝ) : EReal) := by
  induction T using EReal.rec with
  | bot => exact absurd hT (by simp)
  | top =>
    refine ⟨0, fun x => ?_⟩
    rw [Ideal.div, if_neg hT.ne', EReal.inv_top, mul_zero, mul_zero, EReal.coe_zero]
  | coe y =>
    have hy : y ≠ 0 := by
      have := EReal.coe_pos.mp hT
      exact this.ne'
    refine ⟨1 / y, fun x => ?_⟩
    rw [Ideal.div_coe hy, EReal.coe_mul]

/-- The masked, shifted weighted mean over all points is the weighted mean over the first fourteen of the sorted order. -/
theorem feat_real (d : Fin 4096 → ℝ) (s r mx : ℝ) (σ : Fin 4096 → Fin 4096) (hσ : Function.Bijective σ)
    (mono : ∀ i j : Fin 4096, i ≤ j → d (σ i) ≤ d (σ j)) (lt : d (σ ⟨13, by omega⟩) < d (σ ⟨14, by omega⟩)) (c : Fin 4096 → Fin 75 → ℝ) (w : Fin 75 → ℝ) :
    (∑ k, (∑ f, c k f * w f) * (if d k ≤ d (σ ⟨13, by omega⟩) then Real.exp ((d (σ ⟨0, by omega⟩) - d k) * r) else 0))
        * (1 / ∑ j : Fin 14, Real.exp ((d (σ ⟨0, by omega⟩) - d (σ ⟨j.val, by omega⟩)) * r))
      = ∑ f, (∑ j : Fin 14, (Real.exp (-(s + d (σ ⟨j.val, by omega⟩)) * r - mx) * (1 / ∑ j : Fin 14, Real.exp (-(s + d (σ ⟨j.val, by omega⟩)) * r - mx)))
          * c (σ ⟨j.val, by omega⟩) f) * w f := by
  have hC : ∀ j : Fin 14, Real.exp (-(s + d (σ ⟨j.val, by omega⟩)) * r - mx)
      = Real.exp ((d (σ ⟨0, by omega⟩) - d (σ ⟨j.val, by omega⟩)) * r) * Real.exp (-(s + d (σ ⟨0, by omega⟩)) * r - mx) := by
    intro j
    rw [← Real.exp_add]
    congr 1
    ring
  have hCpos := Real.exp_pos (-(s + d (σ ⟨0, by omega⟩)) * r - mx)
  simp only [hC]
  generalize Real.exp (-(s + d (σ ⟨0, by omega⟩)) * r - mx) = C at *
  have hK : (∑ k, (∑ f, c k f * w f) * (if d k ≤ d (σ ⟨13, by omega⟩) then Real.exp ((d (σ ⟨0, by omega⟩) - d k) * r) else 0))
      = ∑ j : Fin 14, (∑ f, c (σ ⟨j.val, by omega⟩) f * w f) * Real.exp ((d (σ ⟨0, by omega⟩) - d (σ ⟨j.val, by omega⟩)) * r) := by
    rw [← hσ.sum_comp]
    have e := Fin.sum_univ_add (a := 14) (b := 4082) (fun i : Fin (14 + 4082) => (∑ f, c (σ i) f * w f) * (if d (σ i) ≤ d (σ ⟨13, by omega⟩) then Real.exp ((d (σ ⟨0, by omega⟩) - d (σ i)) * r) else 0))
    refine e.trans ?_
    have z : (∑ i : Fin 4082, (∑ f, c (σ (Fin.natAdd 14 i)) f * w f) * (if d (σ (Fin.natAdd 14 i)) ≤ d (σ ⟨13, by omega⟩) then Real.exp ((d (σ ⟨0, by omega⟩) - d (σ (Fin.natAdd 14 i))) * r) else 0)) = 0 := by
      refine Finset.sum_eq_zero fun i _ => ?_
      have h1 : d (σ ⟨14, by omega⟩) ≤ d (σ (Fin.natAdd 14 i)) := mono _ _ (by
        show (14 : ℕ) ≤ 14 + i.val
        omega)
      rw [if_neg (not_le.mpr (lt.trans_le h1)), mul_zero]
    rw [z, add_zero]
    refine Finset.sum_congr rfl fun j _ => ?_
    have h1 : d (σ (Fin.castAdd 4082 j)) ≤ d (σ ⟨13, by omega⟩) := mono _ _ (by
      show j.val ≤ 13
      omega)
    rw [if_pos h1]
    rfl
  rw [hK]
  set Z : ℝ := ∑ j : Fin 14, Real.exp ((d (σ ⟨0, by omega⟩) - d (σ ⟨j.val, by omega⟩)) * r) with hZ
  have hZpos : 0 < Z := Finset.sum_pos (fun j _ => Real.exp_pos _) ⟨⟨0, by omega⟩, Finset.mem_univ _⟩
  rw [← Finset.sum_mul, ← hZ]
  have hn : ∀ e : ℝ, e * C * (1 / (Z * C)) = e * (1 / Z) := by
    intro e
    field_simp
  simp only [hn, Finset.sum_mul]
  rw [Finset.sum_comm]
  refine Finset.sum_congr rfl fun f _ => Finset.sum_congr rfl fun j _ => ?_
  ring

/-- The same over the extended reals, where everything is real. -/
theorem feat_ereal (D : Fin 4096 → EReal) (d : Fin 4096 → ℝ) (hD : ∀ k, D k = (d k : EReal)) (s r mx : ℝ) (T : EReal)
    (hr : ∀ x : ℝ, Ideal.div (x : EReal) T = ((x * r : ℝ) : EReal)) (σ : Fin 4096 → Fin 4096) (hσ : Function.Bijective σ)
    (mono : ∀ i j : Fin 4096, i ≤ j → d (σ i) ≤ d (σ j)) (lt : d (σ ⟨13, by omega⟩) < d (σ ⟨14, by omega⟩)) (c : Fin 4096 → Fin 75 → ℝ) (w : Fin 75 → ℝ) :
    Ideal.div (∑ k, (∑ f, (c k f : EReal) * (w f : EReal)) * (if D k ≤ D (σ ⟨13, by omega⟩) then Ideal.exp ((D (σ ⟨0, by omega⟩) - D k) * Ideal.div 1 T) else 0))
        (∑ j : Fin 14, Ideal.exp ((D (σ ⟨0, by omega⟩) - D (σ ⟨j.val, by omega⟩)) * Ideal.div 1 T))
      = ∑ f, (∑ j : Fin 14, Ideal.div (Ideal.exp (Ideal.div (-((s : EReal) + D (σ ⟨j.val, by omega⟩))) T - (mx : EReal)))
            (∑ j : Fin 14, Ideal.exp (Ideal.div (-((s : EReal) + D (σ ⟨j.val, by omega⟩))) T - (mx : EReal)))
          * (c (σ ⟨j.val, by omega⟩) f : EReal)) * (w f : EReal) := by
  have h1 : Ideal.div 1 T = ((1 * r : ℝ) : EReal) := by rw [← hr 1, EReal.coe_one]
  have hif : ∀ (a b x : ℝ), (if (a : EReal) ≤ (b : EReal) then (x : EReal) else 0) = ((if a ≤ b then x else 0 : ℝ) : EReal) := by
    intro a b x
    by_cases h : a ≤ b
    · rw [if_pos h, if_pos (EReal.coe_le_coe_iff.mpr h)]
    · rw [if_neg h, if_neg (fun h' => h (EReal.coe_le_coe_iff.mp h')), EReal.coe_zero]
  simp only [hD, h1, one_mul, ← EReal.coe_sub, ← EReal.coe_mul, ← EReal.coe_add, ← EReal.coe_neg, hr, Ideal.exp_coe, hif, ← coe_sum]
  have z1 : (∑ j : Fin 14, Real.exp ((d (σ ⟨0, by omega⟩) - d (σ ⟨j.val, by omega⟩)) * r)) ≠ 0 :=
    (Finset.sum_pos (fun j _ => Real.exp_pos _) ⟨⟨0, by omega⟩, Finset.mem_univ _⟩).ne'
  have z2 : (∑ j : Fin 14, Real.exp (-(s + d (σ ⟨j.val, by omega⟩)) * r - mx)) ≠ 0 :=
    (Finset.sum_pos (fun j _ => Real.exp_pos _) ⟨⟨0, by omega⟩, Finset.mem_univ _⟩).ne'
  simp only [Ideal.div_coe z1, Ideal.div_coe z2, ← EReal.coe_mul, ← coe_sum]
  exact congrArg _ (feat_real d s r mx σ hσ mono lt c w)

/-- The greatest of finitely many reals, over a bottom start, is a real. -/
theorem fold_max_real {n : ℕ} (f : Fin (n + 1) → EReal) (h : ∀ j, ∃ x : ℝ, f j = (x : EReal)) :
    ∃ x : ℝ, max ⊥ (Finset.fold max ⊥ f Finset.univ) = (x : EReal) := by
  rw [max_eq_right bot_le]
  have hb : ∀ s : Finset (Fin (n + 1)), Finset.fold max ⊥ f s = ⊥ ∨ ∃ x : ℝ, Finset.fold max ⊥ f s = (x : EReal) := by
    classical
    intro s
    induction s using Finset.induction_on with
    | empty => left; rfl
    | insert a s ha ih =>
      right
      rw [Finset.fold_insert ha]
      obtain ⟨x, hx⟩ := h a
      rcases ih with e | ⟨y, e⟩
      · exact ⟨x, by rw [e, hx, max_eq_left bot_le]⟩
      · rcases le_total x y with l | l
        · exact ⟨y, by rw [e, hx, max_eq_right (EReal.coe_le_coe_iff.mpr l)]⟩
        · exact ⟨x, by rw [e, hx, max_eq_left (EReal.coe_le_coe_iff.mpr l)]⟩
  rcases hb Finset.univ with e | e
  · exfalso
    have : f 0 ≤ Finset.fold max ⊥ f Finset.univ := (Finset.le_fold_max (f 0)).mpr (Or.inr ⟨0, Finset.mem_univ _, le_rfl⟩)
    rw [e] at this
    obtain ⟨x, hx⟩ := h 0
    rw [hx] at this
    exact absurd this (not_le.mpr (EReal.bot_lt_coe x))
  · exact e

end Cert.Soft

end
-- ==== Proof.RefReal.lean ====
module

public import proofs.«01_k».proof.Proof.RefRead
public import proofs.«01_k».proof.Proof.Soft
public import Idealize.ShloMosaic.Lib.Pointwise
public import Idealize.ShloMosaic.Lib.SortFacts
public import Idealize.ShloMosaic.Lib.KernelVsHost
public import Idealize.ShloMosaic.Lib.Routing.OpsPair

@[expose] public section

set_option maxRecDepth 65536

noncomputable section

namespace Cert.ReferenceIdeal.Value

open Idealize.ShloMosaic Idealize.ShloMosaic.TcCoe Idealize.ShloMosaic.Tactic
open Idealize.ShloMosaic.StableHlo Cert.ReferenceIdeal Cert.ReferenceIdeal.Gen

variable (V0 : Valuation τ sig (Elt Ideal))

/-- An extended real that is a real number. -/
abbrev IsR (x : EReal) : Prop := ∃ r : ℝ, x = (r : EReal)

/-- An array of reals. -/
abbrev AllR {s : Shape} (x : s.Idx → EReal) : Prop := ∀ i, IsR (x i)

/-- The difference of two real numbers is real. -/
theorem isR_sub {x y : EReal} (hx : IsR x) (hy : IsR y) : IsR (x - y) := by
  obtain ⟨a, rfl⟩ := hx
  obtain ⟨b, rfl⟩ := hy
  exact ⟨a - b, (EReal.coe_sub a b).symm⟩

/-- The product of two real numbers is real. -/
theorem isR_mul {x y : EReal} (hx : IsR x) (hy : IsR y) : IsR (x * y) := by
  obtain ⟨a, rfl⟩ := hx
  obtain ⟨b, rfl⟩ := hy
  exact ⟨a * b, (EReal.coe_mul a b).symm⟩

/-- The sum of two real numbers is real. -/
theorem isR_add {x y : EReal} (hx : IsR x) (hy : IsR y) : IsR (x + y) := by
  obtain ⟨a, rfl⟩ := hx
  obtain ⟨b, rfl⟩ := hy
  exact ⟨a + b, (EReal.coe_add a b).symm⟩

/-- A finite sum of real numbers is real. -/
theorem isR_sum {ι : Type} (s : Finset ι) (f : ι → EReal) (h : ∀ i, IsR (f i)) : IsR (∑ i ∈ s, f i) := by
  choose g hg using h
  exact ⟨∑ i ∈ s, g i, by rw [Cert.Soft.coe_sum]; exact Finset.sum_congr rfl fun i _ => hg i⟩

/-- A real number divided by a real number that isn't zero is real. -/
theorem isR_div {x : EReal} (hx : IsR x) (y : ℝ) (hy : y ≠ 0) : IsR (Ideal.div x (y : EReal)) := by
  obtain ⟨a, rfl⟩ := hx
  rw [Ideal.div_coe hy]
  exact ⟨a * (1 / y), (EReal.coe_mul _ _).symm⟩

/-- A piece of a concatenation is where each of its entries comes from. -/
theorem allR_concat (t : Shape) (a : Fin t.rank) (xs : List ((s : Shape) × (s.Idx → EReal))) (h : Shape.Concatenates (xs.map (·.1)) t a)
    (hx : ∀ p ∈ xs, AllR p.2) : AllR (concatenate t a xs h) := fun j => hx _ (List.getElem_mem _) _

/-- Two arrays of real numbers, joined along an axis, are an array of real numbers. -/
theorem allR_pair (t s1 s2 : Shape) (a : Fin t.rank) (x1 : s1.Idx → EReal) (x2 : s2.Idx → EReal) (h) (h1 : AllR x1) (h2 : AllR x2) :
    AllR (concatenate t a [⟨s1, x1⟩, ⟨s2, x2⟩] h) := by
  refine allR_concat t a _ h fun p hp => ?_
  rcases List.mem_cons.1 hp with rfl | hp
  · exact h1
  · rcases List.mem_cons.1 hp with rfl | hp
    · exact h2
    · exact absurd hp (by simp)

/-- A slice's entries are the array's. -/
theorem allR_slice (s t : Shape) (off : Fin s.rank → ℕ) (x : s.Idx → EReal) (h) (hx : AllR x) : AllR (extractStridedSlice t off x h) := fun j => hx _

/-- A reversed array's entries are the array's. -/
theorem allR_rev (s : Shape) (l : List (Fin s.rank)) (x : s.Idx → EReal) (hx : AllR x) : AllR (Host.reverse l x) := fun j => hx _

/-- The word of 255.0 is 255. -/
theorem w255 : Ideal.ofBits .f32 0x437F0000#32 = ((255 : ℝ) : EReal) := by
  simp [Ideal.ofBits, Ideal.ieee]
  rw [← EReal.coe_mul]
  norm_num
/-- The word of 0.5 is one half. -/
theorem whalf : Ideal.ofBits .f32 0x3F000000#32 = ((1 / 2 : ℝ) : EReal) := by
  simp [Ideal.ofBits, Ideal.ieee]
  try rw [← EReal.coe_mul]
  try norm_num
/-- The word of 4096.0 is 4096. -/
theorem w4096 : Ideal.ofBits .f32 0x45800000#32 = ((4096 : ℝ) : EReal) := by
  simp [Ideal.ofBits, Ideal.ieee]
  try rw [← EReal.coe_mul]
  try norm_num

/-- The image scaled. -/
abbrev E5 : S2x3x64x64.Idx → EReal := res_main_v5 V0
/-- The image's means. -/
abbrev E9 : S2x3x1x1.Idx → EReal := res_main_v9 V0
/-- The image less its means. -/
abbrev E11 : S2x3x64x64.Idx → EReal := res_main_v11 V0

variable (h0 : ∀ i : S2x3x64x64.Idx, IsR ((V0 (Proc.devRef .tc main_arg0) : S2x3x64x64.Idx → EReal) i))
include h0

/-- The rescaled images are real. -/
theorem v5_real : AllR (res_main_v5 V0 : S2x3x64x64.Idx → EReal) := by
  intro i
  rw [eq_ix4 i]
  have e : (res_main_v5 V0 : S2x3x64x64.Idx → EReal) (ix4 (i 0) (i 1) (i 2) (i 3)) = (Ideal.div (Ideal.div ((V0 (Proc.devRef .tc main_arg0) : S2x3x64x64.Idx → EReal) (ix4 (i 0) (i 1) (i 2) (i 3))) (Ideal.ofBits .f32 0x437F0000#32) - Ideal.ofBits .f32 0x3F000000#32) (Ideal.ofBits .f32 0x3F000000#32) : EReal) := by
    unfold res_main_v5
    pointwise
  rw [e, w255, whalf]
  exact isR_div (isR_sub (isR_div (h0 _) _ (by norm_num)) ⟨_, rfl⟩) _ (by norm_num)

/-- The channel means are real. -/
theorem v9_real (t : Fin 2) (c : Fin 3) : IsR ((res_main_v9 V0 : S2x3x1x1.Idx → EReal) (ix4 t c 0 0)) := by
  have e : (res_main_v9 V0 : S2x3x1x1.Idx → EReal) (ix4 t c 0 0) = (Ideal.div (∑ a : Fin 64, ∑ b : Fin 64, E5 V0 (ix4 t c a b)) (Ideal.ofBits .f32 0x45800000#32) : EReal) := by
    unfold res_main_v9 E5
    generalize res_main_v5 V0 = x
    pointwise
  rw [e, w4096]
  exact isR_div (isR_sum _ _ fun a => isR_sum _ _ fun b => v5_real V0 h0 _) _ (by norm_num)

/-- The images without their means are real. -/
theorem v11_real : AllR (res_main_v11 V0 : S2x3x64x64.Idx → EReal) := by
  intro i
  rw [eq_ix4 i]
  have e : (res_main_v11 V0 : S2x3x64x64.Idx → EReal) (ix4 (i 0) (i 1) (i 2) (i 3)) = (E5 V0 (ix4 (i 0) (i 1) (i 2) (i 3)) - E9 V0 (ix4 (i 0) (i 1) 0 0) : EReal) := by
    unfold res_main_v11 E5 E9
    generalize res_main_v5 V0 = x
    generalize res_main_v9 V0 = y
    pointwise
  rw [e]
  exact isR_sub (v5_real V0 h0 _) (v9_real V0 h0 _ _)

omit h0 in
/-- The three weights of gray are real. -/
theorem lit0_real (c : Fin 3) : IsR (Ideal.ofBits .f32 (lit0 c)) := by
  fin_cases c
  all_goals
    simp only [lit0]
    simp [Ideal.ofBits, Ideal.ieee]
    rw [← EReal.coe_mul]
    exact ⟨_, rfl⟩

/-- The gray images are real. -/
theorem v15_real : AllR (res_main_v15 V0 : S2x64x64.Idx → EReal) := by
  intro i
  rw [eq_ix3 i]
  generalize i 0 = t
  generalize i 1 = y
  generalize i 2 = z
  have e : (res_main_v15 V0 : S2x64x64.Idx → EReal) (ix3 t y z)
      = (∑ c : Fin 3, E11 V0 (ix4 t c y z) * Ideal.ofBits .f32 (lit0 (S3.rowMajor (ix1 c))) : EReal) := by
    unfold res_main_v15 E11
    generalize res_main_v11 V0 = x
    pointwise
  rw [e]
  exact isR_sum _ _ fun c => isR_mul (v11_real V0 h0 _) (lit0_real _)

/-- The padded gray images are real. -/
theorem v16_real : AllR (res_main_v16 V0 : S2x68x68.Idx → EReal) := by
  have h15 := v15_real V0 h0
  have h3 : AllR (res_main_call0_v3 V0 : S2x66x64.Idx → EReal) := allR_pair _ _ _ _ _ _ _ (allR_rev _ _ _ (allR_slice _ _ _ _ _ h15)) h15
  have h7 : AllR (res_main_call0_v7 V0 : S2x68x64.Idx → EReal) := allR_pair _ _ _ _ _ _ _ h3 (allR_rev _ _ _ (allR_slice _ _ _ _ _ h3))
  have h11 : AllR (res_main_call0_v11 V0 : S2x68x66.Idx → EReal) := allR_pair _ _ _ _ _ _ _ (allR_rev _ _ _ (allR_slice _ _ _ _ _ h7)) h7
  exact allR_pair _ _ _ _ _ _ _ h11 (allR_rev _ _ _ (allR_slice _ _ _ _ _ h11))

/-- The padded colour images are real. -/
theorem v17_real : AllR (res_main_v17 V0 : S2x3x68x68.Idx → EReal) := by
  have h15 := v11_real V0 h0
  have h3 : AllR (res_main_call1_v3 V0 : S2x3x66x64.Idx → EReal) := allR_pair _ _ _ _ _ _ _ (allR_rev _ _ _ (allR_slice _ _ _ _ _ h15)) h15
  have h7 : AllR (res_main_call1_v7 V0 : S2x3x68x64.Idx → EReal) := allR_pair _ _ _ _ _ _ _ h3 (allR_rev _ _ _ (allR_slice _ _ _ _ _ h3))
  have h11 : AllR (res_main_call1_v11 V0 : S2x3x68x66.Idx → EReal) := allR_pair _ _ _ _ _ _ _ (allR_rev _ _ _ (allR_slice _ _ _ _ _ h7)) h7
  exact allR_pair _ _ _ _ _ _ _ h11 (allR_rev _ _ _ (allR_slice _ _ _ _ _ h11))

end Cert.ReferenceIdeal.Value
-- ==== Proof.RefCat.lean ====
module

public import proofs.«01_k».proof.Proof.RefRead
public import Idealize.ShloMosaic.Lib.Pointwise
public import Idealize.ShloMosaic.Lib.SortFacts
public import Idealize.ShloMosaic.Lib.KernelVsHost
public import Idealize.ShloMosaic.Lib.Routing.OpsPair

@[expose] public section

set_option maxRecDepth 65536

noncomputable section

namespace Cert.ReferenceIdeal.Value

open Idealize.ShloMosaic Idealize.ShloMosaic.TcCoe Idealize.ShloMosaic.Tactic
open Idealize.ShloMosaic.StableHlo Cert.ReferenceIdeal Cert.ReferenceIdeal.Gen

variable (V0 : Valuation τ sig (Elt Ideal))

/-- The colour patches, before they are laid out by query. -/
def catR : FVec Ideal S2x3x64x64x25 .f32 := (concatenate S2x3x64x64x25 4 [⟨S2x3x64x64x16, (res_main_v122 V0)⟩, ⟨S2x3x64x64x9, ((concatenate S2x3x64x64x9 4 [⟨S2x3x64x64x1, ((broadcastInDim S2x3x64x64x1 ![0, 1, 2, 3] bcast_S2x3x64x64_S2x3x64x64x1_0_1_2_3 (extractStridedSlice S2x3x64x64 ![0, 0, 3, 1] (res_main_v17 V0) slices_S2x3x68x68_S2x3x64x64_0_0_3_1)) : (⟨S2x3x64x64x1, .f32⟩ : BufTy).Contents (Elt Ideal))⟩, ⟨S2x3x64x64x1, ((broadcastInDim S2x3x64x64x1 ![0, 1, 2, 3] bcast_S2x3x64x64_S2x3x64x64x1_0_1_2_3 (extractStridedSlice S2x3x64x64 ![0, 0, 3, 2] (res_main_v17 V0) slices_S2x3x68x68_S2x3x64x64_0_0_3_2)) : (⟨S2x3x64x64x1, .f32⟩ : BufTy).Contents (Elt Ideal))⟩, ⟨S2x3x64x64x1, ((broadcastInDim S2x3x64x64x1 ![0, 1, 2, 3] bcast_S2x3x64x64_S2x3x64x64x1_0_1_2_3 (extractStridedSlice S2x3x64x64 ![0, 0, 3, 3] (res_main_v17 V0) slices_S2x3x68x68_S2x3x64x64_0_0_3_3)) : (⟨S2x3x64x64x1, .f32⟩ : BufTy).Contents (Elt Ideal))⟩, ⟨S2x3x64x64x1, ((broadcastInDim S2x3x64x64x1 ![0, 1, 2, 3] bcast_S2x3x64x64_S2x3x64x64x1_0_1_2_3 (extractStridedSlice S2x3x64x64 ![0, 0, 3, 4] (res_main_v17 V0) slices_S2x3x68x68_S2x3x64x64_0_0_3_4)) : (⟨S2x3x64x64x1, .f32⟩ : BufTy).Contents (Elt Ideal))⟩, ⟨S2x3x64x64x1, ((broadcastInDim S2x3x64x64x1 ![0, 1, 2, 3] bcast_S2x3x64x64_S2x3x64x64x1_0_1_2_3 (extractStridedSlice S2x3x64x64 ![0, 0, 4, 0] (res_main_v17 V0) slices_S2x3x68x68_S2x3x64x64_0_0_4_0)) : (⟨S2x3x64x64x1, .f32⟩ : BufTy).Contents (Elt Ideal))⟩, ⟨S2x3x64x64x1, ((broadcastInDim S2x3x64x64x1 ![0, 1, 2, 3] bcast_S2x3x64x64_S2x3x64x64x1_0_1_2_3 (extractStridedSlice S2x3x64x64 ![0, 0, 4, 1] (res_main_v17 V0) slices_S2x3x68x68_S2x3x64x64_0_0_4_1)) : (⟨S2x3x64x64x1, .f32⟩ : BufTy).Contents (Elt Ideal))⟩, ⟨S2x3x64x64x1, ((broadcastInDim S2x3x64x64x1 ![0, 1, 2, 3] bcast_S2x3x64x64_S2x3x64x64x1_0_1_2_3 (extractStridedSlice S2x3x64x64 ![0, 0, 4, 2] (res_main_v17 V0) slices_S2x3x68x68_S2x3x64x64_0_0_4_2)) : (⟨S2x3x64x64x1, .f32⟩ : BufTy).Contents (Elt Ideal))⟩, ⟨S2x3x64x64x1, ((broadcastInDim S2x3x64x64x1 ![0, 1, 2, 3] bcast_S2x3x64x64_S2x3x64x64x1_0_1_2_3 (extractStridedSlice S2x3x64x64 ![0, 0, 4, 3] (res_main_v17 V0) slices_S2x3x68x68_S2x3x64x64_0_0_4_3)) : (⟨S2x3x64x64x1, .f32⟩ : BufTy).Contents (Elt Ideal))⟩, ⟨S2x3x64x64x1, ((broadcastInDim S2x3x64x64x1 ![0, 1, 2, 3] bcast_S2x3x64x64_S2x3x64x64x1_0_1_2_3 (extractStridedSlice S2x3x64x64 ![0, 0, 4, 4] (res_main_v17 V0) slices_S2x3x68x68_S2x3x64x64_0_0_4_4)) : (⟨S2x3x64x64x1, .f32⟩ : BufTy).Contents (Elt Ideal))⟩] concatenates_S2x3x64x64x1_S2x3x64x64x1_S2x3x64x64x1_S2x3x64x64x1_S2x3x64x64x1_S2x3x64x64x1_S2x3x64x64x1_S2x3x64x64x1_S2x3x64x64x1_S2x3x64x64x9_d4 : (⟨S2x3x64x64x9, .f32⟩ : BufTy).Contents (Elt Ideal)))⟩] concatenates_S2x3x64x64x16_S2x3x64x64x9_S2x3x64x64x25_d4)

/-- The colour patches by query. -/
def colsR : FVec Ideal S2x4096x75 .f32 := (shapeCast _ (transpose S2x64x64x3x25 [0, 2, 3, 1, 4] (catR V0) transposes_S2x3x64x64x25_S2x64x64x3x25_0_2_3_1_4) shapeCasts_S2x64x64x3x25_S2x4096x75)

/-- The words of the rows gathered. -/
def gidxR : IVec S2x4096x14x1 32 := (broadcastInDim S2x4096x14x1 ![0, 1, 2] bcast_S2x4096x14_S2x4096x14x1_0_1_2 (select (cmpi .slt (res_main_indices V0) (broadcastInDim S2x4096x14 ![] bcast_S_S2x4096x14 (constantI S_ 32 0#32))) (addi (res_main_indices V0) (broadcastInDim S2x4096x14 ![] bcast_S_S2x4096x14 (constantI S_ 32 4096#32))) (res_main_indices V0)))

/-- The gathered rows. -/
def gatR : FVec Ideal S2x4096x14x75 .f32 := Host.gather gather_S2x4096x75_S2x4096x14x1_S2x4096x14x75_3_1_0_0_1_3_1175 (colsR V0) (gidxR V0)

/-- The features' words are made of the gathered rows. -/
theorem v174_eq : (res_main_v174 V0 : FVec Ideal S2x4096x80 .f32) = maximumf (addf (Host.dotGeneral (φ₁ := .f32) (φ₂ := .f32) dot_S2x4096x75_S75x80_S2x4096x80_2_0_01_1_n_n none (Host.reduceAdd (mulf (broadcastInDim S2x4096x14x75 ![0, 1, 2, 3] bcast_S2x4096x14x1_S2x4096x14x75_0_1_2_3 (broadcastInDim S2x4096x14x1 ![0, 1, 2] bcast_S2x4096x14_S2x4096x14x1_0_1_2 (Host.divf (res_main_v161 V0 : FVec Ideal S2x4096x14 .f32) (broadcastInDim S2x4096x14 ![0, 1, 2] bcast_S2x4096x1_S2x4096x14_0_1_2 (broadcastInDim S2x4096x1 ![0, 1] bcast_S2x4096_S2x4096x1_0_1 (Host.reduceAdd (res_main_v161 V0 : FVec Ideal S2x4096x14 .f32) (constant (F := Ideal) S_ .f32 0x00000000#32) reducesTo_S2x4096x14_S2x4096_d2 h_S_)))))) (gatR V0)) (constant (F := Ideal) S_ .f32 0x00000000#32) reducesTo_S2x4096x14x75_S2x4096x75_d2 h_S_) (V0 (Proc.devRef .tc main_arg2) : FVec Ideal S75x80 .f32)) (broadcastInDim S2x4096x80 ![0, 1, 2] bcast_S1x1x80_S2x4096x80_0_1_2 (broadcastInDim S1x1x80 ![2] bcast_S80_S1x1x80_2 (V0 (Proc.devRef .tc main_arg3) : FVec Ideal S80 .f32)))) (broadcastInDim S2x4096x80 ![] bcast_S_S2x4096x80 (constant (F := Ideal) S_ .f32 0x00000000#32)) := rfl

end Cert.ReferenceIdeal.Value
-- ==== Proof.RefCatAt.lean ====
module

public import proofs.«01_k».proof.Proof.RefCat
public import Idealize.ShloMosaic.Lib.Pointwise
public import Idealize.ShloMosaic.Lib.SortFacts
public import Idealize.ShloMosaic.Lib.KernelVsHost
public import Idealize.ShloMosaic.Lib.Routing.OpsPair

@[expose] public section

set_option maxRecDepth 65536

noncomputable section

namespace Cert.ReferenceIdeal.Value

open Idealize.ShloMosaic Idealize.ShloMosaic.TcCoe Idealize.ShloMosaic.Tactic
open Idealize.ShloMosaic.StableHlo Cert.ReferenceIdeal Cert.ReferenceIdeal.Gen

variable (V0 : Valuation τ sig (Elt Ideal))

set_option maxHeartbeats 4000000 in
/-- One entry of the colour patches. -/
theorem catR_0 (t : Fin 2) (c : Fin 3) (a b : Fin 64) :
    (catR V0 : S2x3x64x64x25.Idx → EReal) (ix5 t c a b ⟨0, by omega⟩) = N17 V0 (ix4 t c ⟨0 + a.val, by omega⟩ ⟨0 + b.val, by omega⟩) := by
  unfold catR res_main_v122 N17
  generalize res_main_v17 V0 = g
  pointwise
  all_goals (try simp)

set_option maxHeartbeats 4000000 in
/-- One entry of the colour patches. -/
theorem catR_1 (t : Fin 2) (c : Fin 3) (a b : Fin 64) :
    (catR V0 : S2x3x64x64x25.Idx → EReal) (ix5 t c a b ⟨1, by omega⟩) = N17 V0 (ix4 t c ⟨0 + a.val, by omega⟩ ⟨1 + b.val, by omega⟩) := by
  unfold catR res_main_v122 N17
  generalize res_main_v17 V0 = g
  pointwise
  all_goals (try simp)

set_option maxHeartbeats 4000000 in
/-- One entry of the colour patches. -/
theorem catR_2 (t : Fin 2) (c : Fin 3) (a b : Fin 64) :
    (catR V0 : S2x3x64x64x25.Idx → EReal) (ix5 t c a b ⟨2, by omega⟩) = N17 V0 (ix4 t c ⟨0 + a.val, by omega⟩ ⟨2 + b.val, by omega⟩) := by
  unfold catR res_main_v122 N17
  generalize res_main_v17 V0 = g
  pointwise
  all_goals (try simp)

set_option maxHeartbeats 4000000 in
/-- One entry of the colour patches. -/
theorem catR_3 (t : Fin 2) (c : Fin 3) (a b : Fin 64) :
    (catR V0 : S2x3x64x64x25.Idx → EReal) (ix5 t c a b ⟨3, by omega⟩) = N17 V0 (ix4 t c ⟨0 + a.val, by omega⟩ ⟨3 + b.val, by omega⟩) := by
  unfold catR res_main_v122 N17
  generalize res_main_v17 V0 = g
  pointwise
  all_goals (try simp)

set_option maxHeartbeats 4000000 in
/-- One entry of the colour patches. -/
theorem catR_4 (t : Fin 2) (c : Fin 3) (a b : Fin 64) :
    (catR V0 : S2x3x64x64x25.Idx → EReal) (ix5 t c a b ⟨4, by omega⟩) = N17 V0 (ix4 t c ⟨0 + a.val, by omega⟩ ⟨4 + b.val, by omega⟩) := by
  unfold catR res_main_v122 N17
  generalize res_main_v17 V0 = g
  pointwise
  all_goals (try simp)

set_option maxHeartbeats 4000000 in
/-- One entry of the colour patches. -/
theorem catR_5 (t : Fin 2) (c : Fin 3) (a b : Fin 64) :
    (catR V0 : S2x3x64x64x25.Idx → EReal) (ix5 t c a b ⟨5, by omega⟩) = N17 V0 (ix4 t c ⟨1 + a.val, by omega⟩ ⟨0 + b.val, by omega⟩) := by
  unfold catR res_main_v122 N17
  generalize res_main_v17 V0 = g
  pointwise
  all_goals (try simp)

set_option maxHeartbeats 4000000 in
/-- One entry of the colour patches. -/
theorem catR_6 (t : Fin 2) (c : Fin 3) (a b : Fin 64) :
    (catR V0 : S2x3x64x64x25.Idx → EReal) (ix5 t c a b ⟨6, by omega⟩) = N17 V0 (ix4 t c ⟨1 + a.val, by omega⟩ ⟨1 + b.val, by omega⟩) := by
  unfold catR res_main_v122 N17
  generalize res_main_v17 V0 = g
  pointwise
  all_goals (try simp)

set_option maxHeartbeats 4000000 in
/-- One entry of the colour patches. -/
theorem catR_7 (t : Fin 2) (c : Fin 3) (a b : Fin 64) :
    (catR V0 : S2x3x64x64x25.Idx → EReal) (ix5 t c a b ⟨7, by omega⟩) = N17 V0 (ix4 t c ⟨1 + a.val, by omega⟩ ⟨2 + b.val, by omega⟩) := by
  unfold catR res_main_v122 N17
  generalize res_main_v17 V0 = g
  pointwise
  all_goals (try simp)

set_option maxHeartbeats 4000000 in
/-- One entry of the colour patches. -/
theorem catR_8 (t : Fin 2) (c : Fin 3) (a b : Fin 64) :
    (catR V0 : S2x3x64x64x25.Idx → EReal) (ix5 t c a b ⟨8, by omega⟩) = N17 V0 (ix4 t c ⟨1 + a.val, by omega⟩ ⟨3 + b.val, by omega⟩) := by
  unfold catR res_main_v122 N17
  generalize res_main_v17 V0 = g
  pointwise
  all_goals (try simp)

set_option maxHeartbeats 4000000 in
/-- One entry of the colour patches. -/
theorem catR_9 (t : Fin 2) (c : Fin 3) (a b : Fin 64) :
    (catR V0 : S2x3x64x64x25.Idx → EReal) (ix5 t c a b ⟨9, by omega⟩) = N17 V0 (ix4 t c ⟨1 + a.val, by omega⟩ ⟨4 + b.val, by omega⟩) := by
  unfold catR res_main_v122 N17
  generalize res_main_v17 V0 = g
  pointwise
  all_goals (try simp)

set_option maxHeartbeats 4000000 in
/-- One entry of the colour patches. -/
theorem catR_10 (t : Fin 2) (c : Fin 3) (a b : Fin 64) :
    (catR V0 : S2x3x64x64x25.Idx → EReal) (ix5 t c a b ⟨10, by omega⟩) = N17 V0 (ix4 t c ⟨2 + a.val, by omega⟩ ⟨0 + b.val, by omega⟩) := by
  unfold catR res_main_v122 N17
  generalize res_main_v17 V0 = g
  pointwise
  all_goals (try simp)

set_option maxHeartbeats 4000000 in
/-- One entry of the colour patches. -/
theorem catR_11 (t : Fin 2) (c : Fin 3) (a b : Fin 64) :
    (catR V0 : S2x3x64x64x25.Idx → EReal) (ix5 t c a b ⟨11, by omega⟩) = N17 V0 (ix4 t c ⟨2 + a.val, by omega⟩ ⟨1 + b.val, by omega⟩) := by
  unfold catR res_main_v122 N17
  generalize res_main_v17 V0 = g
  pointwise
  all_goals (try simp)

set_option maxHeartbeats 4000000 in
/-- One entry of the colour patches. -/
theorem catR_12 (t : Fin 2) (c : Fin 3) (a b : Fin 64) :
    (catR V0 : S2x3x64x64x25.Idx → EReal) (ix5 t c a b ⟨12, by omega⟩) = N17 V0 (ix4 t c ⟨2 + a.val, by omega⟩ ⟨2 + b.val, by omega⟩) := by
  unfold catR res_main_v122 N17
  generalize res_main_v17 V0 = g
  pointwise
  all_goals (try simp)

set_option maxHeartbeats 4000000 in
/-- One entry of the colour patches. -/
theorem catR_13 (t : Fin 2) (c : Fin 3) (a b : Fin 64) :
    (catR V0 : S2x3x64x64x25.Idx → EReal) (ix5 t c a b ⟨13, by omega⟩) = N17 V0 (ix4 t c ⟨2 + a.val, by omega⟩ ⟨3 + b.val, by omega⟩) := by
  unfold catR res_main_v122 N17
  generalize res_main_v17 V0 = g
  pointwise
  all_goals (try simp)

set_option maxHeartbeats 4000000 in
/-- One entry of the colour patches. -/
theorem catR_14 (t : Fin 2) (c : Fin 3) (a b : Fin 64) :
    (catR V0 : S2x3x64x64x25.Idx → EReal) (ix5 t c a b ⟨14, by omega⟩) = N17 V0 (ix4 t c ⟨2 + a.val, by omega⟩ ⟨4 + b.val, by omega⟩) := by
  unfold catR res_main_v122 N17
  generalize res_main_v17 V0 = g
  pointwise
  all_goals (try simp)

set_option maxHeartbeats 4000000 in
/-- One entry of the colour patches. -/
theorem catR_15 (t : Fin 2) (c : Fin 3) (a b : Fin 64) :
    (catR V0 : S2x3x64x64x25.Idx → EReal) (ix5 t c a b ⟨15, by omega⟩) = N17 V0 (ix4 t c ⟨3 + a.val, by omega⟩ ⟨0 + b.val, by omega⟩) := by
  unfold catR res_main_v122 N17
  generalize res_main_v17 V0 = g
  pointwise
  all_goals (try simp)

set_option maxHeartbeats 4000000 in
/-- One entry of the colour patches. -/
theorem catR_16 (t : Fin 2) (c : Fin 3) (a b : Fin 64) :
    (catR V0 : S2x3x64x64x25.Idx → EReal) (ix5 t c a b ⟨16, by omega⟩) = N17 V0 (ix4 t c ⟨3 + a.val, by omega⟩ ⟨1 + b.val, by omega⟩) := by
  unfold catR res_main_v122 N17
  generalize res_main_v17 V0 = g
  pointwise
  all_goals (try simp)

set_option maxHeartbeats 4000000 in
/-- One entry of the colour patches. -/
theorem catR_17 (t : Fin 2) (c : Fin 3) (a b : Fin 64) :
    (catR V0 : S2x3x64x64x25.Idx → EReal) (ix5 t c a b ⟨17, by omega⟩) = N17 V0 (ix4 t c ⟨3 + a.val, by omega⟩ ⟨2 + b.val, by omega⟩) := by
  unfold catR res_main_v122 N17
  generalize res_main_v17 V0 = g
  pointwise
  all_goals (try simp)

set_option maxHeartbeats 4000000 in
/-- One entry of the colour patches. -/
theorem catR_18 (t : Fin 2) (c : Fin 3) (a b : Fin 64) :
    (catR V0 : S2x3x64x64x25.Idx → EReal) (ix5 t c a b ⟨18, by omega⟩) = N17 V0 (ix4 t c ⟨3 + a.val, by omega⟩ ⟨3 + b.val, by omega⟩) := by
  unfold catR res_main_v122 N17
  generalize res_main_v17 V0 = g
  pointwise
  all_goals (try simp)

set_option maxHeartbeats 4000000 in
/-- One entry of the colour patches. -/
theorem catR_19 (t : Fin 2) (c : Fin 3) (a b : Fin 64) :
    (catR V0 : S2x3x64x64x25.Idx → EReal) (ix5 t c a b ⟨19, by omega⟩) = N17 V0 (ix4 t c ⟨3 + a.val, by omega⟩ ⟨4 + b.val, by omega⟩) := by
  unfold catR res_main_v122 N17
  generalize res_main_v17 V0 = g
  pointwise
  all_goals (try simp)

set_option maxHeartbeats 4000000 in
/-- One entry of the colour patches. -/
theorem catR_20 (t : Fin 2) (c : Fin 3) (a b : Fin 64) :
    (catR V0 : S2x3x64x64x25.Idx → EReal) (ix5 t c a b ⟨20, by omega⟩) = N17 V0 (ix4 t c ⟨4 + a.val, by omega⟩ ⟨0 + b.val, by omega⟩) := by
  unfold catR res_main_v122 N17
  generalize res_main_v17 V0 = g
  pointwise
  all_goals (try simp)

set_option maxHeartbeats 4000000 in
/-- One entry of the colour patches. -/
theorem catR_21 (t : Fin 2) (c : Fin 3) (a b : Fin 64) :
    (catR V0 : S2x3x64x64x25.Idx → EReal) (ix5 t c a b ⟨21, by omega⟩) = N17 V0 (ix4 t c ⟨4 + a.val, by omega⟩ ⟨1 + b.val, by omega⟩) := by
  unfold catR res_main_v122 N17
  generalize res_main_v17 V0 = g
  pointwise
  all_goals (try simp)

set_option maxHeartbeats 4000000 in
/-- One entry of the colour patches. -/
theorem catR_22 (t : Fin 2) (c : Fin 3) (a b : Fin 64) :
    (catR V0 : S2x3x64x64x25.Idx → EReal) (ix5 t c a b ⟨22, by omega⟩) = N17 V0 (ix4 t c ⟨4 + a.val, by omega⟩ ⟨2 + b.val, by omega⟩) := by
  unfold catR res_main_v122 N17
  generalize res_main_v17 V0 = g
  pointwise
  all_goals (try simp)

set_option maxHeartbeats 4000000 in
/-- One entry of the colour patches. -/
theorem catR_23 (t : Fin 2) (c : Fin 3) (a b : Fin 64) :
    (catR V0 : S2x3x64x64x25.Idx → EReal) (ix5 t c a b ⟨23, by omega⟩) = N17 V0 (ix4 t c ⟨4 + a.val, by omega⟩ ⟨3 + b.val, by omega⟩) := by
  unfold catR res_main_v122 N17
  generalize res_main_v17 V0 = g
  pointwise
  all_goals (try simp)

set_option maxHeartbeats 4000000 in
/-- One entry of the colour patches. -/
theorem catR_24 (t : Fin 2) (c : Fin 3) (a b : Fin 64) :
    (catR V0 : S2x3x64x64x25.Idx → EReal) (ix5 t c a b ⟨24, by omega⟩) = N17 V0 (ix4 t c ⟨4 + a.val, by omega⟩ ⟨4 + b.val, by omega⟩) := by
  unfold catR res_main_v122 N17
  generalize res_main_v17 V0 = g
  pointwise
  all_goals (try simp)

/-- The colour patches. -/
theorem catR_at (t : Fin 2) (c : Fin 3) (a b : Fin 64) (d : Fin 25) :
    (catR V0 : S2x3x64x64x25.Idx → EReal) (ix5 t c a b d) = N17 V0 (ix4 t c ⟨d.val / 5 + a.val, by omega⟩ ⟨d.val % 5 + b.val, by omega⟩) := by
  fin_cases d
  · exact catR_0 V0 t c a b
  · exact catR_1 V0 t c a b
  · exact catR_2 V0 t c a b
  · exact catR_3 V0 t c a b
  · exact catR_4 V0 t c a b
  · exact catR_5 V0 t c a b
  · exact catR_6 V0 t c a b
  · exact catR_7 V0 t c a b
  · exact catR_8 V0 t c a b
  · exact catR_9 V0 t c a b
  · exact catR_10 V0 t c a b
  · exact catR_11 V0 t c a b
  · exact catR_12 V0 t c a b
  · exact catR_13 V0 t c a b
  · exact catR_14 V0 t c a b
  · exact catR_15 V0 t c a b
  · exact catR_16 V0 t c a b
  · exact catR_17 V0 t c a b
  · exact catR_18 V0 t c a b
  · exact catR_19 V0 t c a b
  · exact catR_20 V0 t c a b
  · exact catR_21 V0 t c a b
  · exact catR_22 V0 t c a b
  · exact catR_23 V0 t c a b
  · exact catR_24 V0 t c a b

end Cert.ReferenceIdeal.Value
-- ==== Proof.RefCols.lean ====
module

public import proofs.«01_k».proof.Proof.RefCatAt
public import Idealize.ShloMosaic.Lib.Pointwise
public import Idealize.ShloMosaic.Lib.SortFacts
public import Idealize.ShloMosaic.Lib.KernelVsHost
public import Idealize.ShloMosaic.Lib.Routing.OpsPair

@[expose] public section

set_option maxRecDepth 65536

noncomputable section

namespace Cert.ReferenceIdeal.Value

open Idealize.ShloMosaic Idealize.ShloMosaic.TcCoe Idealize.ShloMosaic.Tactic
open Idealize.ShloMosaic.StableHlo Cert.ReferenceIdeal Cert.ReferenceIdeal.Gen

variable (V0 : Valuation τ sig (Elt Ideal))

set_option maxHeartbeats 4000000 in
/-- The colour patches by query. -/
theorem colsR_at (t : Fin 2) (n : Fin 4096) (f : Fin 75) :
    (colsR V0 : S2x4096x75.Idx → EReal) (ix3 t n f) = N17 V0 (ix4 t ⟨f.val / 25, by omega⟩ ⟨f.val % 25 / 5 + n.val / 64, by omega⟩ ⟨f.val % 25 % 5 + n.val % 64, by omega⟩) := by
  refine Eq.trans ?_ (catR_at V0 t ⟨f.val / 25, by omega⟩ ⟨n.val / 64, by omega⟩ ⟨n.val % 64, by omega⟩ ⟨f.val % 25, by omega⟩)
  unfold colsR
  generalize catR V0 = C
  pointwise
  all_goals (try simp)

set_option maxHeartbeats 4000000 in
/-- The words of the rows gathered. -/
theorem gidxR_at (t : Fin 2) (q : Fin 4096) (j : Fin 14) :
    gidxR V0 (ix4 t q j 0) = BitVec.ofNat 32 (nn V0 t q ⟨j.val, by omega⟩).val := by
  have e : (res_main_indices V0 : IVec S2x4096x14 32) (ix3 t q j) = BitVec.ofNat 32 (nn V0 t q ⟨j.val, by omega⟩).val := topK_idx 14 (by norm_num) (res_main_v138 V0) _ t q j
  unfold gidxR
  generalize res_main_indices V0 = I at *
  have hlt := (nn V0 t q ⟨j.val, by omega⟩).isLt
  generalize (nn V0 t q ⟨j.val, by omega⟩).val = n at *
  have hn : ¬ (BitVec.slt (BitVec.ofNat 32 n) 0#32 = true) := by
    rw [BitVec.slt_eq_decide, decide_eq_true_eq, BitVec.toInt_eq_toNat_of_lt (by rw [BitVec.toNat_ofNat]; omega), BitVec.toInt_eq_toNat_of_lt (by decide), BitVec.toNat_ofNat]
    simp only [BitVec.toNat_ofNat]
    omega
  pointwise
  rw [e]
  simp [Scalar.select, IntOp.cmpi, hn]

/-- The gathered rows. -/
theorem gatR_at (t : Fin 2) (q : Fin 4096) (j : Fin 14) (f : Fin 75) :
    (gatR V0 : S2x4096x14x75.Idx → EReal) (ix4 t q j f) = N17 V0 (ix4 t ⟨f.val / 25, by omega⟩ ⟨f.val % 25 / 5 + (nn V0 t q ⟨j.val, by omega⟩).val / 64, by omega⟩ ⟨f.val % 25 % 5 + (nn V0 t q ⟨j.val, by omega⟩).val % 64, by omega⟩) :=
  (gather_at _ _ t q j f (nn V0 t q ⟨j.val, by omega⟩) (gidxR_at V0 t q j)).trans (colsR_at V0 t _ f)

/-- The gathered rows as extended reals. -/
abbrev NG : S2x4096x14x75.Idx → EReal := gatR V0

set_option maxHeartbeats 4000000 in
/-- The features' words. -/
theorem v174_at (t : Fin 2) (q : Fin 4096) (x : Fin 80) :
    (res_main_v174 V0 : S2x4096x80.Idx → EReal) (ix3 t q x)
      = (max (∑ f : Fin 75, (∑ j : Fin 14, Ideal.div (N161 V0 (ix3 t q j)) (∑ j, N161 V0 (ix3 t q j))
          * NG V0 (ix4 t q j f))
          * a2 V0 (ix2 f x) + a3 V0 (ix1 x)) 0 : EReal) := by
  rw [v174_eq]
  unfold N161 NG a2 a3
  generalize res_main_v161 V0 = s
  generalize gatR V0 = g
  pointwise

end Cert.ReferenceIdeal.Value
-- ==== Proof.KArr.lean ====
module

public import proofs.«01_k».proof.Proof.KBlk
public import proofs.«01_k».proof.Proof.KPfx
public import proofs.«01_k».proof.Proof.RefReal
public import proofs.«01_k».proof.Proof.RefCols

public import Idealize.ShloMosaic.Lib.Pointwise
public import Idealize.ShloMosaic.Lib.StableHlo.RunRead

@[expose] public section

set_option maxRecDepth 65536

noncomputable section

namespace Cert.KernelIdeal.Gen

open Idealize.ShloMosaic Idealize.ShloMosaic.TcCoe Idealize.ShloMosaic.Tactic
open Idealize.ShloMosaic.StableHlo

open Cert.ReferenceIdeal.Value (gP tempR N17 E9 v71_at)

variable (m : (ℓ : Loc nD τ sig) → Buf (Elt Ideal) ℓ) (c : Dev nD) (V' : Valuation Cert.ReferenceIdeal.τ Cert.ReferenceIdeal.sig (Elt Ideal))

/-- The contents a device starts from. -/
def KV : Valuation τ sig (Elt Ideal) := fun b => m (c, b)

/-- A buffer the first operations leave for the launch. -/
theorem V_split (b : Ref sig .tc) : V m c b = after hostOps0_4 (WK (KV m c)) (Proc.devRef .tc b) := by
  show after (List.flatten [hostOps0, hostOps0_1, hostOps0_2, hostOps0_3, hostOps0_4]) (KV m c) (Proc.devRef .tc b) = _
  rw [after_split]

/-- An argument of the reference. -/
abbrev ra0 (W : Valuation Cert.ReferenceIdeal.τ Cert.ReferenceIdeal.sig (Elt Ideal)) : S2x3x64x64.Idx → EReal := W (Proc.devRef .tc Cert.ReferenceIdeal.main_arg0)
/-- An argument of the kernel. -/
abbrev ka0 (W : Valuation τ sig (Elt Ideal)) : S2x3x64x64.Idx → EReal := W (Proc.devRef .tc main_arg0)

/-- An argument of the reference. -/
abbrev ra1 (W : Valuation Cert.ReferenceIdeal.τ Cert.ReferenceIdeal.sig (Elt Ideal)) : S1.Idx → EReal := W (Proc.devRef .tc Cert.ReferenceIdeal.main_arg1)
/-- An argument of the kernel. -/
abbrev ka1 (W : Valuation τ sig (Elt Ideal)) : S1.Idx → EReal := W (Proc.devRef .tc main_arg1)

/-- An argument of the reference. -/
abbrev ra2 (W : Valuation Cert.ReferenceIdeal.τ Cert.ReferenceIdeal.sig (Elt Ideal)) : S75x80.Idx → EReal := W (Proc.devRef .tc Cert.ReferenceIdeal.main_arg2)
/-- An argument of the kernel. -/
abbrev ka2 (W : Valuation τ sig (Elt Ideal)) : S75x80.Idx → EReal := W (Proc.devRef .tc main_arg2)

/-- An argument of the reference. -/
abbrev ra3 (W : Valuation Cert.ReferenceIdeal.τ Cert.ReferenceIdeal.sig (Elt Ideal)) : S80.Idx → EReal := W (Proc.devRef .tc Cert.ReferenceIdeal.main_arg3)
/-- An argument of the kernel. -/
abbrev ka3 (W : Valuation τ sig (Elt Ideal)) : S80.Idx → EReal := W (Proc.devRef .tc main_arg3)

/-- An argument of the reference. -/
abbrev ra4 (W : Valuation Cert.ReferenceIdeal.τ Cert.ReferenceIdeal.sig (Elt Ideal)) : S80x75.Idx → EReal := W (Proc.devRef .tc Cert.ReferenceIdeal.main_arg4)
/-- An argument of the kernel. -/
abbrev ka4 (W : Valuation τ sig (Elt Ideal)) : S80x75.Idx → EReal := W (Proc.devRef .tc main_arg4)

/-- An argument of the reference. -/
abbrev ra5 (W : Valuation Cert.ReferenceIdeal.τ Cert.ReferenceIdeal.sig (Elt Ideal)) : S75.Idx → EReal := W (Proc.devRef .tc Cert.ReferenceIdeal.main_arg5)
/-- An argument of the kernel. -/
abbrev ka5 (W : Valuation τ sig (Elt Ideal)) : S75.Idx → EReal := W (Proc.devRef .tc main_arg5)

/-- An argument of the reference. -/
abbrev ra6 (W : Valuation Cert.ReferenceIdeal.τ Cert.ReferenceIdeal.sig (Elt Ideal)) : S80x1.Idx → EReal := W (Proc.devRef .tc Cert.ReferenceIdeal.main_arg6)
/-- An argument of the kernel. -/
abbrev ka6 (W : Valuation τ sig (Elt Ideal)) : S80x1.Idx → EReal := W (Proc.devRef .tc main_arg6)

/-- An argument of the reference. -/
abbrev ra7 (W : Valuation Cert.ReferenceIdeal.τ Cert.ReferenceIdeal.sig (Elt Ideal)) : S1.Idx → EReal := W (Proc.devRef .tc Cert.ReferenceIdeal.main_arg7)
/-- An argument of the kernel. -/
abbrev ka7 (W : Valuation τ sig (Elt Ideal)) : S1.Idx → EReal := W (Proc.devRef .tc main_arg7)

/-- Both programs start from the same arguments. -/
structure Same : Prop where
  h0 : ra0 V' = ka0 (KV m c)
  h1 : ra1 V' = ka1 (KV m c)
  h2 : ra2 V' = ka2 (KV m c)
  h3 : ra3 V' = ka3 (KV m c)
  h4 : ra4 V' = ka4 (KV m c)
  h5 : ra5 V' = ka5 (KV m c)
  h6 : ra6 V' = ka6 (KV m c)
  h7 : ra7 V' = ka7 (KV m c)

variable {m c V'}
variable (hs : Same m c V')
include hs

/-- A grey patch of an image. -/
theorem blk1 (k : ℕ) (hk : k < 32) (d : Fin 25) (q : Fin 4096) : (b1 m c k : S1x25x4096.Idx → EReal) (ix3 0 d q) = (gP V' ⟨k / 16, by omega⟩ q d : EReal) := by
  refine (b1_at m c k hk d q).trans ?_
  rw [V_split]
  refine (arr_v95 _ _ d q).trans ?_
  rw [WK_v16 _ V' hs.h0]
  exact (v71_at V' _ q d).symm

/-- A colour patch of an image. -/
theorem blk2 (k : ℕ) (hk : k < 32) (f : Fin 75) (q : Fin 4096) : (b2 m c k : S1x75x4096.Idx → EReal) (ix3 0 f q)
    = (N17 V' (ix4 ⟨k / 16, by omega⟩ ⟨f.val % 3, by omega⟩ ⟨f.val / 3 / 5 + q.val / 64, by omega⟩ ⟨f.val / 3 % 5 + q.val % 64, by omega⟩) : EReal) := by
  refine (b2_at m c k hk f q).trans ?_
  rw [V_split]
  have e := arr_v174 (WK (KV m c)) ⟨k / 16, by omega⟩ ⟨f.val / 3, by omega⟩ ⟨f.val % 3, by omega⟩ q
  have ef : (⟨f.val / 3 * 3 + f.val % 3, by omega⟩ : Fin 75) = f := Fin.ext (by show f.val / 3 * 3 + f.val % 3 = f.val; omega)
  simp only [ef] at e
  refine e.trans ?_
  rw [WK_v17 _ V' hs.h0]

/-- The first matrix, its rows arranged for the kernel. -/
theorem blk3 (k : ℕ) (f : Fin 75) (x : Fin 80) : (b3 m c k : S75x80.Idx → EReal) (ix2 f x) = (Cert.ReferenceIdeal.Value.a2 V' (ix2 ⟨f.val % 3 * 25 + f.val / 3, by omega⟩ x) : EReal) := by
  refine (b3_at m c k f x).trans ?_
  rw [V_split]
  refine (arr_v177 _ f x).trans ?_
  rw [WK_arg2]
  exact (congrFun hs.h2 _).symm

/-- The first bias. -/
theorem blk4 (k : ℕ) (x : Fin 80) : (b4 m c k : S80x1.Idx → EReal) (ix2 x 0) = (Cert.ReferenceIdeal.Value.a3 V' (ix1 x) : EReal) := by
  refine (b4_at m c k x 0).trans ?_
  rw [V_split]
  refine (arr_v192 _ x).trans ?_
  rw [WK_arg3]
  exact (congrFun hs.h3 _).symm

/-- The second matrix. -/
theorem blk5 (k : ℕ) (x : Fin 80) (j : Fin 75) : (b5 m c k : S80x76.Idx → EReal) (ix2 x ⟨j.val, by omega⟩) = (Cert.ReferenceIdeal.Value.a4 V' (ix2 x j) : EReal) := by
  refine (b5_at m c k x _).trans ?_
  rw [V_split]
  refine (arr_v189 _ x _).trans ?_
  rw [WK_arg4, dif_pos j.isLt]
  exact (congrFun hs.h4 _).symm

/-- The weight's column. -/
theorem blk5w (k : ℕ) (x : Fin 80) : (b5 m c k : S80x76.Idx → EReal) (ix2 x 75) = (Cert.ReferenceIdeal.Value.a6 V' (ix2 x 0) : EReal) := by
  refine (b5_at m c k x _).trans ?_
  rw [V_split]
  refine (arr_v189 _ x _).trans ?_
  rw [WK_arg6, dif_neg (by decide)]
  exact (congrFun hs.h6 _).symm

/-- The second bias. -/
theorem blk6 (k : ℕ) (j : Fin 75) : (b6 m c k : S76x1.Idx → EReal) (ix2 ⟨j.val, by omega⟩ 0) = (Cert.ReferenceIdeal.Value.a5 V' (ix1 j) : EReal) := by
  refine (b6_at m c k _ 0).trans ?_
  rw [V_split]
  refine (arr_v191 _ _).trans ?_
  rw [WK_arg5, dif_pos j.isLt]
  exact (congrFun hs.h5 _).symm

/-- The weight's bias. -/
theorem blk6w (k : ℕ) : (b6 m c k : S76x1.Idx → EReal) (ix2 75 0) = (Cert.ReferenceIdeal.Value.a7 V' (ix1 0) : EReal) := by
  refine (b6_at m c k _ 0).trans ?_
  rw [V_split]
  refine (arr_v191 _ _).trans ?_
  rw [WK_arg7, dif_neg (by decide)]
  exact (congrFun hs.h7 _).symm

/-- The temperature. -/
theorem blk0 (k : ℕ) (hk : k < 32) : (b0 m c k : S1x1x8.Idx → EReal) (ix3 0 0 0) = (tempR V' : EReal) := by
  refine (b0_at m c k hk 0 0).trans ?_
  rw [V_split]
  refine (arr_v188_0 _ _).trans ?_
  rw [WK_arg1]
  have e : (KV m c (Proc.devRef .tc main_arg1) : S1.Idx → EReal) (ix1 0) = (ra1 V' (ix1 0) : EReal) := (congrFun hs.h1 _).symm
  rw [e]

/-- An image's mean. -/
theorem blk0c (k : ℕ) (hk : k < 32) (ch : Fin 3) : (b0 m c k : S1x1x8.Idx → EReal) (ix3 0 0 ⟨ch.val + 1, by omega⟩) = (E9 V' (ix4 ⟨k / 16, by omega⟩ ch 0 0) : EReal) := by
  refine (b0_at m c k hk 0 _).trans ?_
  rw [V_split]
  refine (arr_v188_c _ _ ch).trans ?_
  rw [WK_v9 _ V' hs.h0]

end Cert.KernelIdeal.Gen
-- ==== Proof.KFeat.lean ====
module

public import proofs.«01_k».proof.Proof.Spec
public import Idealize.ShloMosaic.Lib.Pointwise
public import Idealize.ShloMosaic.Lib.StableHlo.RunRead

@[expose] public section

set_option maxRecDepth 65536

noncomputable section

namespace Cert.KernelIdeal.Gen

open Idealize.ShloMosaic Idealize.ShloMosaic.TcCoe Idealize.ShloMosaic.Tactic
open Idealize.ShloMosaic.StableHlo

/-- The hidden features of a query of the block: the weighted mean of the projected patches of its nearest, shifted and cut at zero. -/
def featK (v7 : S4096x256.Idx → EReal) (v129 : S14x256.Idx → EReal) (v132 : S1x1x1.Idx → EReal) (v151 : S4096x80.Idx → EReal)
    (v155 : S80x1.Idx → EReal) (x : Fin 80) (n : Fin 256) : EReal :=
  max (Ideal.div (∑ k : Fin 4096, v151 (ix2 k x) * (if v7 (ix2 k n) ≤ v129 (ix2 13 n) then Ideal.exp ((v129 (ix2 0 n) - v7 (ix2 k n)) * Ideal.div 1 (v132 (ix3 0 0 0))) else 0))
    (∑ j : Fin 14, Ideal.exp ((v129 (ix2 0 n) - v129 (ix2 j n)) * Ideal.div 1 (v132 (ix3 0 0 0)))) + v155 (ix2 x 0)) 0

set_option maxHeartbeats 4000000 in
/-- The block's linear readings of the features. -/
theorem pay99_at (v7 : FVec Ideal S4096x256 .f32) (v129 : FVec Ideal S14x256 .f32) (v132 : Vec Ideal S1x1x1 .f32) (v151 : Vec Ideal S4096x80 .f32)
    (v155 : Vec Ideal S80x1 .f32) (v161 : Vec Ideal S80x76 .f32) (v164 : Vec Ideal S76x1 .f32) (f : Fin 76) (n : Fin 256) :
    (k0_pay99 v7 v129 v132 v151 v155 v161 v164 : S76x256.Idx → EReal) (ix2 f n)
      = (∑ x : Fin 80, (v161 : S80x76.Idx → EReal) (ix2 x f) * featK v7 v129 v132 v151 v155 x n + (v164 : S76x1.Idx → EReal) (ix2 f 0) : EReal) := by
  unfold k0_pay99 featK
  pointwise

set_option maxHeartbeats 4000000 in
/-- The block of weights. -/
theorem pay100_at (v7 : FVec Ideal S4096x256 .f32) (v129 : FVec Ideal S14x256 .f32) (v132 : Vec Ideal S1x1x1 .f32) (v151 : Vec Ideal S4096x80 .f32)
    (v155 : Vec Ideal S80x1 .f32) (v161 : Vec Ideal S80x76 .f32) (v164 : Vec Ideal S76x1 .f32) (n : Fin 256) :
    (k0_pay100 v7 v129 v132 v151 v155 v161 v164 : S1x256.Idx → EReal) (ix2 0 n)
      = (Ideal.logistic ((k0_pay99 v7 v129 v132 v151 v155 v161 v164 : S76x256.Idx → EReal) (ix2 75 n)) : EReal) := by
  unfold k0_pay100
  generalize k0_pay99 v7 v129 v132 v151 v155 v161 v164 = X
  pointwise

set_option maxHeartbeats 4000000 in
/-- The block of patches. -/
theorem pay101_at (v7 : FVec Ideal S4096x256 .f32) (v129 : FVec Ideal S14x256 .f32) (v132 : Vec Ideal S1x1x1 .f32) (v151 : Vec Ideal S4096x80 .f32)
    (v155 : Vec Ideal S80x1 .f32) (v161 : Vec Ideal S80x76 .f32) (v164 : Vec Ideal S76x1 .f32) (f : Fin 75) (n : Fin 256) :
    (k0_pay101 v7 v129 v132 v151 v155 v161 v164 : S75x256.Idx → EReal) (ix2 f n)
      = ((k0_pay99 v7 v129 v132 v151 v155 v161 v164 : S76x256.Idx → EReal) (ix2 ⟨f.val, by omega⟩ n) : EReal) := by
  unfold k0_pay101
  generalize k0_pay99 v7 v129 v132 v151 v155 v161 v164 = X
  pointwise

/-- The block of weights stored. -/
theorem pay2_at (w : FVec Ideal S1x256 .f32) (n : Fin 256) : (k0_pay2 w : S1x256.Idx → EReal) (ix2 0 n) = (w (ix2 0 n) : EReal) := by
  unfold k0_pay2
  pointwise

/-- The block of weighted patches stored. -/
theorem pay1_at (w : FVec Ideal S1x256 .f32) (p : FVec Ideal S75x256 .f32) (f : Fin 75) (n : Fin 256) :
    (k0_pay1 w p : S75x256.Idx → EReal) (ix2 f n) = (p (ix2 f n) : EReal) * (w (ix2 0 n) : EReal) := by
  unfold k0_pay1
  pointwise

/-- The projected patches. -/
theorem pay4_at (x2 : Vec Ideal S1x75x4096 .f32) (x3 : Vec Ideal S75x80 .f32) (k : Fin 4096) (x : Fin 80) :
    (k0_pay4 x2 x3 : S4096x80.Idx → EReal) (ix2 k x) = (∑ f : Fin 75, (x2 : S1x75x4096.Idx → EReal) (ix3 0 f k) * (x3 : S75x80.Idx → EReal) (ix2 f x) : EReal) := by
  unfold k0_pay4
  pointwise

/-- The distances of a block, less the queries' own squares. -/
theorem pay78_at (v5 : Vec Ideal S32x256 .f32) (v6 : Vec Ideal S32x4096 .f32) (k : Fin 4096) (n : Fin 256) :
    (k0_pay78 v5 v6 : S4096x256.Idx → EReal) (ix2 k n) = (∑ d : Fin 32, (v6 : S32x4096.Idx → EReal) (ix2 d k) * (v5 : S32x256.Idx → EReal) (ix2 d n) : EReal) := by
  unfold k0_pay78
  pointwise

end Cert.KernelIdeal.Gen
-- ==== Proof.KDist.lean ====
module

public import proofs.«01_k».proof.Proof.KFeat
public import proofs.«01_k».proof.Proof.State
public import Idealize.ShloMosaic.Lib.Pointwise
public import proofs.«01_k».proof.Proof.Soft
public import Idealize.ShloMosaic.Lib.Pointwise
public import Idealize.ShloMosaic.Lib.StableHlo.RunRead

@[expose] public section

set_option maxRecDepth 65536

noncomputable section

namespace Cert.KernelIdeal.Gen

open Idealize.ShloMosaic Idealize.ShloMosaic.TcCoe Idealize.ShloMosaic.Tactic
open Idealize.ShloMosaic.StableHlo

open VecWindow (put)

/-- Rows put into an array: the rows put where they are, the array elsewhere. -/
theorem put2_at {α : Type} {R C : ℕ} (b : (⟨2, ![R, C]⟩ : Shape).Idx → α) (o r : ℕ) (w : (⟨2, ![r, C]⟩ : Shape).Idx → α) (d : Fin R) (q : Fin C) :
    put (s := ⟨2, ![R, C]⟩) b ![o, 0] ![r, C] w (ix2 d q) = if h : o ≤ d.val ∧ d.val < o + r then w (ix2 ⟨d.val - o, by omega⟩ q) else b (ix2 d q) := by
  have hq := q.isLt
  by_cases h : o ≤ d.val ∧ d.val < o + r
  · rw [dif_pos h]
    unfold put
    rw [dif_pos (Fin.forall_fin_two.2 ⟨h, by show 0 ≤ q.val ∧ q.val < 0 + C; omega⟩)]
    refine congrArg w (funext (Fin.forall_fin_two.2 ⟨rfl, Fin.ext ?_⟩))
    show q.val - 0 = q.val
    omega
  · rw [dif_neg h]
    unfold put
    rw [dif_neg fun hh => h (hh 0)]

/-- The left search buffer's first 25 rows: minus twice the gray patches. -/
theorem pay6_at (x1 : Vec Ideal S1x25x4096 .f32) (d : Fin 25) (q : Fin 4096) :
    (k0_pay6 x1 : S25x4096.Idx → EReal) (ix2 d q) = (Ideal.ofBits .f32 0xC0000000#32 * (x1 : S1x25x4096.Idx → EReal) (ix3 0 d q) : EReal) := by
  unfold k0_pay6 k0_pay5
  pointwise

/-- The right search buffer's first 25 rows: the gray patches. -/
theorem pay9_at (x1 : Vec Ideal S1x25x4096 .f32) (d : Fin 25) (q : Fin 4096) :
    (k0_pay9 x1 : S25x4096.Idx → EReal) (ix2 d q) = ((x1 : S1x25x4096.Idx → EReal) (ix3 0 d q) : EReal) := by
  unfold k0_pay9 k0_pay5
  pointwise

/-- The left search buffer's row 25: the squared norms of the gray patches. -/
theorem pay7_at (x1 : Vec Ideal S1x25x4096 .f32) (q : Fin 4096) :
    (k0_pay7 x1 : S1x4096.Idx → EReal) (ix2 0 q) = (∑ d : Fin 25, (x1 : S1x25x4096.Idx → EReal) (ix3 0 d q) * (x1 : S1x25x4096.Idx → EReal) (ix3 0 d q) : EReal) := by
  unfold k0_pay7 k0_pay5
  pointwise

/-- The left search buffer's last six rows are zero. -/
theorem pay8_at (d : Fin 6) (q : Fin 4096) : (k0_pay8 (F := Ideal) : S6x4096.Idx → EReal) (ix2 d q) = (0 : EReal) := by
  unfold k0_pay8
  pointwise
  try simp [Ideal.ofBits, Ideal.ieee]

/-- The right search buffer's last six rows are zero. -/
theorem pay73_at (d : Fin 6) (q : Fin 4096) : (k0_pay73 (F := Ideal) : S6x4096.Idx → EReal) (ix2 d q) = (0 : EReal) := by
  unfold k0_pay73
  pointwise
  try simp [Ideal.ofBits, Ideal.ieee]

/-- The right search buffer's row 25 is one. -/
theorem pay72_at (q : Fin 4096) : (k0_pay72 (k0_pay10 (F := Ideal)) : S1x4096.Idx → EReal) (ix2 0 q) = (1 : EReal) := by
  unfold k0_pay72 k0_pay10
  pointwise
  try simp [Ideal.ofBits, Ideal.ieee]

/-- The first scratch entry by entry. -/
theorem AOf_at (x1 : Vec Ideal S1x25x4096 .f32) (d : Fin 32) (q : Fin 4096) :
    (AOf zero32 x1 : S32x4096.Idx → EReal) (ix2 d q)
      = (if h : d.val < 25 then Ideal.ofBits .f32 0xC0000000#32 * (x1 : S1x25x4096.Idx → EReal) (ix3 0 ⟨d.val, h⟩ q)
        else if d.val = 25 then ∑ e : Fin 25, (x1 : S1x25x4096.Idx → EReal) (ix3 0 e q) * (x1 : S1x25x4096.Idx → EReal) (ix3 0 e q) else 0 : EReal) := by
  have hd := d.isLt
  unfold AOf
  refine (put2_at (R := 32) (C := 4096) _ 26 6 _ d q).trans ?_
  by_cases h1 : d.val < 25
  · rw [dif_neg (by omega), dif_pos h1]
    refine (put2_at (R := 32) (C := 4096) _ 25 1 _ d q).trans ?_
    rw [dif_neg (by omega)]
    refine (put2_at (R := 32) (C := 4096) _ 0 25 _ d q).trans ?_
    rw [dif_pos (by omega)]
    exact pay6_at x1 ⟨d.val, h1⟩ q
  · rw [dif_neg h1]
    by_cases h2 : d.val = 25
    · rw [dif_neg (by omega), if_pos h2]
      refine (put2_at (R := 32) (C := 4096) _ 25 1 _ d q).trans ?_
      rw [dif_pos (by omega)]
      rw [show (⟨d.val - 25, by omega⟩ : Fin 1) = 0 from Subsingleton.elim _ _]
      exact pay7_at x1 q
    · rw [dif_pos (by omega), if_neg h2]
      exact pay8_at _ q

/-- The second scratch entry by entry. -/
theorem BOf_at (x1 : Vec Ideal S1x25x4096 .f32) (d : Fin 32) (q : Fin 4096) :
    (BOf zero32 x1 : S32x4096.Idx → EReal) (ix2 d q)
      = (if h : d.val < 25 then (x1 : S1x25x4096.Idx → EReal) (ix3 0 ⟨d.val, h⟩ q)
        else if d.val = 25 then 1 else 0 : EReal) := by
  have hd := d.isLt
  unfold BOf
  refine (put2_at (R := 32) (C := 4096) _ 26 6 _ d q).trans ?_
  by_cases h1 : d.val < 25
  · rw [dif_neg (by omega), dif_pos h1]
    refine (put2_at (R := 32) (C := 4096) _ 25 1 _ d q).trans ?_
    rw [dif_neg (by omega)]
    refine (put2_at (R := 32) (C := 4096) _ 0 25 _ d q).trans ?_
    rw [dif_pos (by omega)]
    exact pay9_at x1 ⟨d.val, h1⟩ q
  · rw [dif_neg h1]
    by_cases h2 : d.val = 25
    · rw [dif_neg (by omega), if_pos h2]
      refine (put2_at (R := 32) (C := 4096) _ 25 1 _ d q).trans ?_
      rw [dif_pos (by omega)]
      rw [show (⟨d.val - 25, by omega⟩ : Fin 1) = 0 from Subsingleton.elim _ _]
      exact pay72_at q
    · rw [dif_pos (by omega), if_neg h2]
      exact pay73_at _ q

/-- Where a grid point's queries are. -/
theorem off1_eq (t : Fin cfg0.N) : k0_off1 (grid0.coords t) = ![0, 256 * (t.val % 16)] := by
  have ht : t.val < 32 := Nat.lt_of_lt_of_eq t.isLt N_0
  have e1 : (grid0.coords t 1).val = t.val / 1 % 16 := Pipeline.Grid.coords_val t 1 (by decide) rfl
  unfold k0_off1
  simp only [e1, Nat.div_one]
  have e : (Scalar.indexCast (Scalar.muli (BitVec.ofNat 32 (t.val % 16)) 256#32)).toNat = 256 * (t.val % 16) := by
    show (BitVec.ofNat 32 (t.val % 16) * 256#32).toNat = _
    simp only [BitVec.toNat_mul, BitVec.toNat_ofNat]
    omega
  exact congrArg (fun n : ℕ => (![0, n] : Fin 2 → ℕ)) e

/-- A block's queries are 256 columns of the second scratch. -/
theorem qOf_at (t : Fin cfg0.N) (s2 : Vec Ideal S32x4096 .f32) (d : Fin 32) (n : Fin 256) (q : Fin 4096) (hq : q.val = 256 * (t.val % 16) + n.val) :
    (qOf (grid0.coords t) s2 : S32x256.Idx → EReal) (ix2 d n) = ((s2 : S32x4096.Idx → EReal) (ix2 d q) : EReal) := by
  unfold qOf pick
  refine congrArg s2 (funext (Fin.forall_fin_two.2 ⟨Fin.ext ?_, Fin.ext ?_⟩))
  · show k0_off1 (grid0.coords t) 0 + 1 * d.val = d.val
    rw [off1_eq]
    show 0 + 1 * d.val = d.val
    omega
  · show k0_off1 (grid0.coords t) 1 + 1 * n.val = q.val
    rw [off1_eq, hq]
    show 256 * (t.val % 16) + 1 * n.val = _
    omega

/-- The temperature of the image. -/
theorem tOf_at (x0 : Vec Ideal S1x1x8 .f32) : (tOf x0 : S1x1x1.Idx → EReal) (ix3 0 0 0) = ((x0 : S1x1x8.Idx → EReal) (ix3 0 0 0) : EReal) := by
  unfold tOf pick
  refine congrArg x0 (funext fun a => Fin.ext ?_)
  fin_cases a <;> rfl

/-- The distances of a block from real patches. -/
theorem dist_at (t : Fin cfg0.N) (x1 : Vec Ideal S1x25x4096 .f32) (p : Fin 25 → Fin 4096 → ℝ)
    (hp : ∀ e q, (x1 : S1x25x4096.Idx → EReal) (ix3 0 e q) = (p e q : EReal)) (k : Fin 4096) (n : Fin 256) (q : Fin 4096)
    (hq : q.val = 256 * (t.val % 16) + n.val) :
    (k0_pay78 (qOf (grid0.coords t) (BOf zero32 x1)) (AOf zero32 x1) : S4096x256.Idx → EReal) (ix2 k n)
      = (((∑ e : Fin 25, p e k * p e k) - 2 * ∑ e : Fin 25, p e k * p e q : ℝ) : EReal) := by
  rw [pay78_at]
  have e1 : ∀ d : Fin 32, ((AOf zero32 x1 : S32x4096.Idx → EReal) (ix2 d k) * (qOf (grid0.coords t) (BOf zero32 x1) : S32x256.Idx → EReal) (ix2 d n) : EReal)
      = ((if h : d.val < 25 then -2 * p ⟨d.val, h⟩ k * p ⟨d.val, h⟩ q else if d.val = 25 then ∑ e : Fin 25, p e k * p e k else 0 : ℝ) : EReal) := by
    intro d
    rw [qOf_at t _ d n q hq, AOf_at, BOf_at]
    have c2 : Ideal.ofBits .f32 0xC0000000#32 = ((-2 : ℝ) : EReal) := by
      simp [Ideal.ofBits, Ideal.ieee]
      rw [← EReal.coe_mul]
      norm_num
    simp only [hp, c2]
    split_ifs
    · rw [← EReal.coe_mul, ← EReal.coe_mul]
    · rw [mul_one, Cert.Soft.coe_sum]
      simp only [EReal.coe_mul]
    · rw [mul_zero]; rfl
  refine (Finset.sum_congr rfl fun d _ => e1 d).trans ?_
  rw [← Cert.Soft.coe_sum]
  refine congrArg _ ?_
  refine (Fin.sum_univ_add (a := 25) (b := 7) _).trans ?_
  have s1 : ∀ i : Fin 25, (if h : (Fin.castAdd 7 i).val < 25 then -2 * p ⟨(Fin.castAdd 7 i).val, h⟩ k * p ⟨(Fin.castAdd 7 i).val, h⟩ q else if (Fin.castAdd 7 i).val = 25 then ∑ e : Fin 25, p e k * p e k else 0 : ℝ) = -2 * (p i k * p i q) := by
    intro i
    rw [dif_pos (show (Fin.castAdd 7 i).val < 25 from i.isLt)]
    show -2 * p i k * p i q = _
    ring
  have s2 : ∀ i : Fin 7, (if h : (Fin.natAdd 25 i).val < 25 then -2 * p ⟨(Fin.natAdd 25 i).val, h⟩ k * p ⟨(Fin.natAdd 25 i).val, h⟩ q else if (Fin.natAdd 25 i).val = 25 then ∑ e : Fin 25, p e k * p e k else 0 : ℝ) = if i = 0 then ∑ e : Fin 25, p e k * p e k else 0 := by
    intro i
    have hi : (Fin.natAdd 25 i).val = 25 + i.val := rfl
    rw [dif_neg (by omega)]
    by_cases h0 : i = 0
    · rw [if_pos h0, if_pos (by rw [hi, h0]; rfl)]
    · rw [if_neg h0, if_neg (by
        intro hh
        apply h0
        apply Fin.ext
        show i.val = 0
        omega)]
  rw [Finset.sum_congr rfl fun i _ => s1 i, Finset.sum_congr rfl fun i _ => s2 i, ← Finset.mul_sum, Finset.sum_ite_eq' Finset.univ (0 : Fin 7)]
  simp only [Finset.mem_univ, if_true]
  ring

end Cert.KernelIdeal.Gen
-- ==== Proof.Chain.lean ====
module

public import Idealize.ShloMosaic.Lib.Pointwise

@[expose] public section

noncomputable section

/-! Repeated minima: the smallest value, then the smallest above it, and so on. -/

namespace Cert.Ascend

variable {ι κ : Type} [Fintype ι] [Fintype κ]

/-- The smallest of the values above `m`, the values not above it counted as `big`. -/
def nextUp (big : EReal) (f : ι → EReal) (m : EReal) : EReal := Finset.univ.inf fun k => if m < f k then f k else big

/-- The smallest value, then `j` times the next above. -/
def chain (big : EReal) (f : ι → EReal) : ℕ → EReal
  | 0 => Finset.univ.inf f
  | j + 1 => nextUp big f (chain big f j)

variable {big : EReal} {f : ι → EReal}

/-- Each member of the chain is one of the values or `big`. -/
theorem chain_mem [Nonempty ι] (j : ℕ) : (∃ k, chain big f j = f k) ∨ chain big f j = big := by
  cases j with
  | zero =>
    obtain ⟨k, -, h⟩ := Finset.exists_mem_eq_inf (Finset.univ : Finset ι) Finset.univ_nonempty f
    exact Or.inl ⟨k, h⟩
  | succ j =>
    obtain ⟨k, -, h⟩ := Finset.exists_mem_eq_inf (Finset.univ : Finset ι) Finset.univ_nonempty
      (fun k => if chain big f j < f k then f k else big)
    show (∃ k, nextUp big f _ = f k) ∨ nextUp big f _ = big
    unfold nextUp
    rw [h]
    by_cases c : chain big f j < f k
    · exact Or.inl ⟨k, if_pos c⟩
    · exact Or.inr (if_neg c)

/-- A value above a member bounds the next member. -/
theorem chain_succ_le {j : ℕ} (k : ι) (h : chain big f j < f k) : chain big f (j + 1) ≤ f k := by
  show nextUp big f _ ≤ f k
  unfold nextUp
  exact (Finset.inf_le (Finset.mem_univ k)).trans (by rw [if_pos h])

/-- The first member is below every value. -/
theorem chain_zero_le (k : ι) : chain big f 0 ≤ f k := Finset.inf_le (Finset.mem_univ k)

/-- No member is above `big`. -/
theorem chain_le_big [Nonempty ι] (h : ∀ k, f k ≤ big) (j : ℕ) : chain big f j ≤ big := by
  rcases chain_mem (big := big) (f := f) j with ⟨k, e⟩ | e
  · rw [e]; exact h k
  · exact e.le

/-- What is below `big` and below every value above a member is below the next member. -/
theorem le_chain_succ {j : ℕ} {b : EReal} (hb : b ≤ big) (h : ∀ k, chain big f j < f k → b ≤ f k) : b ≤ chain big f (j + 1) := by
  show b ≤ nextUp big f _
  unfold nextUp
  refine Finset.le_inf fun k _ => ?_
  by_cases c : chain big f j < f k
  · rw [if_pos c]; exact h k c
  · rw [if_neg c]; exact hb

/-- The chain ascends. -/
theorem chain_mono [Nonempty ι] (h : ∀ k, f k ≤ big) {i j : ℕ} (hij : i ≤ j) : chain big f i ≤ chain big f j := by
  induction j, hij using Nat.le_induction with
  | base => exact le_rfl
  | succ j _ ih => exact ih.trans (le_chain_succ (chain_le_big h j) fun k hk => hk.le)

/-- A value below a member is an earlier member. -/
theorem mem_of_lt_chain (k : ι) (s : ℕ) (h : f k < chain big f s) : ∃ s' < s, f k = chain big f s' := by
  induction s with
  | zero => exact absurd h (not_lt.mpr (chain_zero_le k))
  | succ s ih =>
    rcases lt_trichotomy (f k) (chain big f s) with c | c | c
    · obtain ⟨s', hs, e⟩ := ih c
      exact ⟨s', by omega, e⟩
    · exact ⟨s, by omega, c⟩
    · exact absurd h (not_lt.mpr (chain_succ_le k c))

/-- Along an ascending arrangement whose first members are pairwise different, the chain is the arrangement. -/
theorem chain_sorted {N : ℕ} (D : Fin N → EReal) (σ : Fin N → Fin N) (hσ : Function.Surjective σ)
    (mono : ∀ i j : Fin N, i ≤ j → D (σ i) ≤ D (σ j)) (hbig : ∀ k, D k ≤ big) (K : ℕ)
    (strict : ∀ (i : ℕ) (h : i + 1 < N), i < K → D (σ ⟨i, by omega⟩) < D (σ ⟨i + 1, h⟩)) (j : ℕ) (hj : j < N) (hK : j ≤ K) :
    chain big D j = D (σ ⟨j, hj⟩) := by
  induction j with
  | zero =>
    refine le_antisymm (chain_zero_le _) (Finset.le_inf fun k _ => ?_)
    obtain ⟨i, rfl⟩ := hσ k
    exact mono _ _ (Fin.mk_le_of_le_val (Nat.zero_le _))
  | succ j ih =>
    have e := ih (by omega) (by omega)
    have s := strict j hj (by omega)
    refine le_antisymm (chain_succ_le _ (by rw [e]; exact s)) (le_chain_succ (hbig _) fun k hk => ?_)
    obtain ⟨i, rfl⟩ := hσ k
    rw [e] at hk
    by_contra hc
    rcases Nat.lt_or_ge j i.val with c | c
    · exact hc (mono _ _ (Fin.mk_le_of_le_val c))
    · exact absurd hk (not_lt.mpr (mono i ⟨j, by omega⟩ (Fin.le_def.mpr c)))

/-- The pool of every group's first members suffices when every group's last pooled member is above the pool's `K`-th:
    then the pool's chain is the whole family's. -/
theorem chain_pool {C I : Type} [Fintype C] [Fintype I] [Nonempty I] [Nonempty ι] [Nonempty κ] (g : κ → EReal) (E : C → I → κ)
    (hE : ∀ k, ∃ c i, E c i = k) (hbig : ∀ k, g k ≤ big) (P : ι → EReal) (S : ℕ)
    (h1 : ∀ x, ∃ s c, P x = chain big (fun i => g (E c i)) s)
    (h2 : ∀ s c, s < S → ∃ x, P x = chain big (fun i => g (E c i)) s) (hS : 0 < S) (K : ℕ)
    (ok : ∀ c, chain big P K < chain big (fun i => g (E c i)) (S - 1)) (j : ℕ) (hj : j ≤ K) :
    chain big P j = chain big g j := by
  have hP : ∀ x, (∃ k, P x = g k) ∨ P x = big := fun x => by
    obtain ⟨s, c, e⟩ := h1 x
    rw [e]
    rcases chain_mem (big := big) (f := fun i => g (E c i)) s with ⟨i, h⟩ | h
    · exact Or.inl ⟨_, h⟩
    · exact Or.inr h
  have hPb : ∀ x, P x ≤ big := fun x => by
    rcases hP x with ⟨k, e⟩ | e
    · rw [e]; exact hbig k
    · exact e.le
  have hin : ∀ k, g k ≤ chain big P K → ∃ x, P x = g k := fun k hk => by
    obtain ⟨c, i, rfl⟩ := hE k
    obtain ⟨s, hs, e⟩ := mem_of_lt_chain (f := fun i => g (E c i)) i (S - 1) (hk.trans_lt (ok c))
    obtain ⟨x, hx⟩ := h2 s c (by omega)
    exact ⟨x, hx.trans e.symm⟩
  induction j with
  | zero =>
    refine le_antisymm (Finset.le_inf fun k _ => ?_) (Finset.le_inf fun x _ => ?_)
    · obtain ⟨c, i, rfl⟩ := hE k
      obtain ⟨x, hx⟩ := h2 0 c hS
      exact (chain_zero_le x).trans (hx.le.trans (chain_zero_le (f := fun i => g (E c i)) i))
    · rcases hP x with ⟨k, e⟩ | e
      · rw [e]; exact chain_zero_le k
      · rw [e]; exact chain_le_big hbig 0
  | succ j ih =>
    have e := ih (by omega)
    refine le_antisymm (le_chain_succ (chain_le_big hPb _) fun k hk => ?_) (le_chain_succ (chain_le_big hbig _) fun x hx => ?_)
    · rcases le_or_gt (g k) (chain big P K) with c | c
      · obtain ⟨x, hx⟩ := hin k c
        rw [← hx]
        exact chain_succ_le x (by rw [hx, e]; exact hk)
      · exact (chain_mono hPb hj).trans c.le
    · rcases hP x with ⟨k, h⟩ | h
      · rw [h]; exact chain_succ_le k (by rw [← h, ← e]; exact hx)
      · rw [h]; exact chain_le_big hbig _

end Cert.Ascend

end
-- ==== Proof.KPay.lean ====
module

public import proofs.«01_k».proof.Proof.Spec
public import proofs.«01_k».proof.Proof.Chain
public import Idealize.ShloMosaic.Lib.Pointwise
public import Idealize.ShloMosaic.Lib.StableHlo.RunRead

@[expose] public section

set_option maxRecDepth 65536

noncomputable section

namespace Cert.KernelIdeal.Gen

open Idealize.ShloMosaic Idealize.ShloMosaic.TcCoe Idealize.ShloMosaic.Tactic
open Idealize.ShloMosaic.StableHlo

/-- The large number the chains fill in. -/
abbrev bigE : EReal := Ideal.ofBits .f32 0x7F61B1E6#32

/-- The start of a minimum is above everything. -/
theorem inf_bits : (Ideal.ofBits .f32 2139095040#32 : EReal) = ⊤ := by
  simp [Ideal.ofBits, Ideal.ieee]

/-- One half. -/
theorem half_bits : (Ideal.ofBits .f32 0x3F000000#32 : EReal) = ((1 / 2 : ℝ) : EReal) := by
  simp [Ideal.ofBits, Ideal.ieee]
  rw [← EReal.coe_mul]
  norm_num

/-- A minimum folded from the top is the infimum. -/
theorem fold_min_inf {N : ℕ} (f : Fin N → EReal) :
    Finset.fold min (Ideal.ofBits .f32 2139095040#32 : EReal) f Finset.univ = Finset.univ.inf f := by
  rw [inf_bits]
  rfl

/-- The smallest of each column. -/
theorem pay11_at (v7 : FVec Ideal S4096x256 .f32) (n : Fin 256) :
    (k0_pay11 v7 : S1x256.Idx → EReal) (ix2 0 n) = (Cert.Ascend.chain bigE (fun k : Fin 4096 => (v7 (ix2 k n) : EReal)) 0 : EReal) := by
  refine Eq.trans ?_ (fold_min_inf _)
  unfold k0_pay11
  pointwise

/-- The next of each column's chain. -/
theorem pay12_at (v7 : FVec Ideal S4096x256 .f32) (n : Fin 256) :
    (k0_pay12 v7 bigF : S1x256.Idx → EReal) (ix2 0 n) = (Cert.Ascend.chain bigE (fun k : Fin 4096 => (v7 (ix2 k n) : EReal)) 1 : EReal) := by
  have e := pay11_at v7 n
  show _ = Cert.Ascend.nextUp bigE _ (Cert.Ascend.chain bigE _ 0)
  rw [← e]
  refine Eq.trans ?_ (fold_min_inf _)
  unfold k0_pay12
  generalize k0_pay11 v7 = m
  pointwise
  rfl

/-- The next of each column's chain. -/
theorem pay13_at (v7 : FVec Ideal S4096x256 .f32) (n : Fin 256) :
    (k0_pay13 v7 bigF : S1x256.Idx → EReal) (ix2 0 n) = (Cert.Ascend.chain bigE (fun k : Fin 4096 => (v7 (ix2 k n) : EReal)) 2 : EReal) := by
  have e := pay12_at v7 n
  show _ = Cert.Ascend.nextUp bigE _ (Cert.Ascend.chain bigE _ 1)
  rw [← e]
  refine Eq.trans ?_ (fold_min_inf _)
  unfold k0_pay13
  generalize k0_pay12 v7 bigF = m
  pointwise
  rfl

/-- The next of each column's chain. -/
theorem pay14_at (v7 : FVec Ideal S4096x256 .f32) (n : Fin 256) :
    (k0_pay14 v7 bigF : S1x256.Idx → EReal) (ix2 0 n) = (Cert.Ascend.chain bigE (fun k : Fin 4096 => (v7 (ix2 k n) : EReal)) 3 : EReal) := by
  have e := pay13_at v7 n
  show _ = Cert.Ascend.nextUp bigE _ (Cert.Ascend.chain bigE _ 2)
  rw [← e]
  refine Eq.trans ?_ (fold_min_inf _)
  unfold k0_pay14
  generalize k0_pay13 v7 bigF = m
  pointwise
  rfl

/-- The next of each column's chain. -/
theorem pay15_at (v7 : FVec Ideal S4096x256 .f32) (n : Fin 256) :
    (k0_pay15 v7 bigF : S1x256.Idx → EReal) (ix2 0 n) = (Cert.Ascend.chain bigE (fun k : Fin 4096 => (v7 (ix2 k n) : EReal)) 4 : EReal) := by
  have e := pay14_at v7 n
  show _ = Cert.Ascend.nextUp bigE _ (Cert.Ascend.chain bigE _ 3)
  rw [← e]
  refine Eq.trans ?_ (fold_min_inf _)
  unfold k0_pay15
  generalize k0_pay14 v7 bigF = m
  pointwise
  rfl

/-- The next of each column's chain. -/
theorem pay16_at (v7 : FVec Ideal S4096x256 .f32) (n : Fin 256) :
    (k0_pay16 v7 bigF : S1x256.Idx → EReal) (ix2 0 n) = (Cert.Ascend.chain bigE (fun k : Fin 4096 => (v7 (ix2 k n) : EReal)) 5 : EReal) := by
  have e := pay15_at v7 n
  show _ = Cert.Ascend.nextUp bigE _ (Cert.Ascend.chain bigE _ 4)
  rw [← e]
  refine Eq.trans ?_ (fold_min_inf _)
  unfold k0_pay16
  generalize k0_pay15 v7 bigF = m
  pointwise
  rfl

/-- The next of each column's chain. -/
theorem pay17_at (v7 : FVec Ideal S4096x256 .f32) (n : Fin 256) :
    (k0_pay17 v7 bigF : S1x256.Idx → EReal) (ix2 0 n) = (Cert.Ascend.chain bigE (fun k : Fin 4096 => (v7 (ix2 k n) : EReal)) 6 : EReal) := by
  have e := pay16_at v7 n
  show _ = Cert.Ascend.nextUp bigE _ (Cert.Ascend.chain bigE _ 5)
  rw [← e]
  refine Eq.trans ?_ (fold_min_inf _)
  unfold k0_pay17
  generalize k0_pay16 v7 bigF = m
  pointwise
  rfl

/-- The next of each column's chain. -/
theorem pay18_at (v7 : FVec Ideal S4096x256 .f32) (n : Fin 256) :
    (k0_pay18 v7 bigF : S1x256.Idx → EReal) (ix2 0 n) = (Cert.Ascend.chain bigE (fun k : Fin 4096 => (v7 (ix2 k n) : EReal)) 7 : EReal) := by
  have e := pay17_at v7 n
  show _ = Cert.Ascend.nextUp bigE _ (Cert.Ascend.chain bigE _ 6)
  rw [← e]
  refine Eq.trans ?_ (fold_min_inf _)
  unfold k0_pay18
  generalize k0_pay17 v7 bigF = m
  pointwise
  rfl

/-- The next of each column's chain. -/
theorem pay19_at (v7 : FVec Ideal S4096x256 .f32) (n : Fin 256) :
    (k0_pay19 v7 bigF : S1x256.Idx → EReal) (ix2 0 n) = (Cert.Ascend.chain bigE (fun k : Fin 4096 => (v7 (ix2 k n) : EReal)) 8 : EReal) := by
  have e := pay18_at v7 n
  show _ = Cert.Ascend.nextUp bigE _ (Cert.Ascend.chain bigE _ 7)
  rw [← e]
  refine Eq.trans ?_ (fold_min_inf _)
  unfold k0_pay19
  generalize k0_pay18 v7 bigF = m
  pointwise
  rfl

/-- Fourteen rows, stacked. -/
def stack14 (r : ℕ → FVec Ideal S1x256 .f32) : FVec Ideal S14x256 .f32 :=
  concatenate S14x256 0 [⟨S1x256, r 0⟩, ⟨S1x256, r 1⟩, ⟨S1x256, r 2⟩, ⟨S1x256, r 3⟩, ⟨S1x256, r 4⟩, ⟨S1x256, r 5⟩, ⟨S1x256, r 6⟩, ⟨S1x256, r 7⟩, ⟨S1x256, r 8⟩, ⟨S1x256, r 9⟩, ⟨S1x256, r 10⟩, ⟨S1x256, r 11⟩, ⟨S1x256, r 12⟩, ⟨S1x256, r 13⟩] concatenates_S1x256_S1x256_S1x256_S1x256_S1x256_S1x256_S1x256_S1x256_S1x256_S1x256_S1x256_S1x256_S1x256_S1x256_S14x256_d0

/-- A row of the stack. -/
theorem stack14_at (r : ℕ → FVec Ideal S1x256 .f32) (j : Fin 14) (n : Fin 256) :
    (stack14 r : S14x256.Idx → EReal) (ix2 j n) = (r j.val (ix2 0 n) : EReal) := by
  fin_cases j
  all_goals
    unfold stack14
    pointwise
    try simp

/-- The next row of the chain over all rows. -/
def nxW (X : FVec Ideal S4096x256 .f32) (m : FVec Ideal S1x256 .f32) : FVec Ideal S1x256 .f32 :=
  shapeCast S1x256 (multiReduction .minimumf [0] S256 (select (cmpf .ogt X (broadcastTo S4096x256 m broadcasts_S1x256_S4096x256)) X (broadcast S4096x256 (bigF (F := Ideal)))) 0x7F800000#32 reduces_S4096x256_S256 (.inl rfl) rfl) shapeCasts_S256_S1x256

/-- The next row of the chain over the pool. -/
def nxP (X : FVec Ideal S320x256 .f32) (m : FVec Ideal S1x256 .f32) : FVec Ideal S1x256 .f32 :=
  shapeCast S1x256 (multiReduction .minimumf [0] S256 (select (cmpf .ogt X (broadcastTo S320x256 m broadcasts_S1x256_S320x256)) X (broadcast S320x256 (bigF (F := Ideal)))) 0x7F800000#32 reduces_S320x256_S256 (.inl rfl) rfl) shapeCasts_S256_S1x256

/-- The next row, at an entry. -/
theorem nxW_at (X : FVec Ideal S4096x256 .f32) (m : FVec Ideal S1x256 .f32) (n : Fin 256) :
    (nxW X m : S1x256.Idx → EReal) (ix2 0 n) = (Cert.Ascend.nextUp bigE (fun k : Fin 4096 => (X (ix2 k n) : EReal)) (m (ix2 0 n)) : EReal) := by
  refine Eq.trans ?_ (fold_min_inf _)
  unfold nxW
  pointwise
  rfl

/-- The next row, at an entry. -/
theorem nxP_at (X : FVec Ideal S320x256 .f32) (m : FVec Ideal S1x256 .f32) (n : Fin 256) :
    (nxP X m : S1x256.Idx → EReal) (ix2 0 n) = (Cert.Ascend.nextUp bigE (fun k : Fin 320 => (X (ix2 k n) : EReal)) (m (ix2 0 n)) : EReal) := by
  refine Eq.trans ?_ (fold_min_inf _)
  unfold nxP
  pointwise
  rfl

/-- The rows of the chain over all rows. -/
def itW (v7 : FVec Ideal S4096x256 .f32) : ℕ → FVec Ideal S1x256 .f32
  | 0 => k0_pay11 v7
  | j + 1 => nxW v7 (itW v7 j)

/-- They are the chain. -/
theorem itW_at (v7 : FVec Ideal S4096x256 .f32) (n : Fin 256) (j : ℕ) :
    (itW v7 j : S1x256.Idx → EReal) (ix2 0 n) = (Cert.Ascend.chain bigE (fun k : Fin 4096 => (v7 (ix2 k n) : EReal)) j : EReal) := by
  induction j with
  | zero => exact pay11_at v7 n
  | succ j ih =>
    refine (nxW_at v7 (itW v7 j) n).trans ?_
    rw [ih]
    rfl

/-- The rows of the chain over the pool. -/
def itP (v5 : Vec Ideal S32x256 .f32) (v6 : Vec Ideal S32x4096 .f32) : ℕ → FVec Ideal S1x256 .f32
  | 0 => k0_pay86 (F := Ideal) v5 v6
  | j + 1 => nxP (k0_pay85 (F := Ideal) v5 v6) (itP v5 v6 j)

/-- The pool's first row. -/
theorem pay86_at (v5 : Vec Ideal S32x256 .f32) (v6 : Vec Ideal S32x4096 .f32) (n : Fin 256) :
    (k0_pay86 (F := Ideal) v5 v6 : S1x256.Idx → EReal) (ix2 0 n) = (Finset.univ.inf (fun k : Fin 320 => (k0_pay85 (F := Ideal) v5 v6 (ix2 k n) : EReal)) : EReal) := by
  refine Eq.trans ?_ (fold_min_inf _)
  unfold k0_pay86
  generalize k0_pay85 (F := Ideal) v5 v6 = X
  pointwise

/-- They are the chain. -/
theorem itP_at (v5 : Vec Ideal S32x256 .f32) (v6 : Vec Ideal S32x4096 .f32) (n : Fin 256) (j : ℕ) :
    (itP v5 v6 j : S1x256.Idx → EReal) (ix2 0 n) = (Cert.Ascend.chain bigE (fun k : Fin 320 => (k0_pay85 (F := Ideal) v5 v6 (ix2 k n) : EReal)) j : EReal) := by
  induction j with
  | zero => exact pay86_at v5 v6 n
  | succ j ih =>
    refine (nxP_at (k0_pay85 (F := Ideal) v5 v6) (itP v5 v6 j) n).trans ?_
    rw [ih]
    rfl

/-- A row of the pool's chain. -/
theorem pay88_it (v5 : Vec Ideal S32x256 .f32) (v6 : Vec Ideal S32x4096 .f32) : k0_pay88 (F := Ideal) (k0_pay85 (F := Ideal) v5 v6) (k0_pay87 (F := Ideal) v5 v6) bigF = itP v5 v6 1 := by
  show k0_pay88 (F := Ideal) (k0_pay85 (F := Ideal) v5 v6) (k0_pay87 (F := Ideal) v5 v6) bigF = nxP (k0_pay85 (F := Ideal) v5 v6) (itP v5 v6 0)
  rfl

/-- A row of the pool's chain. -/
theorem pay89_it (v5 : Vec Ideal S32x256 .f32) (v6 : Vec Ideal S32x4096 .f32) : k0_pay89 (F := Ideal) (k0_pay85 (F := Ideal) v5 v6) (k0_pay87 (F := Ideal) v5 v6) bigF = itP v5 v6 2 := by
  show k0_pay89 (F := Ideal) (k0_pay85 (F := Ideal) v5 v6) (k0_pay87 (F := Ideal) v5 v6) bigF = nxP (k0_pay85 (F := Ideal) v5 v6) (itP v5 v6 1)
  rw [← pay88_it]
  rfl

/-- A row of the pool's chain. -/
theorem pay90_it (v5 : Vec Ideal S32x256 .f32) (v6 : Vec Ideal S32x4096 .f32) : k0_pay90 (F := Ideal) (k0_pay85 (F := Ideal) v5 v6) (k0_pay87 (F := Ideal) v5 v6) bigF = itP v5 v6 3 := by
  show k0_pay90 (F := Ideal) (k0_pay85 (F := Ideal) v5 v6) (k0_pay87 (F := Ideal) v5 v6) bigF = nxP (k0_pay85 (F := Ideal) v5 v6) (itP v5 v6 2)
  rw [← pay89_it]
  rfl

/-- A row of the pool's chain. -/
theorem pay91_it (v5 : Vec Ideal S32x256 .f32) (v6 : Vec Ideal S32x4096 .f32) : k0_pay91 (F := Ideal) (k0_pay85 (F := Ideal) v5 v6) (k0_pay87 (F := Ideal) v5 v6) bigF = itP v5 v6 4 := by
  show k0_pay91 (F := Ideal) (k0_pay85 (F := Ideal) v5 v6) (k0_pay87 (F := Ideal) v5 v6) bigF = nxP (k0_pay85 (F := Ideal) v5 v6) (itP v5 v6 3)
  rw [← pay90_it]
  rfl

/-- A row of the pool's chain. -/
theorem pay92_it (v5 : Vec Ideal S32x256 .f32) (v6 : Vec Ideal S32x4096 .f32) : k0_pay92 (F := Ideal) (k0_pay85 (F := Ideal) v5 v6) (k0_pay87 (F := Ideal) v5 v6) bigF = itP v5 v6 5 := by
  show k0_pay92 (F := Ideal) (k0_pay85 (F := Ideal) v5 v6) (k0_pay87 (F := Ideal) v5 v6) bigF = nxP (k0_pay85 (F := Ideal) v5 v6) (itP v5 v6 4)
  rw [← pay91_it]
  rfl

/-- A row of the pool's chain. -/
theorem pay93_it (v5 : Vec Ideal S32x256 .f32) (v6 : Vec Ideal S32x4096 .f32) : k0_pay93 (F := Ideal) (k0_pay85 (F := Ideal) v5 v6) (k0_pay87 (F := Ideal) v5 v6) bigF = itP v5 v6 6 := by
  show k0_pay93 (F := Ideal) (k0_pay85 (F := Ideal) v5 v6) (k0_pay87 (F := Ideal) v5 v6) bigF = nxP (k0_pay85 (F := Ideal) v5 v6) (itP v5 v6 5)
  rw [← pay92_it]
  rfl

/-- A row of the pool's chain. -/
theorem pay94_it (v5 : Vec Ideal S32x256 .f32) (v6 : Vec Ideal S32x4096 .f32) : k0_pay94 (F := Ideal) (k0_pay85 (F := Ideal) v5 v6) (k0_pay87 (F := Ideal) v5 v6) bigF = itP v5 v6 7 := by
  show k0_pay94 (F := Ideal) (k0_pay85 (F := Ideal) v5 v6) (k0_pay87 (F := Ideal) v5 v6) bigF = nxP (k0_pay85 (F := Ideal) v5 v6) (itP v5 v6 6)
  rw [← pay93_it]
  rfl

/-- A row of the pool's chain, as a vector. -/
theorem pay95_it (v5 : Vec Ideal S32x256 .f32) (v6 : Vec Ideal S32x4096 .f32) : shapeCast S1x256 (k0_pay95 (F := Ideal) (k0_pay85 (F := Ideal) v5 v6) (k0_pay87 (F := Ideal) v5 v6) bigF) shapeCasts_S256_S1x256 = itP v5 v6 8 := by
  show _ = nxP (k0_pay85 (F := Ideal) v5 v6) (itP v5 v6 7)
  rw [← pay94_it]
  rfl

/-- The pooled fourteen rows. -/
theorem pay96_it (v5 : Vec Ideal S32x256 .f32) (v6 : Vec Ideal S32x4096 .f32) :
    k0_pay96 (F := Ideal) (k0_pay85 (F := Ideal) v5 v6) (k0_pay86 (F := Ideal) v5 v6) (itP v5 v6 1) (itP v5 v6 2) (itP v5 v6 3) (itP v5 v6 4) (itP v5 v6 5) (itP v5 v6 6) (itP v5 v6 7)
      (k0_pay95 (F := Ideal) (k0_pay85 (F := Ideal) v5 v6) (k0_pay87 (F := Ideal) v5 v6) bigF) = stack14 (itP v5 v6) := by
  unfold k0_pay96
  rw [pay95_it]
  rfl

/-- The whole chain's fourteen rows. -/
theorem pay98_it (v7 : FVec Ideal S4096x256 .f32) :
    k0_pay98 (F := Ideal) v7 bigF (k0_pay11 v7) (k0_pay12 v7 bigF) (k0_pay13 v7 bigF) (k0_pay14 v7 bigF) (k0_pay15 v7 bigF)
      (k0_pay16 v7 bigF) (k0_pay17 v7 bigF) (k0_pay18 v7 bigF) (k0_pay19 v7 bigF) (k0_pay20 v7 bigF) = stack14 (itW v7) := by
  have h1 : k0_pay12 v7 bigF = itW v7 1 := rfl
  have h2 : k0_pay13 v7 bigF = itW v7 2 := by
    unfold k0_pay13
    rw [h1]
    rfl
  have h3 : k0_pay14 v7 bigF = itW v7 3 := by
    unfold k0_pay14
    rw [h2]
    rfl
  have h4 : k0_pay15 v7 bigF = itW v7 4 := by
    unfold k0_pay15
    rw [h3]
    rfl
  have h5 : k0_pay16 v7 bigF = itW v7 5 := by
    unfold k0_pay16
    rw [h4]
    rfl
  have h6 : k0_pay17 v7 bigF = itW v7 6 := by
    unfold k0_pay17
    rw [h5]
    rfl
  have h7 : k0_pay18 v7 bigF = itW v7 7 := by
    unfold k0_pay18
    rw [h6]
    rfl
  have h8 : k0_pay19 v7 bigF = itW v7 8 := by
    unfold k0_pay19
    rw [h7]
    rfl
  unfold k0_pay98 k0_pay20
  rw [h1, h2, h3, h4, h5, h6, h7, h8]
  rfl

/-- The smallest of a group. -/
theorem pay80_at (v5 : Vec Ideal S32x256 .f32) (v6 : Vec Ideal S32x4096 .f32) (c : Fin 64) (n : Fin 256) :
    (k0_pay80 (F := Ideal) v5 v6 : S64x256.Idx → EReal) (ix2 c n) = (Cert.Ascend.chain bigE (fun i : Fin 64 => (k0_pay78 (F := Ideal) v5 v6 (ix2 ⟨c.val * 64 + i.val, by omega⟩ n) : EReal)) 0 : EReal) := by
  refine Eq.trans ?_ (fold_min_inf _)
  unfold k0_pay80 k0_pay79
  generalize k0_pay78 (F := Ideal) v5 v6 = X
  pointwise

/-- The next of a group. -/
theorem pay81_at (v5 : Vec Ideal S32x256 .f32) (v6 : Vec Ideal S32x4096 .f32) (c : Fin 64) (n : Fin 256) :
    (k0_pay81 (F := Ideal) v5 v6 : S64x256.Idx → EReal) (ix2 c n) = (Cert.Ascend.chain bigE (fun i : Fin 64 => (k0_pay78 (F := Ideal) v5 v6 (ix2 ⟨c.val * 64 + i.val, by omega⟩ n) : EReal)) 1 : EReal) := by
  have e := pay80_at v5 v6 c n
  show _ = Cert.Ascend.nextUp bigE _ (Cert.Ascend.chain bigE _ 0)
  rw [← e]
  refine Eq.trans ?_ (fold_min_inf _)
  unfold k0_pay81 k0_pay79
  generalize k0_pay80 (F := Ideal) v5 v6 = m
  generalize k0_pay78 (F := Ideal) v5 v6 = X
  pointwise
  all_goals rfl

/-- The next of a group. -/
theorem pay82_at (v5 : Vec Ideal S32x256 .f32) (v6 : Vec Ideal S32x4096 .f32) (c : Fin 64) (n : Fin 256) :
    (k0_pay82 (F := Ideal) v5 v6 : S64x256.Idx → EReal) (ix2 c n) = (Cert.Ascend.chain bigE (fun i : Fin 64 => (k0_pay78 (F := Ideal) v5 v6 (ix2 ⟨c.val * 64 + i.val, by omega⟩ n) : EReal)) 2 : EReal) := by
  have e := pay81_at v5 v6 c n
  show _ = Cert.Ascend.nextUp bigE _ (Cert.Ascend.chain bigE _ 1)
  rw [← e]
  refine Eq.trans ?_ (fold_min_inf _)
  unfold k0_pay82 k0_pay79
  generalize k0_pay81 (F := Ideal) v5 v6 = m
  generalize k0_pay78 (F := Ideal) v5 v6 = X
  pointwise
  all_goals rfl

/-- The next of a group. -/
theorem pay83_at (v5 : Vec Ideal S32x256 .f32) (v6 : Vec Ideal S32x4096 .f32) (c : Fin 64) (n : Fin 256) :
    (k0_pay83 (F := Ideal) v5 v6 : S64x256.Idx → EReal) (ix2 c n) = (Cert.Ascend.chain bigE (fun i : Fin 64 => (k0_pay78 (F := Ideal) v5 v6 (ix2 ⟨c.val * 64 + i.val, by omega⟩ n) : EReal)) 3 : EReal) := by
  have e := pay82_at v5 v6 c n
  show _ = Cert.Ascend.nextUp bigE _ (Cert.Ascend.chain bigE _ 2)
  rw [← e]
  refine Eq.trans ?_ (fold_min_inf _)
  unfold k0_pay83 k0_pay79
  generalize k0_pay82 (F := Ideal) v5 v6 = m
  generalize k0_pay78 (F := Ideal) v5 v6 = X
  pointwise
  all_goals rfl

/-- The next of a group. -/
theorem pay84_at (v5 : Vec Ideal S32x256 .f32) (v6 : Vec Ideal S32x4096 .f32) (c : Fin 64) (n : Fin 256) :
    (k0_pay84 (F := Ideal) v5 v6 : S64x256.Idx → EReal) (ix2 c n) = (Cert.Ascend.chain bigE (fun i : Fin 64 => (k0_pay78 (F := Ideal) v5 v6 (ix2 ⟨c.val * 64 + i.val, by omega⟩ n) : EReal)) 4 : EReal) := by
  have e := pay83_at v5 v6 c n
  show _ = Cert.Ascend.nextUp bigE _ (Cert.Ascend.chain bigE _ 3)
  rw [← e]
  refine Eq.trans ?_ (fold_min_inf _)
  unfold k0_pay84 k0_pay79
  generalize k0_pay83 (F := Ideal) v5 v6 = m
  generalize k0_pay78 (F := Ideal) v5 v6 = X
  pointwise
  all_goals rfl

/-- The pool: level `s` of group `c`. -/
theorem pay85_at (v5 : Vec Ideal S32x256 .f32) (v6 : Vec Ideal S32x4096 .f32) (s : Fin 5) (c : Fin 64) (n : Fin 256) :
    (k0_pay85 (F := Ideal) v5 v6 : S320x256.Idx → EReal) (ix2 ⟨s.val * 64 + c.val, by omega⟩ n)
      = (Cert.Ascend.chain bigE (fun i : Fin 64 => (k0_pay78 (F := Ideal) v5 v6 (ix2 ⟨c.val * 64 + i.val, by omega⟩ n) : EReal)) s.val : EReal) := by
  have e0 := pay80_at v5 v6 c n
  have e1 := pay81_at v5 v6 c n
  have e2 := pay82_at v5 v6 c n
  have e3 := pay83_at v5 v6 c n
  have e4 := pay84_at v5 v6 c n
  have hc := c.isLt
  unfold k0_pay85
  generalize k0_pay80 (F := Ideal) v5 v6 = m0 at *
  generalize k0_pay81 (F := Ideal) v5 v6 = m1 at *
  generalize k0_pay82 (F := Ideal) v5 v6 = m2 at *
  generalize k0_pay83 (F := Ideal) v5 v6 = m3 at *
  generalize k0_pay84 (F := Ideal) v5 v6 = m4 at *
  have k : ∀ (m : FVec Ideal S64x256 .f32) (a : ℕ) (ha : a < 64), a = c.val → (m (ix2 ⟨a, ha⟩ n) : EReal) = m (ix2 c n) := by
    intro m a ha h
    subst h
    rfl
  fin_cases s
  · rw [← e0]
    pointwise
  · rw [← e1]
    pointwise
  · rw [← e2]
    pointwise
    rw [dif_neg (by first | omega | (simp; omega) | simp), dif_neg (by first | omega | (simp; omega) | simp), dif_pos (by first | omega | (simp; omega) | simp)]
    all_goals exact k _ _ _ (by first | omega | (simp; omega) | simp)
  · rw [← e3]
    pointwise
    rw [dif_neg (by first | omega | (simp; omega) | simp), dif_neg (by first | omega | (simp; omega) | simp), dif_neg (by first | omega | (simp; omega) | simp), dif_pos (by first | omega | (simp; omega) | simp)]
    all_goals exact k _ _ _ (by first | omega | (simp; omega) | simp)
  · rw [← e4]
    pointwise
    rw [dif_neg (by first | omega | (simp; omega) | simp), dif_neg (by first | omega | (simp; omega) | simp), dif_neg (by first | omega | (simp; omega) | simp), dif_neg (by first | omega | (simp; omega) | simp)]
    all_goals exact k _ _ _ (by first | omega | (simp; omega) | simp)

/-- The test's number: the smallest of the indicators. -/
theorem pay97_lt (v33 : FVec Ideal S64x256 .f32) (v34 : FVec Ideal S320x256 .f32) (v36 v42 v48 v54 v60 v66 v72 v78 : FVec Ideal S1x256 .f32)
    (v83 : FVec Ideal S256 .f32) (c : Fin 64) (n : Fin 256)
    (h : Ideal.ofBits .f32 0x3F000000#32 < (k0_pay97 (F := Ideal) v33 v34 v36 v42 v48 v54 v60 v66 v72 v78 v83 : EReal)) :
    (k0_pay96 (F := Ideal) v34 v36 v42 v48 v54 v60 v66 v72 v78 v83 (ix2 13 n) : EReal) < v33 (ix2 c n) := by
  unfold k0_pay97 at h
  generalize k0_pay96 (F := Ideal) v34 v36 v42 v48 v54 v60 v66 v72 v78 v83 = M at *
  have h : Ideal.ofBits .f32 0x3F000000#32 < (shapeCast S1x1x1 (multiReduction .minimumf [1, 2] S1 (shapeCast S1x64x256 (select (cmpf .ogt v33 (broadcastTo S64x256 (extractStridedSlice S1x256 ![13, 0] M slices_S14x256_o13_0_S1x256) broadcasts_S1x256_S64x256)) (broadcast S64x256 (Scalar.ofBits (F := Ideal) .f32 0x3F800000#32)) (broadcast S64x256 (Scalar.ofBits (F := Ideal) .f32 0x00000000#32))) shapeCasts_S64x256_S1x64x256) 0x7F800000#32 reduces_S1x64x256_S1 (.inl rfl) rfl : FVec Ideal S1 .f32) shapeCasts_S1_S1x1x1 : S1x1x1.Idx → EReal) (ix3 0 0 0) := h
  revert h
  pointwise
  intro h
  have h2 : ∀ (f : Fin 64 × Fin 256 → EReal), Finset.fold min (Ideal.ofBits .f32 2139095040#32 : EReal) f Finset.univ = Finset.univ.inf f := by
    intro f
    rw [inf_bits]
    rfl
  by_contra hn
  rw [h2] at h
  have h3 := lt_of_lt_of_le h (Finset.inf_le (Finset.mem_univ ((c, n) : Fin 64 × Fin 256)))
  rw [if_neg hn] at h3
  have h4 : (0 : EReal) ≤ Ideal.ofBits .f32 0x3F000000#32 := by
    rw [half_bits]
    exact_mod_cast (by norm_num : (0 : ℝ) ≤ 1 / 2)
  exact absurd h3 (not_lt.mpr h4)

/-- The test's number. -/
def zF (v5 : Vec Ideal S32x256 .f32) (v6 : Vec Ideal S32x4096 .f32) : EReal :=
  k0_pay97 (F := Ideal) (k0_pay84 (F := Ideal) v5 v6) (k0_pay85 (F := Ideal) v5 v6) (k0_pay86 (F := Ideal) v5 v6) (itP v5 v6 1) (itP v5 v6 2) (itP v5 v6 3) (itP v5 v6 4) (itP v5 v6 5) (itP v5 v6 6) (itP v5 v6 7) (k0_pay95 (F := Ideal) (k0_pay85 (F := Ideal) v5 v6) (k0_pay87 (F := Ideal) v5 v6) bigF)

/-- Where the test holds, every group's last pooled member is above the pool's last row. -/
theorem zF_lt (v5 : Vec Ideal S32x256 .f32) (v6 : Vec Ideal S32x4096 .f32) (hz : Ideal.ofBits .f32 0x3F000000#32 < zF v5 v6) (c : Fin 64) (n : Fin 256) :
    (stack14 (itP v5 v6) (ix2 13 n) : EReal) < (k0_pay84 (F := Ideal) v5 v6 (ix2 c n) : EReal) := by
  rw [← pay96_it]
  exact pay97_lt (k0_pay84 (F := Ideal) v5 v6) (k0_pay85 (F := Ideal) v5 v6) (k0_pay86 (F := Ideal) v5 v6) (itP v5 v6 1) (itP v5 v6 2) (itP v5 v6 3) (itP v5 v6 4) (itP v5 v6 5) (itP v5 v6 6) (itP v5 v6 7) (k0_pay95 (F := Ideal) (k0_pay85 (F := Ideal) v5 v6) (k0_pay87 (F := Ideal) v5 v6) bigF) c n hz

/-- The branch's choice, of the two stacks. -/
theorem mselF_eq (v5 : Vec Ideal S32x256 .f32) (v6 : Vec Ideal S32x4096 .f32) : mselF v5 v6 = msel (k0_pay78 (F := Ideal) v5 v6) (stack14 (itP v5 v6))
    (Scalar.extui (Scalar.cmpf (F := Ideal) (φ := .f32) .ogt (zF v5 v6) (Scalar.ofBits .f32 0x3F000000#32))) bigF 0#32 := by
  unfold mselF zF
  simp only [pay88_it, pay89_it, pay90_it, pay91_it, pay92_it, pay93_it, pay94_it]
  rw [pay96_it]

/-- The two cases of the choice. -/
theorem msel_cases (v5 : Vec Ideal S32x256 .f32) (v6 : Vec Ideal S32x4096 .f32) (P : FVec Ideal S14x256 .f32) (z : EReal) :
    (Ideal.ofBits .f32 0x3F000000#32 < z ∧ msel (k0_pay78 (F := Ideal) v5 v6) P
      (Scalar.extui (Scalar.cmpf (F := Ideal) (φ := .f32) .ogt z (Scalar.ofBits .f32 0x3F000000#32))) bigF 0#32 = P)
    ∨ msel (k0_pay78 (F := Ideal) v5 v6) P
      (Scalar.extui (Scalar.cmpf (F := Ideal) (φ := .f32) .ogt z (Scalar.ofBits .f32 0x3F000000#32))) bigF 0#32 = stack14 (itW (k0_pay78 (F := Ideal) v5 v6)) := by
  generalize k0_pay78 (F := Ideal) v5 v6 = v7
  unfold msel
  rw [pay98_it]
  split_ifs with hc
  · refine Or.inl ⟨?_, rfl⟩
    by_contra hn
    have : (Scalar.cmpf (F := Ideal) (φ := .f32) .ogt z (Scalar.ofBits (F := Ideal) .f32 0x3F000000#32) : BitVec 1) = 0#1 := by
      show Ideal.cmp .ogt z (Ideal.ofBits .f32 0x3F000000#32) = 0#1
      simp [Ideal.cmp, hn]
    rw [this] at hc
    exact absurd hc (by decide)
  · exact Or.inr rfl

/-- The pool's stack is the chain over all rows where the test holds. -/
theorem pool_at (v5 : Vec Ideal S32x256 .f32) (v6 : Vec Ideal S32x4096 .f32) (hbig : ∀ (k : Fin 4096) (n : Fin 256), (k0_pay78 (F := Ideal) v5 v6 (ix2 k n) : EReal) ≤ bigE)
    (hz : Ideal.ofBits .f32 0x3F000000#32 < zF v5 v6) (j : Fin 14) (n : Fin 256) :
    (stack14 (itP v5 v6) : S14x256.Idx → EReal) (ix2 j n) = (Cert.Ascend.chain bigE (fun k : Fin 4096 => (k0_pay78 (F := Ideal) v5 v6 (ix2 k n) : EReal)) j.val : EReal) := by
  have ok : ∀ c : Fin 64, Cert.Ascend.chain bigE (fun k : Fin 320 => (k0_pay85 (F := Ideal) v5 v6 (ix2 k n) : EReal)) 13
      < Cert.Ascend.chain bigE (fun i : Fin 64 => (k0_pay78 (F := Ideal) v5 v6 (ix2 ⟨c.val * 64 + i.val, by omega⟩ n) : EReal)) 4 := by
    intro c
    rw [← itP_at v5 v6 n 13, ← pay84_at v5 v6 c n]
    have h13 := stack14_at (itP v5 v6) ⟨13, by omega⟩ n
    have hlt := zF_lt v5 v6 hz c n
    rw [show (13 : Fin 14) = ⟨13, by omega⟩ from rfl, h13] at hlt
    exact hlt
  rw [stack14_at, itP_at]
  have h85 := fun s c => pay85_at v5 v6 s c n
  refine Cert.Ascend.chain_pool (big := bigE) (g := fun k : Fin 4096 => (k0_pay78 (F := Ideal) v5 v6 (ix2 k n) : EReal)) (C := Fin 64) (I := Fin 64)
    (E := fun c i => ⟨c.val * 64 + i.val, by omega⟩) ?_ (fun k => hbig k n) _ 5 ?_ ?_ (by norm_num) 13 ok j.val (by omega)
  · intro k
    exact ⟨⟨k.val / 64, by omega⟩, ⟨k.val % 64, by omega⟩, Fin.ext (by show k.val / 64 * 64 + k.val % 64 = k.val; omega)⟩
  · intro x
    refine ⟨x.val / 64, ⟨x.val % 64, by omega⟩, ?_⟩
    have := h85 ⟨x.val / 64, by omega⟩ ⟨x.val % 64, by omega⟩
    have hx : (⟨x.val / 64 * 64 + x.val % 64, by omega⟩ : Fin 320) = x := Fin.ext (by show x.val / 64 * 64 + x.val % 64 = x.val; omega)
    rw [← this]
    simp only [hx]
  · intro s c hs
    exact ⟨⟨s * 64 + c.val, by omega⟩, h85 ⟨s, hs⟩ c⟩

/-- The fourteen rows the block goes on with are the chain over all rows, whichever way they are found. -/
theorem mselF_at (v5 : Vec Ideal S32x256 .f32) (v6 : Vec Ideal S32x4096 .f32) (hbig : ∀ (k : Fin 4096) (n : Fin 256), (k0_pay78 (F := Ideal) v5 v6 (ix2 k n) : EReal) ≤ bigE) (j : Fin 14) (n : Fin 256) :
    (mselF v5 v6 : S14x256.Idx → EReal) (ix2 j n) = (Cert.Ascend.chain bigE (fun k : Fin 4096 => (k0_pay78 (F := Ideal) v5 v6 (ix2 k n) : EReal)) j.val : EReal) := by
  rw [mselF_eq]
  rcases msel_cases v5 v6 (stack14 (itP v5 v6)) (zF v5 v6) with ⟨hz, e⟩ | e
  · rw [e]
    exact pool_at v5 v6 hbig hz j n
  · rw [e, stack14_at, itW_at]

end Cert.KernelIdeal.Gen
-- ==== Proof.PreRead.lean ====
module

public import proofs.«01_k».proof.Proof.RefRead
public import proofs.«01_k».proof.Pre_untied
public import Idealize.ShloMosaic.Lib.Pointwise
public import Idealize.ShloMosaic.Lib.SortFacts
public import Idealize.ShloMosaic.Lib.KernelVsHost
public import Idealize.ShloMosaic.Lib.Routing.OpsPair

@[expose] public section

set_option maxRecDepth 65536

noncomputable section

namespace Cert.Pre_untied

open Idealize.ShloMosaic Idealize.ShloMosaic.TcCoe Idealize.ShloMosaic.Tactic

variable [Facts]
open Facts

/-- The condition's grey image. -/
def grayOf (main_arg0 : FVec Ideal S2x3x64x64 .f32) : FVec Ideal S2x64x64 .f32 :=
  let main_cst : FVec Ideal S3 .f32 := fun i => FloatOps.ofBits .f32 (lit0 (S3.rowMajor i))
  let main_cst_0 : FVec Ideal S_ .f32 := constant S_ .f32 0x437F0000#32
  let main_v0 : FVec Ideal S2x3x64x64 .f32 := broadcastInDim S2x3x64x64 ![] bcast_S_S2x3x64x64 main_cst_0
  let main_v1 : FVec Ideal S2x3x64x64 .f32 := Host.divf main_arg0 main_v0
  let main_cst_1 : FVec Ideal S_ .f32 := constant S_ .f32 0x3F000000#32
  let main_v2 : FVec Ideal S2x3x64x64 .f32 := broadcastInDim S2x3x64x64 ![] bcast_S_S2x3x64x64 main_cst_1
  let main_v3 : FVec Ideal S2x3x64x64 .f32 := subf main_v1 main_v2
  let main_cst_2 : FVec Ideal S_ .f32 := constant S_ .f32 0x3F000000#32
  let main_v4 : FVec Ideal S2x3x64x64 .f32 := broadcastInDim S2x3x64x64 ![] bcast_S_S2x3x64x64 main_cst_2
  let main_v5 : FVec Ideal S2x3x64x64 .f32 := Host.divf main_v3 main_v4
  let main_cst_3 : FVec Ideal S_ .f32 := constant S_ .f32 0x00000000#32
  let main_v6 : FVec Ideal S2x3 .f32 := (fun x v => Host.reduceAdd x v reducesTo_S2x3x64x64_S2x3_d2_3 h_S_) main_v5 main_cst_3
  let main_v7 : FVec Ideal S2x3x1x1 .f32 := broadcastInDim S2x3x1x1 ![0, 1] bcast_S2x3_S2x3x1x1_0_1 main_v6
  let main_cst_4 : FVec Ideal S_ .f32 := constant S_ .f32 0x45800000#32
  let main_v8 : FVec Ideal S2x3x1x1 .f32 := broadcastInDim S2x3x1x1 ![] bcast_S_S2x3x1x1 main_cst_4
  let main_v9 : FVec Ideal S2x3x1x1 .f32 := Host.divf main_v7 main_v8
  let main_v10 : FVec Ideal S2x3x64x64 .f32 := broadcastInDim S2x3x64x64 ![0, 1, 2, 3] bcast_S2x3x1x1_S2x3x64x64_0_1_2_3 main_v9
  let main_v11 : FVec Ideal S2x3x64x64 .f32 := subf main_v5 main_v10
  let main_v12 : FVec Ideal S1x3x1x1 .f32 := shapeCast S1x3x1x1 main_cst shapeCasts_S3_S1x3x1x1
  let main_v13 : FVec Ideal S2x3x64x64 .f32 := broadcastInDim S2x3x64x64 ![0, 1, 2, 3] bcast_S1x3x1x1_S2x3x64x64_0_1_2_3 main_v12
  let main_v14 : FVec Ideal S2x3x64x64 .f32 := mulf main_v11 main_v13
  let main_cst_5 : FVec Ideal S_ .f32 := constant S_ .f32 0x00000000#32
  let main_v15 : FVec Ideal S2x64x64 .f32 := (fun x v => Host.reduceAdd x v reducesTo_S2x3x64x64_S2x64x64_d1 h_S_) main_v14 main_cst_5
  main_v15

/-- The condition's patches of a padded image. -/
def colsOf (main_v16 : FVec Ideal S2x68x68 .f32) : FVec Ideal S2x4096x25 .f32 :=
  let main_v17 : FVec Ideal S2x68x64 .f32 := (extractStridedSlice S2x68x64 ![0, 0, 0] · slices_S2x68x68_S2x68x64_0_0_0) main_v16
  let main_v18 : FVec Ideal S2x68x64 .f32 := (extractStridedSlice S2x68x64 ![0, 0, 1] · slices_S2x68x68_S2x68x64_0_0_1) main_v16
  let main_v19 : FVec Ideal S2x68x64 .f32 := (extractStridedSlice S2x68x64 ![0, 0, 2] · slices_S2x68x68_S2x68x64_0_0_2) main_v16
  let main_v20 : FVec Ideal S2x68x64 .f32 := (extractStridedSlice S2x68x64 ![0, 0, 3] · slices_S2x68x68_S2x68x64_0_0_3) main_v16
  let main_v21 : FVec Ideal S2x68x64 .f32 := (extractStridedSlice S2x68x64 ![0, 0, 4] · slices_S2x68x68_S2x68x64_0_0_4) main_v16
  let main_v22 : FVec Ideal S2x68x64x1 .f32 := broadcastInDim S2x68x64x1 ![0, 1, 2] bcast_S2x68x64_S2x68x64x1_0_1_2 main_v17
  let main_v23 : FVec Ideal S2x68x64x1 .f32 := broadcastInDim S2x68x64x1 ![0, 1, 2] bcast_S2x68x64_S2x68x64x1_0_1_2 main_v18
  let main_v24 : FVec Ideal S2x68x64x1 .f32 := broadcastInDim S2x68x64x1 ![0, 1, 2] bcast_S2x68x64_S2x68x64x1_0_1_2 main_v19
  let main_v25 : FVec Ideal S2x68x64x1 .f32 := broadcastInDim S2x68x64x1 ![0, 1, 2] bcast_S2x68x64_S2x68x64x1_0_1_2 main_v20
  let main_v26 : FVec Ideal S2x68x64x1 .f32 := broadcastInDim S2x68x64x1 ![0, 1, 2] bcast_S2x68x64_S2x68x64x1_0_1_2 main_v21
  let main_v27 : FVec Ideal S2x68x64x5 .f32 := concatenate S2x68x64x5 3 [⟨S2x68x64x1, main_v22⟩, ⟨S2x68x64x1, main_v23⟩, ⟨S2x68x64x1, main_v24⟩, ⟨S2x68x64x1, main_v25⟩, ⟨S2x68x64x1, main_v26⟩] concatenates_S2x68x64x1_S2x68x64x1_S2x68x64x1_S2x68x64x1_S2x68x64x1_S2x68x64x5_d3
  let main_v28 : FVec Ideal S2x64x64x5 .f32 := (extractStridedSlice S2x64x64x5 ![0, 0, 0, 0] · slices_S2x68x64x5_S2x64x64x5_0_0_0_0) main_v27
  let main_v29 : FVec Ideal S2x64x64x5 .f32 := (extractStridedSlice S2x64x64x5 ![0, 1, 0, 0] · slices_S2x68x64x5_S2x64x64x5_0_1_0_0) main_v27
  let main_v30 : FVec Ideal S2x64x64x5 .f32 := (extractStridedSlice S2x64x64x5 ![0, 2, 0, 0] · slices_S2x68x64x5_S2x64x64x5_0_2_0_0) main_v27
  let main_v31 : FVec Ideal S2x64x64x5 .f32 := (extractStridedSlice S2x64x64x5 ![0, 3, 0, 0] · slices_S2x68x64x5_S2x64x64x5_0_3_0_0) main_v27
  let main_v32 : FVec Ideal S2x64x64x5 .f32 := (extractStridedSlice S2x64x64x5 ![0, 4, 0, 0] · slices_S2x68x64x5_S2x64x64x5_0_4_0_0) main_v27
  let main_v33 : FVec Ideal S2x64x64x25 .f32 := concatenate S2x64x64x25 3 [⟨S2x64x64x5, main_v28⟩, ⟨S2x64x64x5, main_v29⟩, ⟨S2x64x64x5, main_v30⟩, ⟨S2x64x64x5, main_v31⟩, ⟨S2x64x64x5, main_v32⟩] concatenates_S2x64x64x5_S2x64x64x5_S2x64x64x5_S2x64x64x5_S2x64x64x5_S2x64x64x25_d3
  let main_v34 : FVec Ideal S2x4096x25 .f32 := shapeCast S2x4096x25 main_v33 shapeCasts_S2x64x64x25_S2x4096x25
  main_v34

/-- The condition's distances between patches. -/
def distOf (main_v34 : FVec Ideal S2x4096x25 .f32) : FVec Ideal S2x4096x4096 .f32 :=
  let main_v35 : FVec Ideal S2x4096x25 .f32 := mulf main_v34 main_v34
  let main_cst_6 : FVec Ideal S_ .f32 := constant S_ .f32 0x00000000#32
  let main_v36 : FVec Ideal S2x4096 .f32 := (fun x v => Host.reduceAdd x v reducesTo_S2x4096x25_S2x4096_d2 h_S_) main_v35 main_cst_6
  let main_v37 : FVec Ideal S2x4096x1 .f32 := broadcastInDim S2x4096x1 ![0, 1] bcast_S2x4096_S2x4096x1_0_1 main_v36
  let main_v38 : FVec Ideal S2x1x4096 .f32 := broadcastInDim S2x1x4096 ![0, 2] bcast_S2x4096_S2x1x4096_0_2 main_v36
  let main_v39 : FVec Ideal S2x4096x4096 .f32 := broadcastInDim S2x4096x4096 ![0, 1, 2] bcast_S2x4096x1_S2x4096x4096_0_1_2 main_v37
  let main_v40 : FVec Ideal S2x4096x4096 .f32 := broadcastInDim S2x4096x4096 ![0, 1, 2] bcast_S2x1x4096_S2x4096x4096_0_1_2 main_v38
  let main_v41 : FVec Ideal S2x4096x4096 .f32 := addf main_v39 main_v40
  let main_v42 : FVec Ideal S2x4096x4096 .f32 := (fun l r => Host.dotGeneral dot_S2x4096x25_S2x4096x25_S2x4096x4096_2_2_1_1_0_0 none l r) main_v34 main_v34
  let main_cst_7 : FVec Ideal S_ .f32 := constant S_ .f32 0x40000000#32
  let main_v43 : FVec Ideal S2x4096x4096 .f32 := broadcastInDim S2x4096x4096 ![] bcast_S_S2x4096x4096 main_cst_7
  let main_v44 : FVec Ideal S2x4096x4096 .f32 := mulf main_v43 main_v42
  let main_v45 : FVec Ideal S2x4096x4096 .f32 := subf main_v41 main_v44
  main_v45

/-- One of a conjunction of bits. -/
theorem andi_one : ∀ a b : BitVec 1, IntOp.andi a b = 1#1 → a = 1#1 ∧ b = 1#1 := by decide

/-- A conjunction over a list that holds, holds at each entry. -/
theorem foldl_andi_one {ι : Type} (x : ι → BitVec 1) : ∀ (l : List ι) (b : BitVec 1), l.foldl (fun r i => IntOp.andi r (x i)) b = 1#1 →
    b = 1#1 ∧ ∀ i ∈ l, x i = 1#1
  | [], b, h => ⟨h, fun i hi => absurd hi (by simp)⟩
  | a :: l, b, h => by
    obtain ⟨h1, h2⟩ := foldl_andi_one x l _ h
    obtain ⟨h3, h4⟩ := andi_one _ _ h1
    refine ⟨h3, fun i hi => ?_⟩
    rcases List.mem_cons.1 hi with rfl | hi
    · exact h4
    · exact h2 i hi

/-- A conjunction over a whole array that holds, holds at each entry. -/
theorem all_of_reduce {s : Shape} {axes : List (Fin s.rank)} (x : IVec s 1) (v : IVec S_ 1) (h : s.ReducesTo axes S_) (hu : 0 < S_.numel) (j : S_.Idx)
    (e : Host.reduce IntOp.andi x v h hu j = 1#1) (i : s.Idx) : x i = 1#1 := by
  rw [Host.reduce_eq_foldl] at e
  refine (foldl_andi_one x _ _ e).2 i (List.mem_filter.2 ⟨List.mem_map.2 ⟨s.rowMajor i, List.mem_finRange _, Equiv.symm_apply_apply _ _⟩, ?_⟩)
  exact decide_eq_true (funext fun b => b.elim0)

/-- What the condition says, part by part. -/
theorem parts (a0 : FVec Ideal S2x3x64x64 .f32) (a1 : FVec Ideal S1 .f32) (a2 : FVec Ideal S75x80 .f32) (a3 : FVec Ideal S80 .f32) (a4 : FVec Ideal S80x75 .f32)
    (a5 : FVec Ideal S75 .f32) (a6 : FVec Ideal S80x1 .f32) (a7 : FVec Ideal S1 .f32) (h : fn a0 a1 a2 a3 a4 a5 a6 a7 = fun _ => 1#1) :
    let D := distOf (colsOf (fn_pad (grayOf a0) (constantI S_ 32 0#32)))
    let T : FVec Ideal S2x4096x15 .f32 := Host.negf (Host.topK S2x4096x15 2 (FloatOps.cmpfTotal (F := Ideal) (φ := .f32) .gt) (Host.negf D) sliceFits_S2x4096x4096_S2x4096x15).1
    (∀ i, (a0 i : EReal) < Ideal.ofBits .f32 0x7F800000#32 ∧ -Ideal.ofBits .f32 0x7F800000#32 < (a0 i : EReal))
    ∧ (∀ i, (a2 i : EReal) < Ideal.ofBits .f32 0x7F800000#32 ∧ -Ideal.ofBits .f32 0x7F800000#32 < (a2 i : EReal))
    ∧ (∀ i, (D i : EReal) < Ideal.ofBits .f32 0x7F61B1E6#32)
    ∧ (∀ t q (j : ℕ) (hj : j < 14), (T (ix3 t q ⟨j, by omega⟩) : EReal) < T (ix3 t q ⟨j + 1, by omega⟩)) := by
  intro D T
  have e := congrFun h ix0
  have e' : IntOp.andi (IntOp.andi (IntOp.andi
      (Host.reduce IntOp.andi (andi (cmpf .olt a0 (broadcastInDim S2x3x64x64 ![] bcast_S_S2x3x64x64 (constant S_ .f32 0x7F800000#32))) (cmpf .ogt a0 (broadcastInDim S2x3x64x64 ![] bcast_S_S2x3x64x64 (Host.negf (constant S_ .f32 0x7F800000#32))))) (constantI S_ 1 1#1) reducesTo_S2x3x64x64_S_d0_1_2_3 h_S_ ix0)
      (Host.reduce IntOp.andi (andi (cmpf .olt a2 (broadcastInDim S75x80 ![] bcast_S_S75x80 (constant S_ .f32 0x7F800000#32))) (cmpf .ogt a2 (broadcastInDim S75x80 ![] bcast_S_S75x80 (Host.negf (constant S_ .f32 0x7F800000#32))))) (constantI S_ 1 1#1) reducesTo_S75x80_S_d0_1 h_S_ ix0))
      (Host.reduce IntOp.andi (cmpf .olt D (broadcastInDim S2x4096x4096 ![] bcast_S_S2x4096x4096 (constant S_ .f32 0x7F61B1E6#32))) (constantI S_ 1 1#1) reducesTo_S2x4096x4096_S_d0_1_2 h_S_ ix0))
      (Host.reduce IntOp.andi (cmpf .olt (extractStridedSlice S2x4096x14 ![0, 0, 0] T slices_S2x4096x15_S2x4096x14_0_0_0) (extractStridedSlice S2x4096x14 ![0, 0, 1] T slices_S2x4096x15_S2x4096x14_0_0_1)) (constantI S_ 1 1#1) reducesTo_S2x4096x14_S_d0_1_2 h_S_ ix0) = 1#1 := e
  clear_value T D
  obtain ⟨e1, e2⟩ := andi_one _ _ e'
  obtain ⟨e3, e4⟩ := andi_one _ _ e1
  obtain ⟨e5, e6⟩ := andi_one _ _ e3
  refine ⟨fun i => ?_, fun i => ?_, fun i => ?_, fun t q j hj => ?_⟩
  · obtain ⟨x1, x2⟩ := andi_one _ _ (all_of_reduce _ _ _ _ _ e5 i)
    exact ⟨(Ideal.cmp_olt_eq_one ..).1 x1, (Ideal.cmp_ogt_eq_one ..).1 x2⟩
  · obtain ⟨x1, x2⟩ := andi_one _ _ (all_of_reduce _ _ _ _ _ e6 i)
    exact ⟨(Ideal.cmp_olt_eq_one ..).1 x1, (Ideal.cmp_ogt_eq_one ..).1 x2⟩
  · exact (Ideal.cmp_olt_eq_one ..).1 (all_of_reduce _ _ _ _ _ e4 i)
  · have x := (Ideal.cmp_olt_eq_one ..).1 (all_of_reduce _ _ _ _ _ e2 (ix3 t q ⟨j, hj⟩))
    have y1 : (extractStridedSlice S2x4096x14 ![0, 0, 0] T slices_S2x4096x15_S2x4096x14_0_0_0 : S2x4096x14.Idx → EReal) (ix3 t q ⟨j, hj⟩) = (T (ix3 t q ⟨j, by omega⟩) : EReal) := by
      pointwise
    have y2 : (extractStridedSlice S2x4096x14 ![0, 0, 1] T slices_S2x4096x15_S2x4096x14_0_0_1 : S2x4096x14.Idx → EReal) (ix3 t q ⟨j, hj⟩) = (T (ix3 t q ⟨j + 1, by omega⟩) : EReal) := by
      pointwise
      simp only [Nat.add_comm 1 j]
    exact y1 ▸ y2 ▸ x

set_option maxHeartbeats 4000000 in
/-- The condition's patches entry by entry. -/
theorem colsOf_at (g : FVec Ideal S2x68x68 .f32) (t : Fin 2) (q : Fin 4096) (d : Fin 25) :
    (colsOf g : S2x4096x25.Idx → EReal) (ix3 t q d) = ((g : S2x68x68.Idx → EReal) (ix3 t ⟨d.val / 5 + q.val / 64, by omega⟩ ⟨d.val % 5 + q.val % 64, by omega⟩) : EReal) := by
  unfold colsOf
  fin_cases d
  all_goals
    pointwise
    try simp

end Cert.Pre_untied

end
-- ==== Proof.Link.lean ====
module

public import proofs.«01_k».proof.Proof.PreRead
public import proofs.«01_k».proof.Proof.RefReal
public import Idealize.ShloMosaic.Lib.Pointwise
public import Idealize.ShloMosaic.Lib.SortFacts
public import Idealize.ShloMosaic.Lib.KernelVsHost
public import Idealize.ShloMosaic.Lib.Routing.OpsPair

@[expose] public section

set_option maxRecDepth 65536

noncomputable section

namespace Cert.ReferenceIdeal.Value

open Idealize.ShloMosaic Idealize.ShloMosaic.TcCoe Idealize.ShloMosaic.Tactic
open Idealize.ShloMosaic.StableHlo Cert.ReferenceIdeal Cert.ReferenceIdeal.Gen

variable (V0 : Valuation τ sig (Elt Ideal))

/-- The condition at a valuation of the reference's arguments. -/
abbrev Untied [Cert.Pre_untied.Facts] : Prop := Cert.Pre_untied.fn (F := Ideal) (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7)) = fun _ => 1#1

variable [Cert.Pre_untied.Facts]

set_option maxHeartbeats 4000000 in
/-- The condition pads the image as the reference does. -/
theorem pad_link : Cert.Pre_untied.fn_pad (F := Ideal) (Cert.Pre_untied.grayOf (V0 (Proc.devRef .tc main_arg0))) (constantI S_ 32 0#32) = (res_main_v16 V0 : S2x68x68.Idx → EReal) := rfl

/-- The condition's patches are the reference's. -/
theorem cols_link : Cert.Pre_untied.colsOf (res_main_v16 V0) = (res_main_v71 V0 : S2x4096x25.Idx → EReal) := by
  funext i
  rw [eq_ix3 i]
  exact (Cert.Pre_untied.colsOf_at _ _ _ _).trans (v71_at V0 _ _ _).symm

set_option maxHeartbeats 4000000 in
/-- The condition's distances are the reference's, before their sign. -/
theorem dist_link : Host.negf (Cert.Pre_untied.distOf (res_main_v71 V0)) = res_main_v138 V0 := rfl

/-- A negated entry of an array. -/
theorem negf_entry {s : Shape} (D : FVec Ideal s .f32) (i : s.Idx) : ((Host.negf D : FVec Ideal s .f32) i : EReal) = -(D i : EReal) := rfl

/-- The word of infinity is the top of the extended reals. -/
theorem infw : Ideal.ofBits .f32 0x7F800000#32 = (⊤ : EReal) := by simp [Ideal.ofBits, Ideal.ieee]

/-- What lies strictly between the two infinities is a real number. -/
theorem real_of_between {x : EReal} (h : x < Ideal.ofBits .f32 0x7F800000#32 ∧ -Ideal.ofBits .f32 0x7F800000#32 < x) : IsR x := by
  rw [infw, EReal.neg_top] at h
  exact ⟨x.toReal, (EReal.coe_toReal h.1.ne h.2.ne').symm⟩

set_option maxHeartbeats 4000000 in
/-- What the condition says of the reference's own arrays. -/
theorem untied_parts (h : Untied V0) :
    (∀ i : S2x3x64x64.Idx, IsR ((V0 (Proc.devRef .tc main_arg0) : S2x3x64x64.Idx → EReal) i))
    ∧ (∀ i : S75x80.Idx, IsR (a2 V0 i))
    ∧ (∀ t q k, -N138 V0 (ix3 t q k) < Ideal.ofBits .f32 0x7F61B1E6#32)
    ∧ (∀ t q (j : ℕ) (hj : j < 14), -N138 V0 (ix3 t q (nn V0 t q ⟨j, by omega⟩)) < -N138 V0 (ix3 t q (nn V0 t q ⟨j + 1, by omega⟩))) := by
  have h' := Cert.Pre_untied.parts _ _ _ _ _ _ _ _ h
  have hl : Cert.Pre_untied.colsOf (Cert.Pre_untied.fn_pad (F := Ideal) (Cert.Pre_untied.grayOf (V0 (Proc.devRef .tc main_arg0))) (constantI S_ 32 0#32)) = res_main_v71 V0 :=
    (congrArg Cert.Pre_untied.colsOf (pad_link V0)).trans (cols_link V0)
  simp only at h'
  obtain ⟨p1, p2, p3, p4⟩ := h'
  refine ⟨fun i => real_of_between (p1 i), fun i => real_of_between (p2 i), fun t q k => ?_, fun t q j hj => ?_⟩
  · have e := p3 (ix3 t q k)
    rw [hl] at e
    have e2 : N138 V0 (ix3 t q k) = -(Cert.Pre_untied.distOf (res_main_v71 V0) (ix3 t q k) : EReal) := (congrFun (dist_link V0) (ix3 t q k)).symm
    rw [e2, neg_neg]
    exact e
  · have e := p4 t q j hj
    rw [hl] at e
    have ev : ∀ jj : Fin 15, (Host.negf (Host.topK Cert.Pre_untied.S2x4096x15 2 (FloatOps.cmpfTotal (F := Ideal) (φ := .f32) .gt) (Host.negf (Cert.Pre_untied.distOf (res_main_v71 V0))) Cert.Pre_untied.Facts.sliceFits_S2x4096x4096_S2x4096x15).1 : Cert.Pre_untied.S2x4096x15.Idx → EReal) (ix3 t q jj)
        = -N138 V0 (ix3 t q (nn V0 t q ⟨jj.val, by omega⟩)) := by
      intro jj
      refine congrArg (fun x : EReal => -x) ?_
      rw [dist_link V0]
      exact topK_val 15 (by decide) _ _ t q jj
    rw [← ev ⟨j, by omega⟩, ← ev ⟨j + 1, by omega⟩]
    exact e

end Cert.ReferenceIdeal.Value
-- ==== Proof.KEq.lean ====
module

public import proofs.«01_k».proof.Proof.KArr
public import proofs.«01_k».proof.Proof.KDist
public import proofs.«01_k».proof.Proof.KPay
public import proofs.«01_k».proof.Proof.Chain
public import proofs.«01_k».proof.Proof.Link

public import Idealize.ShloMosaic.Lib.Pointwise
public import Idealize.ShloMosaic.Lib.StableHlo.RunRead

@[expose] public section

set_option maxRecDepth 65536

noncomputable section

namespace Cert.KernelIdeal.Gen

open Idealize.ShloMosaic Idealize.ShloMosaic.TcCoe Idealize.ShloMosaic.Tactic
open Idealize.ShloMosaic.StableHlo

open Cert.ReferenceIdeal.Value (gP tempR N17 E9 IsR N138 N154 N161 N174 NG topR nn a2 a3)

/-- A square is not negative. -/
theorem sq_nonneg' (y : EReal) (a : ℝ) (ha : 0 < a) : 0 ≤ (a : EReal) * y * y := by
  induction y with
  | bot => rw [EReal.coe_mul_bot_of_pos ha, EReal.bot_mul_bot]; exact le_top
  | top => rw [EReal.coe_mul_top_of_pos ha, EReal.top_mul_top]; exact le_top
  | coe r =>
    rw [← EReal.coe_mul, ← EReal.coe_mul, ← EReal.coe_zero, EReal.coe_le_coe_iff]
    nlinarith [mul_nonneg ha.le (mul_self_nonneg r)]

/-- The temperature is positive whatever the noise level. -/
theorem tempR_pos (V' : Valuation Cert.ReferenceIdeal.τ Cert.ReferenceIdeal.sig (Elt Ideal)) : 0 < tempR V' := by
  unfold tempR
  generalize Ideal.div _ _ = y
  have c1 : Ideal.ofBits .f32 0x42960000#32 = ((75 : ℝ) : EReal) := by
    simp [Ideal.ofBits, Ideal.ieee]
    try rw [← EReal.coe_mul]
    try norm_num
  have c2 : 0 < Ideal.ofBits .f32 0x358637BD#32 := by
    simp [Ideal.ofBits, Ideal.ieee]
    try rw [← EReal.coe_mul]
    try norm_num
  rw [c1]
  exact lt_of_lt_of_le c2 (le_add_of_nonneg_left (sq_nonneg' y 75 (by norm_num)))

/-- The bottom's word. -/
theorem botw : Ideal.ofBits .f32 0xFF800000#32 = (⊥ : EReal) := by simp [Ideal.ofBits, Ideal.ieee]

/-- The word of 2.0 is two. -/
theorem twow : Ideal.ofBits .f32 0x40000000#32 = ((2 : ℝ) : EReal) := by
  simp [Ideal.ofBits, Ideal.ieee]
  try rw [← EReal.coe_mul]
  try norm_num

/-- A patch's entries, from colour last to colour first. -/
def swap : Fin 75 ≃ Fin 75 where
  toFun f := ⟨f.val % 3 * 25 + f.val / 3, by omega⟩
  invFun g := ⟨g.val % 25 * 3 + g.val / 25, by omega⟩
  left_inv f := Fin.ext (by
    have hf := f.isLt
    show (f.val % 3 * 25 + f.val / 3) % 25 * 3 + (f.val % 3 * 25 + f.val / 3) / 25 = f.val
    omega)
  right_inv g := Fin.ext (by
    have hg := g.isLt
    show (g.val % 25 * 3 + g.val / 25) % 3 * 25 + (g.val % 25 * 3 + g.val / 25) / 3 = g.val
    omega)

/-- Equal coordinates, equal places. -/
theorem ix4_congr {n0 n1 n2 n3 : ℕ} {t : Fin n0} (a a' : Fin n1) (b b' : Fin n2) (d d' : Fin n3) (ha : a.val = a'.val) (hb : b.val = b'.val) (hd : d.val = d'.val) :
    ix4 t a b d = ix4 t a' b' d' := by
  rw [Fin.ext ha, Fin.ext hb, Fin.ext hd]

variable [Cert.Pre_untied.Facts]
variable {m : (ℓ : Loc nD τ sig) → Buf (Elt Ideal) ℓ} {c : Dev nD} {V' : Valuation Cert.ReferenceIdeal.τ Cert.ReferenceIdeal.sig (Elt Ideal)}

/-- The kernel's distances at a point, as extended reals. -/
abbrev DK (m : (ℓ : Loc nD τ sig) → Buf (Elt Ideal) ℓ) (c : Dev nD) (k : ℕ) : S4096x256.Idx → EReal :=
  k0_pay78 (qOf (grid0.coords (ptAt k)) (BA m c (k / 16))) (AA m c (k / 16))

/-- The kernel's fourteen least distances at a point. -/
abbrev MK (m : (ℓ : Loc nD τ sig) → Buf (Elt Ideal) ℓ) (c : Dev nD) (k : ℕ) : S14x256.Idx → EReal :=
  mselF (qOf (grid0.coords (ptAt k)) (BA m c (k / 16))) (AA m c (k / 16))

variable (hs : Same m c V')
include hs

/-- The distances in reals. -/
theorem dist_real (h0 : ∀ i : S2x3x64x64.Idx, IsR ((V' (Proc.devRef .tc Cert.ReferenceIdeal.main_arg0) : S2x3x64x64.Idx → EReal) i)) (k : ℕ) (hk : k < 32) :
    ∃ (s : Fin 4096 → ℝ) (d : Fin 4096 → Fin 4096 → ℝ), (∀ q, 0 ≤ s q)
      ∧ (∀ q kk, N138 V' (ix3 ⟨k / 16, by omega⟩ q kk) = -((s q : EReal) + (d q kk : EReal)))
      ∧ ∀ (kk : Fin 4096) (n : Fin 256) (q : Fin 4096), q.val = 256 * (k % 16) + n.val → DK m c k (ix2 kk n) = (d q kk : EReal) := by
  have hr : ∀ (q : Fin 4096) (e : Fin 25), IsR (gP V' ⟨k / 16, by omega⟩ q e) := fun q e => by
    unfold gP
    rw [Cert.ReferenceIdeal.Value.v71_at]
    exact Cert.ReferenceIdeal.Value.v16_real V' h0 _
  choose p hp using hr
  refine ⟨fun q => ∑ e, p q e * p q e, fun q kk => (∑ e, p kk e * p kk e) - 2 * ∑ e, p kk e * p q e, fun q => Finset.sum_nonneg fun e _ => mul_self_nonneg _, fun q kk => ?_, fun kk n q hq => ?_⟩
  · refine (Cert.ReferenceIdeal.Value.v138_at V' _ q kk).trans ?_
    simp only [hp, twow, ← EReal.coe_mul, ← Cert.Soft.coe_sum, ← EReal.coe_add, ← EReal.coe_sub, ← EReal.coe_neg]
    refine congrArg _ ?_
    have e1 : ∑ e, p kk e * p q e = ∑ e, p q e * p kk e := Finset.sum_congr rfl fun e _ => mul_comm _ _
    rw [e1]
    ring
  · refine dist_at (ptAt k) (b1 m c (16 * (k / 16))) (fun e q => p q e) (fun e q => ?_) kk n q ?_
    · refine (blk1 hs _ (by omega) e q).trans ?_
      have e2 : (⟨16 * (k / 16) / 16, by omega⟩ : Fin 2) = ⟨k / 16, by omega⟩ := Fin.ext (by show 16 * (k / 16) / 16 = k / 16; omega)
      rw [e2]
      exact hp q e
    · rw [hq]
      show 256 * (k % 16) + n.val = 256 * (k % 32 % 16) + n.val
      omega

set_option maxHeartbeats 1000000 in
/-- The kernel's features are the reference's. -/
theorem feat_eq (hu : Cert.ReferenceIdeal.Value.Untied V') (k : ℕ) (hk : k < 32) (n : Fin 256) (q : Fin 4096) (hq : q.val = 256 * (k % 16) + n.val) (x : Fin 80) :
    featK (DK m c k) (MK m c k) (tOf (b0 m c k)) (cwA m c (k / 16)) (b4 m c k) x n = N174 V' (ix3 ⟨k / 16, by omega⟩ q x) := by
  obtain ⟨h0, hw, hb, hstrict⟩ := Cert.ReferenceIdeal.Value.untied_parts V' hu
  obtain ⟨s, d, hs0, hN, hD⟩ := dist_real hs h0 k hk
  generalize ht : (⟨k / 16, by omega⟩ : Fin 2) = t at hN
  have hNn : ∀ q kk, -N138 V' (ix3 t q kk) = ((s q + d q kk : ℝ) : EReal) := fun q kk => by rw [hN, neg_neg, EReal.coe_add]
  have hbig : ∀ (kk : Fin 4096) (n : Fin 256), DK m c k (ix2 kk n) ≤ bigE := by
    intro kk n
    have hq' : 256 * (k % 16) + n.val < 4096 := by omega
    rw [hD kk n ⟨_, hq'⟩ rfl]
    refine le_trans ?_ (hb t ⟨_, hq'⟩ kk).le
    rw [hNn, EReal.coe_le_coe_iff]
    linarith [hs0 ⟨_, hq'⟩]
  have mono : ∀ i j : Fin 4096, i ≤ j → d q (nn V' t q i) ≤ d q (nn V' t q j) := by
    intro i j hij
    have e := EReal.neg_le_neg_iff.mpr (Cert.ReferenceIdeal.Value.arrange_anti (N138 V') t q i j hij)
    have e' : -N138 V' (ix3 t q (nn V' t q i)) ≤ -N138 V' (ix3 t q (nn V' t q j)) := e
    rw [hNn, hNn, EReal.coe_le_coe_iff] at e'
    linarith
  have strict : ∀ (j : ℕ) (hj : j < 14), d q (nn V' t q ⟨j, by omega⟩) < d q (nn V' t q ⟨j + 1, by omega⟩) := by
    intro j hj
    have e := hstrict t q j hj
    rw [hNn, hNn, EReal.coe_lt_coe_iff] at e
    linarith
  have hM : ∀ j : Fin 14, MK m c k (ix2 j n) = DK m c k (ix2 (nn V' t q ⟨j.val, by omega⟩) n) := by
    intro j
    refine (mselF_at _ _ hbig j n).trans ?_
    refine Cert.Ascend.chain_sorted (fun kk : Fin 4096 => DK m c k (ix2 kk n)) (nn V' t q) (Cert.ReferenceIdeal.Value.arrange_surjective _ t q) ?_ (fun kk => hbig kk n) 14 ?_ j.val (by omega) (by omega)
    · intro i j hij
      show DK m c k (ix2 _ n) ≤ DK m c k (ix2 _ n)
      rw [hD _ n q hq, hD _ n q hq, EReal.coe_le_coe_iff]
      exact mono i j hij
    · intro i h hi
      show DK m c k (ix2 _ n) < DK m c k (ix2 _ n)
      rw [hD _ n q hq, hD _ n q hq, EReal.coe_lt_coe_iff]
      exact strict i hi
  have hT : (tOf (b0 m c k) : S1x1x1.Idx → EReal) (ix3 0 0 0) = tempR V' := (tOf_at _).trans (blk0 hs k hk)
  have hC : ∀ kk, (cwA m c (k / 16) : S4096x80.Idx → EReal) (ix2 kk x)
      = ∑ f : Fin 75, N17 V' (ix4 t ⟨f.val % 3, by omega⟩ ⟨f.val / 3 / 5 + kk.val / 64, by omega⟩ ⟨f.val / 3 % 5 + kk.val % 64, by omega⟩) * a2 V' (ix2 ⟨f.val % 3 * 25 + f.val / 3, by omega⟩ x) := by
    intro kk
    refine (pay4_at _ _ kk x).trans ?_
    refine Finset.sum_congr rfl fun f _ => ?_
    rw [blk2 hs _ (by omega) f kk, blk3 hs _ f x]
    have e2 : (⟨16 * (k / 16) / 16, by omega⟩ : Fin 2) = t := by rw [← ht]; exact Fin.ext (by show 16 * (k / 16) / 16 = k / 16; omega)
    rw [e2]
  obtain ⟨r, hr⟩ := Cert.Soft.div_pos_coe (tempR V') (tempR_pos V')
  have h154 : ∀ j : Fin 14, N154 V' (ix3 t q j) = Ideal.div (-((s q : EReal) + (d q (nn V' t q ⟨j.val, by omega⟩) : EReal))) (tempR V') := by
    intro j
    refine (Cert.ReferenceIdeal.Value.v154_at V' t q j).trans ?_
    rw [neg_neg, hN]
  obtain ⟨mx, hmx⟩ : ∃ mx : ℝ, topR V' t q = (mx : EReal) := by
    unfold topR
    rw [botw]
    refine Cert.Soft.fold_max_real _ fun j => ?_
    rw [h154, ← EReal.coe_add, ← EReal.coe_neg, hr]
    exact ⟨_, rfl⟩
  have h17 := Cert.ReferenceIdeal.Value.v17_real V' h0
  choose cr hcr using fun (kk : Fin 4096) (f : Fin 75) => h17 (ix4 t ⟨f.val % 3, by omega⟩ ⟨f.val / 3 / 5 + kk.val / 64, by omega⟩ ⟨f.val / 3 % 5 + kk.val % 64, by omega⟩)
  choose wr hwr using fun f : Fin 75 => hw (ix2 ⟨f.val % 3 * 25 + f.val / 3, by omega⟩ x)
  have key := Cert.Soft.feat_ereal (fun kk => DK m c k (ix2 kk n)) (fun kk => d q kk) (fun kk => hD kk n q hq) (s q) r mx (tempR V') hr (nn V' t q)
    ⟨Cert.ReferenceIdeal.Value.arrange_injective _ t q, Cert.ReferenceIdeal.Value.arrange_surjective _ t q⟩ mono (strict 13 (by decide)) cr wr
  unfold featK
  rw [blk4 hs k x]
  refine Eq.trans ?_ (Cert.ReferenceIdeal.Value.v174_at V' t q x).symm
  refine congrArg (fun z : EReal => max (z + a3 V' (ix1 x)) 0) ?_
  rw [hT]
  simp only [hM, hC]
  simp only [hcr, hwr]
  refine Eq.trans (by exact key) ?_
  have h161 : ∀ j : Fin 14, N161 V' (ix3 t q j) = Ideal.exp (Ideal.div (-((s q : EReal) + DK m c k (ix2 (nn V' t q ⟨j.val, by omega⟩) n))) (tempR V') - (mx : EReal)) := by
    intro j
    refine (Cert.ReferenceIdeal.Value.v161_at V' t q j).trans ?_
    rw [h154, hmx, hD _ n q hq]
  have hG : ∀ (j : Fin 14) (f : Fin 75), NG V' (ix4 t q j (swap f)) = (cr (nn V' t q ⟨j.val, by omega⟩) f : EReal) := by
    intro j f
    refine (Cert.ReferenceIdeal.Value.gatR_at V' t q j (swap f)).trans ?_
    refine Eq.trans ?_ (hcr (nn V' t q ⟨j.val, by omega⟩) f)
    have hf := f.isLt
    refine congrArg (N17 V') (ix4_congr _ _ _ _ _ _ ?_ ?_ ?_)
    · show (f.val % 3 * 25 + f.val / 3) / 25 = f.val % 3
      omega
    · show (f.val % 3 * 25 + f.val / 3) % 25 / 5 + _ = f.val / 3 / 5 + _
      rw [show (f.val % 3 * 25 + f.val / 3) % 25 = f.val / 3 by omega]
    · show (f.val % 3 * 25 + f.val / 3) % 25 % 5 + _ = f.val / 3 % 5 + _
      rw [show (f.val % 3 * 25 + f.val / 3) % 25 = f.val / 3 by omega]
  refine Fintype.sum_equiv swap _ _ fun f => ?_
  simp only [h161, hG]
  exact congrArg (fun z : EReal => _ * z) (hwr f).symm

end Cert.KernelIdeal.Gen
-- ==== Proof.KFoldT.lean ====
module

public import proofs.«01_k».proof.Proof.Spec
public import Idealize.ShloMosaic.Lib.Pointwise
public import Idealize.ShloMosaic.Lib.StableHlo.RunRead

@[expose] public section

set_option maxRecDepth 65536

noncomputable section

namespace Cert.KernelIdeal.Gen

open Idealize.ShloMosaic Idealize.ShloMosaic.TcCoe Idealize.ShloMosaic.Tactic
open Idealize.ShloMosaic.StableHlo

variable {F : FTy → Type} [FloatOps F]

/-- Where the neighbouring column of a position lies inside the image. -/
def maskV (b : BitVec 32) : IVec S1x4096 1 :=
  andi (cmpi .sge (subi k0_pay21 (broadcast S1x4096 b)) (broadcast S1x4096 0#32)) (cmpi .slt (subi k0_pay21 (broadcast S1x4096 b)) (broadcast S1x4096 64#32))

/-- One masked term of the fold. -/
def termV (b : BitVec 32) (v : Vec F S1x4096 .f32) : FVec F S1x4096 .f32 :=
  select (maskV b) v (broadcast S1x4096 (Scalar.ofBits .f32 0x00000000#32))

/-- The sum of the twenty-five masked terms. -/
def sum25 (l0 l1 l2 l3 l4 l5 l6 l7 l8 l9 l10 l11 l12 l13 l14 l15 l16 l17 l18 l19 l20 l21 l22 l23 l24 : Vec F S1x4096 .f32) : FVec F S1x4096 .f32 :=
  (addf (addf (addf (addf (addf (addf (addf (addf (addf (addf (addf (addf (addf (addf (addf (addf (addf (addf (addf (addf (addf (addf (addf (addf (addf (broadcast S1x4096 (Scalar.ofBits .f32 0x00000000#32)) (termV 4294967294#32 l0)) (termV 4294967295#32 l1)) (termV 0#32 l2)) (termV 1#32 l3)) (termV 2#32 l4)) (termV 4294967294#32 l5)) (termV 4294967295#32 l6)) (termV 0#32 l7)) (termV 1#32 l8)) (termV 2#32 l9)) (termV 4294967294#32 l10)) (termV 4294967295#32 l11)) (termV 0#32 l12)) (termV 1#32 l13)) (termV 2#32 l14)) (termV 4294967294#32 l15)) (termV 4294967295#32 l16)) (termV 0#32 l17)) (termV 1#32 l18)) (termV 2#32 l19)) (termV 4294967294#32 l20)) (termV 4294967295#32 l21)) (termV 0#32 l22)) (termV 1#32 l23)) (termV 2#32 l24))

/-- The reciprocal of the weights' sum. -/
def rdenV (s : FVec F S1x4096 .f32) : FVec F S1x4096 .f32 :=
  divf (broadcast S1x4096 (Scalar.ofBits .f32 0x3F800000#32)) (addf s (broadcast S1x4096 (Scalar.ofBits .f32 0x2EDBE6FF#32)))

/-- The stored row of one channel from its sum, the reciprocal and the mean. -/
def finV (s r : FVec F S1x4096 .f32) (v : Vec F S1x1x1 .f32) : FVec F S1x1x4096 .f32 :=
  shapeCast S1x1x4096 (addf (mulf (broadcast S4096 (Scalar.ofBits .f32 0x42FF0000#32))
    (addf (mulf (shapeCast S4096 s shapeCasts_S1x4096_S4096) (shapeCast S4096 r shapeCasts_S1x4096_S4096))
      (broadcast S4096 (extractAt ![0, 0, 0] v inpos_S1x1x1_p0_0_0)))) (broadcast S4096 (Scalar.ofBits .f32 0x42FF0000#32))) shapeCasts_S4096_S1x1x4096

/-- The weights' sum from what the loads read. -/
def denV (p14 : (B : LoadRect S1x4608) → B.shape.Idx → F .f32) : FVec F S1x4096 .f32 :=
  sum25 (p14 (Rect.unit (s := S1x4608) ![0, 386] S1x4096.size inb_S1x4608_S1x4096_0_386).toLoadRect) (p14 (Rect.unit (s := S1x4608) ![0, 385] S1x4096.size inb_S1x4608_S1x4096_0_385).toLoadRect) (p14 (Rect.unit (s := S1x4608) ![0, 384] S1x4096.size inb_S1x4608_S1x4096_0_384).toLoadRect) (p14 (Rect.unit (s := S1x4608) ![0, 383] S1x4096.size inb_S1x4608_S1x4096_0_383).toLoadRect) (p14 (Rect.unit (s := S1x4608) ![0, 382] S1x4096.size inb_S1x4608_S1x4096_0_382).toLoadRect) (p14 (Rect.unit (s := S1x4608) ![0, 322] S1x4096.size inb_S1x4608_S1x4096_0_322).toLoadRect) (p14 (Rect.unit (s := S1x4608) ![0, 321] S1x4096.size inb_S1x4608_S1x4096_0_321).toLoadRect) (p14 (Rect.unit (s := S1x4608) ![0, 320] S1x4096.size inb_S1x4608_S1x4096_0_320).toLoadRect) (p14 (Rect.unit (s := S1x4608) ![0, 319] S1x4096.size inb_S1x4608_S1x4096_0_319).toLoadRect) (p14 (Rect.unit (s := S1x4608) ![0, 318] S1x4096.size inb_S1x4608_S1x4096_0_318).toLoadRect) (p14 (Rect.unit (s := S1x4608) ![0, 258] S1x4096.size inb_S1x4608_S1x4096_0_258).toLoadRect) (p14 (Rect.unit (s := S1x4608) ![0, 257] S1x4096.size inb_S1x4608_S1x4096_0_257).toLoadRect) (p14 (Rect.unit (s := S1x4608) ![0, 256] S1x4096.size inb_S1x4608_S1x4096_0_256).toLoadRect) (p14 (Rect.unit (s := S1x4608) ![0, 255] S1x4096.size inb_S1x4608_S1x4096_0_255).toLoadRect) (p14 (Rect.unit (s := S1x4608) ![0, 254] S1x4096.size inb_S1x4608_S1x4096_0_254).toLoadRect) (p14 (Rect.unit (s := S1x4608) ![0, 194] S1x4096.size inb_S1x4608_S1x4096_0_194).toLoadRect) (p14 (Rect.unit (s := S1x4608) ![0, 193] S1x4096.size inb_S1x4608_S1x4096_0_193).toLoadRect) (p14 (Rect.unit (s := S1x4608) ![0, 192] S1x4096.size inb_S1x4608_S1x4096_0_192).toLoadRect) (p14 (Rect.unit (s := S1x4608) ![0, 191] S1x4096.size inb_S1x4608_S1x4096_0_191).toLoadRect) (p14 (Rect.unit (s := S1x4608) ![0, 190] S1x4096.size inb_S1x4608_S1x4096_0_190).toLoadRect) (p14 (Rect.unit (s := S1x4608) ![0, 130] S1x4096.size inb_S1x4608_S1x4096_0_130).toLoadRect) (p14 (Rect.unit (s := S1x4608) ![0, 129] S1x4096.size inb_S1x4608_S1x4096_0_129).toLoadRect) (p14 (Rect.unit (s := S1x4608) ![0, 128] S1x4096.size inb_S1x4608_S1x4096_0_128).toLoadRect) (p14 (Rect.unit (s := S1x4608) ![0, 127] S1x4096.size inb_S1x4608_S1x4096_0_127).toLoadRect) (p14 (Rect.unit (s := S1x4608) ![0, 126] S1x4096.size inb_S1x4608_S1x4096_0_126).toLoadRect)

/-- One channel's sum from what the loads read. -/
def numV0 (p13 : (B : LoadRect S75x4608) → B.shape.Idx → F .f32) : FVec F S1x4096 .f32 :=
  sum25 (p13 (Rect.unit (s := S75x4608) ![0, 386] S1x4096.size inb_S75x4608_S1x4096_0_386).toLoadRect) (p13 (Rect.unit (s := S75x4608) ![1, 385] S1x4096.size inb_S75x4608_S1x4096_1_385).toLoadRect) (p13 (Rect.unit (s := S75x4608) ![2, 384] S1x4096.size inb_S75x4608_S1x4096_2_384).toLoadRect) (p13 (Rect.unit (s := S75x4608) ![3, 383] S1x4096.size inb_S75x4608_S1x4096_3_383).toLoadRect) (p13 (Rect.unit (s := S75x4608) ![4, 382] S1x4096.size inb_S75x4608_S1x4096_4_382).toLoadRect) (p13 (Rect.unit (s := S75x4608) ![5, 322] S1x4096.size inb_S75x4608_S1x4096_5_322).toLoadRect) (p13 (Rect.unit (s := S75x4608) ![6, 321] S1x4096.size inb_S75x4608_S1x4096_6_321).toLoadRect) (p13 (Rect.unit (s := S75x4608) ![7, 320] S1x4096.size inb_S75x4608_S1x4096_7_320).toLoadRect) (p13 (Rect.unit (s := S75x4608) ![8, 319] S1x4096.size inb_S75x4608_S1x4096_8_319).toLoadRect) (p13 (Rect.unit (s := S75x4608) ![9, 318] S1x4096.size inb_S75x4608_S1x4096_9_318).toLoadRect) (p13 (Rect.unit (s := S75x4608) ![10, 258] S1x4096.size inb_S75x4608_S1x4096_10_258).toLoadRect) (p13 (Rect.unit (s := S75x4608) ![11, 257] S1x4096.size inb_S75x4608_S1x4096_11_257).toLoadRect) (p13 (Rect.unit (s := S75x4608) ![12, 256] S1x4096.size inb_S75x4608_S1x4096_12_256).toLoadRect) (p13 (Rect.unit (s := S75x4608) ![13, 255] S1x4096.size inb_S75x4608_S1x4096_13_255).toLoadRect) (p13 (Rect.unit (s := S75x4608) ![14, 254] S1x4096.size inb_S75x4608_S1x4096_14_254).toLoadRect) (p13 (Rect.unit (s := S75x4608) ![15, 194] S1x4096.size inb_S75x4608_S1x4096_15_194).toLoadRect) (p13 (Rect.unit (s := S75x4608) ![16, 193] S1x4096.size inb_S75x4608_S1x4096_16_193).toLoadRect) (p13 (Rect.unit (s := S75x4608) ![17, 192] S1x4096.size inb_S75x4608_S1x4096_17_192).toLoadRect) (p13 (Rect.unit (s := S75x4608) ![18, 191] S1x4096.size inb_S75x4608_S1x4096_18_191).toLoadRect) (p13 (Rect.unit (s := S75x4608) ![19, 190] S1x4096.size inb_S75x4608_S1x4096_19_190).toLoadRect) (p13 (Rect.unit (s := S75x4608) ![20, 130] S1x4096.size inb_S75x4608_S1x4096_20_130).toLoadRect) (p13 (Rect.unit (s := S75x4608) ![21, 129] S1x4096.size inb_S75x4608_S1x4096_21_129).toLoadRect) (p13 (Rect.unit (s := S75x4608) ![22, 128] S1x4096.size inb_S75x4608_S1x4096_22_128).toLoadRect) (p13 (Rect.unit (s := S75x4608) ![23, 127] S1x4096.size inb_S75x4608_S1x4096_23_127).toLoadRect) (p13 (Rect.unit (s := S75x4608) ![24, 126] S1x4096.size inb_S75x4608_S1x4096_24_126).toLoadRect)

/-- One channel's sum from what the loads read. -/
def numV1 (p13 : (B : LoadRect S75x4608) → B.shape.Idx → F .f32) : FVec F S1x4096 .f32 :=
  sum25 (p13 (Rect.unit (s := S75x4608) ![25, 386] S1x4096.size inb_S75x4608_S1x4096_25_386).toLoadRect) (p13 (Rect.unit (s := S75x4608) ![26, 385] S1x4096.size inb_S75x4608_S1x4096_26_385).toLoadRect) (p13 (Rect.unit (s := S75x4608) ![27, 384] S1x4096.size inb_S75x4608_S1x4096_27_384).toLoadRect) (p13 (Rect.unit (s := S75x4608) ![28, 383] S1x4096.size inb_S75x4608_S1x4096_28_383).toLoadRect) (p13 (Rect.unit (s := S75x4608) ![29, 382] S1x4096.size inb_S75x4608_S1x4096_29_382).toLoadRect) (p13 (Rect.unit (s := S75x4608) ![30, 322] S1x4096.size inb_S75x4608_S1x4096_30_322).toLoadRect) (p13 (Rect.unit (s := S75x4608) ![31, 321] S1x4096.size inb_S75x4608_S1x4096_31_321).toLoadRect) (p13 (Rect.unit (s := S75x4608) ![32, 320] S1x4096.size inb_S75x4608_S1x4096_32_320).toLoadRect) (p13 (Rect.unit (s := S75x4608) ![33, 319] S1x4096.size inb_S75x4608_S1x4096_33_319).toLoadRect) (p13 (Rect.unit (s := S75x4608) ![34, 318] S1x4096.size inb_S75x4608_S1x4096_34_318).toLoadRect) (p13 (Rect.unit (s := S75x4608) ![35, 258] S1x4096.size inb_S75x4608_S1x4096_35_258).toLoadRect) (p13 (Rect.unit (s := S75x4608) ![36, 257] S1x4096.size inb_S75x4608_S1x4096_36_257).toLoadRect) (p13 (Rect.unit (s := S75x4608) ![37, 256] S1x4096.size inb_S75x4608_S1x4096_37_256).toLoadRect) (p13 (Rect.unit (s := S75x4608) ![38, 255] S1x4096.size inb_S75x4608_S1x4096_38_255).toLoadRect) (p13 (Rect.unit (s := S75x4608) ![39, 254] S1x4096.size inb_S75x4608_S1x4096_39_254).toLoadRect) (p13 (Rect.unit (s := S75x4608) ![40, 194] S1x4096.size inb_S75x4608_S1x4096_40_194).toLoadRect) (p13 (Rect.unit (s := S75x4608) ![41, 193] S1x4096.size inb_S75x4608_S1x4096_41_193).toLoadRect) (p13 (Rect.unit (s := S75x4608) ![42, 192] S1x4096.size inb_S75x4608_S1x4096_42_192).toLoadRect) (p13 (Rect.unit (s := S75x4608) ![43, 191] S1x4096.size inb_S75x4608_S1x4096_43_191).toLoadRect) (p13 (Rect.unit (s := S75x4608) ![44, 190] S1x4096.size inb_S75x4608_S1x4096_44_190).toLoadRect) (p13 (Rect.unit (s := S75x4608) ![45, 130] S1x4096.size inb_S75x4608_S1x4096_45_130).toLoadRect) (p13 (Rect.unit (s := S75x4608) ![46, 129] S1x4096.size inb_S75x4608_S1x4096_46_129).toLoadRect) (p13 (Rect.unit (s := S75x4608) ![47, 128] S1x4096.size inb_S75x4608_S1x4096_47_128).toLoadRect) (p13 (Rect.unit (s := S75x4608) ![48, 127] S1x4096.size inb_S75x4608_S1x4096_48_127).toLoadRect) (p13 (Rect.unit (s := S75x4608) ![49, 126] S1x4096.size inb_S75x4608_S1x4096_49_126).toLoadRect)

/-- One channel's sum from what the loads read. -/
def numV2 (p13 : (B : LoadRect S75x4608) → B.shape.Idx → F .f32) : FVec F S1x4096 .f32 :=
  sum25 (p13 (Rect.unit (s := S75x4608) ![50, 386] S1x4096.size inb_S75x4608_S1x4096_50_386).toLoadRect) (p13 (Rect.unit (s := S75x4608) ![51, 385] S1x4096.size inb_S75x4608_S1x4096_51_385).toLoadRect) (p13 (Rect.unit (s := S75x4608) ![52, 384] S1x4096.size inb_S75x4608_S1x4096_52_384).toLoadRect) (p13 (Rect.unit (s := S75x4608) ![53, 383] S1x4096.size inb_S75x4608_S1x4096_53_383).toLoadRect) (p13 (Rect.unit (s := S75x4608) ![54, 382] S1x4096.size inb_S75x4608_S1x4096_54_382).toLoadRect) (p13 (Rect.unit (s := S75x4608) ![55, 322] S1x4096.size inb_S75x4608_S1x4096_55_322).toLoadRect) (p13 (Rect.unit (s := S75x4608) ![56, 321] S1x4096.size inb_S75x4608_S1x4096_56_321).toLoadRect) (p13 (Rect.unit (s := S75x4608) ![57, 320] S1x4096.size inb_S75x4608_S1x4096_57_320).toLoadRect) (p13 (Rect.unit (s := S75x4608) ![58, 319] S1x4096.size inb_S75x4608_S1x4096_58_319).toLoadRect) (p13 (Rect.unit (s := S75x4608) ![59, 318] S1x4096.size inb_S75x4608_S1x4096_59_318).toLoadRect) (p13 (Rect.unit (s := S75x4608) ![60, 258] S1x4096.size inb_S75x4608_S1x4096_60_258).toLoadRect) (p13 (Rect.unit (s := S75x4608) ![61, 257] S1x4096.size inb_S75x4608_S1x4096_61_257).toLoadRect) (p13 (Rect.unit (s := S75x4608) ![62, 256] S1x4096.size inb_S75x4608_S1x4096_62_256).toLoadRect) (p13 (Rect.unit (s := S75x4608) ![63, 255] S1x4096.size inb_S75x4608_S1x4096_63_255).toLoadRect) (p13 (Rect.unit (s := S75x4608) ![64, 254] S1x4096.size inb_S75x4608_S1x4096_64_254).toLoadRect) (p13 (Rect.unit (s := S75x4608) ![65, 194] S1x4096.size inb_S75x4608_S1x4096_65_194).toLoadRect) (p13 (Rect.unit (s := S75x4608) ![66, 193] S1x4096.size inb_S75x4608_S1x4096_66_193).toLoadRect) (p13 (Rect.unit (s := S75x4608) ![67, 192] S1x4096.size inb_S75x4608_S1x4096_67_192).toLoadRect) (p13 (Rect.unit (s := S75x4608) ![68, 191] S1x4096.size inb_S75x4608_S1x4096_68_191).toLoadRect) (p13 (Rect.unit (s := S75x4608) ![69, 190] S1x4096.size inb_S75x4608_S1x4096_69_190).toLoadRect) (p13 (Rect.unit (s := S75x4608) ![70, 130] S1x4096.size inb_S75x4608_S1x4096_70_130).toLoadRect) (p13 (Rect.unit (s := S75x4608) ![71, 129] S1x4096.size inb_S75x4608_S1x4096_71_129).toLoadRect) (p13 (Rect.unit (s := S75x4608) ![72, 128] S1x4096.size inb_S75x4608_S1x4096_72_128).toLoadRect) (p13 (Rect.unit (s := S75x4608) ![73, 127] S1x4096.size inb_S75x4608_S1x4096_73_127).toLoadRect) (p13 (Rect.unit (s := S75x4608) ![74, 126] S1x4096.size inb_S75x4608_S1x4096_74_126).toLoadRect)

set_option maxHeartbeats 4000000 in
/-- The rows the fold stores are the channels' sums over the weights' sum. -/
theorem foldPieces_eq (p2 : (B : LoadRect S1x1x8) → B.shape.Idx → F .f32) (p13 : (B : LoadRect S75x4608) → B.shape.Idx → F .f32)
    (p14 : (B : LoadRect S1x4608) → B.shape.Idx → F .f32) : foldPieces p2 p13 p14 =
    [⟨Rect.unit (s := S1x3x4096) ![0, 2, 0] S1x1x4096.size inb_S1x3x4096_S1x1x4096_0_2_0, finV (numV2 p13) (rdenV (denV p14)) (p2 (Rect.unit (s := S1x1x8) ![0, 0, 3] S1x1x1.size inb_S1x1x8_S1x1x1_0_0_3).toLoadRect)⟩,
     ⟨Rect.unit (s := S1x3x4096) ![0, 1, 0] S1x1x4096.size inb_S1x3x4096_S1x1x4096_0_1_0, finV (numV1 p13) (rdenV (denV p14)) (p2 (Rect.unit (s := S1x1x8) ![0, 0, 2] S1x1x1.size inb_S1x1x8_S1x1x1_0_0_2).toLoadRect)⟩,
     ⟨Rect.unit (s := S1x3x4096) ![0, 0, 0] S1x1x4096.size inb_S1x3x4096_S1x1x4096_0_0_0, finV (numV0 p13) (rdenV (denV p14)) (p2 (Rect.unit (s := S1x1x8) ![0, 0, 1] S1x1x1.size inb_S1x1x8_S1x1x1_0_0_1).toLoadRect)⟩] := rfl

end Cert.KernelIdeal.Gen
-- ==== Proof.KFold.lean ====
module

public import proofs.«01_k».proof.Proof.KFoldT
public import Idealize.ShloMosaic.Lib.Pointwise
public import Idealize.ShloMosaic.Lib.StableHlo.RunRead

@[expose] public section

set_option maxRecDepth 65536

noncomputable section

namespace Cert.KernelIdeal.Gen

open Idealize.ShloMosaic Idealize.ShloMosaic.TcCoe Idealize.ShloMosaic.Tactic
open Idealize.ShloMosaic.StableHlo

/-- A row of columns read at an offset. -/
theorem pick_row {r : ℕ} {α : Type} (X : (⟨2, ![r, 4608]⟩ : Shape).Idx → α) (i : Fin r) (w : ℕ) (inb) (q : Fin 4096) (h : w + q.val < 4608) :
    pick X (Rect.unit (s := ⟨2, ![r, 4608]⟩) ![i.val, w] S1x4096.size inb).toLoadRect (ix2 0 q) = X (ix2 i ⟨w + q.val, h⟩) := by
  unfold pick
  refine congrArg X (funext fun a => ?_)
  apply Fin.ext
  fin_cases a
  · show i.val + 1 * 0 = i.val
    omega
  · show w + 1 * q.val = w + q.val
    omega

/-- Whether the column `b - 2` to the left lies inside the image. -/
def inR (q b : ℕ) : Prop := b ≤ q % 64 + 2 ∧ q % 64 + 2 - b < 64

/-- Whether a column is inside the image is decidable. -/
instance (q b : ℕ) : Decidable (inR q b) := by unfold inR; infer_instance

/-- The low six bits of a word are its remainder. -/
theorem low6 (q : ℕ) (h : q < 4096) : IntOp.andi (BitVec.ofNat 32 q) 63#32 = BitVec.ofNat 32 (q % 64) := by
  apply BitVec.eq_of_toNat_eq
  show (BitVec.ofNat 32 q &&& 63#32).toNat = _
  rw [BitVec.toNat_and, BitVec.toNat_ofNat, BitVec.toNat_ofNat, BitVec.toNat_ofNat, Nat.mod_eq_of_lt (show q < 2 ^ 32 by omega),
    Nat.mod_eq_of_lt (show 63 < 2 ^ 32 by omega), Nat.mod_eq_of_lt (show q % 64 < 2 ^ 32 by omega)]
  exact Nat.and_two_pow_sub_one_eq_mod q 6

/-- The mask's word for a column. -/
theorem mask_0 : ∀ r : Fin 64, IntOp.andi (IntOp.cmpi CmpIPredicate.sge (IntOp.subi (BitVec.ofNat 32 r.val) 4294967294#32) 0#32)
    (IntOp.cmpi CmpIPredicate.slt (IntOp.subi (BitVec.ofNat 32 r.val) 4294967294#32) 64#32) = if 0 ≤ r.val + 2 ∧ r.val + 2 - 0 < 64 then 1#1 else 0#1 := by
  decide +kernel

set_option maxHeartbeats 4000000 in
/-- One masked term at a position. -/
theorem termV_0 (v : Vec Ideal S1x4096 .f32) (q : Fin 4096) :
    (termV (F := Ideal) 4294967294#32 v : S1x4096.Idx → EReal) (ix2 0 q) = (if inR q.val 0 then (v (ix2 0 q) : EReal) else 0 : EReal) := by
  have e : (termV (F := Ideal) 4294967294#32 v : S1x4096.Idx → EReal) (ix2 0 q) = Scalar.select
      (IntOp.andi (IntOp.cmpi CmpIPredicate.sge (IntOp.subi (IntOp.andi (BitVec.ofNat 32 q.val) 63#32) 4294967294#32) 0#32)
        (IntOp.cmpi CmpIPredicate.slt (IntOp.subi (IntOp.andi (BitVec.ofNat 32 q.val) 63#32) 4294967294#32) 64#32))
      (v (ix2 0 q)) (0 : EReal) := by
    unfold termV maskV k0_pay21
    pointwise
  rw [e, low6 q.val q.isLt, mask_0 ⟨q.val % 64, by omega⟩]
  by_cases h : inR q.val 0
  · have h' : 0 ≤ q.val % 64 + 2 ∧ q.val % 64 + 2 - 0 < 64 := h
    rw [if_pos h, if_pos h']; rfl
  · have h' : ¬ (0 ≤ q.val % 64 + 2 ∧ q.val % 64 + 2 - 0 < 64) := h
    rw [if_neg h, if_neg h']; rfl

/-- The mask's word for a column. -/
theorem mask_1 : ∀ r : Fin 64, IntOp.andi (IntOp.cmpi CmpIPredicate.sge (IntOp.subi (BitVec.ofNat 32 r.val) 4294967295#32) 0#32)
    (IntOp.cmpi CmpIPredicate.slt (IntOp.subi (BitVec.ofNat 32 r.val) 4294967295#32) 64#32) = if 1 ≤ r.val + 2 ∧ r.val + 2 - 1 < 64 then 1#1 else 0#1 := by
  decide +kernel

set_option maxHeartbeats 4000000 in
/-- One masked term at a position. -/
theorem termV_1 (v : Vec Ideal S1x4096 .f32) (q : Fin 4096) :
    (termV (F := Ideal) 4294967295#32 v : S1x4096.Idx → EReal) (ix2 0 q) = (if inR q.val 1 then (v (ix2 0 q) : EReal) else 0 : EReal) := by
  have e : (termV (F := Ideal) 4294967295#32 v : S1x4096.Idx → EReal) (ix2 0 q) = Scalar.select
      (IntOp.andi (IntOp.cmpi CmpIPredicate.sge (IntOp.subi (IntOp.andi (BitVec.ofNat 32 q.val) 63#32) 4294967295#32) 0#32)
        (IntOp.cmpi CmpIPredicate.slt (IntOp.subi (IntOp.andi (BitVec.ofNat 32 q.val) 63#32) 4294967295#32) 64#32))
      (v (ix2 0 q)) (0 : EReal) := by
    unfold termV maskV k0_pay21
    pointwise
  rw [e, low6 q.val q.isLt, mask_1 ⟨q.val % 64, by omega⟩]
  by_cases h : inR q.val 1
  · have h' : 1 ≤ q.val % 64 + 2 ∧ q.val % 64 + 2 - 1 < 64 := h
    rw [if_pos h, if_pos h']; rfl
  · have h' : ¬ (1 ≤ q.val % 64 + 2 ∧ q.val % 64 + 2 - 1 < 64) := h
    rw [if_neg h, if_neg h']; rfl

/-- The mask's word for a column. -/
theorem mask_2 : ∀ r : Fin 64, IntOp.andi (IntOp.cmpi CmpIPredicate.sge (IntOp.subi (BitVec.ofNat 32 r.val) 0#32) 0#32)
    (IntOp.cmpi CmpIPredicate.slt (IntOp.subi (BitVec.ofNat 32 r.val) 0#32) 64#32) = if 2 ≤ r.val + 2 ∧ r.val + 2 - 2 < 64 then 1#1 else 0#1 := by
  decide +kernel

set_option maxHeartbeats 4000000 in
/-- One masked term at a position. -/
theorem termV_2 (v : Vec Ideal S1x4096 .f32) (q : Fin 4096) :
    (termV (F := Ideal) 0#32 v : S1x4096.Idx → EReal) (ix2 0 q) = (if inR q.val 2 then (v (ix2 0 q) : EReal) else 0 : EReal) := by
  have e : (termV (F := Ideal) 0#32 v : S1x4096.Idx → EReal) (ix2 0 q) = Scalar.select
      (IntOp.andi (IntOp.cmpi CmpIPredicate.sge (IntOp.subi (IntOp.andi (BitVec.ofNat 32 q.val) 63#32) 0#32) 0#32)
        (IntOp.cmpi CmpIPredicate.slt (IntOp.subi (IntOp.andi (BitVec.ofNat 32 q.val) 63#32) 0#32) 64#32))
      (v (ix2 0 q)) (0 : EReal) := by
    unfold termV maskV k0_pay21
    pointwise
  rw [e, low6 q.val q.isLt, mask_2 ⟨q.val % 64, by omega⟩]
  by_cases h : inR q.val 2
  · have h' : 2 ≤ q.val % 64 + 2 ∧ q.val % 64 + 2 - 2 < 64 := h
    rw [if_pos h, if_pos h']; rfl
  · have h' : ¬ (2 ≤ q.val % 64 + 2 ∧ q.val % 64 + 2 - 2 < 64) := h
    rw [if_neg h, if_neg h']; rfl

/-- The mask's word for a column. -/
theorem mask_3 : ∀ r : Fin 64, IntOp.andi (IntOp.cmpi CmpIPredicate.sge (IntOp.subi (BitVec.ofNat 32 r.val) 1#32) 0#32)
    (IntOp.cmpi CmpIPredicate.slt (IntOp.subi (BitVec.ofNat 32 r.val) 1#32) 64#32) = if 3 ≤ r.val + 2 ∧ r.val + 2 - 3 < 64 then 1#1 else 0#1 := by
  decide +kernel

set_option maxHeartbeats 4000000 in
/-- One masked term at a position. -/
theorem termV_3 (v : Vec Ideal S1x4096 .f32) (q : Fin 4096) :
    (termV (F := Ideal) 1#32 v : S1x4096.Idx → EReal) (ix2 0 q) = (if inR q.val 3 then (v (ix2 0 q) : EReal) else 0 : EReal) := by
  have e : (termV (F := Ideal) 1#32 v : S1x4096.Idx → EReal) (ix2 0 q) = Scalar.select
      (IntOp.andi (IntOp.cmpi CmpIPredicate.sge (IntOp.subi (IntOp.andi (BitVec.ofNat 32 q.val) 63#32) 1#32) 0#32)
        (IntOp.cmpi CmpIPredicate.slt (IntOp.subi (IntOp.andi (BitVec.ofNat 32 q.val) 63#32) 1#32) 64#32))
      (v (ix2 0 q)) (0 : EReal) := by
    unfold termV maskV k0_pay21
    pointwise
  rw [e, low6 q.val q.isLt, mask_3 ⟨q.val % 64, by omega⟩]
  by_cases h : inR q.val 3
  · have h' : 3 ≤ q.val % 64 + 2 ∧ q.val % 64 + 2 - 3 < 64 := h
    rw [if_pos h, if_pos h']; rfl
  · have h' : ¬ (3 ≤ q.val % 64 + 2 ∧ q.val % 64 + 2 - 3 < 64) := h
    rw [if_neg h, if_neg h']; rfl

/-- The mask's word for a column. -/
theorem mask_4 : ∀ r : Fin 64, IntOp.andi (IntOp.cmpi CmpIPredicate.sge (IntOp.subi (BitVec.ofNat 32 r.val) 2#32) 0#32)
    (IntOp.cmpi CmpIPredicate.slt (IntOp.subi (BitVec.ofNat 32 r.val) 2#32) 64#32) = if 4 ≤ r.val + 2 ∧ r.val + 2 - 4 < 64 then 1#1 else 0#1 := by
  decide +kernel

set_option maxHeartbeats 4000000 in
/-- One masked term at a position. -/
theorem termV_4 (v : Vec Ideal S1x4096 .f32) (q : Fin 4096) :
    (termV (F := Ideal) 2#32 v : S1x4096.Idx → EReal) (ix2 0 q) = (if inR q.val 4 then (v (ix2 0 q) : EReal) else 0 : EReal) := by
  have e : (termV (F := Ideal) 2#32 v : S1x4096.Idx → EReal) (ix2 0 q) = Scalar.select
      (IntOp.andi (IntOp.cmpi CmpIPredicate.sge (IntOp.subi (IntOp.andi (BitVec.ofNat 32 q.val) 63#32) 2#32) 0#32)
        (IntOp.cmpi CmpIPredicate.slt (IntOp.subi (IntOp.andi (BitVec.ofNat 32 q.val) 63#32) 2#32) 64#32))
      (v (ix2 0 q)) (0 : EReal) := by
    unfold termV maskV k0_pay21
    pointwise
  rw [e, low6 q.val q.isLt, mask_4 ⟨q.val % 64, by omega⟩]
  by_cases h : inR q.val 4
  · have h' : 4 ≤ q.val % 64 + 2 ∧ q.val % 64 + 2 - 4 < 64 := h
    rw [if_pos h, if_pos h']; rfl
  · have h' : ¬ (4 ≤ q.val % 64 + 2 ∧ q.val % 64 + 2 - 4 < 64) := h
    rw [if_neg h, if_neg h']; rfl

/-- Twenty-five terms added in order are the sum over the shifts. -/
theorem sum55 (T : ℕ → ℕ → EReal) : (((((((((((((((((((((((((0 + T 0 0) + T 0 1) + T 0 2) + T 0 3) + T 0 4) + T 1 0) + T 1 1) + T 1 2) + T 1 3) + T 1 4) + T 2 0) + T 2 1) + T 2 2) + T 2 3) + T 2 4) + T 3 0) + T 3 1) + T 3 2) + T 3 3) + T 3 4) + T 4 0) + T 4 1) + T 4 2) + T 4 3) + T 4 4) = ∑ a : Fin 5, ∑ b : Fin 5, T a.val b.val := by
  simp only [Fin.sum_univ_five, zero_add, add_assoc]
  rfl

set_option maxHeartbeats 4000000 in
/-- The masked sum at a position. -/
theorem sum25_at (l0 l1 l2 l3 l4 l5 l6 l7 l8 l9 l10 l11 l12 l13 l14 l15 l16 l17 l18 l19 l20 l21 l22 l23 l24 : Vec Ideal S1x4096 .f32) (q : Fin 4096) (G : ℕ → ℕ → EReal) (h0 : (l0 (ix2 0 q) : EReal) = G 0 0) (h1 : (l1 (ix2 0 q) : EReal) = G 0 1) (h2 : (l2 (ix2 0 q) : EReal) = G 0 2) (h3 : (l3 (ix2 0 q) : EReal) = G 0 3) (h4 : (l4 (ix2 0 q) : EReal) = G 0 4) (h5 : (l5 (ix2 0 q) : EReal) = G 1 0) (h6 : (l6 (ix2 0 q) : EReal) = G 1 1) (h7 : (l7 (ix2 0 q) : EReal) = G 1 2) (h8 : (l8 (ix2 0 q) : EReal) = G 1 3) (h9 : (l9 (ix2 0 q) : EReal) = G 1 4) (h10 : (l10 (ix2 0 q) : EReal) = G 2 0) (h11 : (l11 (ix2 0 q) : EReal) = G 2 1) (h12 : (l12 (ix2 0 q) : EReal) = G 2 2) (h13 : (l13 (ix2 0 q) : EReal) = G 2 3) (h14 : (l14 (ix2 0 q) : EReal) = G 2 4) (h15 : (l15 (ix2 0 q) : EReal) = G 3 0) (h16 : (l16 (ix2 0 q) : EReal) = G 3 1) (h17 : (l17 (ix2 0 q) : EReal) = G 3 2) (h18 : (l18 (ix2 0 q) : EReal) = G 3 3) (h19 : (l19 (ix2 0 q) : EReal) = G 3 4) (h20 : (l20 (ix2 0 q) : EReal) = G 4 0) (h21 : (l21 (ix2 0 q) : EReal) = G 4 1) (h22 : (l22 (ix2 0 q) : EReal) = G 4 2) (h23 : (l23 (ix2 0 q) : EReal) = G 4 3) (h24 : (l24 (ix2 0 q) : EReal) = G 4 4) :
    (sum25 l0 l1 l2 l3 l4 l5 l6 l7 l8 l9 l10 l11 l12 l13 l14 l15 l16 l17 l18 l19 l20 l21 l22 l23 l24 : S1x4096.Idx → EReal) (ix2 0 q) = ∑ a : Fin 5, ∑ b : Fin 5, if inR q.val b.val then G a.val b.val else 0 := by
  rw [← sum55 (fun a b => if inR q.val b then G a b else 0)]
  have e : (sum25 l0 l1 l2 l3 l4 l5 l6 l7 l8 l9 l10 l11 l12 l13 l14 l15 l16 l17 l18 l19 l20 l21 l22 l23 l24 : S1x4096.Idx → EReal) (ix2 0 q) = (((((((((((((((((((((((((Ideal.ofBits .f32 0x00000000#32 + (termV (F := Ideal) 4294967294#32 l0 : S1x4096.Idx → EReal) (ix2 0 q)) + (termV (F := Ideal) 4294967295#32 l1 : S1x4096.Idx → EReal) (ix2 0 q)) + (termV (F := Ideal) 0#32 l2 : S1x4096.Idx → EReal) (ix2 0 q)) + (termV (F := Ideal) 1#32 l3 : S1x4096.Idx → EReal) (ix2 0 q)) + (termV (F := Ideal) 2#32 l4 : S1x4096.Idx → EReal) (ix2 0 q)) + (termV (F := Ideal) 4294967294#32 l5 : S1x4096.Idx → EReal) (ix2 0 q)) + (termV (F := Ideal) 4294967295#32 l6 : S1x4096.Idx → EReal) (ix2 0 q)) + (termV (F := Ideal) 0#32 l7 : S1x4096.Idx → EReal) (ix2 0 q)) + (termV (F := Ideal) 1#32 l8 : S1x4096.Idx → EReal) (ix2 0 q)) + (termV (F := Ideal) 2#32 l9 : S1x4096.Idx → EReal) (ix2 0 q)) + (termV (F := Ideal) 4294967294#32 l10 : S1x4096.Idx → EReal) (ix2 0 q)) + (termV (F := Ideal) 4294967295#32 l11 : S1x4096.Idx → EReal) (ix2 0 q)) + (termV (F := Ideal) 0#32 l12 : S1x4096.Idx → EReal) (ix2 0 q)) + (termV (F := Ideal) 1#32 l13 : S1x4096.Idx → EReal) (ix2 0 q)) + (termV (F := Ideal) 2#32 l14 : S1x4096.Idx → EReal) (ix2 0 q)) + (termV (F := Ideal) 4294967294#32 l15 : S1x4096.Idx → EReal) (ix2 0 q)) + (termV (F := Ideal) 4294967295#32 l16 : S1x4096.Idx → EReal) (ix2 0 q)) + (termV (F := Ideal) 0#32 l17 : S1x4096.Idx → EReal) (ix2 0 q)) + (termV (F := Ideal) 1#32 l18 : S1x4096.Idx → EReal) (ix2 0 q)) + (termV (F := Ideal) 2#32 l19 : S1x4096.Idx → EReal) (ix2 0 q)) + (termV (F := Ideal) 4294967294#32 l20 : S1x4096.Idx → EReal) (ix2 0 q)) + (termV (F := Ideal) 4294967295#32 l21 : S1x4096.Idx → EReal) (ix2 0 q)) + (termV (F := Ideal) 0#32 l22 : S1x4096.Idx → EReal) (ix2 0 q)) + (termV (F := Ideal) 1#32 l23 : S1x4096.Idx → EReal) (ix2 0 q)) + (termV (F := Ideal) 2#32 l24 : S1x4096.Idx → EReal) (ix2 0 q)) := rfl
  rw [e]
  simp only [termV_0, termV_1, termV_2, termV_3, termV_4, h0, h1, h2, h3, h4, h5, h6, h7, h8, h9, h10, h11, h12, h13, h14, h15, h16, h17, h18, h19, h20, h21, h22, h23, h24]
  rw [show Ideal.ofBits .f32 0x00000000#32 = (0 : EReal) by simp [Ideal.ofBits, Ideal.ieee]]

/-- The weights' sum at a position. -/
theorem denV_at (P : S1x4608.Idx → EReal) (q : Fin 4096) :
    (denV (F := Ideal) (fun B => pick P B) : S1x4096.Idx → EReal) (ix2 0 q)
      = ∑ a : Fin 5, ∑ b : Fin 5, if inR q.val b.val then P (ix2 0 ⟨386 - 64 * a.val - b.val + q.val, by omega⟩) else 0 := by
  refine (sum25_at _ _ _ _ _ _ _ _ _ _ _ _ _ _ _ _ _ _ _ _ _ _ _ _ _ q (fun a b => P (ix2 0 ⟨(386 - 64 * a - b + q.val) % 4608, by omega⟩)) (pick_row P 0 386 _ q (by omega) |>.trans (congrArg (fun k => P (ix2 0 k)) (Fin.ext (by show 386 + q.val = (386 - 64 * 0 - 0 + q.val) % 4608; omega)))) (pick_row P 0 385 _ q (by omega) |>.trans (congrArg (fun k => P (ix2 0 k)) (Fin.ext (by show 385 + q.val = (386 - 64 * 0 - 1 + q.val) % 4608; omega)))) (pick_row P 0 384 _ q (by omega) |>.trans (congrArg (fun k => P (ix2 0 k)) (Fin.ext (by show 384 + q.val = (386 - 64 * 0 - 2 + q.val) % 4608; omega)))) (pick_row P 0 383 _ q (by omega) |>.trans (congrArg (fun k => P (ix2 0 k)) (Fin.ext (by show 383 + q.val = (386 - 64 * 0 - 3 + q.val) % 4608; omega)))) (pick_row P 0 382 _ q (by omega) |>.trans (congrArg (fun k => P (ix2 0 k)) (Fin.ext (by show 382 + q.val = (386 - 64 * 0 - 4 + q.val) % 4608; omega)))) (pick_row P 0 322 _ q (by omega) |>.trans (congrArg (fun k => P (ix2 0 k)) (Fin.ext (by show 322 + q.val = (386 - 64 * 1 - 0 + q.val) % 4608; omega)))) (pick_row P 0 321 _ q (by omega) |>.trans (congrArg (fun k => P (ix2 0 k)) (Fin.ext (by show 321 + q.val = (386 - 64 * 1 - 1 + q.val) % 4608; omega)))) (pick_row P 0 320 _ q (by omega) |>.trans (congrArg (fun k => P (ix2 0 k)) (Fin.ext (by show 320 + q.val = (386 - 64 * 1 - 2 + q.val) % 4608; omega)))) (pick_row P 0 319 _ q (by omega) |>.trans (congrArg (fun k => P (ix2 0 k)) (Fin.ext (by show 319 + q.val = (386 - 64 * 1 - 3 + q.val) % 4608; omega)))) (pick_row P 0 318 _ q (by omega) |>.trans (congrArg (fun k => P (ix2 0 k)) (Fin.ext (by show 318 + q.val = (386 - 64 * 1 - 4 + q.val) % 4608; omega)))) (pick_row P 0 258 _ q (by omega) |>.trans (congrArg (fun k => P (ix2 0 k)) (Fin.ext (by show 258 + q.val = (386 - 64 * 2 - 0 + q.val) % 4608; omega)))) (pick_row P 0 257 _ q (by omega) |>.trans (congrArg (fun k => P (ix2 0 k)) (Fin.ext (by show 257 + q.val = (386 - 64 * 2 - 1 + q.val) % 4608; omega)))) (pick_row P 0 256 _ q (by omega) |>.trans (congrArg (fun k => P (ix2 0 k)) (Fin.ext (by show 256 + q.val = (386 - 64 * 2 - 2 + q.val) % 4608; omega)))) (pick_row P 0 255 _ q (by omega) |>.trans (congrArg (fun k => P (ix2 0 k)) (Fin.ext (by show 255 + q.val = (386 - 64 * 2 - 3 + q.val) % 4608; omega)))) (pick_row P 0 254 _ q (by omega) |>.trans (congrArg (fun k => P (ix2 0 k)) (Fin.ext (by show 254 + q.val = (386 - 64 * 2 - 4 + q.val) % 4608; omega)))) (pick_row P 0 194 _ q (by omega) |>.trans (congrArg (fun k => P (ix2 0 k)) (Fin.ext (by show 194 + q.val = (386 - 64 * 3 - 0 + q.val) % 4608; omega)))) (pick_row P 0 193 _ q (by omega) |>.trans (congrArg (fun k => P (ix2 0 k)) (Fin.ext (by show 193 + q.val = (386 - 64 * 3 - 1 + q.val) % 4608; omega)))) (pick_row P 0 192 _ q (by omega) |>.trans (congrArg (fun k => P (ix2 0 k)) (Fin.ext (by show 192 + q.val = (386 - 64 * 3 - 2 + q.val) % 4608; omega)))) (pick_row P 0 191 _ q (by omega) |>.trans (congrArg (fun k => P (ix2 0 k)) (Fin.ext (by show 191 + q.val = (386 - 64 * 3 - 3 + q.val) % 4608; omega)))) (pick_row P 0 190 _ q (by omega) |>.trans (congrArg (fun k => P (ix2 0 k)) (Fin.ext (by show 190 + q.val = (386 - 64 * 3 - 4 + q.val) % 4608; omega)))) (pick_row P 0 130 _ q (by omega) |>.trans (congrArg (fun k => P (ix2 0 k)) (Fin.ext (by show 130 + q.val = (386 - 64 * 4 - 0 + q.val) % 4608; omega)))) (pick_row P 0 129 _ q (by omega) |>.trans (congrArg (fun k => P (ix2 0 k)) (Fin.ext (by show 129 + q.val = (386 - 64 * 4 - 1 + q.val) % 4608; omega)))) (pick_row P 0 128 _ q (by omega) |>.trans (congrArg (fun k => P (ix2 0 k)) (Fin.ext (by show 128 + q.val = (386 - 64 * 4 - 2 + q.val) % 4608; omega)))) (pick_row P 0 127 _ q (by omega) |>.trans (congrArg (fun k => P (ix2 0 k)) (Fin.ext (by show 127 + q.val = (386 - 64 * 4 - 3 + q.val) % 4608; omega)))) (pick_row P 0 126 _ q (by omega) |>.trans (congrArg (fun k => P (ix2 0 k)) (Fin.ext (by show 126 + q.val = (386 - 64 * 4 - 4 + q.val) % 4608; omega))))).trans ?_
  refine Finset.sum_congr rfl fun a _ => Finset.sum_congr rfl fun b _ => ?_
  congr 2
  refine congrArg _ (Fin.ext ?_)
  show (386 - 64 * a.val - b.val + q.val) % 4608 = 386 - 64 * a.val - b.val + q.val
  omega

/-- A channel's sum at a position. -/
theorem numV0_at (P : S75x4608.Idx → EReal) (q : Fin 4096) :
    (numV0 (F := Ideal) (fun B => pick P B) : S1x4096.Idx → EReal) (ix2 0 q)
      = ∑ a : Fin 5, ∑ b : Fin 5, if inR q.val b.val then P (ix2 ⟨0 + a.val * 5 + b.val, by omega⟩ ⟨386 - 64 * a.val - b.val + q.val, by omega⟩) else 0 := by
  refine (sum25_at _ _ _ _ _ _ _ _ _ _ _ _ _ _ _ _ _ _ _ _ _ _ _ _ _ q (fun a b => P (ix2 ⟨(0 + a * 5 + b) % 75, by omega⟩ ⟨(386 - 64 * a - b + q.val) % 4608, by omega⟩)) (pick_row P ⟨0, by omega⟩ 386 _ q (by omega) |>.trans (congrArg (fun k => P (ix2 ⟨0, by omega⟩ k)) (Fin.ext (by show 386 + q.val = (386 - 64 * 0 - 0 + q.val) % 4608; omega)))) (pick_row P ⟨1, by omega⟩ 385 _ q (by omega) |>.trans (congrArg (fun k => P (ix2 ⟨1, by omega⟩ k)) (Fin.ext (by show 385 + q.val = (386 - 64 * 0 - 1 + q.val) % 4608; omega)))) (pick_row P ⟨2, by omega⟩ 384 _ q (by omega) |>.trans (congrArg (fun k => P (ix2 ⟨2, by omega⟩ k)) (Fin.ext (by show 384 + q.val = (386 - 64 * 0 - 2 + q.val) % 4608; omega)))) (pick_row P ⟨3, by omega⟩ 383 _ q (by omega) |>.trans (congrArg (fun k => P (ix2 ⟨3, by omega⟩ k)) (Fin.ext (by show 383 + q.val = (386 - 64 * 0 - 3 + q.val) % 4608; omega)))) (pick_row P ⟨4, by omega⟩ 382 _ q (by omega) |>.trans (congrArg (fun k => P (ix2 ⟨4, by omega⟩ k)) (Fin.ext (by show 382 + q.val = (386 - 64 * 0 - 4 + q.val) % 4608; omega)))) (pick_row P ⟨5, by omega⟩ 322 _ q (by omega) |>.trans (congrArg (fun k => P (ix2 ⟨5, by omega⟩ k)) (Fin.ext (by show 322 + q.val = (386 - 64 * 1 - 0 + q.val) % 4608; omega)))) (pick_row P ⟨6, by omega⟩ 321 _ q (by omega) |>.trans (congrArg (fun k => P (ix2 ⟨6, by omega⟩ k)) (Fin.ext (by show 321 + q.val = (386 - 64 * 1 - 1 + q.val) % 4608; omega)))) (pick_row P ⟨7, by omega⟩ 320 _ q (by omega) |>.trans (congrArg (fun k => P (ix2 ⟨7, by omega⟩ k)) (Fin.ext (by show 320 + q.val = (386 - 64 * 1 - 2 + q.val) % 4608; omega)))) (pick_row P ⟨8, by omega⟩ 319 _ q (by omega) |>.trans (congrArg (fun k => P (ix2 ⟨8, by omega⟩ k)) (Fin.ext (by show 319 + q.val = (386 - 64 * 1 - 3 + q.val) % 4608; omega)))) (pick_row P ⟨9, by omega⟩ 318 _ q (by omega) |>.trans (congrArg (fun k => P (ix2 ⟨9, by omega⟩ k)) (Fin.ext (by show 318 + q.val = (386 - 64 * 1 - 4 + q.val) % 4608; omega)))) (pick_row P ⟨10, by omega⟩ 258 _ q (by omega) |>.trans (congrArg (fun k => P (ix2 ⟨10, by omega⟩ k)) (Fin.ext (by show 258 + q.val = (386 - 64 * 2 - 0 + q.val) % 4608; omega)))) (pick_row P ⟨11, by omega⟩ 257 _ q (by omega) |>.trans (congrArg (fun k => P (ix2 ⟨11, by omega⟩ k)) (Fin.ext (by show 257 + q.val = (386 - 64 * 2 - 1 + q.val) % 4608; omega)))) (pick_row P ⟨12, by omega⟩ 256 _ q (by omega) |>.trans (congrArg (fun k => P (ix2 ⟨12, by omega⟩ k)) (Fin.ext (by show 256 + q.val = (386 - 64 * 2 - 2 + q.val) % 4608; omega)))) (pick_row P ⟨13, by omega⟩ 255 _ q (by omega) |>.trans (congrArg (fun k => P (ix2 ⟨13, by omega⟩ k)) (Fin.ext (by show 255 + q.val = (386 - 64 * 2 - 3 + q.val) % 4608; omega)))) (pick_row P ⟨14, by omega⟩ 254 _ q (by omega) |>.trans (congrArg (fun k => P (ix2 ⟨14, by omega⟩ k)) (Fin.ext (by show 254 + q.val = (386 - 64 * 2 - 4 + q.val) % 4608; omega)))) (pick_row P ⟨15, by omega⟩ 194 _ q (by omega) |>.trans (congrArg (fun k => P (ix2 ⟨15, by omega⟩ k)) (Fin.ext (by show 194 + q.val = (386 - 64 * 3 - 0 + q.val) % 4608; omega)))) (pick_row P ⟨16, by omega⟩ 193 _ q (by omega) |>.trans (congrArg (fun k => P (ix2 ⟨16, by omega⟩ k)) (Fin.ext (by show 193 + q.val = (386 - 64 * 3 - 1 + q.val) % 4608; omega)))) (pick_row P ⟨17, by omega⟩ 192 _ q (by omega) |>.trans (congrArg (fun k => P (ix2 ⟨17, by omega⟩ k)) (Fin.ext (by show 192 + q.val = (386 - 64 * 3 - 2 + q.val) % 4608; omega)))) (pick_row P ⟨18, by omega⟩ 191 _ q (by omega) |>.trans (congrArg (fun k => P (ix2 ⟨18, by omega⟩ k)) (Fin.ext (by show 191 + q.val = (386 - 64 * 3 - 3 + q.val) % 4608; omega)))) (pick_row P ⟨19, by omega⟩ 190 _ q (by omega) |>.trans (congrArg (fun k => P (ix2 ⟨19, by omega⟩ k)) (Fin.ext (by show 190 + q.val = (386 - 64 * 3 - 4 + q.val) % 4608; omega)))) (pick_row P ⟨20, by omega⟩ 130 _ q (by omega) |>.trans (congrArg (fun k => P (ix2 ⟨20, by omega⟩ k)) (Fin.ext (by show 130 + q.val = (386 - 64 * 4 - 0 + q.val) % 4608; omega)))) (pick_row P ⟨21, by omega⟩ 129 _ q (by omega) |>.trans (congrArg (fun k => P (ix2 ⟨21, by omega⟩ k)) (Fin.ext (by show 129 + q.val = (386 - 64 * 4 - 1 + q.val) % 4608; omega)))) (pick_row P ⟨22, by omega⟩ 128 _ q (by omega) |>.trans (congrArg (fun k => P (ix2 ⟨22, by omega⟩ k)) (Fin.ext (by show 128 + q.val = (386 - 64 * 4 - 2 + q.val) % 4608; omega)))) (pick_row P ⟨23, by omega⟩ 127 _ q (by omega) |>.trans (congrArg (fun k => P (ix2 ⟨23, by omega⟩ k)) (Fin.ext (by show 127 + q.val = (386 - 64 * 4 - 3 + q.val) % 4608; omega)))) (pick_row P ⟨24, by omega⟩ 126 _ q (by omega) |>.trans (congrArg (fun k => P (ix2 ⟨24, by omega⟩ k)) (Fin.ext (by show 126 + q.val = (386 - 64 * 4 - 4 + q.val) % 4608; omega))))).trans ?_
  refine Finset.sum_congr rfl fun a _ => Finset.sum_congr rfl fun b _ => ?_
  congr 2
  refine congrArg₂ (fun i j => (ix2 i j : S75x4608.Idx)) (Fin.ext ?_) (Fin.ext ?_)
  · show (0 + a.val * 5 + b.val) % 75 = 0 + a.val * 5 + b.val
    omega
  · show (386 - 64 * a.val - b.val + q.val) % 4608 = 386 - 64 * a.val - b.val + q.val
    omega

/-- A channel's sum at a position. -/
theorem numV1_at (P : S75x4608.Idx → EReal) (q : Fin 4096) :
    (numV1 (F := Ideal) (fun B => pick P B) : S1x4096.Idx → EReal) (ix2 0 q)
      = ∑ a : Fin 5, ∑ b : Fin 5, if inR q.val b.val then P (ix2 ⟨25 + a.val * 5 + b.val, by omega⟩ ⟨386 - 64 * a.val - b.val + q.val, by omega⟩) else 0 := by
  refine (sum25_at _ _ _ _ _ _ _ _ _ _ _ _ _ _ _ _ _ _ _ _ _ _ _ _ _ q (fun a b => P (ix2 ⟨(25 + a * 5 + b) % 75, by omega⟩ ⟨(386 - 64 * a - b + q.val) % 4608, by omega⟩)) (pick_row P ⟨25, by omega⟩ 386 _ q (by omega) |>.trans (congrArg (fun k => P (ix2 ⟨25, by omega⟩ k)) (Fin.ext (by show 386 + q.val = (386 - 64 * 0 - 0 + q.val) % 4608; omega)))) (pick_row P ⟨26, by omega⟩ 385 _ q (by omega) |>.trans (congrArg (fun k => P (ix2 ⟨26, by omega⟩ k)) (Fin.ext (by show 385 + q.val = (386 - 64 * 0 - 1 + q.val) % 4608; omega)))) (pick_row P ⟨27, by omega⟩ 384 _ q (by omega) |>.trans (congrArg (fun k => P (ix2 ⟨27, by omega⟩ k)) (Fin.ext (by show 384 + q.val = (386 - 64 * 0 - 2 + q.val) % 4608; omega)))) (pick_row P ⟨28, by omega⟩ 383 _ q (by omega) |>.trans (congrArg (fun k => P (ix2 ⟨28, by omega⟩ k)) (Fin.ext (by show 383 + q.val = (386 - 64 * 0 - 3 + q.val) % 4608; omega)))) (pick_row P ⟨29, by omega⟩ 382 _ q (by omega) |>.trans (congrArg (fun k => P (ix2 ⟨29, by omega⟩ k)) (Fin.ext (by show 382 + q.val = (386 - 64 * 0 - 4 + q.val) % 4608; omega)))) (pick_row P ⟨30, by omega⟩ 322 _ q (by omega) |>.trans (congrArg (fun k => P (ix2 ⟨30, by omega⟩ k)) (Fin.ext (by show 322 + q.val = (386 - 64 * 1 - 0 + q.val) % 4608; omega)))) (pick_row P ⟨31, by omega⟩ 321 _ q (by omega) |>.trans (congrArg (fun k => P (ix2 ⟨31, by omega⟩ k)) (Fin.ext (by show 321 + q.val = (386 - 64 * 1 - 1 + q.val) % 4608; omega)))) (pick_row P ⟨32, by omega⟩ 320 _ q (by omega) |>.trans (congrArg (fun k => P (ix2 ⟨32, by omega⟩ k)) (Fin.ext (by show 320 + q.val = (386 - 64 * 1 - 2 + q.val) % 4608; omega)))) (pick_row P ⟨33, by omega⟩ 319 _ q (by omega) |>.trans (congrArg (fun k => P (ix2 ⟨33, by omega⟩ k)) (Fin.ext (by show 319 + q.val = (386 - 64 * 1 - 3 + q.val) % 4608; omega)))) (pick_row P ⟨34, by omega⟩ 318 _ q (by omega) |>.trans (congrArg (fun k => P (ix2 ⟨34, by omega⟩ k)) (Fin.ext (by show 318 + q.val = (386 - 64 * 1 - 4 + q.val) % 4608; omega)))) (pick_row P ⟨35, by omega⟩ 258 _ q (by omega) |>.trans (congrArg (fun k => P (ix2 ⟨35, by omega⟩ k)) (Fin.ext (by show 258 + q.val = (386 - 64 * 2 - 0 + q.val) % 4608; omega)))) (pick_row P ⟨36, by omega⟩ 257 _ q (by omega) |>.trans (congrArg (fun k => P (ix2 ⟨36, by omega⟩ k)) (Fin.ext (by show 257 + q.val = (386 - 64 * 2 - 1 + q.val) % 4608; omega)))) (pick_row P ⟨37, by omega⟩ 256 _ q (by omega) |>.trans (congrArg (fun k => P (ix2 ⟨37, by omega⟩ k)) (Fin.ext (by show 256 + q.val = (386 - 64 * 2 - 2 + q.val) % 4608; omega)))) (pick_row P ⟨38, by omega⟩ 255 _ q (by omega) |>.trans (congrArg (fun k => P (ix2 ⟨38, by omega⟩ k)) (Fin.ext (by show 255 + q.val = (386 - 64 * 2 - 3 + q.val) % 4608; omega)))) (pick_row P ⟨39, by omega⟩ 254 _ q (by omega) |>.trans (congrArg (fun k => P (ix2 ⟨39, by omega⟩ k)) (Fin.ext (by show 254 + q.val = (386 - 64 * 2 - 4 + q.val) % 4608; omega)))) (pick_row P ⟨40, by omega⟩ 194 _ q (by omega) |>.trans (congrArg (fun k => P (ix2 ⟨40, by omega⟩ k)) (Fin.ext (by show 194 + q.val = (386 - 64 * 3 - 0 + q.val) % 4608; omega)))) (pick_row P ⟨41, by omega⟩ 193 _ q (by omega) |>.trans (congrArg (fun k => P (ix2 ⟨41, by omega⟩ k)) (Fin.ext (by show 193 + q.val = (386 - 64 * 3 - 1 + q.val) % 4608; omega)))) (pick_row P ⟨42, by omega⟩ 192 _ q (by omega) |>.trans (congrArg (fun k => P (ix2 ⟨42, by omega⟩ k)) (Fin.ext (by show 192 + q.val = (386 - 64 * 3 - 2 + q.val) % 4608; omega)))) (pick_row P ⟨43, by omega⟩ 191 _ q (by omega) |>.trans (congrArg (fun k => P (ix2 ⟨43, by omega⟩ k)) (Fin.ext (by show 191 + q.val = (386 - 64 * 3 - 3 + q.val) % 4608; omega)))) (pick_row P ⟨44, by omega⟩ 190 _ q (by omega) |>.trans (congrArg (fun k => P (ix2 ⟨44, by omega⟩ k)) (Fin.ext (by show 190 + q.val = (386 - 64 * 3 - 4 + q.val) % 4608; omega)))) (pick_row P ⟨45, by omega⟩ 130 _ q (by omega) |>.trans (congrArg (fun k => P (ix2 ⟨45, by omega⟩ k)) (Fin.ext (by show 130 + q.val = (386 - 64 * 4 - 0 + q.val) % 4608; omega)))) (pick_row P ⟨46, by omega⟩ 129 _ q (by omega) |>.trans (congrArg (fun k => P (ix2 ⟨46, by omega⟩ k)) (Fin.ext (by show 129 + q.val = (386 - 64 * 4 - 1 + q.val) % 4608; omega)))) (pick_row P ⟨47, by omega⟩ 128 _ q (by omega) |>.trans (congrArg (fun k => P (ix2 ⟨47, by omega⟩ k)) (Fin.ext (by show 128 + q.val = (386 - 64 * 4 - 2 + q.val) % 4608; omega)))) (pick_row P ⟨48, by omega⟩ 127 _ q (by omega) |>.trans (congrArg (fun k => P (ix2 ⟨48, by omega⟩ k)) (Fin.ext (by show 127 + q.val = (386 - 64 * 4 - 3 + q.val) % 4608; omega)))) (pick_row P ⟨49, by omega⟩ 126 _ q (by omega) |>.trans (congrArg (fun k => P (ix2 ⟨49, by omega⟩ k)) (Fin.ext (by show 126 + q.val = (386 - 64 * 4 - 4 + q.val) % 4608; omega))))).trans ?_
  refine Finset.sum_congr rfl fun a _ => Finset.sum_congr rfl fun b _ => ?_
  congr 2
  refine congrArg₂ (fun i j => (ix2 i j : S75x4608.Idx)) (Fin.ext ?_) (Fin.ext ?_)
  · show (25 + a.val * 5 + b.val) % 75 = 25 + a.val * 5 + b.val
    omega
  · show (386 - 64 * a.val - b.val + q.val) % 4608 = 386 - 64 * a.val - b.val + q.val
    omega

/-- A channel's sum at a position. -/
theorem numV2_at (P : S75x4608.Idx → EReal) (q : Fin 4096) :
    (numV2 (F := Ideal) (fun B => pick P B) : S1x4096.Idx → EReal) (ix2 0 q)
      = ∑ a : Fin 5, ∑ b : Fin 5, if inR q.val b.val then P (ix2 ⟨50 + a.val * 5 + b.val, by omega⟩ ⟨386 - 64 * a.val - b.val + q.val, by omega⟩) else 0 := by
  refine (sum25_at _ _ _ _ _ _ _ _ _ _ _ _ _ _ _ _ _ _ _ _ _ _ _ _ _ q (fun a b => P (ix2 ⟨(50 + a * 5 + b) % 75, by omega⟩ ⟨(386 - 64 * a - b + q.val) % 4608, by omega⟩)) (pick_row P ⟨50, by omega⟩ 386 _ q (by omega) |>.trans (congrArg (fun k => P (ix2 ⟨50, by omega⟩ k)) (Fin.ext (by show 386 + q.val = (386 - 64 * 0 - 0 + q.val) % 4608; omega)))) (pick_row P ⟨51, by omega⟩ 385 _ q (by omega) |>.trans (congrArg (fun k => P (ix2 ⟨51, by omega⟩ k)) (Fin.ext (by show 385 + q.val = (386 - 64 * 0 - 1 + q.val) % 4608; omega)))) (pick_row P ⟨52, by omega⟩ 384 _ q (by omega) |>.trans (congrArg (fun k => P (ix2 ⟨52, by omega⟩ k)) (Fin.ext (by show 384 + q.val = (386 - 64 * 0 - 2 + q.val) % 4608; omega)))) (pick_row P ⟨53, by omega⟩ 383 _ q (by omega) |>.trans (congrArg (fun k => P (ix2 ⟨53, by omega⟩ k)) (Fin.ext (by show 383 + q.val = (386 - 64 * 0 - 3 + q.val) % 4608; omega)))) (pick_row P ⟨54, by omega⟩ 382 _ q (by omega) |>.trans (congrArg (fun k => P (ix2 ⟨54, by omega⟩ k)) (Fin.ext (by show 382 + q.val = (386 - 64 * 0 - 4 + q.val) % 4608; omega)))) (pick_row P ⟨55, by omega⟩ 322 _ q (by omega) |>.trans (congrArg (fun k => P (ix2 ⟨55, by omega⟩ k)) (Fin.ext (by show 322 + q.val = (386 - 64 * 1 - 0 + q.val) % 4608; omega)))) (pick_row P ⟨56, by omega⟩ 321 _ q (by omega) |>.trans (congrArg (fun k => P (ix2 ⟨56, by omega⟩ k)) (Fin.ext (by show 321 + q.val = (386 - 64 * 1 - 1 + q.val) % 4608; omega)))) (pick_row P ⟨57, by omega⟩ 320 _ q (by omega) |>.trans (congrArg (fun k => P (ix2 ⟨57, by omega⟩ k)) (Fin.ext (by show 320 + q.val = (386 - 64 * 1 - 2 + q.val) % 4608; omega)))) (pick_row P ⟨58, by omega⟩ 319 _ q (by omega) |>.trans (congrArg (fun k => P (ix2 ⟨58, by omega⟩ k)) (Fin.ext (by show 319 + q.val = (386 - 64 * 1 - 3 + q.val) % 4608; omega)))) (pick_row P ⟨59, by omega⟩ 318 _ q (by omega) |>.trans (congrArg (fun k => P (ix2 ⟨59, by omega⟩ k)) (Fin.ext (by show 318 + q.val = (386 - 64 * 1 - 4 + q.val) % 4608; omega)))) (pick_row P ⟨60, by omega⟩ 258 _ q (by omega) |>.trans (congrArg (fun k => P (ix2 ⟨60, by omega⟩ k)) (Fin.ext (by show 258 + q.val = (386 - 64 * 2 - 0 + q.val) % 4608; omega)))) (pick_row P ⟨61, by omega⟩ 257 _ q (by omega) |>.trans (congrArg (fun k => P (ix2 ⟨61, by omega⟩ k)) (Fin.ext (by show 257 + q.val = (386 - 64 * 2 - 1 + q.val) % 4608; omega)))) (pick_row P ⟨62, by omega⟩ 256 _ q (by omega) |>.trans (congrArg (fun k => P (ix2 ⟨62, by omega⟩ k)) (Fin.ext (by show 256 + q.val = (386 - 64 * 2 - 2 + q.val) % 4608; omega)))) (pick_row P ⟨63, by omega⟩ 255 _ q (by omega) |>.trans (congrArg (fun k => P (ix2 ⟨63, by omega⟩ k)) (Fin.ext (by show 255 + q.val = (386 - 64 * 2 - 3 + q.val) % 4608; omega)))) (pick_row P ⟨64, by omega⟩ 254 _ q (by omega) |>.trans (congrArg (fun k => P (ix2 ⟨64, by omega⟩ k)) (Fin.ext (by show 254 + q.val = (386 - 64 * 2 - 4 + q.val) % 4608; omega)))) (pick_row P ⟨65, by omega⟩ 194 _ q (by omega) |>.trans (congrArg (fun k => P (ix2 ⟨65, by omega⟩ k)) (Fin.ext (by show 194 + q.val = (386 - 64 * 3 - 0 + q.val) % 4608; omega)))) (pick_row P ⟨66, by omega⟩ 193 _ q (by omega) |>.trans (congrArg (fun k => P (ix2 ⟨66, by omega⟩ k)) (Fin.ext (by show 193 + q.val = (386 - 64 * 3 - 1 + q.val) % 4608; omega)))) (pick_row P ⟨67, by omega⟩ 192 _ q (by omega) |>.trans (congrArg (fun k => P (ix2 ⟨67, by omega⟩ k)) (Fin.ext (by show 192 + q.val = (386 - 64 * 3 - 2 + q.val) % 4608; omega)))) (pick_row P ⟨68, by omega⟩ 191 _ q (by omega) |>.trans (congrArg (fun k => P (ix2 ⟨68, by omega⟩ k)) (Fin.ext (by show 191 + q.val = (386 - 64 * 3 - 3 + q.val) % 4608; omega)))) (pick_row P ⟨69, by omega⟩ 190 _ q (by omega) |>.trans (congrArg (fun k => P (ix2 ⟨69, by omega⟩ k)) (Fin.ext (by show 190 + q.val = (386 - 64 * 3 - 4 + q.val) % 4608; omega)))) (pick_row P ⟨70, by omega⟩ 130 _ q (by omega) |>.trans (congrArg (fun k => P (ix2 ⟨70, by omega⟩ k)) (Fin.ext (by show 130 + q.val = (386 - 64 * 4 - 0 + q.val) % 4608; omega)))) (pick_row P ⟨71, by omega⟩ 129 _ q (by omega) |>.trans (congrArg (fun k => P (ix2 ⟨71, by omega⟩ k)) (Fin.ext (by show 129 + q.val = (386 - 64 * 4 - 1 + q.val) % 4608; omega)))) (pick_row P ⟨72, by omega⟩ 128 _ q (by omega) |>.trans (congrArg (fun k => P (ix2 ⟨72, by omega⟩ k)) (Fin.ext (by show 128 + q.val = (386 - 64 * 4 - 2 + q.val) % 4608; omega)))) (pick_row P ⟨73, by omega⟩ 127 _ q (by omega) |>.trans (congrArg (fun k => P (ix2 ⟨73, by omega⟩ k)) (Fin.ext (by show 127 + q.val = (386 - 64 * 4 - 3 + q.val) % 4608; omega)))) (pick_row P ⟨74, by omega⟩ 126 _ q (by omega) |>.trans (congrArg (fun k => P (ix2 ⟨74, by omega⟩ k)) (Fin.ext (by show 126 + q.val = (386 - 64 * 4 - 4 + q.val) % 4608; omega))))).trans ?_
  refine Finset.sum_congr rfl fun a _ => Finset.sum_congr rfl fun b _ => ?_
  congr 2
  refine congrArg₂ (fun i j => (ix2 i j : S75x4608.Idx)) (Fin.ext ?_) (Fin.ext ?_)
  · show (50 + a.val * 5 + b.val) % 75 = 50 + a.val * 5 + b.val
    omega
  · show (386 - 64 * a.val - b.val + q.val) % 4608 = 386 - 64 * a.val - b.val + q.val
    omega

/-- The reciprocal at a position. -/
theorem rdenV_at (s : FVec Ideal S1x4096 .f32) (q : Fin 4096) :
    (rdenV s : S1x4096.Idx → EReal) (ix2 0 q) = Ideal.div 1 ((s (ix2 0 q) : EReal) + Ideal.ofBits .f32 0x2EDBE6FF#32) := by
  unfold rdenV
  pointwise

/-- The stored row at a position. -/
theorem finV_at (s r : FVec Ideal S1x4096 .f32) (v : Vec Ideal S1x1x1 .f32) (q : Fin 4096) :
    (finV s r v : S1x1x4096.Idx → EReal) (ix3 0 0 q) = (Ideal.ofBits .f32 0x42FF0000#32 * ((s (ix2 0 q) : EReal) * (r (ix2 0 q) : EReal) + (v (ix3 0 0 0) : EReal))
      + Ideal.ofBits .f32 0x42FF0000#32 : EReal) := by
  unfold finV
  pointwise

end Cert.KernelIdeal.Gen
-- ==== Proof.KOut.lean ====
module

public import proofs.«01_k».proof.Proof.KFold
public import proofs.«01_k».proof.Proof.Launched
public import Idealize.ShloMosaic.Lib.Pipeline.ValueKit
public import Idealize.ShloMosaic.Lib.Pointwise
public import Idealize.ShloMosaic.Lib.StableHlo.RunRead
public import Idealize.ShloMosaic.Lib.Pointwise
public import Idealize.ShloMosaic.Lib.StableHlo.RunRead

@[expose] public section

set_option maxRecDepth 65536

noncomputable section

namespace Cert.KernelIdeal.Gen

open Idealize.ShloMosaic Idealize.ShloMosaic.TcCoe Idealize.ShloMosaic.Tactic
open Idealize.ShloMosaic.StableHlo

open VecWindow (put)

/-- A row put into the output block. -/
theorem putrow_at {α : Type} (b : S1x3x4096.Idx → α) (o : ℕ) (w : S1x1x4096.Idx → α) (ch : Fin 3) (q : Fin 4096) :
    put (s := S1x3x4096) b ![0, o, 0] S1x1x4096.size w (ix3 0 ch q) = if ch.val = o then w (ix3 0 0 q) else b (ix3 0 ch q) := by
  have hq := q.isLt
  unfold put
  by_cases h : ch.val = o
  · rw [if_pos h, dif_pos]
    · refine congrArg w (funext fun a => Fin.ext ?_)
      fin_cases a
      · rfl
      · show ch.val - o = 0
        omega
      · show q.val - 0 = q.val
        omega
    · intro a
      fin_cases a
      · exact ⟨Nat.le_refl 0, Nat.one_pos⟩
      · show o ≤ ch.val ∧ ch.val < o + 1
        omega
      · show 0 ≤ q.val ∧ q.val < 0 + 4096
        omega
  · rw [if_neg h, dif_neg]
    intro hh
    have h1 : o ≤ ch.val ∧ ch.val < o + 1 := hh 1
    omega

/-- A scalar of the image. -/
theorem pick_scalar (x0 : Vec Ideal S1x1x8 .f32) (i : ℕ) (inb) (hi : i < 8) :
    (pick x0 (Rect.unit (s := S1x1x8) ![0, 0, i] S1x1x1.size inb).toLoadRect : S1x1x1.Idx → EReal) (ix3 0 0 0) = ((x0 : S1x1x8.Idx → EReal) (ix3 0 0 ⟨i, hi⟩) : EReal) := by
  unfold pick
  refine congrArg x0 (funext fun a => Fin.ext ?_)
  fin_cases a
  · rfl
  · rfl
  · show i + 1 * 0 = i
    omega

/-- The output block of an image entry by entry. -/
theorem outOf_at (x0 : Vec Ideal S1x1x8 .f32) (d13 : S75x4608.Idx → EReal) (d14 : S1x4608.Idx → EReal) (ch : Fin 3) (q : Fin 4096) :
    (outOf (F := Ideal) x0 d13 d14 : S1x3x4096.Idx → EReal) (ix3 0 ch q)
      = (Ideal.ofBits .f32 0x42FF0000#32
          * ((∑ a : Fin 5, ∑ b : Fin 5, if inR q.val b.val then d13 (ix2 ⟨25 * ch.val + a.val * 5 + b.val, by omega⟩ ⟨386 - 64 * a.val - b.val + q.val, by omega⟩) else 0)
            * Ideal.div 1 ((∑ a : Fin 5, ∑ b : Fin 5, if inR q.val b.val then d14 (ix2 0 ⟨386 - 64 * a.val - b.val + q.val, by omega⟩) else 0) + Ideal.ofBits .f32 0x2EDBE6FF#32)
            + (x0 : S1x1x8.Idx → EReal) (ix3 0 0 ⟨ch.val + 1, by omega⟩))
        + Ideal.ofBits .f32 0x42FF0000#32 : EReal) := by
  unfold outOf
  rw [foldPieces_eq, View.read_writes_cons_put (e := .f32) (ms0_7 pt0).view _ _ _ _ rfl, View.read_writes_cons_put (e := .f32) (ms0_7 pt0).view _ _ _ _ rfl, View.read_writes_cons_put (e := .f32) (ms0_7 pt0).view _ _ _ _ rfl]
  refine (putrow_at _ 2 _ ch q).trans ?_
  fin_cases ch
  · rw [if_neg (by decide)]
    refine (putrow_at _ 1 _ _ q).trans ?_
    rw [if_neg (by decide)]
    refine (putrow_at _ 0 _ _ q).trans ?_
    rw [if_pos rfl, finV_at, numV0_at, rdenV_at, denV_at, pick_scalar x0 1 _ (by decide)]
    rfl
  · rw [if_neg (by decide)]
    refine (putrow_at _ 1 _ _ q).trans ?_
    rw [if_pos rfl, finV_at, numV1_at, rdenV_at, denV_at, pick_scalar x0 2 _ (by decide)]
    rfl
  · rw [if_pos rfl, finV_at, numV2_at, rdenV_at, denV_at, pick_scalar x0 3 _ (by decide)]
    rfl

/-- The zero word is zero. -/
theorem zero_word : Ideal.ofBits .f32 0#32 = (0 : EReal) := by simp [Ideal.ofBits, Ideal.ieee]

variable (m : (ℓ : Loc nD τ sig) → Buf (Elt Ideal) ℓ)

/-- The padded weighted patches entry by entry. -/
theorem imrA_at (c : Dev nD) (a : ℕ) (f : Fin 75) (v : Fin 4608) :
    (imrA m c a : S75x4608.Idx → EReal) (ix2 f v)
      = (if 256 ≤ v.val ∧ v.val < 4352 then (bI m c (16 * a + (v.val - 256) / 256) : S75x256.Idx → EReal) (ix2 f ⟨(v.val - 256) % 256, Nat.mod_lt _ (by decide)⟩) else 0 : EReal) := by
  unfold imrA assemble
  by_cases h : 256 ≤ v.val ∧ v.val < 4352
  · rw [if_pos h]
    refine (if_pos h).trans ?_
    rfl
  · rw [if_neg h]
    refine (if_neg h).trans ?_
    unfold padI put
    split_ifs
    · exact zero_word
    · exact zero_word
    · exact zero_word

/-- The padded weights entry by entry. -/
theorem pwA_at (c : Dev nD) (a : ℕ) (v : Fin 4608) :
    (pwA m c a : S1x4608.Idx → EReal) (ix2 0 v)
      = (if 256 ≤ v.val ∧ v.val < 4352 then (bP m c (16 * a + (v.val - 256) / 256) : S1x256.Idx → EReal) (ix2 0 ⟨(v.val - 256) % 256, Nat.mod_lt _ (by decide)⟩) else 0 : EReal) := by
  unfold pwA assemble
  by_cases h : 256 ≤ v.val ∧ v.val < 4352
  · rw [if_pos h]
    refine (if_pos h).trans ?_
    rfl
  · rw [if_neg h]
    refine (if_neg h).trans ?_
    unfold padP put
    split_ifs
    · exact zero_word
    · exact zero_word
    · exact zero_word

end Cert.KernelIdeal.Gen
-- ==== Proof.RefFold.lean ====
module

public import proofs.«01_k».proof.Proof.RefOps
public import Idealize.ShloMosaic.Lib.Pointwise
public import Idealize.ShloMosaic.Lib.SortFacts
public import Idealize.ShloMosaic.Lib.KernelVsHost
public import Idealize.ShloMosaic.Lib.Routing.OpsPair

@[expose] public section

set_option maxRecDepth 65536

noncomputable section

namespace Cert.ReferenceIdeal.Value

open Idealize.ShloMosaic Idealize.ShloMosaic.TcCoe Idealize.ShloMosaic.Tactic
open Idealize.ShloMosaic.StableHlo Cert.ReferenceIdeal Cert.ReferenceIdeal.Gen

variable (V0 : Valuation τ sig (Elt Ideal))

/-- The words of the places of one shift. -/
def wordR (A B : BitVec 32) : IVec S4096 32 :=
  addi (muli (addi (res_main_v198 V0) (broadcastInDim S4096 ![] bcast_S_S4096 (constantI S_ 32 A))) (broadcastInDim S4096 ![] bcast_S_S4096 (constantI S_ 32 68#32))) (addi (res_main_v199 V0) (broadcastInDim S4096 ![] bcast_S_S4096 (constantI S_ 32 B)))

/-- The words, as written for the scatter. -/
def sidxR (V : IVec S4096 32) : IVec S4096x1 32 :=
  broadcastInDim S4096x1 ![0] bcast_S4096_S4096x1_0 (select (cmpi .slt V (broadcastInDim S4096 ![] bcast_S_S4096 (constantI S_ 32 0#32))) (addi V (broadcastInDim S4096 ![] bcast_S_S4096 (constantI S_ 32 4624#32))) V)

/-- One accumulating scatter of the canvas. -/
def stepR (V : IVec S4096 32) (u : FVec Ideal S2x3x4096 .f32) (x : FVec Ideal S2x3x4624 .f32) : FVec Ideal S2x3x4624 .f32 :=
  Host.scatterAdd scatter_S2x3x4624_S4096x1_S2x3x4096_01_2_2_1 x (sidxR V) u

/-- The place of a query under one shift. -/
theorem wordR_at (a b : Fin 5) (q : Fin 4096) :
    wordR V0 (BitVec.ofNat 32 a.val) (BitVec.ofNat 32 b.val) (ix1 q) = BitVec.ofNat 32 ((q.val / 64 + a.val) * 68 + (q.val % 64 + b.val)) := by
  unfold wordR res_main_v198 res_main_v199
  pointwise
  apply BitVec.eq_of_toNat_eq
  have := q.isLt
  have := a.isLt
  have := b.isLt
  simp only [IntOp.addi, IntOp.muli, BitVec.toNat_add, BitVec.toNat_mul, BitVec.toNat_ofNat]
  omega

/-- No word is negative, so the scatter goes by the words themselves. -/
theorem sidxR_at (V : IVec S4096 32) (P : Fin 4096 → ℕ) (hP : ∀ q, P q < 4624) (hV : ∀ q, V (ix1 q) = BitVec.ofNat 32 (P q)) (q : Fin 4096) :
    sidxR V (ix2 q 0) = BitVec.ofNat 32 (P q) := by
  have hn : ¬ (BitVec.slt (BitVec.ofNat 32 (P q)) 0#32 = true) := by
    have := hP q
    rw [BitVec.slt_eq_decide, decide_eq_true_eq, BitVec.toInt_eq_toNat_of_lt (by rw [BitVec.toNat_ofNat]; omega), BitVec.toInt_eq_toNat_of_lt (by decide), BitVec.toNat_ofNat]
    simp only [BitVec.toNat_ofNat]
    omega
  unfold sidxR
  pointwise
  rw [hV]
  simp [Scalar.select, IntOp.cmpi, hn]

/-- What one shift adds at a place of the image: the update of the one query whose patch covers it there, if any. -/
def hit (X : S2x4096x3x5x5.Idx → EReal) (t : Fin 2) (c : Fin 3) (y x : Fin 64) (a b : Fin 5) : EReal :=
  if h : a.val ≤ y.val + 2 ∧ y.val + 2 - a.val < 64 ∧ b.val ≤ x.val + 2 ∧ x.val + 2 - b.val < 64 then
    X (ix5 t ⟨(y.val + 2 - a.val) * 64 + (x.val + 2 - b.val), by omega⟩ c a b) else 0

/-- One scatter at a place of the image. -/
theorem stepR_at (X : S2x4096x3x5x5.Idx → EReal) (a b : Fin 5) (u : FVec Ideal S2x3x4096 .f32) (x0 : FVec Ideal S2x3x4624 .f32)
    (t : Fin 2) (c : Fin 3) (y x : Fin 64) (hu : ∀ q, (u (ix3 t c q) : EReal) = X (ix5 t q c a b)) :
    (stepR (wordR V0 (BitVec.ofNat 32 a.val) (BitVec.ofNat 32 b.val)) u x0 : S2x3x4624.Idx → EReal) (ix3 t c ⟨(y.val + 2) * 68 + (x.val + 2), by omega⟩)
      = (x0 (ix3 t c ⟨(y.val + 2) * 68 + (x.val + 2), by omega⟩) : EReal) + hit X t c y x a b := by
  have hP : ∀ q : Fin 4096, (q.val / 64 + a.val) * 68 + (q.val % 64 + b.val) < 4624 := by
    intro q; omega
  refine (scatter_at x0 _ u (fun q => (q.val / 64 + a.val) * 68 + (q.val % 64 + b.val)) hP
    (sidxR_at _ _ hP (wordR_at V0 a b)) t c _).trans ?_
  congr 1
  unfold hit
  split_ifs with h
  · rw [Finset.sum_eq_single_of_mem (⟨(y.val + 2 - a.val) * 64 + (x.val + 2 - b.val), by omega⟩ : Fin 4096)]
    · exact hu _
    · refine Finset.mem_filter.mpr ⟨Finset.mem_univ _, ?_⟩
      show (((y.val + 2 - a.val) * 64 + (x.val + 2 - b.val)) / 64 + a.val) * 68 + (((y.val + 2 - a.val) * 64 + (x.val + 2 - b.val)) % 64 + b.val) = (y.val + 2) * 68 + (x.val + 2)
      omega
    · intro q hq hne
      refine absurd (Fin.ext ?_) hne
      have := (Finset.mem_filter.mp hq).2
      show q.val = (y.val + 2 - a.val) * 64 + (x.val + 2 - b.val)
      have h3 : (q.val / 64 + a.val) * 68 + (q.val % 64 + b.val) = (y.val + 2) * 68 + (x.val + 2) := this
      omega
  · refine Finset.sum_eq_zero fun q hq => ?_
    have h3 : (q.val / 64 + a.val) * 68 + (q.val % 64 + b.val) = (y.val + 2) * 68 + (x.val + 2) := (Finset.mem_filter.mp hq).2
    exfalso
    apply h
    omega

/-- The empty canvas. -/
def cR0 : FVec Ideal S2x3x4624 .f32 := broadcastInDim S2x3x4624 ![] bcast_S_S2x3x4624 (constant S_ .f32 0x00000000#32)

/-- The empty canvas is zero. -/
theorem cR0_at (t : Fin 2) (c : Fin 3) (p : Fin 4624) : (cR0 : S2x3x4624.Idx → EReal) (ix3 t c p) = (0 : EReal) := by
  unfold cR0
  pointwise

/-- One shift's update. -/
def upd00 (X : FVec Ideal S2x4096x3x5x5 .f32) : FVec Ideal S2x3x4096 .f32 :=
  transpose S2x3x4096 [0, 2, 1] (shapeCast _ (extractStridedSlice S2x4096x3x1x1 ![0, 0, 0, 0, 0] X slices_S2x4096x3x5x5_S2x4096x3x1x1_0_0_0_0_0 : FVec Ideal S2x4096x3x1x1 .f32) shapeCasts_S2x4096x3x1x1_S2x4096x3) transposes_S2x4096x3_S2x3x4096_0_2_1

/-- One shift's update, at an entry. -/
theorem upd00_at (X : FVec Ideal S2x4096x3x5x5 .f32) (t : Fin 2) (c : Fin 3) (q : Fin 4096) :
    (upd00 X : S2x3x4096.Idx → EReal) (ix3 t c q) = (X (ix5 t q c 0 0) : EReal) := by
  unfold upd00
  pointwise

/-- The canvas after 1 shifts. -/
def cR1 (X : FVec Ideal S2x4096x3x5x5 .f32) : FVec Ideal S2x3x4624 .f32 := stepR (res_main_v208 V0) (upd00 X) cR0

/-- The canvas after 1 shifts, at a place of the image. -/
theorem cR1_at (X : FVec Ideal S2x4096x3x5x5 .f32) (t : Fin 2) (c : Fin 3) (y x : Fin 64) :
    (cR1 V0 X : S2x3x4624.Idx → EReal) (ix3 t c ⟨(y.val + 2) * 68 + (x.val + 2), by omega⟩)
      = (cR0 (ix3 t c ⟨(y.val + 2) * 68 + (x.val + 2), by omega⟩) : EReal) + hit X t c y x 0 0 :=
  stepR_at V0 X 0 0 _ _ t c y x fun q => upd00_at X t c q

/-- One shift's update. -/
def upd01 (X : FVec Ideal S2x4096x3x5x5 .f32) : FVec Ideal S2x3x4096 .f32 :=
  transpose S2x3x4096 [0, 2, 1] (shapeCast _ (extractStridedSlice S2x4096x3x1x1 ![0, 0, 0, 0, 1] X slices_S2x4096x3x5x5_S2x4096x3x1x1_0_0_0_0_1 : FVec Ideal S2x4096x3x1x1 .f32) shapeCasts_S2x4096x3x1x1_S2x4096x3) transposes_S2x4096x3_S2x3x4096_0_2_1

/-- One shift's update, at an entry. -/
theorem upd01_at (X : FVec Ideal S2x4096x3x5x5 .f32) (t : Fin 2) (c : Fin 3) (q : Fin 4096) :
    (upd01 X : S2x3x4096.Idx → EReal) (ix3 t c q) = (X (ix5 t q c 0 1) : EReal) := by
  unfold upd01
  pointwise

/-- The canvas after 2 shifts. -/
def cR2 (X : FVec Ideal S2x4096x3x5x5 .f32) : FVec Ideal S2x3x4624 .f32 := stepR (res_main_v235 V0) (upd01 X) (cR1 V0 X)

/-- The canvas after 2 shifts, at a place of the image. -/
theorem cR2_at (X : FVec Ideal S2x4096x3x5x5 .f32) (t : Fin 2) (c : Fin 3) (y x : Fin 64) :
    (cR2 V0 X : S2x3x4624.Idx → EReal) (ix3 t c ⟨(y.val + 2) * 68 + (x.val + 2), by omega⟩)
      = (cR1 V0 X (ix3 t c ⟨(y.val + 2) * 68 + (x.val + 2), by omega⟩) : EReal) + hit X t c y x 0 1 :=
  stepR_at V0 X 0 1 _ _ t c y x fun q => upd01_at X t c q

/-- One shift's update. -/
def upd02 (X : FVec Ideal S2x4096x3x5x5 .f32) : FVec Ideal S2x3x4096 .f32 :=
  transpose S2x3x4096 [0, 2, 1] (shapeCast _ (extractStridedSlice S2x4096x3x1x1 ![0, 0, 0, 0, 2] X slices_S2x4096x3x5x5_S2x4096x3x1x1_0_0_0_0_2 : FVec Ideal S2x4096x3x1x1 .f32) shapeCasts_S2x4096x3x1x1_S2x4096x3) transposes_S2x4096x3_S2x3x4096_0_2_1

/-- One shift's update, at an entry. -/
theorem upd02_at (X : FVec Ideal S2x4096x3x5x5 .f32) (t : Fin 2) (c : Fin 3) (q : Fin 4096) :
    (upd02 X : S2x3x4096.Idx → EReal) (ix3 t c q) = (X (ix5 t q c 0 2) : EReal) := by
  unfold upd02
  pointwise

/-- The canvas after 3 shifts. -/
def cR3 (X : FVec Ideal S2x4096x3x5x5 .f32) : FVec Ideal S2x3x4624 .f32 := stepR (res_main_v262 V0) (upd02 X) (cR2 V0 X)

/-- The canvas after 3 shifts, at a place of the image. -/
theorem cR3_at (X : FVec Ideal S2x4096x3x5x5 .f32) (t : Fin 2) (c : Fin 3) (y x : Fin 64) :
    (cR3 V0 X : S2x3x4624.Idx → EReal) (ix3 t c ⟨(y.val + 2) * 68 + (x.val + 2), by omega⟩)
      = (cR2 V0 X (ix3 t c ⟨(y.val + 2) * 68 + (x.val + 2), by omega⟩) : EReal) + hit X t c y x 0 2 :=
  stepR_at V0 X 0 2 _ _ t c y x fun q => upd02_at X t c q

/-- One shift's update. -/
def upd03 (X : FVec Ideal S2x4096x3x5x5 .f32) : FVec Ideal S2x3x4096 .f32 :=
  transpose S2x3x4096 [0, 2, 1] (shapeCast _ (extractStridedSlice S2x4096x3x1x1 ![0, 0, 0, 0, 3] X slices_S2x4096x3x5x5_S2x4096x3x1x1_0_0_0_0_3 : FVec Ideal S2x4096x3x1x1 .f32) shapeCasts_S2x4096x3x1x1_S2x4096x3) transposes_S2x4096x3_S2x3x4096_0_2_1

/-- One shift's update, at an entry. -/
theorem upd03_at (X : FVec Ideal S2x4096x3x5x5 .f32) (t : Fin 2) (c : Fin 3) (q : Fin 4096) :
    (upd03 X : S2x3x4096.Idx → EReal) (ix3 t c q) = (X (ix5 t q c 0 3) : EReal) := by
  unfold upd03
  pointwise

/-- The canvas after 4 shifts. -/
def cR4 (X : FVec Ideal S2x4096x3x5x5 .f32) : FVec Ideal S2x3x4624 .f32 := stepR (res_main_v289 V0) (upd03 X) (cR3 V0 X)

/-- The canvas after 4 shifts, at a place of the image. -/
theorem cR4_at (X : FVec Ideal S2x4096x3x5x5 .f32) (t : Fin 2) (c : Fin 3) (y x : Fin 64) :
    (cR4 V0 X : S2x3x4624.Idx → EReal) (ix3 t c ⟨(y.val + 2) * 68 + (x.val + 2), by omega⟩)
      = (cR3 V0 X (ix3 t c ⟨(y.val + 2) * 68 + (x.val + 2), by omega⟩) : EReal) + hit X t c y x 0 3 :=
  stepR_at V0 X 0 3 _ _ t c y x fun q => upd03_at X t c q

/-- One shift's update. -/
def upd04 (X : FVec Ideal S2x4096x3x5x5 .f32) : FVec Ideal S2x3x4096 .f32 :=
  transpose S2x3x4096 [0, 2, 1] (shapeCast _ (extractStridedSlice S2x4096x3x1x1 ![0, 0, 0, 0, 4] X slices_S2x4096x3x5x5_S2x4096x3x1x1_0_0_0_0_4 : FVec Ideal S2x4096x3x1x1 .f32) shapeCasts_S2x4096x3x1x1_S2x4096x3) transposes_S2x4096x3_S2x3x4096_0_2_1

/-- One shift's update, at an entry. -/
theorem upd04_at (X : FVec Ideal S2x4096x3x5x5 .f32) (t : Fin 2) (c : Fin 3) (q : Fin 4096) :
    (upd04 X : S2x3x4096.Idx → EReal) (ix3 t c q) = (X (ix5 t q c 0 4) : EReal) := by
  unfold upd04
  pointwise

/-- The canvas after 5 shifts. -/
def cR5 (X : FVec Ideal S2x4096x3x5x5 .f32) : FVec Ideal S2x3x4624 .f32 := stepR (res_main_v316 V0) (upd04 X) (cR4 V0 X)

/-- The canvas after 5 shifts, at a place of the image. -/
theorem cR5_at (X : FVec Ideal S2x4096x3x5x5 .f32) (t : Fin 2) (c : Fin 3) (y x : Fin 64) :
    (cR5 V0 X : S2x3x4624.Idx → EReal) (ix3 t c ⟨(y.val + 2) * 68 + (x.val + 2), by omega⟩)
      = (cR4 V0 X (ix3 t c ⟨(y.val + 2) * 68 + (x.val + 2), by omega⟩) : EReal) + hit X t c y x 0 4 :=
  stepR_at V0 X 0 4 _ _ t c y x fun q => upd04_at X t c q

/-- One shift's update. -/
def upd10 (X : FVec Ideal S2x4096x3x5x5 .f32) : FVec Ideal S2x3x4096 .f32 :=
  transpose S2x3x4096 [0, 2, 1] (shapeCast _ (extractStridedSlice S2x4096x3x1x1 ![0, 0, 0, 1, 0] X slices_S2x4096x3x5x5_S2x4096x3x1x1_0_0_0_1_0 : FVec Ideal S2x4096x3x1x1 .f32) shapeCasts_S2x4096x3x1x1_S2x4096x3) transposes_S2x4096x3_S2x3x4096_0_2_1

/-- One shift's update, at an entry. -/
theorem upd10_at (X : FVec Ideal S2x4096x3x5x5 .f32) (t : Fin 2) (c : Fin 3) (q : Fin 4096) :
    (upd10 X : S2x3x4096.Idx → EReal) (ix3 t c q) = (X (ix5 t q c 1 0) : EReal) := by
  unfold upd10
  pointwise

/-- The canvas after 6 shifts. -/
def cR6 (X : FVec Ideal S2x4096x3x5x5 .f32) : FVec Ideal S2x3x4624 .f32 := stepR (res_main_v343 V0) (upd10 X) (cR5 V0 X)

/-- The canvas after 6 shifts, at a place of the image. -/
theorem cR6_at (X : FVec Ideal S2x4096x3x5x5 .f32) (t : Fin 2) (c : Fin 3) (y x : Fin 64) :
    (cR6 V0 X : S2x3x4624.Idx → EReal) (ix3 t c ⟨(y.val + 2) * 68 + (x.val + 2), by omega⟩)
      = (cR5 V0 X (ix3 t c ⟨(y.val + 2) * 68 + (x.val + 2), by omega⟩) : EReal) + hit X t c y x 1 0 :=
  stepR_at V0 X 1 0 _ _ t c y x fun q => upd10_at X t c q

/-- One shift's update. -/
def upd11 (X : FVec Ideal S2x4096x3x5x5 .f32) : FVec Ideal S2x3x4096 .f32 :=
  transpose S2x3x4096 [0, 2, 1] (shapeCast _ (extractStridedSlice S2x4096x3x1x1 ![0, 0, 0, 1, 1] X slices_S2x4096x3x5x5_S2x4096x3x1x1_0_0_0_1_1 : FVec Ideal S2x4096x3x1x1 .f32) shapeCasts_S2x4096x3x1x1_S2x4096x3) transposes_S2x4096x3_S2x3x4096_0_2_1

/-- One shift's update, at an entry. -/
theorem upd11_at (X : FVec Ideal S2x4096x3x5x5 .f32) (t : Fin 2) (c : Fin 3) (q : Fin 4096) :
    (upd11 X : S2x3x4096.Idx → EReal) (ix3 t c q) = (X (ix5 t q c 1 1) : EReal) := by
  unfold upd11
  pointwise

/-- The canvas after 7 shifts. -/
def cR7 (X : FVec Ideal S2x4096x3x5x5 .f32) : FVec Ideal S2x3x4624 .f32 := stepR (res_main_v370 V0) (upd11 X) (cR6 V0 X)

/-- The canvas after 7 shifts, at a place of the image. -/
theorem cR7_at (X : FVec Ideal S2x4096x3x5x5 .f32) (t : Fin 2) (c : Fin 3) (y x : Fin 64) :
    (cR7 V0 X : S2x3x4624.Idx → EReal) (ix3 t c ⟨(y.val + 2) * 68 + (x.val + 2), by omega⟩)
      = (cR6 V0 X (ix3 t c ⟨(y.val + 2) * 68 + (x.val + 2), by omega⟩) : EReal) + hit X t c y x 1 1 :=
  stepR_at V0 X 1 1 _ _ t c y x fun q => upd11_at X t c q

/-- One shift's update. -/
def upd12 (X : FVec Ideal S2x4096x3x5x5 .f32) : FVec Ideal S2x3x4096 .f32 :=
  transpose S2x3x4096 [0, 2, 1] (shapeCast _ (extractStridedSlice S2x4096x3x1x1 ![0, 0, 0, 1, 2] X slices_S2x4096x3x5x5_S2x4096x3x1x1_0_0_0_1_2 : FVec Ideal S2x4096x3x1x1 .f32) shapeCasts_S2x4096x3x1x1_S2x4096x3) transposes_S2x4096x3_S2x3x4096_0_2_1

/-- One shift's update, at an entry. -/
theorem upd12_at (X : FVec Ideal S2x4096x3x5x5 .f32) (t : Fin 2) (c : Fin 3) (q : Fin 4096) :
    (upd12 X : S2x3x4096.Idx → EReal) (ix3 t c q) = (X (ix5 t q c 1 2) : EReal) := by
  unfold upd12
  pointwise

/-- The canvas after 8 shifts. -/
def cR8 (X : FVec Ideal S2x4096x3x5x5 .f32) : FVec Ideal S2x3x4624 .f32 := stepR (res_main_v397 V0) (upd12 X) (cR7 V0 X)

/-- The canvas after 8 shifts, at a place of the image. -/
theorem cR8_at (X : FVec Ideal S2x4096x3x5x5 .f32) (t : Fin 2) (c : Fin 3) (y x : Fin 64) :
    (cR8 V0 X : S2x3x4624.Idx → EReal) (ix3 t c ⟨(y.val + 2) * 68 + (x.val + 2), by omega⟩)
      = (cR7 V0 X (ix3 t c ⟨(y.val + 2) * 68 + (x.val + 2), by omega⟩) : EReal) + hit X t c y x 1 2 :=
  stepR_at V0 X 1 2 _ _ t c y x fun q => upd12_at X t c q

/-- One shift's update. -/
def upd13 (X : FVec Ideal S2x4096x3x5x5 .f32) : FVec Ideal S2x3x4096 .f32 :=
  transpose S2x3x4096 [0, 2, 1] (shapeCast _ (extractStridedSlice S2x4096x3x1x1 ![0, 0, 0, 1, 3] X slices_S2x4096x3x5x5_S2x4096x3x1x1_0_0_0_1_3 : FVec Ideal S2x4096x3x1x1 .f32) shapeCasts_S2x4096x3x1x1_S2x4096x3) transposes_S2x4096x3_S2x3x4096_0_2_1

/-- One shift's update, at an entry. -/
theorem upd13_at (X : FVec Ideal S2x4096x3x5x5 .f32) (t : Fin 2) (c : Fin 3) (q : Fin 4096) :
    (upd13 X : S2x3x4096.Idx → EReal) (ix3 t c q) = (X (ix5 t q c 1 3) : EReal) := by
  unfold upd13
  pointwise

/-- The canvas after 9 shifts. -/
def cR9 (X : FVec Ideal S2x4096x3x5x5 .f32) : FVec Ideal S2x3x4624 .f32 := stepR (res_main_v424 V0) (upd13 X) (cR8 V0 X)

/-- The canvas after 9 shifts, at a place of the image. -/
theorem cR9_at (X : FVec Ideal S2x4096x3x5x5 .f32) (t : Fin 2) (c : Fin 3) (y x : Fin 64) :
    (cR9 V0 X : S2x3x4624.Idx → EReal) (ix3 t c ⟨(y.val + 2) * 68 + (x.val + 2), by omega⟩)
      = (cR8 V0 X (ix3 t c ⟨(y.val + 2) * 68 + (x.val + 2), by omega⟩) : EReal) + hit X t c y x 1 3 :=
  stepR_at V0 X 1 3 _ _ t c y x fun q => upd13_at X t c q

/-- One shift's update. -/
def upd14 (X : FVec Ideal S2x4096x3x5x5 .f32) : FVec Ideal S2x3x4096 .f32 :=
  transpose S2x3x4096 [0, 2, 1] (shapeCast _ (extractStridedSlice S2x4096x3x1x1 ![0, 0, 0, 1, 4] X slices_S2x4096x3x5x5_S2x4096x3x1x1_0_0_0_1_4 : FVec Ideal S2x4096x3x1x1 .f32) shapeCasts_S2x4096x3x1x1_S2x4096x3) transposes_S2x4096x3_S2x3x4096_0_2_1

/-- One shift's update, at an entry. -/
theorem upd14_at (X : FVec Ideal S2x4096x3x5x5 .f32) (t : Fin 2) (c : Fin 3) (q : Fin 4096) :
    (upd14 X : S2x3x4096.Idx → EReal) (ix3 t c q) = (X (ix5 t q c 1 4) : EReal) := by
  unfold upd14
  pointwise

/-- The canvas after 10 shifts. -/
def cR10 (X : FVec Ideal S2x4096x3x5x5 .f32) : FVec Ideal S2x3x4624 .f32 := stepR (res_main_v451 V0) (upd14 X) (cR9 V0 X)

/-- The canvas after 10 shifts, at a place of the image. -/
theorem cR10_at (X : FVec Ideal S2x4096x3x5x5 .f32) (t : Fin 2) (c : Fin 3) (y x : Fin 64) :
    (cR10 V0 X : S2x3x4624.Idx → EReal) (ix3 t c ⟨(y.val + 2) * 68 + (x.val + 2), by omega⟩)
      = (cR9 V0 X (ix3 t c ⟨(y.val + 2) * 68 + (x.val + 2), by omega⟩) : EReal) + hit X t c y x 1 4 :=
  stepR_at V0 X 1 4 _ _ t c y x fun q => upd14_at X t c q

/-- One shift's update. -/
def upd20 (X : FVec Ideal S2x4096x3x5x5 .f32) : FVec Ideal S2x3x4096 .f32 :=
  transpose S2x3x4096 [0, 2, 1] (shapeCast _ (extractStridedSlice S2x4096x3x1x1 ![0, 0, 0, 2, 0] X slices_S2x4096x3x5x5_S2x4096x3x1x1_0_0_0_2_0 : FVec Ideal S2x4096x3x1x1 .f32) shapeCasts_S2x4096x3x1x1_S2x4096x3) transposes_S2x4096x3_S2x3x4096_0_2_1

/-- One shift's update, at an entry. -/
theorem upd20_at (X : FVec Ideal S2x4096x3x5x5 .f32) (t : Fin 2) (c : Fin 3) (q : Fin 4096) :
    (upd20 X : S2x3x4096.Idx → EReal) (ix3 t c q) = (X (ix5 t q c 2 0) : EReal) := by
  unfold upd20
  pointwise

/-- The canvas after 11 shifts. -/
def cR11 (X : FVec Ideal S2x4096x3x5x5 .f32) : FVec Ideal S2x3x4624 .f32 := stepR (res_main_v478 V0) (upd20 X) (cR10 V0 X)

/-- The canvas after 11 shifts, at a place of the image. -/
theorem cR11_at (X : FVec Ideal S2x4096x3x5x5 .f32) (t : Fin 2) (c : Fin 3) (y x : Fin 64) :
    (cR11 V0 X : S2x3x4624.Idx → EReal) (ix3 t c ⟨(y.val + 2) * 68 + (x.val + 2), by omega⟩)
      = (cR10 V0 X (ix3 t c ⟨(y.val + 2) * 68 + (x.val + 2), by omega⟩) : EReal) + hit X t c y x 2 0 :=
  stepR_at V0 X 2 0 _ _ t c y x fun q => upd20_at X t c q

/-- One shift's update. -/
def upd21 (X : FVec Ideal S2x4096x3x5x5 .f32) : FVec Ideal S2x3x4096 .f32 :=
  transpose S2x3x4096 [0, 2, 1] (shapeCast _ (extractStridedSlice S2x4096x3x1x1 ![0, 0, 0, 2, 1] X slices_S2x4096x3x5x5_S2x4096x3x1x1_0_0_0_2_1 : FVec Ideal S2x4096x3x1x1 .f32) shapeCasts_S2x4096x3x1x1_S2x4096x3) transposes_S2x4096x3_S2x3x4096_0_2_1

/-- One shift's update, at an entry. -/
theorem upd21_at (X : FVec Ideal S2x4096x3x5x5 .f32) (t : Fin 2) (c : Fin 3) (q : Fin 4096) :
    (upd21 X : S2x3x4096.Idx → EReal) (ix3 t c q) = (X (ix5 t q c 2 1) : EReal) := by
  unfold upd21
  pointwise

/-- The canvas after 12 shifts. -/
def cR12 (X : FVec Ideal S2x4096x3x5x5 .f32) : FVec Ideal S2x3x4624 .f32 := stepR (res_main_v505 V0) (upd21 X) (cR11 V0 X)

/-- The canvas after 12 shifts, at a place of the image. -/
theorem cR12_at (X : FVec Ideal S2x4096x3x5x5 .f32) (t : Fin 2) (c : Fin 3) (y x : Fin 64) :
    (cR12 V0 X : S2x3x4624.Idx → EReal) (ix3 t c ⟨(y.val + 2) * 68 + (x.val + 2), by omega⟩)
      = (cR11 V0 X (ix3 t c ⟨(y.val + 2) * 68 + (x.val + 2), by omega⟩) : EReal) + hit X t c y x 2 1 :=
  stepR_at V0 X 2 1 _ _ t c y x fun q => upd21_at X t c q

/-- One shift's update. -/
def upd22 (X : FVec Ideal S2x4096x3x5x5 .f32) : FVec Ideal S2x3x4096 .f32 :=
  transpose S2x3x4096 [0, 2, 1] (shapeCast _ (extractStridedSlice S2x4096x3x1x1 ![0, 0, 0, 2, 2] X slices_S2x4096x3x5x5_S2x4096x3x1x1_0_0_0_2_2 : FVec Ideal S2x4096x3x1x1 .f32) shapeCasts_S2x4096x3x1x1_S2x4096x3) transposes_S2x4096x3_S2x3x4096_0_2_1

/-- One shift's update, at an entry. -/
theorem upd22_at (X : FVec Ideal S2x4096x3x5x5 .f32) (t : Fin 2) (c : Fin 3) (q : Fin 4096) :
    (upd22 X : S2x3x4096.Idx → EReal) (ix3 t c q) = (X (ix5 t q c 2 2) : EReal) := by
  unfold upd22
  pointwise

/-- The canvas after 13 shifts. -/
def cR13 (X : FVec Ideal S2x4096x3x5x5 .f32) : FVec Ideal S2x3x4624 .f32 := stepR (res_main_v532 V0) (upd22 X) (cR12 V0 X)

/-- The canvas after 13 shifts, at a place of the image. -/
theorem cR13_at (X : FVec Ideal S2x4096x3x5x5 .f32) (t : Fin 2) (c : Fin 3) (y x : Fin 64) :
    (cR13 V0 X : S2x3x4624.Idx → EReal) (ix3 t c ⟨(y.val + 2) * 68 + (x.val + 2), by omega⟩)
      = (cR12 V0 X (ix3 t c ⟨(y.val + 2) * 68 + (x.val + 2), by omega⟩) : EReal) + hit X t c y x 2 2 :=
  stepR_at V0 X 2 2 _ _ t c y x fun q => upd22_at X t c q

/-- One shift's update. -/
def upd23 (X : FVec Ideal S2x4096x3x5x5 .f32) : FVec Ideal S2x3x4096 .f32 :=
  transpose S2x3x4096 [0, 2, 1] (shapeCast _ (extractStridedSlice S2x4096x3x1x1 ![0, 0, 0, 2, 3] X slices_S2x4096x3x5x5_S2x4096x3x1x1_0_0_0_2_3 : FVec Ideal S2x4096x3x1x1 .f32) shapeCasts_S2x4096x3x1x1_S2x4096x3) transposes_S2x4096x3_S2x3x4096_0_2_1

/-- One shift's update, at an entry. -/
theorem upd23_at (X : FVec Ideal S2x4096x3x5x5 .f32) (t : Fin 2) (c : Fin 3) (q : Fin 4096) :
    (upd23 X : S2x3x4096.Idx → EReal) (ix3 t c q) = (X (ix5 t q c 2 3) : EReal) := by
  unfold upd23
  pointwise

/-- The canvas after 14 shifts. -/
def cR14 (X : FVec Ideal S2x4096x3x5x5 .f32) : FVec Ideal S2x3x4624 .f32 := stepR (res_main_v559 V0) (upd23 X) (cR13 V0 X)

/-- The canvas after 14 shifts, at a place of the image. -/
theorem cR14_at (X : FVec Ideal S2x4096x3x5x5 .f32) (t : Fin 2) (c : Fin 3) (y x : Fin 64) :
    (cR14 V0 X : S2x3x4624.Idx → EReal) (ix3 t c ⟨(y.val + 2) * 68 + (x.val + 2), by omega⟩)
      = (cR13 V0 X (ix3 t c ⟨(y.val + 2) * 68 + (x.val + 2), by omega⟩) : EReal) + hit X t c y x 2 3 :=
  stepR_at V0 X 2 3 _ _ t c y x fun q => upd23_at X t c q

/-- One shift's update. -/
def upd24 (X : FVec Ideal S2x4096x3x5x5 .f32) : FVec Ideal S2x3x4096 .f32 :=
  transpose S2x3x4096 [0, 2, 1] (shapeCast _ (extractStridedSlice S2x4096x3x1x1 ![0, 0, 0, 2, 4] X slices_S2x4096x3x5x5_S2x4096x3x1x1_0_0_0_2_4 : FVec Ideal S2x4096x3x1x1 .f32) shapeCasts_S2x4096x3x1x1_S2x4096x3) transposes_S2x4096x3_S2x3x4096_0_2_1

/-- One shift's update, at an entry. -/
theorem upd24_at (X : FVec Ideal S2x4096x3x5x5 .f32) (t : Fin 2) (c : Fin 3) (q : Fin 4096) :
    (upd24 X : S2x3x4096.Idx → EReal) (ix3 t c q) = (X (ix5 t q c 2 4) : EReal) := by
  unfold upd24
  pointwise

/-- The canvas after 15 shifts. -/
def cR15 (X : FVec Ideal S2x4096x3x5x5 .f32) : FVec Ideal S2x3x4624 .f32 := stepR (res_main_v586 V0) (upd24 X) (cR14 V0 X)

/-- The canvas after 15 shifts, at a place of the image. -/
theorem cR15_at (X : FVec Ideal S2x4096x3x5x5 .f32) (t : Fin 2) (c : Fin 3) (y x : Fin 64) :
    (cR15 V0 X : S2x3x4624.Idx → EReal) (ix3 t c ⟨(y.val + 2) * 68 + (x.val + 2), by omega⟩)
      = (cR14 V0 X (ix3 t c ⟨(y.val + 2) * 68 + (x.val + 2), by omega⟩) : EReal) + hit X t c y x 2 4 :=
  stepR_at V0 X 2 4 _ _ t c y x fun q => upd24_at X t c q

/-- One shift's update. -/
def upd30 (X : FVec Ideal S2x4096x3x5x5 .f32) : FVec Ideal S2x3x4096 .f32 :=
  transpose S2x3x4096 [0, 2, 1] (shapeCast _ (extractStridedSlice S2x4096x3x1x1 ![0, 0, 0, 3, 0] X slices_S2x4096x3x5x5_S2x4096x3x1x1_0_0_0_3_0 : FVec Ideal S2x4096x3x1x1 .f32) shapeCasts_S2x4096x3x1x1_S2x4096x3) transposes_S2x4096x3_S2x3x4096_0_2_1

/-- One shift's update, at an entry. -/
theorem upd30_at (X : FVec Ideal S2x4096x3x5x5 .f32) (t : Fin 2) (c : Fin 3) (q : Fin 4096) :
    (upd30 X : S2x3x4096.Idx → EReal) (ix3 t c q) = (X (ix5 t q c 3 0) : EReal) := by
  unfold upd30
  pointwise

/-- The canvas after 16 shifts. -/
def cR16 (X : FVec Ideal S2x4096x3x5x5 .f32) : FVec Ideal S2x3x4624 .f32 := stepR (res_main_v613 V0) (upd30 X) (cR15 V0 X)

/-- The canvas after 16 shifts, at a place of the image. -/
theorem cR16_at (X : FVec Ideal S2x4096x3x5x5 .f32) (t : Fin 2) (c : Fin 3) (y x : Fin 64) :
    (cR16 V0 X : S2x3x4624.Idx → EReal) (ix3 t c ⟨(y.val + 2) * 68 + (x.val + 2), by omega⟩)
      = (cR15 V0 X (ix3 t c ⟨(y.val + 2) * 68 + (x.val + 2), by omega⟩) : EReal) + hit X t c y x 3 0 :=
  stepR_at V0 X 3 0 _ _ t c y x fun q => upd30_at X t c q

/-- One shift's update. -/
def upd31 (X : FVec Ideal S2x4096x3x5x5 .f32) : FVec Ideal S2x3x4096 .f32 :=
  transpose S2x3x4096 [0, 2, 1] (shapeCast _ (extractStridedSlice S2x4096x3x1x1 ![0, 0, 0, 3, 1] X slices_S2x4096x3x5x5_S2x4096x3x1x1_0_0_0_3_1 : FVec Ideal S2x4096x3x1x1 .f32) shapeCasts_S2x4096x3x1x1_S2x4096x3) transposes_S2x4096x3_S2x3x4096_0_2_1

/-- One shift's update, at an entry. -/
theorem upd31_at (X : FVec Ideal S2x4096x3x5x5 .f32) (t : Fin 2) (c : Fin 3) (q : Fin 4096) :
    (upd31 X : S2x3x4096.Idx → EReal) (ix3 t c q) = (X (ix5 t q c 3 1) : EReal) := by
  unfold upd31
  pointwise

/-- The canvas after 17 shifts. -/
def cR17 (X : FVec Ideal S2x4096x3x5x5 .f32) : FVec Ideal S2x3x4624 .f32 := stepR (res_main_v640 V0) (upd31 X) (cR16 V0 X)

/-- The canvas after 17 shifts, at a place of the image. -/
theorem cR17_at (X : FVec Ideal S2x4096x3x5x5 .f32) (t : Fin 2) (c : Fin 3) (y x : Fin 64) :
    (cR17 V0 X : S2x3x4624.Idx → EReal) (ix3 t c ⟨(y.val + 2) * 68 + (x.val + 2), by omega⟩)
      = (cR16 V0 X (ix3 t c ⟨(y.val + 2) * 68 + (x.val + 2), by omega⟩) : EReal) + hit X t c y x 3 1 :=
  stepR_at V0 X 3 1 _ _ t c y x fun q => upd31_at X t c q

/-- One shift's update. -/
def upd32 (X : FVec Ideal S2x4096x3x5x5 .f32) : FVec Ideal S2x3x4096 .f32 :=
  transpose S2x3x4096 [0, 2, 1] (shapeCast _ (extractStridedSlice S2x4096x3x1x1 ![0, 0, 0, 3, 2] X slices_S2x4096x3x5x5_S2x4096x3x1x1_0_0_0_3_2 : FVec Ideal S2x4096x3x1x1 .f32) shapeCasts_S2x4096x3x1x1_S2x4096x3) transposes_S2x4096x3_S2x3x4096_0_2_1

/-- One shift's update, at an entry. -/
theorem upd32_at (X : FVec Ideal S2x4096x3x5x5 .f32) (t : Fin 2) (c : Fin 3) (q : Fin 4096) :
    (upd32 X : S2x3x4096.Idx → EReal) (ix3 t c q) = (X (ix5 t q c 3 2) : EReal) := by
  unfold upd32
  pointwise

/-- The canvas after 18 shifts. -/
def cR18 (X : FVec Ideal S2x4096x3x5x5 .f32) : FVec Ideal S2x3x4624 .f32 := stepR (res_main_v667 V0) (upd32 X) (cR17 V0 X)

/-- The canvas after 18 shifts, at a place of the image. -/
theorem cR18_at (X : FVec Ideal S2x4096x3x5x5 .f32) (t : Fin 2) (c : Fin 3) (y x : Fin 64) :
    (cR18 V0 X : S2x3x4624.Idx → EReal) (ix3 t c ⟨(y.val + 2) * 68 + (x.val + 2), by omega⟩)
      = (cR17 V0 X (ix3 t c ⟨(y.val + 2) * 68 + (x.val + 2), by omega⟩) : EReal) + hit X t c y x 3 2 :=
  stepR_at V0 X 3 2 _ _ t c y x fun q => upd32_at X t c q

/-- One shift's update. -/
def upd33 (X : FVec Ideal S2x4096x3x5x5 .f32) : FVec Ideal S2x3x4096 .f32 :=
  transpose S2x3x4096 [0, 2, 1] (shapeCast _ (extractStridedSlice S2x4096x3x1x1 ![0, 0, 0, 3, 3] X slices_S2x4096x3x5x5_S2x4096x3x1x1_0_0_0_3_3 : FVec Ideal S2x4096x3x1x1 .f32) shapeCasts_S2x4096x3x1x1_S2x4096x3) transposes_S2x4096x3_S2x3x4096_0_2_1

/-- One shift's update, at an entry. -/
theorem upd33_at (X : FVec Ideal S2x4096x3x5x5 .f32) (t : Fin 2) (c : Fin 3) (q : Fin 4096) :
    (upd33 X : S2x3x4096.Idx → EReal) (ix3 t c q) = (X (ix5 t q c 3 3) : EReal) := by
  unfold upd33
  pointwise

/-- The canvas after 19 shifts. -/
def cR19 (X : FVec Ideal S2x4096x3x5x5 .f32) : FVec Ideal S2x3x4624 .f32 := stepR (res_main_v694 V0) (upd33 X) (cR18 V0 X)

/-- The canvas after 19 shifts, at a place of the image. -/
theorem cR19_at (X : FVec Ideal S2x4096x3x5x5 .f32) (t : Fin 2) (c : Fin 3) (y x : Fin 64) :
    (cR19 V0 X : S2x3x4624.Idx → EReal) (ix3 t c ⟨(y.val + 2) * 68 + (x.val + 2), by omega⟩)
      = (cR18 V0 X (ix3 t c ⟨(y.val + 2) * 68 + (x.val + 2), by omega⟩) : EReal) + hit X t c y x 3 3 :=
  stepR_at V0 X 3 3 _ _ t c y x fun q => upd33_at X t c q

/-- One shift's update. -/
def upd34 (X : FVec Ideal S2x4096x3x5x5 .f32) : FVec Ideal S2x3x4096 .f32 :=
  transpose S2x3x4096 [0, 2, 1] (shapeCast _ (extractStridedSlice S2x4096x3x1x1 ![0, 0, 0, 3, 4] X slices_S2x4096x3x5x5_S2x4096x3x1x1_0_0_0_3_4 : FVec Ideal S2x4096x3x1x1 .f32) shapeCasts_S2x4096x3x1x1_S2x4096x3) transposes_S2x4096x3_S2x3x4096_0_2_1

/-- One shift's update, at an entry. -/
theorem upd34_at (X : FVec Ideal S2x4096x3x5x5 .f32) (t : Fin 2) (c : Fin 3) (q : Fin 4096) :
    (upd34 X : S2x3x4096.Idx → EReal) (ix3 t c q) = (X (ix5 t q c 3 4) : EReal) := by
  unfold upd34
  pointwise

/-- The canvas after 20 shifts. -/
def cR20 (X : FVec Ideal S2x4096x3x5x5 .f32) : FVec Ideal S2x3x4624 .f32 := stepR (res_main_v721 V0) (upd34 X) (cR19 V0 X)

/-- The canvas after 20 shifts, at a place of the image. -/
theorem cR20_at (X : FVec Ideal S2x4096x3x5x5 .f32) (t : Fin 2) (c : Fin 3) (y x : Fin 64) :
    (cR20 V0 X : S2x3x4624.Idx → EReal) (ix3 t c ⟨(y.val + 2) * 68 + (x.val + 2), by omega⟩)
      = (cR19 V0 X (ix3 t c ⟨(y.val + 2) * 68 + (x.val + 2), by omega⟩) : EReal) + hit X t c y x 3 4 :=
  stepR_at V0 X 3 4 _ _ t c y x fun q => upd34_at X t c q

/-- One shift's update. -/
def upd40 (X : FVec Ideal S2x4096x3x5x5 .f32) : FVec Ideal S2x3x4096 .f32 :=
  transpose S2x3x4096 [0, 2, 1] (shapeCast _ (extractStridedSlice S2x4096x3x1x1 ![0, 0, 0, 4, 0] X slices_S2x4096x3x5x5_S2x4096x3x1x1_0_0_0_4_0 : FVec Ideal S2x4096x3x1x1 .f32) shapeCasts_S2x4096x3x1x1_S2x4096x3) transposes_S2x4096x3_S2x3x4096_0_2_1

/-- One shift's update, at an entry. -/
theorem upd40_at (X : FVec Ideal S2x4096x3x5x5 .f32) (t : Fin 2) (c : Fin 3) (q : Fin 4096) :
    (upd40 X : S2x3x4096.Idx → EReal) (ix3 t c q) = (X (ix5 t q c 4 0) : EReal) := by
  unfold upd40
  pointwise

/-- The canvas after 21 shifts. -/
def cR21 (X : FVec Ideal S2x4096x3x5x5 .f32) : FVec Ideal S2x3x4624 .f32 := stepR (res_main_v748 V0) (upd40 X) (cR20 V0 X)

/-- The canvas after 21 shifts, at a place of the image. -/
theorem cR21_at (X : FVec Ideal S2x4096x3x5x5 .f32) (t : Fin 2) (c : Fin 3) (y x : Fin 64) :
    (cR21 V0 X : S2x3x4624.Idx → EReal) (ix3 t c ⟨(y.val + 2) * 68 + (x.val + 2), by omega⟩)
      = (cR20 V0 X (ix3 t c ⟨(y.val + 2) * 68 + (x.val + 2), by omega⟩) : EReal) + hit X t c y x 4 0 :=
  stepR_at V0 X 4 0 _ _ t c y x fun q => upd40_at X t c q

/-- One shift's update. -/
def upd41 (X : FVec Ideal S2x4096x3x5x5 .f32) : FVec Ideal S2x3x4096 .f32 :=
  transpose S2x3x4096 [0, 2, 1] (shapeCast _ (extractStridedSlice S2x4096x3x1x1 ![0, 0, 0, 4, 1] X slices_S2x4096x3x5x5_S2x4096x3x1x1_0_0_0_4_1 : FVec Ideal S2x4096x3x1x1 .f32) shapeCasts_S2x4096x3x1x1_S2x4096x3) transposes_S2x4096x3_S2x3x4096_0_2_1

/-- One shift's update, at an entry. -/
theorem upd41_at (X : FVec Ideal S2x4096x3x5x5 .f32) (t : Fin 2) (c : Fin 3) (q : Fin 4096) :
    (upd41 X : S2x3x4096.Idx → EReal) (ix3 t c q) = (X (ix5 t q c 4 1) : EReal) := by
  unfold upd41
  pointwise

/-- The canvas after 22 shifts. -/
def cR22 (X : FVec Ideal S2x4096x3x5x5 .f32) : FVec Ideal S2x3x4624 .f32 := stepR (res_main_v775 V0) (upd41 X) (cR21 V0 X)

/-- The canvas after 22 shifts, at a place of the image. -/
theorem cR22_at (X : FVec Ideal S2x4096x3x5x5 .f32) (t : Fin 2) (c : Fin 3) (y x : Fin 64) :
    (cR22 V0 X : S2x3x4624.Idx → EReal) (ix3 t c ⟨(y.val + 2) * 68 + (x.val + 2), by omega⟩)
      = (cR21 V0 X (ix3 t c ⟨(y.val + 2) * 68 + (x.val + 2), by omega⟩) : EReal) + hit X t c y x 4 1 :=
  stepR_at V0 X 4 1 _ _ t c y x fun q => upd41_at X t c q

/-- One shift's update. -/
def upd42 (X : FVec Ideal S2x4096x3x5x5 .f32) : FVec Ideal S2x3x4096 .f32 :=
  transpose S2x3x4096 [0, 2, 1] (shapeCast _ (extractStridedSlice S2x4096x3x1x1 ![0, 0, 0, 4, 2] X slices_S2x4096x3x5x5_S2x4096x3x1x1_0_0_0_4_2 : FVec Ideal S2x4096x3x1x1 .f32) shapeCasts_S2x4096x3x1x1_S2x4096x3) transposes_S2x4096x3_S2x3x4096_0_2_1

/-- One shift's update, at an entry. -/
theorem upd42_at (X : FVec Ideal S2x4096x3x5x5 .f32) (t : Fin 2) (c : Fin 3) (q : Fin 4096) :
    (upd42 X : S2x3x4096.Idx → EReal) (ix3 t c q) = (X (ix5 t q c 4 2) : EReal) := by
  unfold upd42
  pointwise

/-- The canvas after 23 shifts. -/
def cR23 (X : FVec Ideal S2x4096x3x5x5 .f32) : FVec Ideal S2x3x4624 .f32 := stepR (res_main_v802 V0) (upd42 X) (cR22 V0 X)

/-- The canvas after 23 shifts, at a place of the image. -/
theorem cR23_at (X : FVec Ideal S2x4096x3x5x5 .f32) (t : Fin 2) (c : Fin 3) (y x : Fin 64) :
    (cR23 V0 X : S2x3x4624.Idx → EReal) (ix3 t c ⟨(y.val + 2) * 68 + (x.val + 2), by omega⟩)
      = (cR22 V0 X (ix3 t c ⟨(y.val + 2) * 68 + (x.val + 2), by omega⟩) : EReal) + hit X t c y x 4 2 :=
  stepR_at V0 X 4 2 _ _ t c y x fun q => upd42_at X t c q

/-- One shift's update. -/
def upd43 (X : FVec Ideal S2x4096x3x5x5 .f32) : FVec Ideal S2x3x4096 .f32 :=
  transpose S2x3x4096 [0, 2, 1] (shapeCast _ (extractStridedSlice S2x4096x3x1x1 ![0, 0, 0, 4, 3] X slices_S2x4096x3x5x5_S2x4096x3x1x1_0_0_0_4_3 : FVec Ideal S2x4096x3x1x1 .f32) shapeCasts_S2x4096x3x1x1_S2x4096x3) transposes_S2x4096x3_S2x3x4096_0_2_1

/-- One shift's update, at an entry. -/
theorem upd43_at (X : FVec Ideal S2x4096x3x5x5 .f32) (t : Fin 2) (c : Fin 3) (q : Fin 4096) :
    (upd43 X : S2x3x4096.Idx → EReal) (ix3 t c q) = (X (ix5 t q c 4 3) : EReal) := by
  unfold upd43
  pointwise

/-- The canvas after 24 shifts. -/
def cR24 (X : FVec Ideal S2x4096x3x5x5 .f32) : FVec Ideal S2x3x4624 .f32 := stepR (res_main_v829 V0) (upd43 X) (cR23 V0 X)

/-- The canvas after 24 shifts, at a place of the image. -/
theorem cR24_at (X : FVec Ideal S2x4096x3x5x5 .f32) (t : Fin 2) (c : Fin 3) (y x : Fin 64) :
    (cR24 V0 X : S2x3x4624.Idx → EReal) (ix3 t c ⟨(y.val + 2) * 68 + (x.val + 2), by omega⟩)
      = (cR23 V0 X (ix3 t c ⟨(y.val + 2) * 68 + (x.val + 2), by omega⟩) : EReal) + hit X t c y x 4 3 :=
  stepR_at V0 X 4 3 _ _ t c y x fun q => upd43_at X t c q

/-- One shift's update. -/
def upd44 (X : FVec Ideal S2x4096x3x5x5 .f32) : FVec Ideal S2x3x4096 .f32 :=
  transpose S2x3x4096 [0, 2, 1] (shapeCast _ (extractStridedSlice S2x4096x3x1x1 ![0, 0, 0, 4, 4] X slices_S2x4096x3x5x5_S2x4096x3x1x1_0_0_0_4_4 : FVec Ideal S2x4096x3x1x1 .f32) shapeCasts_S2x4096x3x1x1_S2x4096x3) transposes_S2x4096x3_S2x3x4096_0_2_1

/-- One shift's update, at an entry. -/
theorem upd44_at (X : FVec Ideal S2x4096x3x5x5 .f32) (t : Fin 2) (c : Fin 3) (q : Fin 4096) :
    (upd44 X : S2x3x4096.Idx → EReal) (ix3 t c q) = (X (ix5 t q c 4 4) : EReal) := by
  unfold upd44
  pointwise

/-- The canvas after 25 shifts. -/
def cR25 (X : FVec Ideal S2x4096x3x5x5 .f32) : FVec Ideal S2x3x4624 .f32 := stepR (res_main_v856 V0) (upd44 X) (cR24 V0 X)

/-- The canvas after 25 shifts, at a place of the image. -/
theorem cR25_at (X : FVec Ideal S2x4096x3x5x5 .f32) (t : Fin 2) (c : Fin 3) (y x : Fin 64) :
    (cR25 V0 X : S2x3x4624.Idx → EReal) (ix3 t c ⟨(y.val + 2) * 68 + (x.val + 2), by omega⟩)
      = (cR24 V0 X (ix3 t c ⟨(y.val + 2) * 68 + (x.val + 2), by omega⟩) : EReal) + hit X t c y x 4 4 :=
  stepR_at V0 X 4 4 _ _ t c y x fun q => upd44_at X t c q

/-- The canvas at a place of the image: what all shifts add. -/
theorem canvas_at (X : FVec Ideal S2x4096x3x5x5 .f32) (t : Fin 2) (c : Fin 3) (y x : Fin 64) :
    (cR25 V0 X : S2x3x4624.Idx → EReal) (ix3 t c ⟨(y.val + 2) * 68 + (x.val + 2), by omega⟩)
      = (∑ a : Fin 5, ∑ b : Fin 5, hit X t c y x a b : EReal) := by
  rw [cR25_at, cR24_at, cR23_at, cR22_at, cR21_at, cR20_at, cR19_at, cR18_at, cR17_at, cR16_at, cR15_at, cR14_at, cR13_at, cR12_at, cR11_at, cR10_at, cR9_at, cR8_at, cR7_at, cR6_at, cR5_at, cR4_at, cR3_at, cR2_at, cR1_at, cR0_at]
  simp only [Fin.sum_univ_five, ← add_assoc, zero_add]

/-- The canvas of the weighted patches after its first part. -/
theorem v380_eq : res_main_v380 V0 = cR7 V0 (res_main_v191 V0) := rfl
/-- The canvas of the weights after its first part. -/
theorem v390_eq : res_main_v390 V0 = cR7 V0 (res_main_v193 V0) := rfl
/-- The canvas after its next part. -/
theorem v596_eq : res_main_v596 V0 = cR15 V0 (res_main_v191 V0) := by
  unfold res_main_v596
  rw [v380_eq]
  rfl
/-- The canvas after its next part. -/
theorem v606_eq : res_main_v606 V0 = cR15 V0 (res_main_v193 V0) := by
  unfold res_main_v606
  rw [v390_eq]
  rfl
/-- The canvas after its next part. -/
theorem v812_eq : res_main_v812 V0 = cR23 V0 (res_main_v191 V0) := by
  unfold res_main_v812
  rw [v596_eq]
  rfl
/-- The canvas after its next part. -/
theorem v822_eq : res_main_v822 V0 = cR23 V0 (res_main_v193 V0) := by
  unfold res_main_v822
  rw [v606_eq]
  rfl

end Cert.ReferenceIdeal.Value
-- ==== Proof.RefRes.lean ====
module

public import proofs.«01_k».proof.Proof.RefFold
public import Idealize.ShloMosaic.Lib.Pointwise
public import Idealize.ShloMosaic.Lib.SortFacts
public import Idealize.ShloMosaic.Lib.KernelVsHost
public import Idealize.ShloMosaic.Lib.Routing.OpsPair

@[expose] public section

set_option maxRecDepth 65536

noncomputable section

namespace Cert.ReferenceIdeal.Value

open Idealize.ShloMosaic Idealize.ShloMosaic.TcCoe Idealize.ShloMosaic.Tactic
open Idealize.ShloMosaic.StableHlo Cert.ReferenceIdeal Cert.ReferenceIdeal.Gen

variable (V0 : Valuation τ sig (Elt Ideal))

/-- The result from the two canvases and the means. -/
def outR (N D : FVec Ideal S2x3x4624 .f32) (M : FVec Ideal S2x3x1x1 .f32) : FVec Ideal S2x3x64x64 .f32 :=
  mulf (broadcastInDim S2x3x64x64 ![] bcast_S_S2x3x64x64 (constant S_ .f32 0x437F0000#32)) (addf (mulf (addf (Host.divf (extractStridedSlice S2x3x64x64 ![0, 0, 2, 2] (shapeCast _ N shapeCasts_S2x3x4624_S2x3x68x68) slices_S2x3x68x68_S2x3x64x64_0_0_2_2) (addf (extractStridedSlice S2x3x64x64 ![0, 0, 2, 2] (shapeCast _ D shapeCasts_S2x3x4624_S2x3x68x68) slices_S2x3x68x68_S2x3x64x64_0_0_2_2) (broadcastInDim S2x3x64x64 ![] bcast_S_S2x3x64x64 (constant S_ .f32 0x2EDBE6FF#32)))) (broadcastInDim S2x3x64x64 ![0, 1, 2, 3] bcast_S2x3x1x1_S2x3x64x64_0_1_2_3 M)) (broadcastInDim S2x3x64x64 ![] bcast_S_S2x3x64x64 (constant S_ .f32 0x3F000000#32))) (broadcastInDim S2x3x64x64 ![] bcast_S_S2x3x64x64 (constant S_ .f32 0x3F000000#32)))

/-- The numerators' canvas. -/
theorem numR_eq : (Host.scatterAdd scatter_S2x3x4624_S4096x1_S2x3x4096_01_2_2_1 (Host.scatterAdd scatter_S2x3x4624_S4096x1_S2x3x4096_01_2_2_1 (res_main_v812 V0) (broadcastInDim S4096x1 ![0] bcast_S4096_S4096x1_0 (select (cmpi .slt (res_main_v829 V0) (broadcastInDim S4096 ![] bcast_S_S4096 (constantI S_ 32 0#32))) (addi (res_main_v829 V0) (broadcastInDim S4096 ![] bcast_S_S4096 (constantI S_ 32 4624#32))) (res_main_v829 V0))) (transpose S2x3x4096 [0, 2, 1] (shapeCast _ (extractStridedSlice S2x4096x3x1x1 ![0, 0, 0, 4, 3] (res_main_v191 V0) slices_S2x4096x3x5x5_S2x4096x3x1x1_0_0_0_4_3) shapeCasts_S2x4096x3x1x1_S2x4096x3) transposes_S2x4096x3_S2x3x4096_0_2_1)) (broadcastInDim S4096x1 ![0] bcast_S4096_S4096x1_0 (select (cmpi .slt (res_main_v856 V0) (broadcastInDim S4096 ![] bcast_S_S4096 (constantI S_ 32 0#32))) (addi (res_main_v856 V0) (broadcastInDim S4096 ![] bcast_S_S4096 (constantI S_ 32 4624#32))) (res_main_v856 V0))) (transpose S2x3x4096 [0, 2, 1] (shapeCast _ (extractStridedSlice S2x4096x3x1x1 ![0, 0, 0, 4, 4] (res_main_v191 V0) slices_S2x4096x3x5x5_S2x4096x3x1x1_0_0_0_4_4) shapeCasts_S2x4096x3x1x1_S2x4096x3) transposes_S2x4096x3_S2x3x4096_0_2_1)) = cR25 V0 (res_main_v191 V0) := by
  rw [v812_eq]
  rfl

/-- The weights' canvas. -/
theorem denR_eq : (Host.scatterAdd scatter_S2x3x4624_S4096x1_S2x3x4096_01_2_2_1 (Host.scatterAdd scatter_S2x3x4624_S4096x1_S2x3x4096_01_2_2_1 (res_main_v822 V0) (broadcastInDim S4096x1 ![0] bcast_S4096_S4096x1_0 (select (cmpi .slt (res_main_v829 V0) (broadcastInDim S4096 ![] bcast_S_S4096 (constantI S_ 32 0#32))) (addi (res_main_v829 V0) (broadcastInDim S4096 ![] bcast_S_S4096 (constantI S_ 32 4624#32))) (res_main_v829 V0))) (transpose S2x3x4096 [0, 2, 1] (shapeCast _ (extractStridedSlice S2x4096x3x1x1 ![0, 0, 0, 4, 3] (res_main_v193 V0) slices_S2x4096x3x5x5_S2x4096x3x1x1_0_0_0_4_3) shapeCasts_S2x4096x3x1x1_S2x4096x3) transposes_S2x4096x3_S2x3x4096_0_2_1)) (broadcastInDim S4096x1 ![0] bcast_S4096_S4096x1_0 (select (cmpi .slt (res_main_v856 V0) (broadcastInDim S4096 ![] bcast_S_S4096 (constantI S_ 32 0#32))) (addi (res_main_v856 V0) (broadcastInDim S4096 ![] bcast_S_S4096 (constantI S_ 32 4624#32))) (res_main_v856 V0))) (transpose S2x3x4096 [0, 2, 1] (shapeCast _ (extractStridedSlice S2x4096x3x1x1 ![0, 0, 0, 4, 4] (res_main_v193 V0) slices_S2x4096x3x5x5_S2x4096x3x1x1_0_0_0_4_4) shapeCasts_S2x4096x3x1x1_S2x4096x3) transposes_S2x4096x3_S2x3x4096_0_2_1)) = cR25 V0 (res_main_v193 V0) := by
  rw [v822_eq]
  rfl

/-- The reference's result is made of the two canvases and the means. -/
theorem res_eq : mulf (broadcastInDim S2x3x64x64 ![] bcast_S_S2x3x64x64 (constant S_ .f32 0x437F0000#32)) (addf (mulf (addf (Host.divf (extractStridedSlice S2x3x64x64 ![0, 0, 2, 2] (shapeCast _ (Host.scatterAdd scatter_S2x3x4624_S4096x1_S2x3x4096_01_2_2_1 (Host.scatterAdd scatter_S2x3x4624_S4096x1_S2x3x4096_01_2_2_1 (res_main_v812 V0) (broadcastInDim S4096x1 ![0] bcast_S4096_S4096x1_0 (select (cmpi .slt (res_main_v829 V0) (broadcastInDim S4096 ![] bcast_S_S4096 (constantI S_ 32 0#32))) (addi (res_main_v829 V0) (broadcastInDim S4096 ![] bcast_S_S4096 (constantI S_ 32 4624#32))) (res_main_v829 V0))) (transpose S2x3x4096 [0, 2, 1] (shapeCast _ (extractStridedSlice S2x4096x3x1x1 ![0, 0, 0, 4, 3] (res_main_v191 V0) slices_S2x4096x3x5x5_S2x4096x3x1x1_0_0_0_4_3) shapeCasts_S2x4096x3x1x1_S2x4096x3) transposes_S2x4096x3_S2x3x4096_0_2_1)) (broadcastInDim S4096x1 ![0] bcast_S4096_S4096x1_0 (select (cmpi .slt (res_main_v856 V0) (broadcastInDim S4096 ![] bcast_S_S4096 (constantI S_ 32 0#32))) (addi (res_main_v856 V0) (broadcastInDim S4096 ![] bcast_S_S4096 (constantI S_ 32 4624#32))) (res_main_v856 V0))) (transpose S2x3x4096 [0, 2, 1] (shapeCast _ (extractStridedSlice S2x4096x3x1x1 ![0, 0, 0, 4, 4] (res_main_v191 V0) slices_S2x4096x3x5x5_S2x4096x3x1x1_0_0_0_4_4) shapeCasts_S2x4096x3x1x1_S2x4096x3) transposes_S2x4096x3_S2x3x4096_0_2_1)) shapeCasts_S2x3x4624_S2x3x68x68) slices_S2x3x68x68_S2x3x64x64_0_0_2_2) (addf (extractStridedSlice S2x3x64x64 ![0, 0, 2, 2] (shapeCast _ (Host.scatterAdd scatter_S2x3x4624_S4096x1_S2x3x4096_01_2_2_1 (Host.scatterAdd scatter_S2x3x4624_S4096x1_S2x3x4096_01_2_2_1 (res_main_v822 V0) (broadcastInDim S4096x1 ![0] bcast_S4096_S4096x1_0 (select (cmpi .slt (res_main_v829 V0) (broadcastInDim S4096 ![] bcast_S_S4096 (constantI S_ 32 0#32))) (addi (res_main_v829 V0) (broadcastInDim S4096 ![] bcast_S_S4096 (constantI S_ 32 4624#32))) (res_main_v829 V0))) (transpose S2x3x4096 [0, 2, 1] (shapeCast _ (extractStridedSlice S2x4096x3x1x1 ![0, 0, 0, 4, 3] (res_main_v193 V0) slices_S2x4096x3x5x5_S2x4096x3x1x1_0_0_0_4_3) shapeCasts_S2x4096x3x1x1_S2x4096x3) transposes_S2x4096x3_S2x3x4096_0_2_1)) (broadcastInDim S4096x1 ![0] bcast_S4096_S4096x1_0 (select (cmpi .slt (res_main_v856 V0) (broadcastInDim S4096 ![] bcast_S_S4096 (constantI S_ 32 0#32))) (addi (res_main_v856 V0) (broadcastInDim S4096 ![] bcast_S_S4096 (constantI S_ 32 4624#32))) (res_main_v856 V0))) (transpose S2x3x4096 [0, 2, 1] (shapeCast _ (extractStridedSlice S2x4096x3x1x1 ![0, 0, 0, 4, 4] (res_main_v193 V0) slices_S2x4096x3x5x5_S2x4096x3x1x1_0_0_0_4_4) shapeCasts_S2x4096x3x1x1_S2x4096x3) transposes_S2x4096x3_S2x3x4096_0_2_1)) shapeCasts_S2x3x4624_S2x3x68x68) slices_S2x3x68x68_S2x3x64x64_0_0_2_2) (broadcastInDim S2x3x64x64 ![] bcast_S_S2x3x64x64 (constant S_ .f32 0x2EDBE6FF#32)))) (broadcastInDim S2x3x64x64 ![0, 1, 2, 3] bcast_S2x3x1x1_S2x3x64x64_0_1_2_3 (res_main_v9 V0))) (broadcastInDim S2x3x64x64 ![] bcast_S_S2x3x64x64 (constant S_ .f32 0x3F000000#32))) (broadcastInDim S2x3x64x64 ![] bcast_S_S2x3x64x64 (constant S_ .f32 0x3F000000#32))) = outR (cR25 V0 (res_main_v191 V0)) (cR25 V0 (res_main_v193 V0)) (res_main_v9 V0) := by
  rw [← numR_eq, ← denR_eq]
  rfl

set_option maxHeartbeats 4000000 in
/-- The result at a place. -/
theorem outR_at (N D : FVec Ideal S2x3x4624 .f32) (M : FVec Ideal S2x3x1x1 .f32) (t : Fin 2) (c : Fin 3) (y x : Fin 64) :
    (outR N D M : S2x3x64x64.Idx → EReal) (ix4 t c y x)
      = (Ideal.ofBits .f32 0x437F0000#32 * ((Ideal.div (N (ix3 t c ⟨(y.val + 2) * 68 + (x.val + 2), by omega⟩)) ((D (ix3 t c ⟨(y.val + 2) * 68 + (x.val + 2), by omega⟩) : EReal) + Ideal.ofBits .f32 0x2EDBE6FF#32)
          + (M (ix4 t c 0 0) : EReal)) * Ideal.ofBits .f32 0x3F000000#32 + Ideal.ofBits .f32 0x3F000000#32) : EReal) := by
  unfold outR
  pointwise
  simp only [show 2 + y.val = y.val + 2 from Nat.add_comm _ _, show 2 + x.val = x.val + 2 from Nat.add_comm _ _]

end Cert.ReferenceIdeal.Value
-- ==== Proof.KVal.lean ====
module

public import proofs.«01_k».proof.Proof.KEq
public import proofs.«01_k».proof.Proof.KOut
public import proofs.«01_k».proof.Proof.RefFold
public import proofs.«01_k».proof.Proof.RefRes

public import Idealize.ShloMosaic.Lib.Pointwise
public import Idealize.ShloMosaic.Lib.StableHlo.RunRead

@[expose] public section

set_option maxRecDepth 65536

noncomputable section

namespace Cert.KernelIdeal.Gen

open Idealize.ShloMosaic Idealize.ShloMosaic.TcCoe Idealize.ShloMosaic.Tactic
open Idealize.ShloMosaic.StableHlo

open Cert.ReferenceIdeal.Value (N174 N188 E9 hit cR25 outR a2 a3 a4 a5 a6 a7)

variable [Cert.Pre_untied.Facts]
variable {m : (ℓ : Loc nD τ sig) → Buf (Elt Ideal) ℓ} {c : Dev nD} {V' : Valuation Cert.ReferenceIdeal.τ Cert.ReferenceIdeal.sig (Elt Ideal)}

/-- The reference's weighted patches. -/
abbrev E191 (V' : Valuation Cert.ReferenceIdeal.τ Cert.ReferenceIdeal.sig (Elt Ideal)) : (⟨5, ![2, 4096, 3, 5, 5]⟩ : Shape).Idx → EReal := Cert.ReferenceIdeal.Value.res_main_v191 V'
/-- The reference's weights at each place of a patch. -/
abbrev E193 (V' : Valuation Cert.ReferenceIdeal.τ Cert.ReferenceIdeal.sig (Elt Ideal)) : (⟨5, ![2, 4096, 3, 5, 5]⟩ : Shape).Idx → EReal := Cert.ReferenceIdeal.Value.res_main_v193 V'

section values
variable (hs : Same m c V')
include hs

/-- The weight of a query. -/
theorem wF_eq (hu : Cert.ReferenceIdeal.Value.Untied V') (k : ℕ) (hk : k < 32) (n : Fin 256) (q : Fin 4096) (hq : q.val = 256 * (k % 16) + n.val) :
    (wF (qOf (grid0.coords (ptAt k)) (BA m c (k / 16))) (AA m c (k / 16)) (tOf (b0 m c k)) (cwA m c (k / 16)) (b4 m c k) (b5 m c k) (b6 m c k) : S1x256.Idx → EReal) (ix2 0 n)
      = N188 V' (ix3 ⟨k / 16, by omega⟩ q 0) := by
  unfold wF
  refine (pay100_at _ _ _ _ _ _ _ n).trans ?_
  refine (congrArg Ideal.logistic (pay99_at _ _ _ _ _ _ _ 75 n)).trans ?_
  refine Eq.trans ?_ (Cert.ReferenceIdeal.Value.v188_at V' _ q).symm
  have e : (∑ x : Fin 80, (b5 m c k : S80x76.Idx → EReal) (ix2 x 75) * featK (DK m c k) (MK m c k) (tOf (b0 m c k)) (cwA m c (k / 16)) (b4 m c k) x n + (b6 m c k : S76x1.Idx → EReal) (ix2 75 0) : EReal)
      = ∑ x : Fin 80, N174 V' (ix3 ⟨k / 16, by omega⟩ q x) * a6 V' (ix2 x 0) + a7 V' (ix1 0) := by
    rw [blk6w hs k]
    refine congrArg (fun z : EReal => z + a7 V' (ix1 0)) (Finset.sum_congr rfl fun x _ => ?_)
    rw [blk5w hs k x, feat_eq hs hu k hk n q hq x, mul_comm]
  exact (congrArg Ideal.logistic e).trans rfl

/-- A stored weight. -/
theorem bP_at (hu : Cert.ReferenceIdeal.Value.Untied V') (k : ℕ) (hk : k < 32) (n : Fin 256) (q : Fin 4096) (hq : q.val = 256 * (k % 16) + n.val) (ch : Fin 3) (a b : Fin 5) :
    (bP m c k : S1x256.Idx → EReal) (ix2 0 n) = E193 V' (ix5 ⟨k / 16, by omega⟩ q ch a b) := by
  unfold bP blkP
  refine (pay2_at _ n).trans ?_
  refine (wF_eq hs hu k hk n q hq).trans ?_
  exact (Cert.ReferenceIdeal.Value.v193_at V' _ q ch a b).symm

/-- An entry of a patch before its weight. -/
theorem pF_at (hu : Cert.ReferenceIdeal.Value.Untied V') (k : ℕ) (hk : k < 32) (n : Fin 256) (q : Fin 4096) (hq : q.val = 256 * (k % 16) + n.val) (j : Fin 75) :
    (pF (qOf (grid0.coords (ptAt k)) (BA m c (k / 16))) (AA m c (k / 16)) (tOf (b0 m c k)) (cwA m c (k / 16)) (b4 m c k) (b5 m c k) (b6 m c k) : S75x256.Idx → EReal) (ix2 j n)
      = ∑ x : Fin 80, N174 V' (ix3 ⟨k / 16, by omega⟩ q x) * a4 V' (ix2 x j) + a5 V' (ix1 j) := by
  unfold pF
  refine (pay101_at _ _ _ _ _ _ _ j n).trans ?_
  refine (pay99_at _ _ _ _ _ _ _ _ n).trans ?_
  have e : (∑ x : Fin 80, (b5 m c k : S80x76.Idx → EReal) (ix2 x ⟨j.val, by omega⟩) * featK (DK m c k) (MK m c k) (tOf (b0 m c k)) (cwA m c (k / 16)) (b4 m c k) x n + (b6 m c k : S76x1.Idx → EReal) (ix2 ⟨j.val, by omega⟩ 0) : EReal)
      = ∑ x : Fin 80, N174 V' (ix3 ⟨k / 16, by omega⟩ q x) * a4 V' (ix2 x j) + a5 V' (ix1 j) := by
    rw [blk6 hs k j]
    refine congrArg (fun z : EReal => z + a5 V' (ix1 j)) (Finset.sum_congr rfl fun x _ => ?_)
    rw [blk5 hs k x j, feat_eq hs hu k hk n q hq x, mul_comm]
  exact e

/-- A stored entry of a weighted patch. -/
theorem bI_at (hu : Cert.ReferenceIdeal.Value.Untied V') (k : ℕ) (hk : k < 32) (n : Fin 256) (q : Fin 4096) (hq : q.val = 256 * (k % 16) + n.val) (ch : Fin 3) (a b : Fin 5) :
    (bI m c k : S75x256.Idx → EReal) (ix2 ⟨25 * ch.val + a.val * 5 + b.val, by omega⟩ n) = E191 V' (ix5 ⟨k / 16, by omega⟩ q ch a b) := by
  unfold bI blkI
  refine (pay1_at _ _ _ n).trans ?_
  rw [wF_eq hs hu k hk n q hq]
  refine Eq.trans ?_ (Cert.ReferenceIdeal.Value.v191_at V' _ q ch a b).symm
  refine congrArg (fun z : EReal => z * N188 V' (ix3 ⟨k / 16, by omega⟩ q 0)) ?_
  have ej : (⟨25 * ch.val + a.val * 5 + b.val, by omega⟩ : Fin 75) = ⟨ch.val * 25 + a.val * 5 + b.val, by omega⟩ := Fin.ext (by show 25 * ch.val + a.val * 5 + b.val = ch.val * 25 + a.val * 5 + b.val; omega)
  refine (pF_at hs hu k hk n q hq _).trans ?_
  rw [ej]

end values

/-- One shift of the fold, in both programs. -/
theorem hit_eq (X : (⟨5, ![2, 4096, 3, 5, 5]⟩ : Shape).Idx → EReal) (t : Fin 2) (ch : Fin 3) (y x : Fin 64) (a b : Fin 5) (w : EReal)
    (h1 : ∀ (q : Fin 4096), q.val + 256 = 386 - 64 * a.val - b.val + (y.val * 64 + x.val) → w = X (ix5 t q ch a b))
    (h0 : ¬ (256 ≤ 386 - 64 * a.val - b.val + (y.val * 64 + x.val) ∧ 386 - 64 * a.val - b.val + (y.val * 64 + x.val) < 4352) → w = 0) :
    (if inR (y.val * 64 + x.val) b.val then w else 0) = hit X t ch y x a b := by
  have ha := a.isLt
  have hb := b.isLt
  have hy := y.isLt
  have hx := x.isLt
  have hm : (y.val * 64 + x.val) % 64 = x.val := by omega
  unfold hit
  by_cases h : inR (y.val * 64 + x.val) b.val
  · rw [if_pos h]
    unfold inR at h
    rw [hm] at h
    by_cases h' : a.val ≤ y.val + 2 ∧ y.val + 2 - a.val < 64 ∧ b.val ≤ x.val + 2 ∧ x.val + 2 - b.val < 64
    · rw [dif_pos h']
      exact h1 _ (by show (y.val + 2 - a.val) * 64 + (x.val + 2 - b.val) + 256 = _; omega)
    · rw [dif_neg h']
      exact h0 (by omega)
  · rw [if_neg h, dif_neg]
    intro h'
    apply h
    unfold inR
    rw [hm]
    exact ⟨h'.2.2.1, h'.2.2.2⟩

section folds
variable (hs : Same m c V')
include hs

/-- The fold of the weighted patches of an image, in both programs. -/
theorem num_eq (hu : Cert.ReferenceIdeal.Value.Untied V') (t : Fin 2) (ch : Fin 3) (y x : Fin 64) :
    (∑ a : Fin 5, ∑ b : Fin 5, if inR (y.val * 64 + x.val) b.val then (imrA m c t.val : S75x4608.Idx → EReal) (ix2 ⟨25 * ch.val + a.val * 5 + b.val, by omega⟩ ⟨386 - 64 * a.val - b.val + (y.val * 64 + x.val), by omega⟩) else 0)
      = ∑ a : Fin 5, ∑ b : Fin 5, hit (E191 V') t ch y x a b := by
  refine Finset.sum_congr rfl fun a _ => Finset.sum_congr rfl fun b _ => hit_eq _ t ch y x a b _ (fun q hq => ?_) fun h => ?_
  · have hq' := q.isLt
    rw [imrA_at, if_pos (by show 256 ≤ 386 - 64 * a.val - b.val + (y.val * 64 + x.val) ∧ 386 - 64 * a.val - b.val + (y.val * 64 + x.val) < 4352; omega)]
    have e := bI_at hs hu (16 * t.val + q.val / 256) (by omega) ⟨q.val % 256, by omega⟩ q (by show q.val = 256 * ((16 * t.val + q.val / 256) % 16) + q.val % 256; omega) ch a b
    have et : (⟨(16 * t.val + q.val / 256) / 16, by omega⟩ : Fin 2) = t := Fin.ext (by show (16 * t.val + q.val / 256) / 16 = t.val; omega)
    rw [et] at e
    rw [← e]
    have ev : 386 - 64 * a.val - b.val + (y.val * 64 + x.val) - 256 = q.val := by omega
    simp only [ev]
  · rw [imrA_at, if_neg h]

/-- The fold of the weights of an image, in both programs. -/
theorem den_eq (hu : Cert.ReferenceIdeal.Value.Untied V') (t : Fin 2) (ch : Fin 3) (y x : Fin 64) :
    (∑ a : Fin 5, ∑ b : Fin 5, if inR (y.val * 64 + x.val) b.val then (pwA m c t.val : S1x4608.Idx → EReal) (ix2 0 ⟨386 - 64 * a.val - b.val + (y.val * 64 + x.val), by omega⟩) else 0)
      = ∑ a : Fin 5, ∑ b : Fin 5, hit (E193 V') t ch y x a b := by
  refine Finset.sum_congr rfl fun a _ => Finset.sum_congr rfl fun b _ => hit_eq _ t ch y x a b _ (fun q hq => ?_) fun h => ?_
  · have hq' := q.isLt
    rw [pwA_at, if_pos (by show 256 ≤ 386 - 64 * a.val - b.val + (y.val * 64 + x.val) ∧ 386 - 64 * a.val - b.val + (y.val * 64 + x.val) < 4352; omega)]
    have e := bP_at hs hu (16 * t.val + q.val / 256) (by omega) ⟨q.val % 256, by omega⟩ q (by show q.val = 256 * ((16 * t.val + q.val / 256) % 16) + q.val % 256; omega) ch a b
    have et : (⟨(16 * t.val + q.val / 256) / 16, by omega⟩ : Fin 2) = t := Fin.ext (by show (16 * t.val + q.val / 256) / 16 = t.val; omega)
    rw [et] at e
    rw [← e]
    have ev : 386 - 64 * a.val - b.val + (y.val * 64 + x.val) - 256 = q.val := by omega
    simp only [ev]
  · rw [pwA_at, if_neg h]

end folds

/-- The weights are not negative. -/
theorem weight_nonneg (V' : Valuation Cert.ReferenceIdeal.τ Cert.ReferenceIdeal.sig (Elt Ideal)) (t : Fin 2) (q : Fin 4096) (ch : Fin 3) (a b : Fin 5) : 0 ≤ E193 V' (ix5 t q ch a b) := by
  have e : E193 V' (ix5 t q ch a b) = _ := (Cert.ReferenceIdeal.Value.v193_at V' t q ch a b).trans (Cert.ReferenceIdeal.Value.v188_at V' t q)
  rw [e]
  generalize (-(_ : EReal)) = z
  have hz : 0 ≤ Ideal.exp z := by
    induction z with
    | bot => exact le_rfl
    | top => exact le_top
    | coe r =>
      rw [Ideal.exp_coe, ← EReal.coe_zero, EReal.coe_le_coe_iff]
      exact (Real.exp_pos r).le
  have h1 : (0 : EReal) < 1 + Ideal.exp z := lt_of_lt_of_le one_pos (le_add_of_nonneg_right hz)
  unfold Ideal.div
  rw [if_neg h1.ne', one_mul]
  exact EReal.inv_nonneg_of_nonneg h1.le

/-- A fold of the weights is not negative. -/
theorem den_nonneg (V' : Valuation Cert.ReferenceIdeal.τ Cert.ReferenceIdeal.sig (Elt Ideal)) (t : Fin 2) (ch : Fin 3) (y x : Fin 64) :
    0 ≤ ∑ a : Fin 5, ∑ b : Fin 5, hit (E193 V') t ch y x a b := by
  refine Finset.sum_nonneg fun a _ => Finset.sum_nonneg fun b _ => ?_
  unfold hit
  split_ifs
  · exact weight_nonneg V' _ _ _ _ _
  · exact le_rfl

/-- The last arithmetic of both programs. -/
theorem final_eq (N D M : EReal) (hD : 0 ≤ D) :
    Ideal.ofBits .f32 0x42FF0000#32 * (N * Ideal.div 1 (D + Ideal.ofBits .f32 0x2EDBE6FF#32) + M) + Ideal.ofBits .f32 0x42FF0000#32
      = Ideal.ofBits .f32 0x437F0000#32 * ((Ideal.div N (D + Ideal.ofBits .f32 0x2EDBE6FF#32) + M) * Ideal.ofBits .f32 0x3F000000#32 + Ideal.ofBits .f32 0x3F000000#32) := by
  have c2 : 0 < Ideal.ofBits .f32 0x2EDBE6FF#32 := by
    simp [Ideal.ofBits, Ideal.ieee]
    try rw [← EReal.coe_mul]
    try norm_num
  have hy : D + Ideal.ofBits .f32 0x2EDBE6FF#32 ≠ 0 := (lt_of_lt_of_le c2 (le_add_of_nonneg_left hD)).ne'
  have e1 : N * Ideal.div 1 (D + Ideal.ofBits .f32 0x2EDBE6FF#32) = Ideal.div N (D + Ideal.ofBits .f32 0x2EDBE6FF#32) := by
    unfold Ideal.div
    rw [if_neg hy, if_neg hy, one_mul]
  rw [e1]
  generalize Ideal.div N _ + M = z
  have c127 : Ideal.ofBits .f32 0x42FF0000#32 = ((255 / 2 : ℝ) : EReal) := by
    simp [Ideal.ofBits, Ideal.ieee]
    try rw [← EReal.coe_mul]
    try norm_num
  rw [c127, Cert.ReferenceIdeal.Value.w255, Cert.ReferenceIdeal.Value.whalf]
  induction z with
  | bot => rw [EReal.coe_mul_bot_of_pos (by norm_num), EReal.bot_add, EReal.bot_mul_coe_of_pos (by norm_num), EReal.bot_add, EReal.coe_mul_bot_of_pos (by norm_num)]
  | top => rw [EReal.coe_mul_top_of_pos (by norm_num), EReal.top_add_coe, EReal.top_mul_coe_of_pos (by norm_num), EReal.top_add_coe, EReal.coe_mul_top_of_pos (by norm_num)]
  | coe r =>
    rw [← EReal.coe_mul, ← EReal.coe_add, ← EReal.coe_mul, ← EReal.coe_add, ← EReal.coe_mul]
    refine congrArg _ ?_
    ring

end Cert.KernelIdeal.Gen
-- ==== Proof.KRes.lean ====
module

public import proofs.«01_k».proof.Proof.KBlk
public import proofs.«01_k».proof.Proof.Launched
public import Idealize.ShloMosaic.Lib.Pipeline.ValueKit
public import Idealize.ShloMosaic.Lib.Pointwise
public import Idealize.ShloMosaic.Lib.StableHlo.RunRead
public import Idealize.ShloMosaic.Lib.Pointwise
public import Idealize.ShloMosaic.Lib.StableHlo.RunRead

@[expose] public section

set_option maxRecDepth 65536

noncomputable section

namespace Cert.KernelIdeal.Gen

open Idealize.ShloMosaic Idealize.ShloMosaic.TcCoe Idealize.ShloMosaic.Tactic
open Idealize.ShloMosaic.StableHlo

variable (m : (ℓ : Loc nD τ sig) → Buf (Elt Ideal) ℓ) (ρ : Dev nD → PrngReg)

/-- The result array before its last reshape: each image's output block. -/
def G193 (c : Dev nD) : S2x3x4096.Idx → EReal := fun i => (outA m c (16 * (i 0).val + 15) : S1x3x4096.Idx → EReal) (ix3 0 (i 1) (i 2))

/-- An image's output block does not depend on the point it is read at. -/
theorem outA_last (c : Dev nD) (k : ℕ) (hk : k % 16 = 15) : outA m c k = outA m c (16 * (k / 16) + 15) := by
  rw [show 16 * (k / 16) + 15 = k by omega]

set_option maxHeartbeats 4000000 in
/-- The run leaves the output blocks in the result array. -/
theorem arr193 (c : Dev nD) : ((dats m 0 c).arrAt 7 cfg0.N : S2x3x4096.Idx → EReal) = G193 m c := by
  refine (dats m 0 c).arrAt_eq_of_covers 7 _ (by decide +kernel) fun t hf y => ?_
  have h15 := (flush0_7 t).mp hf
  have hi := (idxs t).2.2.2.2.2.2.2
  blk_simp
  rw [after0_7]
  unfold G193
  blk_simp [hi]
  rw [outA_last m c t.val h15]
  generalize outA m c _ = w
  idx_bounds y
  blk_ext [hi]

/-- The program's result: each image's output block, its rows cut into lines. -/
def result194 (c : Dev nD) : S2x3x64x64.Idx → EReal := fun i => G193 m c (ix3 (i 0) (i 1) ⟨(i 2).val * 64 + (i 3).val, by show _ < 4096; have h2 : (i 2).val < 64 := (i 2).isLt; have h3 : (i 3).val < 64 := (i 3).isLt; omega⟩)

set_option maxHeartbeats 1000000 in
/-- The last reshape. -/
theorem tail194 (W : Valuation τ sig (Elt Ideal)) (A : S2x3x4096.Idx → EReal) (h : (W (Proc.devRef .tc main_v193) : S2x3x4096.Idx → EReal) = A) (t : Fin 2) (ch : Fin 3) (y x : Fin 64) :
    (after hostOps1 W (Proc.devRef .tc main_v194) : S2x3x64x64.Idx → EReal) (ix4 t ch y x) = A (ix3 t ch ⟨y.val * 64 + x.val, by omega⟩) := by
  subst h
  after_reads_simp
  pointwise

/-- What the run leaves in the result. -/
theorem value194 : θ_run (defs (F := Ideal)) (onTc (τ := τ) (main (F := Ideal))) ⟨m, fun _ => 0, ρ⟩
    (fun r => ∀ c : Dev nD, (r.2.mem ((c.tc : Thread nD τ).loc main_v194) : S2x3x64x64.Idx → EReal) = result194 m c) := by
  refine (θ_run defs _ _).mono (fun r h c => ?_) (run_main_quiescent m ρ)
  refine (Pipeline.FramePost.rest_eq h.1 c main_v194 (by decide)).trans ?_
  funext i
  rw [eq_ix4 i]
  refine tail194 _ _ ?_ (i 0) (i 1) (i 2) (i 3)
  refine Eq.trans ?_ (arr193 m c)
  exact Pipeline.withArrays_arr spec0 (by decide) c (V0 m c) (fun w => (dats m 0 c).arrAt w cfg0.N) 7

end Cert.KernelIdeal.Gen
-- ==== Proof.KAll.lean ====
module

public import proofs.«01_k».proof.Proof.KVal
public import proofs.«01_k».proof.Proof.KRes

public import Idealize.ShloMosaic.Lib.Pointwise
public import Idealize.ShloMosaic.Lib.StableHlo.RunRead

@[expose] public section

set_option maxRecDepth 65536

noncomputable section

namespace Cert.KernelIdeal.Gen

open Idealize.ShloMosaic Idealize.ShloMosaic.TcCoe Idealize.ShloMosaic.Tactic
open Idealize.ShloMosaic.StableHlo

open Cert.ReferenceIdeal.Value (E9 hit cR25 outR)

variable [Cert.Pre_untied.Facts]
variable {m : (ℓ : Loc nD τ sig) → Buf (Elt Ideal) ℓ} {c : Dev nD} {V' : Valuation Cert.ReferenceIdeal.τ Cert.ReferenceIdeal.sig (Elt Ideal)}

/-- The kernel's result is the reference's. -/
theorem result_eq (hs : Same m c V') (hu : Cert.ReferenceIdeal.Value.Untied V') :
    result194 m c = (outR (cR25 V' (Cert.ReferenceIdeal.Value.res_main_v191 V')) (cR25 V' (Cert.ReferenceIdeal.Value.res_main_v193 V')) (Cert.ReferenceIdeal.Value.res_main_v9 V') : S2x3x64x64.Idx → EReal) := by
  funext i
  rw [eq_ix4 i]
  generalize i 0 = t
  generalize i 1 = ch
  generalize i 2 = y
  generalize i 3 = x
  refine Eq.trans ?_ (Cert.ReferenceIdeal.Value.outR_at _ _ _ t ch y x).symm
  have hcn := Cert.ReferenceIdeal.Value.canvas_at V' (Cert.ReferenceIdeal.Value.res_main_v191 V') t ch y x
  have hcd := Cert.ReferenceIdeal.Value.canvas_at V' (Cert.ReferenceIdeal.Value.res_main_v193 V') t ch y x
  rw [hcn, hcd]
  refine Eq.trans ?_ (final_eq _ _ _ (den_nonneg V' t ch y x))
  rw [← num_eq hs hu t ch y x, ← den_eq hs hu t ch y x]
  have hk : 16 * t.val + 15 < 32 := by have h := t.isLt; change t.val < 2 at h; omega
  have hy : y.val * 64 + x.val < 4096 := by have h := y.isLt; have h' := x.isLt; change y.val < 64 at h; change x.val < 64 at h'; omega
  have e0 := blk0c hs (16 * t.val + 15) hk ch
  have et : (⟨(16 * t.val + 15) / 16, by omega⟩ : Fin 2) = t := Fin.ext (by show (16 * t.val + 15) / 16 = t.val; omega)
  rw [et] at e0
  have ed : (16 * t.val + 15) / 16 = t.val := by omega
  have eo : (outA m c (16 * t.val + 15) : S1x3x4096.Idx → EReal) = (outOf (F := Ideal) (b0 m c (16 * t.val + 15)) (imrA m c t.val) (pwA m c t.val) : S1x3x4096.Idx → EReal) := by
    unfold outA
    rw [ed]
  show (outA m c (16 * t.val + 15) : S1x3x4096.Idx → EReal) (ix3 0 ch ⟨y.val * 64 + x.val, hy⟩) = _
  refine (congrFun eo _).trans ((outOf_at (b0 m c (16 * t.val + 15)) (imrA m c t.val) (pwA m c t.val) ch ⟨y.val * 64 + x.val, hy⟩).trans ?_)
  rw [e0]

end Cert.KernelIdeal.Gen
-- ==== Proof.Values.lean ====
module

public import proofs.«01_k».proof.Defs
public import proofs.«01_k».proof.Proof.KAll
public import proofs.«01_k».proof.Proof.Frames
public import Idealize.ShloMosaic.Lib.Claim

@[expose] public section

set_option maxRecDepth 65536

noncomputable section

namespace Cert.Proof

open Idealize.ShloMosaic Idealize.SL.Sem

/-- Under the condition, the ideal program's frame. -/
theorem frame_ideal_untied [Cert.Pre_untied.Facts] : Cert.quiescent_KernelIdeal_pre_untied :=
  fun m ρ _ => Cert.KernelIdeal.Gen.frame_any (F := Ideal) m ρ

/-- Under the condition, the reference's frame. -/
theorem frame_reference_untied [Cert.Pre_untied.Facts] : Cert.quiescent_ReferenceIdeal_pre_untied := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The condition is a function of the arguments: it carries over to equal ones. -/
theorem untied_congr [Cert.Pre_untied.Facts] {a0 b0 : FVec Ideal Cert.Pre_untied.S2x3x64x64 .f32} {a1 b1 : FVec Ideal Cert.Pre_untied.S1 .f32} {a2 b2 : FVec Ideal Cert.Pre_untied.S75x80 .f32} {a3 b3 : FVec Ideal Cert.Pre_untied.S80 .f32}
    {a4 b4 : FVec Ideal Cert.Pre_untied.S80x75 .f32} {a5 b5 : FVec Ideal Cert.Pre_untied.S75 .f32} {a6 b6 : FVec Ideal Cert.Pre_untied.S80x1 .f32} {a7 b7 : FVec Ideal Cert.Pre_untied.S1 .f32}
    (h0 : a0 = b0) (h1 : a1 = b1) (h2 : a2 = b2) (h3 : a3 = b3) (h4 : a4 = b4) (h5 : a5 = b5) (h6 : a6 = b6) (h7 : a7 = b7)
    (h : Cert.Pre_untied.fn (F := Ideal) b0 b1 b2 b3 b4 b5 b6 b7 = fun _ => 1#1) :
    Cert.Pre_untied.fn (F := Ideal) a0 a1 a2 a3 a4 a5 a6 a7 = fun _ => 1#1 := by
  subst h0 h1 h2 h3 h4 h5 h6 h7
  exact h

/-- From equal arguments under the condition, the two programs' results are equal. -/
theorem values_equal [Cert.Pre_untied.Facts] : Cert.algebraic_KernelIdeal_ReferenceIdeal_pre_untied := by
  intro m g m' g' hpre hargs
  have hsame : ∀ c, Cert.KernelIdeal.Gen.Same m c (StableHlo.launchContents m' c) := fun c => by
    obtain ⟨h0, h1, h2, h3, h4, h5, h6, h7⟩ := hargs c
    exact ⟨h0, h1, h2, h3, h4, h5, h6, h7⟩
  have hu : ∀ c, Cert.ReferenceIdeal.Value.Untied (StableHlo.launchContents m' c) := fun c => by
    obtain ⟨h0, h1, h2, h3, h4, h5, h6, h7⟩ := hsame c
    exact untied_congr h0 h1 h2 h3 h4 h5 h6 h7 (hpre c)
  refine ⟨fun c => Cert.KernelIdeal.Gen.result194 m c, ?_, ?_⟩
  · refine (θ_run Cert.KernelIdeal.defs _ _).mono (fun r h c => ⟨h.1 c, h.2.1 c⟩)
      (θ_run_and (Cert.KernelIdeal.Gen.value194 m g) (Cert.KernelIdeal.Gen.frame_any (F := Ideal) m g))
  · refine (θ_run Cert.ReferenceIdeal.defs _ _).mono (fun r h c => ⟨(h c).1.trans ?_, (h c).2⟩)
      (Cert.ReferenceIdeal.Value.run (F := Ideal) m' g')
    refine (Cert.ReferenceIdeal.Value.res_eq (StableHlo.launchContents m' c)).trans ?_
    exact (Cert.KernelIdeal.Gen.result_eq (hsame c) (hu c)).symm

end Cert.Proof

end
-- ==== Proof.PreFacts.lean ====
module

public import proofs.«01_k».proof.Pre_untied
public import Idealize.ShloMosaic.Lib.Decide

@[expose] public section

set_option maxRecDepth 65536

noncomputable section

namespace Cert.Pre_untied

open Idealize.ShloMosaic

/-- The shape conditions of the condition's operations. -/
theorem preFacts : Facts where
  bcast_S_S2x3x64x64 := by first | decide | decide +kernel
  reducesTo_S2x3x64x64_S2x3_d2_3 := by first | decide | decide +kernel
  h_S_ := by first | decide | decide +kernel
  bcast_S2x3_S2x3x1x1_0_1 := by first | decide | decide +kernel
  bcast_S_S2x3x1x1 := by first | decide | decide +kernel
  bcast_S2x3x1x1_S2x3x64x64_0_1_2_3 := by first | decide | decide +kernel
  shapeCasts_S3_S1x3x1x1 := by first | decide | decide +kernel
  bcast_S1x3x1x1_S2x3x64x64_0_1_2_3 := by first | decide | decide +kernel
  reducesTo_S2x3x64x64_S2x64x64_d1 := by first | decide | decide +kernel
  slices_S2x64x64_S2x1x64_0_0_0 := by first | decide | decide +kernel
  slices_S2x64x64_S2x2x64_0_1_0 := by first | decide | decide +kernel
  concatenates_S2x2x64_S2x64x64_S2x66x64_d1 := by first | decide | decide +kernel
  slices_S2x66x64_S2x1x64_0_65_0 := by first | decide | decide +kernel
  slices_S2x66x64_S2x2x64_0_63_0 := by first | decide | decide +kernel
  concatenates_S2x66x64_S2x2x64_S2x68x64_d1 := by first | decide | decide +kernel
  slices_S2x68x64_S2x68x1_0_0_0 := by first | decide | decide +kernel
  slices_S2x68x64_S2x68x2_0_0_1 := by first | decide | decide +kernel
  concatenates_S2x68x2_S2x68x64_S2x68x66_d2 := by first | decide | decide +kernel
  slices_S2x68x66_S2x68x1_0_0_65 := by first | decide | decide +kernel
  slices_S2x68x66_S2x68x2_0_0_63 := by first | decide | decide +kernel
  concatenates_S2x68x66_S2x68x2_S2x68x68_d2 := by first | decide | decide +kernel
  slices_S2x68x68_S2x68x64_0_0_0 := by first | decide | decide +kernel
  slices_S2x68x68_S2x68x64_0_0_1 := by first | decide | decide +kernel
  slices_S2x68x68_S2x68x64_0_0_2 := by first | decide | decide +kernel
  slices_S2x68x68_S2x68x64_0_0_3 := by first | decide | decide +kernel
  slices_S2x68x68_S2x68x64_0_0_4 := by first | decide | decide +kernel
  bcast_S2x68x64_S2x68x64x1_0_1_2 := by first | decide | decide +kernel
  concatenates_S2x68x64x1_S2x68x64x1_S2x68x64x1_S2x68x64x1_S2x68x64x1_S2x68x64x5_d3 := by first | decide | decide +kernel
  slices_S2x68x64x5_S2x64x64x5_0_0_0_0 := by first | decide | decide +kernel
  slices_S2x68x64x5_S2x64x64x5_0_1_0_0 := by first | decide | decide +kernel
  slices_S2x68x64x5_S2x64x64x5_0_2_0_0 := by first | decide | decide +kernel
  slices_S2x68x64x5_S2x64x64x5_0_3_0_0 := by first | decide | decide +kernel
  slices_S2x68x64x5_S2x64x64x5_0_4_0_0 := by first | decide | decide +kernel
  concatenates_S2x64x64x5_S2x64x64x5_S2x64x64x5_S2x64x64x5_S2x64x64x5_S2x64x64x25_d3 := by first | decide | decide +kernel
  shapeCasts_S2x64x64x25_S2x4096x25 := by first | decide | decide +kernel
  reducesTo_S2x4096x25_S2x4096_d2 := by first | decide | decide +kernel
  bcast_S2x4096_S2x4096x1_0_1 := by first | decide | decide +kernel
  bcast_S2x4096_S2x1x4096_0_2 := by first | decide | decide +kernel
  bcast_S2x4096x1_S2x4096x4096_0_1_2 := by first | decide | decide +kernel
  bcast_S2x1x4096_S2x4096x4096_0_1_2 := by first | decide | decide +kernel
  bcast_S_S2x4096x4096 := by first | decide | decide +kernel
  sliceFits_S2x4096x4096_S2x4096x15 := by first | decide | decide +kernel
  reducesTo_S2x3x64x64_S_d0_1_2_3 := by first | decide | decide +kernel
  bcast_S_S75x80 := by first | decide | decide +kernel
  reducesTo_S75x80_S_d0_1 := by first | decide | decide +kernel
  reducesTo_S2x4096x4096_S_d0_1_2 := by first | decide | decide +kernel
  slices_S2x4096x15_S2x4096x14_0_0_0 := by first | decide | decide +kernel
  slices_S2x4096x15_S2x4096x14_0_0_1 := by first | decide | decide +kernel
  reducesTo_S2x4096x14_S_d0_1_2 := by first | decide | decide +kernel
  dot_S2x4096x25_S2x4096x25_S2x4096x4096_2_2_1_1_0_0_wf := by first | decide | decide +kernel

end Cert.Pre_untied

end
-- ==== Proof.lean ====
module

public import proofs.«01_k».proof.Defs
public import proofs.«01_k».proof.Proof.Frames
public import proofs.«01_k».proof.Proof.Values
public import proofs.«01_k».proof.Proof.PreFacts
public import proofs.«01_k».proof.Proof.Gen.Kernel
public import proofs.«01_k».proof.Proof.Gen.KernelIdeal
public import proofs.«01_k».proof.Proof.Gen.ReferenceIdeal

@[expose] public section

noncomputable section

namespace Cert.Proof

/-- Everything that is claimed. -/
theorem claim : Cert.Claim :=
  ⟨Cert.Kernel.Gen.facts, Cert.KernelIdeal.Gen.facts, Cert.ReferenceIdeal.Gen.facts, Cert.Pre_untied.preFacts,
    frame_kernel, frame_ideal, @frame_ideal_untied Cert.Pre_untied.preFacts, frame_reference,
    @frame_reference_untied Cert.Pre_untied.preFacts, trivial, @values_equal Cert.Pre_untied.preFacts⟩

end Cert.Proof

end
